-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_experts : Cert.Pre_experts.Facts] (m : (ℓ : Loc Cert.Kernel6.nD Cert.Kernel6.τ Cert.Kernel6.sig) → Buf (Elt Bits) ℓ) : Prop :=
  ∀ c : Dev Cert.Kernel6.nD,
    (Cert.Pre_experts.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_experts : Cert.Pre_experts.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_experts.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_experts [hPre_experts : Cert.Pre_experts.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_experts.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_experts : Cert.Pre_experts.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_experts : Cert.Pre_experts.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_experts [hReference6Ideal : Cert.Reference6Ideal.Facts] [hPre_experts : Cert.Pre_experts.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_experts m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)) (v4 : (c : Dev Cert.Kernel4Ideal.nD) → Buf (Elt Ideal) ((c.tc : Thread Cert.Kernel4Ideal.nD Cert.Kernel4Ideal.τ).loc Cert.Kernel4Ideal.main_v28_4)) (v5 : (c : Dev Cert.Kernel4Ideal.nD) → Buf (Elt Ideal) ((c.tc : Thread Cert.Kernel4Ideal.nD Cert.Kernel4Ideal.τ).loc Cert.Kernel4Ideal.main_v28_5)) (v6 : (c : Dev Cert.Kernel4Ideal.nD) → Buf (Elt Ideal) ((c.tc : Thread Cert.Kernel4Ideal.nD Cert.Kernel4Ideal.τ).loc Cert.Kernel4Ideal.main_v28_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_v28_4) = v4 c
          ∧ r.2.mem ((c.tc : Thread Cert.Kernel4Ideal.nD Cert.Kernel4Ideal.τ).loc Cert.Kernel4Ideal.main_v28_5) = v5 c
          ∧ r.2.mem ((c.tc : Thread Cert.Kernel4Ideal.nD Cert.Kernel4Ideal.τ).loc Cert.Kernel4Ideal.main_v28_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_v83) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_v85) = v5 c
          ∧ r.2.mem ((c.tc : Thread Cert.Reference4Ideal.nD Cert.Reference4Ideal.τ).loc Cert.Reference4Ideal.main_v76) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_experts : Cert.Pre_experts.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_experts := hPre_experts)
    ∧ quiescent_Kernel6Ideal (hKernel6Ideal := hKernel6Ideal) (hPre_experts := hPre_experts)
    ∧ quiescent_Reference6Ideal (hReference6Ideal := hReference6Ideal)
    ∧ quiescent_Reference6Ideal_pre_experts (hReference6Ideal := hReference6Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_experts := hPre_experts)
-- ==== Pre_experts.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S73728x1024 .f32) (main_arg1 : IVec S288 32) (main_arg2 : IVec S1 32) (main_arg3 : FVec F S32x1024x512 .f32) (main_arg4 : FVec F S32x1024x512 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 31#32
  let main_v2 : IVec S288 32 := broadcastInDim S288 ![] bcast_S_S288 main_c_0
  let main_v3 : IVec S288 1 := cmpi .sle main_arg1 main_v2
  let main_v4 : IVec S288 1 := andi main_v1 main_v3
  main_v4
-- ==== Pre_finite.lean ====
abbrev S32768x4096 : Shape := ⟨2, ![32768, 4096]⟩
abbrev S32768x2048 : Shape := ⟨2, ![32768, 2048]⟩
abbrev S32768x16 : Shape := ⟨2, ![32768, 16]⟩
abbrev S128 : Shape := ⟨1, ![128]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S32768x16 : S_.BroadcastsInDim S32768x16 (![] : Fin 0 → Fin S32768x16.rank)
  reducesTo_S32768x16_S_d0_1 : S32768x16.ReducesTo [0, 1] S_

variable [Facts]

def fn {F : FTy → Type} [FloatOps F] (main_arg0 : FVec F S32768x4096 .f32) (main_arg1 : FVec F S32768x2048 .f32) (main_arg2 : FVec F S32768x16 .f32) (main_arg3 : FVec F S32768x16 .f32) (main_arg4 : FVec F S128 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S32768x16 .f32 := Host.absf main_arg2
  let main_cst_0 : FVec F S_ .f32 := constant S_ .f32 0x7F800000#32
  let main_v5 : FVec F S32768x16 .f32 := broadcastInDim S32768x16 ![] bcast_S_S32768x16 main_cst_0
  let main_v6 : IVec S32768x16 1 := cmpf .olt main_v4 main_v5
  let main_c_1 : IVec S_ 1 := constantI S_ 1 1#1
  let main_v7 : IVec S_ 1 := (fun x v => Host.reduce IntOp.andi x v reducesTo_S32768x16_S_d0_1 h_S_) main_v6 main_c_1
  let main_v8 : IVec S_ 1 := andi main_v3 main_v7
  let main_v9 : FVec F S32768x16 .f32 := Host.absf main_arg3
  let main_cst_2 : FVec F S_ .f32 := constant S_ .f32 0x7F800000#32
  let main_v10 : FVec F S32768x16 .f32 := broadcastInDim S32768x16 ![] bcast_S_S32768x16 main_cst_2
  let main_v11 : IVec S32768x16 1 := cmpf .olt main_v9 main_v10
  let main_c_3 : IVec S_ 1 := constantI S_ 1 1#1
  let main_v12 : IVec S_ 1 := (fun x v => Host.reduce IntOp.andi x v reducesTo_S32768x16_S_d0_1 h_S_) main_v11 main_c_3
  let main_v13 : IVec S_ 1 := andi main_v8 main_v12
  main_v13
-- ==== Kernel.lean ====
abbrev S32768x4096 : Shape := ⟨2, ![32768, 4096]⟩
abbrev S32768x2048 : Shape := ⟨2, ![32768, 2048]⟩
abbrev S32768x16 : Shape := ⟨2, ![32768, 16]⟩
abbrev S128 : Shape := ⟨1, ![128]⟩
abbrev S4x8192x16 : Shape := ⟨3, ![4, 8192, 16]⟩
abbrev S4x16x8192 : Shape := ⟨3, ![4, 16, 8192]⟩
abbrev S4x16x8192x1 : Shape := ⟨4, ![4, 16, 8192, 1]⟩
abbrev S4x16x128x1x64 : Shape := ⟨5, ![4, 16, 128, 1, 64]⟩
abbrev S4x8192x4096 : Shape := ⟨3, ![4, 8192, 4096]⟩
abbrev S4x8192x2048 : Shape := ⟨3, ![4, 8192, 2048]⟩
abbrev S1x128 : Shape := ⟨2, ![1, 128]⟩
abbrev S1x256x128 : Shape := ⟨3, ![1, 256, 128]⟩
abbrev S1x1x256x1 : Shape := ⟨4, ![1, 1, 256, 1]⟩
abbrev S1x1x4x1x64 : Shape := ⟨5, ![1, 1, 4, 1, 64]⟩
abbrev S128x128 : Shape := ⟨2, ![128, 128]⟩
abbrev S64x64 : Shape := ⟨2, ![64, 64]⟩
abbrev S1x64x128 : Shape := ⟨3, ![1, 64, 128]⟩
abbrev S64x128 : Shape := ⟨2, ![64, 128]⟩
abbrev S1x1x64x1 : Shape := ⟨4, ![1, 1, 64, 1]⟩
abbrev S64x1 : Shape := ⟨2, ![64, 1]⟩
abbrev S1x1x1x1x64 : Shape := ⟨5, ![1, 1, 1, 1, 64]⟩
abbrev S1x64 : Shape := ⟨2, ![1, 64]⟩
abbrev S1x1 : Shape := ⟨2, ![1, 1]⟩
abbrev S64x256 : Shape := ⟨2, ![64, 256]⟩
abbrev S64 : Shape := ⟨1, ![64]⟩

abbrev nBuf : Space → Nat
  | .hbm => 16
  | .vmem => 18
  | .smem => 0
  | _ => 0

abbrev bufTy : (tb : Table) → Fin (tcTables nBuf tb) → BufTy
  | .hbm, ⟨0, _⟩ => ⟨S32768x4096, .f32⟩
  | .hbm, ⟨1, _⟩ => ⟨S32768x2048, .f32⟩
  | .hbm, ⟨2, _⟩ => ⟨S32768x16, .f32⟩
  | .hbm, ⟨3, _⟩ => ⟨S32768x16, .f32⟩
  | .hbm, ⟨4, _⟩ => ⟨S128, .f32⟩
  | .hbm, ⟨5, _⟩ => ⟨S4x8192x16, .f32⟩
  | .hbm, ⟨6, _⟩ => ⟨S4x16x8192, .f32⟩
  | .hbm, ⟨7, _⟩ => ⟨S4x16x8192x1, .f32⟩
  | .hbm, ⟨8, _⟩ => ⟨S4x8192x16, .f32⟩
  | .hbm, ⟨9, _⟩ => ⟨S4x16x8192, .f32⟩
  | .hbm, ⟨10, _⟩ => ⟨S4x16x8192x1, .f32⟩
  | .hbm, ⟨11, _⟩ => ⟨S4x16x128x1x64, .f32⟩
  | .hbm, ⟨12, _⟩ => ⟨S4x8192x4096, .f32⟩
  | .hbm, ⟨13, _⟩ => ⟨S4x8192x2048, .f32⟩
  | .hbm, ⟨14, _⟩ => ⟨S1x128, .f32⟩
  | .hbm, ⟨15, _⟩ => ⟨S4x8192x2048, .bf16⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x1x256x1, .f32⟩
  | .local _ .vmem, ⟨9, _⟩ => ⟨S1x1x256x1, .f32⟩
  | .local _ .vmem, ⟨10, _⟩ => ⟨S1x1x256x1, .f32⟩
  | .local _ .vmem, ⟨11, _⟩ => ⟨S1x1x256x1, .f32⟩
  | .local _ .vmem, ⟨12, _⟩ => ⟨S1x1x4x1x64, .f32⟩
  | .local _ .vmem, ⟨13, _⟩ => ⟨S1x1x4x1x64, .f32⟩
  | .local _ .vmem, ⟨14, _⟩ => ⟨S1x128, .f32⟩
  | .local _ .vmem, ⟨15, _⟩ => ⟨S1x256x128, .bf16⟩
  | .local _ .vmem, ⟨16, _⟩ => ⟨S1x256x128, .bf16⟩
  | .local _ .vmem, ⟨17, _⟩ => ⟨S128x128, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![4, 16, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg0.toNat, arg2.toNat, v16.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  ![arg0.toNat, arg2.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x4x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S32768x4096 : Shape := ⟨2, ![32768, 4096]⟩
abbrev S32768x2048 : Shape := ⟨2, ![32768, 2048]⟩
abbrev S32768x16 : Shape := ⟨2, ![32768, 16]⟩
abbrev S128 : Shape := ⟨1, ![128]⟩
abbrev S4x8192x4096 : Shape := ⟨3, ![4, 8192, 4096]⟩
abbrev S4x8192x1024 : Shape := ⟨3, ![4, 8192, 1024]⟩
abbrev S4x8192x2048 : Shape := ⟨3, ![4, 8192, 2048]⟩
abbrev S4x8192x8x128 : Shape := ⟨4, ![4, 8192, 8, 128]⟩
abbrev S4x8x8192x128 : Shape := ⟨4, ![4, 8, 8192, 128]⟩
abbrev S4x8x2x8192x128 : Shape := ⟨5, ![4, 8, 2, 8192, 128]⟩
abbrev S4x16x8192x128 : Shape := ⟨4, ![4, 16, 8192, 128]⟩
abbrev S4x8192x16x128 : Shape := ⟨4, ![4, 8192, 16, 128]⟩
abbrev S4x8192x16 : Shape := ⟨3, ![4, 8192, 16]⟩
abbrev S4x16x8192 : Shape := ⟨3, ![4, 16, 8192]⟩
abbrev S4x16x128x64 : Shape := ⟨4, ![4, 16, 128, 64]⟩
abbrev S4x16x128x64x128 : Shape := ⟨5, ![4, 16, 128, 64, 128]⟩
abbrev S4x16x128x64x1 : Shape := ⟨5, ![4, 16, 128, 64, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x16x128x1x64 : Shape := ⟨5, ![4, 16, 128, 1, 64]⟩
abbrev S4x16x128x64x64 : Shape := ⟨5, ![4, 16, 128, 64, 64]⟩
abbrev S_ : Shape := ⟨0, ![]⟩
abbrev S4x16x128x64x256 : Shape := ⟨5, ![4, 16, 128, 64, 256]⟩
abbrev S4x16x128x1 : Shape := ⟨4, ![4, 16, 128, 1]⟩
abbrev S4x16x128 : Shape := ⟨3, ![4, 16, 128]⟩
abbrev S128x4x16x64x128 : Shape := ⟨5, ![128, 4, 16, 64, 128]⟩
abbrev S128x4x16x64x64 : Shape := ⟨5, ![128, 4, 16, 64, 64]⟩
abbrev S128x4x16 : Shape := ⟨3, ![128, 4, 16]⟩
abbrev S4x16x128x128 : Shape := ⟨4, ![4, 16, 128, 128]⟩
abbrev S1x4x16x64x128 : Shape := ⟨5, ![1, 4, 16, 64, 128]⟩
abbrev S4x16x64x128 : Shape := ⟨4, ![4, 16, 64, 128]⟩
abbrev S1x4x16x64x64 : Shape := ⟨5, ![1, 4, 16, 64, 64]⟩
abbrev S4x16x64x64 : Shape := ⟨4, ![4, 16, 64, 64]⟩
abbrev S1x4x16 : Shape := ⟨3, ![1, 4, 16]⟩
abbrev S4x16 : Shape := ⟨2, ![4, 16]⟩
abbrev S4x16x1x1 : Shape := ⟨4, ![4, 16, 1, 1]⟩
abbrev S4x8192x16x1 : Shape := ⟨4, ![4, 8192, 16, 1]⟩
abbrev S1x1x1x128 : Shape := ⟨4, ![1, 1, 1, 128]⟩

abbrev nBuf : Space → Nat
  | .hbm => 221
  | .vmem => 0
  | .smem => 0
  | _ => 0

abbrev hbmTy0_0 (i : Nat) : BufTy := match i % 128 with
  | 0 => ⟨S32768x4096, .f32⟩
  | 1 => ⟨S32768x2048, .f32⟩
  | 2 => ⟨S32768x16, .f32⟩
  | 3 => ⟨S32768x16, .f32⟩
  | 4 => ⟨S128, .f32⟩
  | 5 => ⟨S4x8192x4096, .f32⟩
  | 6 => ⟨S4x8192x1024, .f32⟩
  | 7 => ⟨S4x8192x1024, .f32⟩
  | 8 => ⟨S4x8192x2048, .f32⟩
  | 9 => ⟨S4x8192x8x128, .f32⟩
  | 10 => ⟨S4x8x8192x128, .f32⟩
  | 11 => ⟨S4x8x2x8192x128, .f32⟩
  | 12 => ⟨S4x16x8192x128, .f32⟩
  | 13 => ⟨S4x8192x8x128, .f32⟩
  | 14 => ⟨S4x8x8192x128, .f32⟩
  | 15 => ⟨S4x8x2x8192x128, .f32⟩
  | 16 => ⟨S4x16x8192x128, .f32⟩
  | 17 => ⟨S4x8192x16x128, .f32⟩
  | 18 => ⟨S4x16x8192x128, .f32⟩
  | 19 => ⟨S4x8192x16, .f32⟩
  | 20 => ⟨S4x16x8192, .f32⟩
  | 21 => ⟨S4x8192x16, .f32⟩
  | 22 => ⟨S4x16x8192, .f32⟩
  | 23 => ⟨S4x16x128x64, .f32⟩
  | 24 => ⟨S4x16x128x64x128, .f32⟩
  | 25 => ⟨S4x16x128x64x128, .f32⟩
  | 26 => ⟨S4x16x128x64x128, .f32⟩
  | 27 => ⟨S4x16x128x64, .f32⟩
  | 28 => ⟨S4x16x128x64x1, .f32⟩
  | 29 => ⟨S64, .i32⟩
  | 30 => ⟨S64x1, .i32⟩
  | 31 => ⟨S1x64, .i32⟩
  | 32 => ⟨S64x64, .i32⟩
  | 33 => ⟨S64x64, .i32⟩
  | 34 => ⟨S64x64, .i1⟩
  | 35 => ⟨S64x1, .i32⟩
  | 36 => ⟨S1x64, .i32⟩
  | 37 => ⟨S64x64, .i32⟩
  | 38 => ⟨S64x64, .i32⟩
  | 39 => ⟨S64x64, .i1⟩
  | 40 => ⟨S4x16x128x64x1, .f32⟩
  | 41 => ⟨S4x16x128x1x64, .f32⟩
  | 42 => ⟨S4x16x128x64x64, .f32⟩
  | 43 => ⟨S4x16x128x64x64, .f32⟩
  | 44 => ⟨S4x16x128x64x64, .f32⟩
  | 45 => ⟨S_, .f32⟩
  | 46 => ⟨S_, .f32⟩
  | 47 => ⟨S4x16x128x64x64, .i1⟩
  | 48 => ⟨S4x16x128x64x64, .f32⟩
  | 49 => ⟨S4x16x128x64x64, .f32⟩
  | 50 => ⟨S4x16x128x64x64, .f32⟩
  | 51 => ⟨S_, .f32⟩
  | 52 => ⟨S_, .f32⟩
  | 53 => ⟨S4x16x128x64x64, .i1⟩
  | 54 => ⟨S4x16x128x64x64, .f32⟩
  | 55 => ⟨S4x16x128x64x64, .f32⟩
  | 56 => ⟨S4x16x128x64x128, .f32⟩
  | 57 => ⟨S4x16x128x64x128, .f32⟩
  | 58 => ⟨S4x16x128x64x64, .f32⟩
  | 59 => ⟨S4x16x128x64x64, .f32⟩
  | 60 => ⟨S_, .f32⟩
  | 61 => ⟨S_, .f32⟩
  | 62 => ⟨S4x16x128x64x64, .i1⟩
  | 63 => ⟨S4x16x128x64x64, .f32⟩
  | 64 => ⟨S4x16x128x64x64, .f32⟩
  | 65 => ⟨S4x16x128x64x128, .f32⟩
  | 66 => ⟨S4x16x128x64x128, .f32⟩
  | 67 => ⟨S4x16x128x64, .f32⟩
  | 68 => ⟨S4x16x128x64x1, .f32⟩
  | 69 => ⟨S4x16x128x64x128, .f32⟩
  | 70 => ⟨S4x16x128x64x128, .f32⟩
  | 71 => ⟨S4x16x128x64x256, .f32⟩
  | 72 => ⟨S64, .i32⟩
  | 73 => ⟨S64x1, .i32⟩
  | 74 => ⟨S_, .f32⟩
  | 75 => ⟨S4x16x128x64x256, .f32⟩
  | 76 => ⟨S_, .i32⟩
  | 77 => ⟨S_, .i32⟩
  | 78 => ⟨S64x1, .i32⟩
  | 79 => ⟨S4x16x128x64x64, .f32⟩
  | 80 => ⟨S4x16x128x64x256, .f32⟩
  | 81 => ⟨S_, .i32⟩
  | 82 => ⟨S_, .i32⟩
  | 83 => ⟨S4x16x128x64x256, .f32⟩
  | 84 => ⟨S_, .i32⟩
  | 85 => ⟨S_, .i1⟩
  | 86 => ⟨S_, .i32⟩
  | 87 => ⟨S_, .i32⟩
  | 88 => ⟨S_, .i32⟩
  | 89 => ⟨S64x1, .i32⟩
  | 90 => ⟨S64x1, .i1⟩
  | 91 => ⟨S4x16x128x64x256, .f32⟩
  | 92 => ⟨S4x16x128x64x256, .f32⟩
  | 93 => ⟨S4x16x128x64x256, .i1⟩
  | 94 => ⟨S4x16x128x64x256, .f32⟩
  | 95 => ⟨S_, .i32⟩
  | 96 => ⟨S_, .i32⟩
  | 97 => ⟨S4x16x128x64x128, .f32⟩
  | 98 => ⟨S4x16x128x64x128, .f32⟩
  | 99 => ⟨S4x16x128x64x64, .f32⟩
  | 100 => ⟨S4x16x128x64x64, .f32⟩
  | 101 => ⟨S4x16x128x64, .f32⟩
  | 102 => ⟨S4x16x128x64x1, .f32⟩
  | 103 => ⟨S4x16x128x64x128, .f32⟩
  | 104 => ⟨S4x16x128x64x128, .f32⟩
  | 105 => ⟨S4x16x128x1, .f32⟩
  | 106 => ⟨S4x16x128x64, .f32⟩
  | 107 => ⟨S4x16x128x64, .f32⟩
  | 108 => ⟨S4x16x128x64, .f32⟩
  | 109 => ⟨S4x16x128x64x1, .f32⟩
  | 110 => ⟨S4x16x128x64x128, .f32⟩
  | 111 => ⟨S4x16x128x64x128, .f32⟩
  | 112 => ⟨S4x16x128x1, .f32⟩
  | 113 => ⟨S4x16x128, .f32⟩
  | 114 => ⟨S4x16x128, .f32⟩
  | 115 => ⟨S128x4x16x64x128, .f32⟩
  | 116 => ⟨S128x4x16x64x128, .f32⟩
  | 117 => ⟨S128x4x16x64x128, .f32⟩
  | 118 => ⟨S128x4x16x64x128, .f32⟩
  | 119 => ⟨S128x4x16x64x64, .f32⟩
  | 120 => ⟨S128x4x16, .f32⟩
  | 121 => ⟨S_, .f32⟩
  | 122 => ⟨S4x16x128x128, .f32⟩
  | 123 => ⟨S_, .f32⟩
  | 124 => ⟨S128x4x16x64x128, .f32⟩
  | 125 => ⟨S_, .i32⟩
  | 126 => ⟨S128x4x16x64x128, .f32⟩
  | 127 => ⟨S128x4x16x64x128, .f32⟩
  | _ => ⟨S32768x4096, .f32⟩

abbrev hbmTy0_1 (i : Nat) : BufTy := match i % 128 with
  | 0 => ⟨S128x4x16x64x128, .f32⟩
  | 1 => ⟨S128x4x16x64x128, .f32⟩
  | 2 => ⟨S128x4x16x64x64, .f32⟩
  | 3 => ⟨S128x4x16, .f32⟩
  | 4 => ⟨S_, .i32⟩
  | 5 => ⟨S4x16x128x128, .f32⟩
  | 6 => ⟨S128x4x16x64x128, .f32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S1x4x16x64x128, .f32⟩
  | 14 => ⟨S4x16x64x128, .f32⟩
  | 15 => ⟨S_, .i32⟩
  | 16 => ⟨S_, .i32⟩
  | 17 => ⟨S_, .i32⟩
  | 18 => ⟨S_, .i32⟩
  | 19 => ⟨S1x4x16x64x128, .f32⟩
  | 20 => ⟨S4x16x64x128, .f32⟩
  | 21 => ⟨S_, .i32⟩
  | 22 => ⟨S_, .i32⟩
  | 23 => ⟨S_, .i32⟩
  | 24 => ⟨S_, .i32⟩
  | 25 => ⟨S1x4x16x64x128, .f32⟩
  | 26 => ⟨S4x16x64x128, .f32⟩
  | 27 => ⟨S_, .i32⟩
  | 28 => ⟨S_, .i32⟩
  | 29 => ⟨S_, .i32⟩
  | 30 => ⟨S_, .i32⟩
  | 31 => ⟨S1x4x16x64x128, .f32⟩
  | 32 => ⟨S4x16x64x128, .f32⟩
  | 33 => ⟨S_, .i32⟩
  | 34 => ⟨S_, .i32⟩
  | 35 => ⟨S_, .i32⟩
  | 36 => ⟨S_, .i32⟩
  | 37 => ⟨S1x4x16x64x64, .f32⟩
  | 38 => ⟨S4x16x64x64, .f32⟩
  | 39 => ⟨S_, .i32⟩
  | 40 => ⟨S_, .i32⟩
  | 41 => ⟨S1x4x16, .f32⟩
  | 42 => ⟨S4x16, .f32⟩
  | 43 => ⟨S4x16x64x128, .f32⟩
  | 44 => ⟨S4x16x64x128, .f32⟩
  | 45 => ⟨S4x16x64x128, .f32⟩
  | 46 => ⟨S4x16x64x128, .f32⟩
  | 47 => ⟨S4x16x64x128, .f32⟩
  | 48 => ⟨S4x16x1x1, .f32⟩
  | 49 => ⟨S4x16x128x128, .f32⟩
  | 50 => ⟨S4x16x128x128, .f32⟩
  | 51 => ⟨S4x16x128x128, .f32⟩
  | 52 => ⟨S4x16x128x128, .f32⟩
  | 53 => ⟨S1x4x16x64x128, .f32⟩
  | 54 => ⟨S_, .i32⟩
  | 55 => ⟨S_, .i32⟩
  | 56 => ⟨S_, .i32⟩
  | 57 => ⟨S_, .i32⟩
  | 58 => ⟨S128x4x16x64x128, .f32⟩
  | 59 => ⟨S_, .i32⟩
  | 60 => ⟨S_, .i32⟩
  | 61 => ⟨S4x16x128x64x128, .f32⟩
  | 62 => ⟨S4x16x8192x128, .f32⟩
  | 63 => ⟨S4x8192x16x128, .f32⟩
  | 64 => ⟨S4x8192x16x128, .f32⟩
  | 65 => ⟨S4x8192x16x128, .f32⟩
  | 66 => ⟨S_, .f32⟩
  | 67 => ⟨S4x8192x16, .f32⟩
  | 68 => ⟨S4x8192x16x1, .f32⟩
  | 69 => ⟨S_, .f32⟩
  | 70 => ⟨S4x8192x16x1, .f32⟩
  | 71 => ⟨S4x8192x16x1, .f32⟩
  | 72 => ⟨S_, .f32⟩
  | 73 => ⟨S4x8192x16x1, .f32⟩
  | 74 => ⟨S4x8192x16x1, .f32⟩
  | 75 => ⟨S4x8192x16x1, .f32⟩
  | 76 => ⟨S4x8192x16x128, .f32⟩
  | 77 => ⟨S4x8192x16x128, .f32⟩
  | 78 => ⟨S1x1x1x128, .f32⟩
  | 79 => ⟨S4x8192x16x128, .f32⟩
  | 80 => ⟨S4x8192x16x128, .f32⟩
  | 81 => ⟨S4x8192x16x128, .f32⟩
  | 82 => ⟨S4x8192x16x128, .f32⟩
  | 83 => ⟨S_, .f32⟩
  | 84 => ⟨S4x8192x16x128, .f32⟩
  | 85 => ⟨S4x8192x16x128, .f32⟩
  | 86 => ⟨S_, .f32⟩
  | 87 => ⟨S4x8192x16x128, .f32⟩
  | 88 => ⟨S4x8192x16x128, .f32⟩
  | 89 => ⟨S4x8192x16x128, .f32⟩
  | 90 => ⟨S4x8192x16x128, .f32⟩
  | 91 => ⟨S4x8192x2048, .f32⟩
  | 92 => ⟨S4x8192x2048, .bf16⟩
  | _ => ⟨S32768x4096, .f32⟩

abbrev hbmTy (i : Nat) : BufTy := match i / 128 with
  | 0 => hbmTy0_0 i
  | 1 => hbmTy0_1 i
  | _ => ⟨S32768x4096, .f32⟩

abbrev bufTy : (tb : Table) → Fin (tcTables nBuf tb) → BufTy
  | .hbm, ⟨i, _⟩ => hbmTy i
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v40 : Ref sig .tc := ⟨.hbm, 49, rfl⟩
abbrev main_v41 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_2 : Ref sig .tc := ⟨.hbm, 74, rfl⟩
abbrev main_v57 : Ref sig .tc := ⟨.hbm, 75, rfl⟩
abbrev main_c : Ref sig .tc := ⟨.hbm, 76, rfl⟩
abbrev main_c_3 : Ref sig .tc := ⟨.hbm, 77, rfl⟩
abbrev main_v58_0 : Ref sig .tc := ⟨.hbm, 78, rfl⟩
abbrev main_v58_1 : Ref sig .tc := ⟨.hbm, 79, rfl⟩
abbrev main_v58_2 : Ref sig .tc := ⟨.hbm, 80, rfl⟩
abbrev main_v58_3 : Ref sig .tc := ⟨.hbm, 81, rfl⟩
abbrev main_v58_4 : Ref sig .tc := ⟨.hbm, 82, rfl⟩
abbrev main_v58_5 : Ref sig .tc := ⟨.hbm, 83, rfl⟩
abbrev main_while0c_c_15 : Ref sig .tc := ⟨.hbm, 84, rfl⟩
abbrev main_while0c_v107 : Ref sig .tc := ⟨.hbm, 85, rfl⟩
abbrev main_while0b_c_15 : Ref sig .tc := ⟨.hbm, 86, rfl⟩
abbrev main_while0b_v107 : Ref sig .tc := ⟨.hbm, 87, rfl⟩
abbrev main_while0b_v108 : Ref sig .tc := ⟨.hbm, 88, rfl⟩
abbrev main_while0b_v109 : Ref sig .tc := ⟨.hbm, 89, rfl⟩
abbrev main_while0b_v110 : Ref sig .tc := ⟨.hbm, 90, rfl⟩
abbrev main_while0b_v111 : Ref sig .tc := ⟨.hbm, 91, rfl⟩
abbrev main_while0b_v112 : Ref sig .tc := ⟨.hbm, 92, rfl⟩
abbrev main_while0b_call3_v0 : Ref sig .tc := ⟨.hbm, 93, rfl⟩
abbrev main_while0b_v113 : Ref sig .tc := ⟨.hbm, 94, rfl⟩
abbrev main_while0b_c_16 : Ref sig .tc := ⟨.hbm, 95, rfl⟩
abbrev main_while0b_v114 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_4 : Ref sig .tc := ⟨.hbm, 121, rfl⟩
abbrev main_v83 : Ref sig .tc := ⟨.hbm, 122, rfl⟩
abbrev main_cst_5 : Ref sig .tc := ⟨.hbm, 123, rfl⟩
abbrev main_v84 : Ref sig .tc := ⟨.hbm, 124, rfl⟩
abbrev main_c_6 : Ref sig .tc := ⟨.hbm, 125, rfl⟩
abbrev main_v85_0 : Ref sig .tc := ⟨.hbm, 126, rfl⟩
abbrev main_v85_1 : Ref sig .tc := ⟨.hbm, 127, rfl⟩
abbrev main_v85_2 : Ref sig .tc := ⟨.hbm, 128, rfl⟩
abbrev main_v85_3 : Ref sig .tc := ⟨.hbm, 129, rfl⟩
abbrev main_v85_4 : Ref sig .tc := ⟨.hbm, 130, rfl⟩
abbrev main_v85_5 : Ref sig .tc := ⟨.hbm, 131, rfl⟩
abbrev main_v85_6 : Ref sig .tc := ⟨.hbm, 132, rfl⟩
abbrev main_v85_7 : Ref sig .tc := ⟨.hbm, 133, rfl⟩
abbrev main_v85_8 : Ref sig .tc := ⟨.hbm, 134, rfl⟩
abbrev main_while1c_c_18 : Ref sig .tc := ⟨.hbm, 135, rfl⟩
abbrev main_while1c_v107 : Ref sig .tc := ⟨.hbm, 136, rfl⟩
abbrev main_while1b_call4_c : Ref sig .tc := ⟨.hbm, 137, rfl⟩
abbrev main_while1b_call4_c_0 : Ref sig .tc := ⟨.hbm, 138, rfl⟩
abbrev main_while1b_call4_c_1 : Ref sig .tc := ⟨.hbm, 139, rfl⟩
abbrev main_while1b_call4_c_2 : Ref sig .tc := ⟨.hbm, 140, rfl⟩
abbrev main_while1b_call4_v0 : Ref sig .tc := ⟨.hbm, 141, rfl⟩
abbrev main_while1b_v107 : Ref sig .tc := ⟨.hbm, 142, rfl⟩
abbrev main_while1b_call5_c : Ref sig .tc := ⟨.hbm, 143, rfl⟩
abbrev main_while1b_call5_c_0 : Ref sig .tc := ⟨.hbm, 144, rfl⟩
abbrev main_while1b_call5_c_1 : Ref sig .tc := ⟨.hbm, 145, rfl⟩
abbrev main_while1b_call5_c_2 : Ref sig .tc := ⟨.hbm, 146, rfl⟩
abbrev main_while1b_call5_v0 : Ref sig .tc := ⟨.hbm, 147, rfl⟩
abbrev main_while1b_v108 : Ref sig .tc := ⟨.hbm, 148, rfl⟩
abbrev main_while1b_call6_c : Ref sig .tc := ⟨.hbm, 149, rfl⟩
abbrev main_while1b_call6_c_0 : Ref sig .tc := ⟨.hbm, 150, rfl⟩
abbrev main_while1b_call6_c_1 : Ref sig .tc := ⟨.hbm, 151, rfl⟩
abbrev main_while1b_call6_c_2 : Ref sig .tc := ⟨.hbm, 152, rfl⟩
abbrev main_while1b_call6_v0 : Ref sig .tc := ⟨.hbm, 153, rfl⟩
abbrev main_while1b_v109 : Ref sig .tc := ⟨.hbm, 154, rfl⟩
abbrev main_while1b_call7_c : Ref sig .tc := ⟨.hbm, 155, rfl⟩
abbrev main_while1b_call7_c_0 : Ref sig .tc := ⟨.hbm, 156, rfl⟩
abbrev main_while1b_call7_c_1 : Ref sig .tc := ⟨.hbm, 157, rfl⟩
abbrev main_while1b_call7_c_2 : Ref sig .tc := ⟨.hbm, 158, rfl⟩
abbrev main_while1b_call7_v0 : Ref sig .tc := ⟨.hbm, 159, rfl⟩
abbrev main_while1b_v110 : Ref sig .tc := ⟨.hbm, 160, rfl⟩
abbrev main_while1b_call8_c : Ref sig .tc := ⟨.hbm, 161, rfl⟩
abbrev main_while1b_call8_c_0 : Ref sig .tc := ⟨.hbm, 162, rfl⟩
abbrev main_while1b_call8_c_1 : Ref sig .tc := ⟨.hbm, 163, rfl⟩
abbrev main_while1b_call8_c_2 : Ref sig .tc := ⟨.hbm, 164, rfl⟩
abbrev main_while1b_call8_v0 : Ref sig .tc := ⟨.hbm, 165, rfl⟩
abbrev main_while1b_v111 : Ref sig .tc := ⟨.hbm, 166, rfl⟩
abbrev main_while1b_call9_c : Ref sig .tc := ⟨.hbm, 167, rfl⟩
abbrev main_while1b_call9_c_0 : Ref sig .tc := ⟨.hbm, 168, rfl⟩
abbrev main_while1b_call9_v0 : Ref sig .tc := ⟨.hbm, 169, rfl⟩
abbrev main_while1b_v112 : Ref sig .tc := ⟨.hbm, 170, rfl⟩
abbrev main_while1b_v113 : Ref sig .tc := ⟨.hbm, 171, rfl⟩
abbrev main_while1b_v114 : Ref sig .tc := ⟨.hbm, 172, rfl⟩
abbrev main_while1b_v115 : Ref sig .tc := ⟨.hbm, 173, rfl⟩
abbrev main_while1b_v116 : Ref sig .tc := ⟨.hbm, 174, rfl⟩
abbrev main_while1b_v117 : Ref sig .tc := ⟨.hbm, 175, rfl⟩
abbrev main_while1b_v118 : Ref sig .tc := ⟨.hbm, 176, rfl⟩
abbrev main_while1b_v119 : Ref sig .tc := ⟨.hbm, 177, rfl⟩
abbrev main_while1b_v120 : Ref sig .tc := ⟨.hbm, 178, rfl⟩
abbrev main_while1b_v121 : Ref sig .tc := ⟨.hbm, 179, rfl⟩
abbrev main_while1b_v122 : Ref sig .tc := ⟨.hbm, 180, rfl⟩
abbrev main_while1b_call10_v0 : Ref sig .tc := ⟨.hbm, 181, rfl⟩
abbrev main_while1b_call10_c : Ref sig .tc := ⟨.hbm, 182, rfl⟩
abbrev main_while1b_call10_c_0 : Ref sig .tc := ⟨.hbm, 183, rfl⟩
abbrev main_while1b_call10_c_1 : Ref sig .tc := ⟨.hbm, 184, rfl⟩
abbrev main_while1b_call10_c_2 : Ref sig .tc := ⟨.hbm, 185, rfl⟩
abbrev main_while1b_v123 : Ref sig .tc := ⟨.hbm, 186, rfl⟩
abbrev main_while1b_c_18 : Ref sig .tc := ⟨.hbm, 187, rfl⟩
abbrev main_while1b_v124 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_cst_7 : Ref sig .tc := ⟨.hbm, 194, rfl⟩
abbrev main_v91 : Ref sig .tc := ⟨.hbm, 195, rfl⟩
abbrev main_v92 : Ref sig .tc := ⟨.hbm, 196, rfl⟩
abbrev main_cst_8 : Ref sig .tc := ⟨.hbm, 197, rfl⟩
abbrev main_v93 : Ref sig .tc := ⟨.hbm, 198, rfl⟩
abbrev main_v94 : Ref sig .tc := ⟨.hbm, 199, rfl⟩
abbrev main_cst_9 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_call11_v0 : Ref sig .tc := ⟨.hbm, 209, rfl⟩
abbrev main_call11_v1 : Ref sig .tc := ⟨.hbm, 210, rfl⟩
abbrev main_call11_cst : Ref sig .tc := ⟨.hbm, 211, rfl⟩
abbrev main_call11_v2 : Ref sig .tc := ⟨.hbm, 212, rfl⟩
abbrev main_call11_v3 : Ref sig .tc := ⟨.hbm, 213, rfl⟩
abbrev main_call11_cst_0 : Ref sig .tc := ⟨.hbm, 214, rfl⟩
abbrev main_call11_v4 : Ref sig .tc := ⟨.hbm, 215, rfl⟩
abbrev main_call11_v5 : Ref sig .tc := ⟨.hbm, 216, rfl⟩
abbrev main_v103 : Ref sig .tc := ⟨.hbm, 217, rfl⟩
abbrev main_v104 : Ref sig .tc := ⟨.hbm, 218, rfl⟩
abbrev main_v105 : Ref sig .tc := ⟨.hbm, 219, rfl⟩
abbrev main_v106 : Ref sig .tc := ⟨.hbm, 220, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 128#32, 1#32⟩
-- ==== Kernel2.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x2048 : Shape := ⟨2, ![32768, 2048]⟩
abbrev S2048x1024 : Shape := ⟨2, ![2048, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x1024, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S32768x1024, .f32⟩
  | .hbm, ⟨7, _⟩ => ⟨S32768x1024, .f32⟩
  | .hbm, ⟨8, _⟩ => ⟨S32768x2048, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel4.lean ====
abbrev S32768x1024 : Shape := ⟨2, ![32768, 1024]⟩
abbrev S1024x3072 : Shape := ⟨2, ![1024, 3072]⟩
abbrev S3072 : Shape := ⟨1, ![3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S3072x1 : Shape := ⟨2, ![3072, 1]⟩
abbrev S32768x512 : Shape := ⟨2, ![32768, 512]⟩
abbrev S128x1x512 : Shape := ⟨3, ![128, 1, 512]⟩
abbrev S512x1024 : Shape := ⟨2, ![512, 1024]⟩
abbrev S512x128 : Shape := ⟨2, ![512, 128]⟩
abbrev S512x512 : Shape := ⟨2, ![512, 512]⟩
abbrev S2x1x512 : Shape := ⟨3, ![2, 1, 512]⟩
abbrev S1024x1024 : Shape := ⟨2, ![1024, 1024]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩

abbrev nBuf : Space → Nat
  | .hbm => 44
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S3072, .i32⟩
  | .hbm, ⟨3, _⟩ => ⟨S3072, .i1⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S8192, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x128, .f32⟩
  | .hbm, ⟨27, _⟩ => ⟨S8192x32, .f32⟩
  | .hbm, ⟨28, _⟩ => ⟨S8192x32, .f32⟩
  | .hbm, ⟨29, _⟩ => ⟨S8192x128, .f32⟩
  | .hbm, ⟨30, _⟩ => ⟨S_, .i32⟩
  | .hbm, ⟨31, _⟩ => ⟨S3072, .i32⟩
  | .hbm, ⟨32, _⟩ => ⟨S3072, .i32⟩
  | .hbm, ⟨33, _⟩ => ⟨S3072, .i32⟩
  | .hbm, ⟨34, _⟩ => ⟨S3072x1, .i32⟩
  | .hbm, ⟨35, _⟩ => ⟨S1024x3072, .f32⟩
  | .hbm, ⟨36, _⟩ => ⟨S1024x3072, .bf16⟩
  | .hbm, ⟨37, _⟩ => ⟨S32768x512, .bf16⟩
  | .hbm, ⟨38, _⟩ => ⟨S32768x512, .bf16⟩
  | .hbm, ⟨39, _⟩ => ⟨S32768x512, .bf16⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S128x1x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S2x1x512, .f32⟩
  | .local _ .vmem, ⟨20, _⟩ => ⟨S2x1x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev main_v28_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S1024x3072 : Shape := ⟨2, ![1024, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S32768x3072 : Shape := ⟨2, ![32768, 3072]⟩
abbrev S4x8192x3x16x64 : Shape := ⟨5, ![4, 8192, 3, 16, 64]⟩
abbrev S4x3x16x8192x64 : Shape := ⟨5, ![4, 3, 16, 8192, 64]⟩
abbrev S4x1x16x8192x64 : Shape := ⟨5, ![4, 1, 16, 8192, 64]⟩
abbrev S4x16x8192x64 : Shape := ⟨4, ![4, 16, 8192, 64]⟩
abbrev S4x16x8192x32 : Shape := ⟨4, ![4, 16, 8192, 32]⟩
abbrev S1x1x8192x32 : Shape := ⟨4, ![1, 1, 8192, 32]⟩
abbrev S4x8x2x8192x2x32 : Shape := ⟨6, ![4, 8, 2, 8192, 2, 32]⟩
abbrev S4x8192x8x2x2x32 : Shape := ⟨6, ![4, 8192, 8, 2, 2, 32]⟩
abbrev S4x8192x16x64 : Shape := ⟨4, ![4, 8192, 16, 64]⟩
abbrev S32768x512 : Shape := ⟨2, ![32768, 512]⟩
abbrev S128x256x512 : Shape := ⟨3, ![128, 256, 512]⟩
abbrev S128x512 : Shape := ⟨2, ![128, 512]⟩
abbrev S128x1x512 : Shape := ⟨3, ![128, 1, 512]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S8192, .f32⟩
  | .hbm, ⟨17, _⟩ => ⟨S8192x1, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S32768x3072, .f32⟩
  | .hbm, ⟨25, _⟩ => ⟨S4x8192x3x16x64, .f32⟩
  | .hbm, ⟨26, _⟩ => ⟨S4x3x16x8192x64, .f32⟩
  | .hbm, ⟨27, _⟩ => ⟨S4x1x16x8192x64, .f32⟩
  | .hbm, ⟨28, _⟩ => ⟨S4x16x8192x64, .f32⟩
  | .hbm, ⟨29, _⟩ => ⟨S4x16x8192x32, .f32⟩
  | .hbm, ⟨30, _⟩ => ⟨S4x16x8192x32, .f32⟩
  | .hbm, ⟨31, _⟩ => ⟨S1x1x8192x32, .f32⟩
  | .hbm, ⟨32, _⟩ => ⟨S4x16x8192x32, .f32⟩
  | .hbm, ⟨33, _⟩ => ⟨S4x16x8192x32, .f32⟩
  | .hbm, ⟨34, _⟩ => ⟨S1x1x8192x32, .f32⟩
  | .hbm, ⟨35, _⟩ => ⟨S4x16x8192x32, .f32⟩
  | .hbm, ⟨36, _⟩ => ⟨S4x16x8192x32, .f32⟩
  | .hbm, ⟨37, _⟩ => ⟨S4x16x8192x32, .f32⟩
  | .hbm, ⟨38, _⟩ => ⟨S1x1x8192x32, .f32⟩
  | .hbm, ⟨39, _⟩ => ⟨S4x16x8192x32, .f32⟩
  | .hbm, ⟨40, _⟩ => ⟨S4x16x8192x32, .f32⟩
  | .hbm, ⟨41, _⟩ => ⟨S1x1x8192x32, .f32⟩
  | .hbm, ⟨42, _⟩ => ⟨S4x16x8192x32, .f32⟩
  | .hbm, ⟨43, _⟩ => ⟨S4x16x8192x32, .f32⟩
  | .hbm, ⟨44, _⟩ => ⟨S4x16x8192x32, .f32⟩
  | .hbm, ⟨45, _⟩ => ⟨S4x16x8192x64, .f32⟩
  | .hbm, ⟨46, _⟩ => ⟨S_, .f32⟩
  | .hbm, ⟨47, _⟩ => ⟨S4x16x8192x64, .f32⟩
  | .hbm, ⟨48, _⟩ => ⟨S4x16x8192x64, .f32⟩
  | .hbm, ⟨49, _⟩ => ⟨S4x8x2x8192x2x32, .f32⟩
  | .hbm, ⟨50, _⟩ => ⟨S4x8192x8x2x2x32, .f32⟩
  | .hbm, ⟨51, _⟩ => ⟨S32768x1024, .f32⟩
  | .hbm, ⟨52, _⟩ => ⟨S4x1x16x8192x64, .f32⟩
  | .hbm, ⟨53, _⟩ => ⟨S4x16x8192x64, .f32⟩
  | .hbm, ⟨54, _⟩ => ⟨S4x16x8192x32, .f32⟩
  | .hbm, ⟨55, _⟩ => ⟨S4x16x8192x32, .f32⟩
  | .hbm, ⟨56, _⟩ => ⟨S1x1x8192x32, .f32⟩
  | .hbm, ⟨57, _⟩ => ⟨S4x16x8192x32, .f32⟩
  | .hbm, ⟨58, _⟩ => ⟨S4x16x8192x32, .f32⟩
  | .hbm, ⟨59, _⟩ => ⟨S1x1x8192x32, .f32⟩
  | .hbm, ⟨60, _⟩ => ⟨S4x16x8192x32, .f32⟩
  | .hbm, ⟨61, _⟩ => ⟨S4x16x8192x32, .f32⟩
  | .hbm, ⟨62, _⟩ => ⟨S4x16x8192x32, .f32⟩
  | .hbm, ⟨63, _⟩ => ⟨S1x1x8192x32, .f32⟩
  | .hbm, ⟨64, _⟩ => ⟨S4x16x8192x32, .f32⟩
  | .hbm, ⟨65, _⟩ => ⟨S4x16x8192x32, .f32⟩
  | .hbm, ⟨66, _⟩ => ⟨S1x1x8192x32, .f32⟩
  | .hbm, ⟨67, _⟩ => ⟨S4x16x8192x32, .f32⟩
  | .hbm, ⟨68, _⟩ => ⟨S4x16x8192x32, .f32⟩
  | .hbm, ⟨69, _⟩ => ⟨S4x16x8192x32, .f32⟩
  | .hbm, ⟨70, _⟩ => ⟨S4x16x8192x64, .f32⟩
  | .hbm, ⟨71, _⟩ => ⟨S4x8x2x8192x2x32, .f32⟩
  | .hbm, ⟨72, _⟩ => ⟨S4x8192x8x2x2x32, .f32⟩
  | .hbm, ⟨73, _⟩ => ⟨S32768x1024, .f32⟩
  | .hbm, ⟨74, _⟩ => ⟨S4x1x16x8192x64, .f32⟩
  | .hbm, ⟨75, _⟩ => ⟨S4x16x8192x64, .f32⟩
  | .hbm, ⟨76, _⟩ => ⟨S4x8192x16x64, .f32⟩
  | .hbm, ⟨77, _⟩ => ⟨S32768x1024, .f32⟩
  | .hbm, ⟨78, _⟩ => ⟨S32768x512, .f32⟩
  | .hbm, ⟨79, _⟩ => ⟨S128x256x512, .f32⟩
  | .hbm, ⟨80, _⟩ => ⟨S_, .f32⟩
  | .hbm, ⟨81, _⟩ => ⟨S128x512, .f32⟩
  | .hbm, ⟨82, _⟩ => ⟨S128x1x512, .f32⟩
  | .hbm, ⟨83, _⟩ => ⟨S_, .f32⟩
  | .hbm, ⟨84, _⟩ => ⟨S128x1x512, .f32⟩
  | .hbm, ⟨85, _⟩ => ⟨S128x1x512, .f32⟩
  | .hbm, ⟨86, _⟩ => ⟨S32768x512, .f32⟩
  | .hbm, ⟨87, _⟩ => ⟨S32768x512, .bf16⟩
  | .hbm, ⟨88, _⟩ => ⟨S32768x512, .f32⟩
  | .hbm, ⟨89, _⟩ => ⟨S32768x512, .bf16⟩
  | .hbm, ⟨90, _⟩ => ⟨S32768x512, .f32⟩
  | .hbm, ⟨91, _⟩ => ⟨S32768x512, .bf16⟩
  | .hbm, ⟨92, _⟩ => ⟨S32768x512, .f32⟩
  | .hbm, ⟨93, _⟩ => ⟨S32768x512, .f32⟩
  | .hbm, ⟨94, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_cst_4 : Ref sig .tc := ⟨.hbm, 80, rfl⟩
abbrev main_v73 : Ref sig .tc := ⟨.hbm, 81, rfl⟩
abbrev main_v74 : Ref sig .tc := ⟨.hbm, 82, rfl⟩
abbrev main_cst_5 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩

abbrev nD : Nat := 1
abbrev τ : Topo := Topo.v7x

variable {F : FTy → Type} [FloatOps F]
-- ==== Kernel5.lean ====
abbrev S32768x1024 : Shape := ⟨2, ![32768, 1024]⟩
abbrev S1024x6176 : Shape := ⟨2, ![1024, 6176]⟩
abbrev S4x4096 : Shape := ⟨2, ![4, 4096]⟩
abbrev S16 : Shape := ⟨1, ![16]⟩
abbrev S1024x4096 : Shape := ⟨2, ![1024, 4096]⟩
abbrev S1024x2048 : Shape := ⟨2, ![1024, 2048]⟩
abbrev S1024x32 : Shape := ⟨2, ![1024, 32]⟩
abbrev S1x16 : Shape := ⟨2, ![1, 16]⟩
abbrev S32768x4096 : Shape := ⟨2, ![32768, 4096]⟩
abbrev S32768x2048 : Shape := ⟨2, ![32768, 2048]⟩
abbrev S32768x16 : Shape := ⟨2, ![32768, 16]⟩
abbrev S256x1024 : Shape := ⟨2, ![256, 1024]⟩
abbrev S256x4096 : Shape := ⟨2, ![256, 4096]⟩
abbrev S256x2048 : Shape := ⟨2, ![256, 2048]⟩
abbrev S256x16 : Shape := ⟨2, ![256, 16]⟩
abbrev S272x4096 : Shape := ⟨2, ![272, 4096]⟩
abbrev S8x4096 : Shape := ⟨2, ![8, 4096]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S256x32 : Shape := ⟨2, ![256, 32]⟩
abbrev S256x256 : Shape := ⟨2, ![256, 256]⟩

abbrev nBuf : Space → Nat
  | .hbm => 15
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S4x4096, .f32⟩
  | .hbm, ⟨3, _⟩ => ⟨S16, .f32⟩
  | .hbm, ⟨4, _⟩ => ⟨S16, .f32⟩
  | .hbm, ⟨5, _⟩ => ⟨S1024x6176, .bf16⟩
  | .hbm, ⟨6, _⟩ => ⟨S1024x4096, .bf16⟩
  | .hbm, ⟨7, _⟩ => ⟨S1024x2048, .bf16⟩
  | .hbm, ⟨8, _⟩ => ⟨S1024x32, .bf16⟩
  | .hbm, ⟨9, _⟩ => ⟨S1x16, .f32⟩
  | .hbm, ⟨10, _⟩ => ⟨S1x16, .f32⟩
  | .hbm, ⟨11, _⟩ => ⟨S32768x4096, .f32⟩
  | .hbm, ⟨12, _⟩ => ⟨S32768x2048, .f32⟩
  | .hbm, ⟨13, _⟩ => ⟨S32768x16, .f32⟩
  | .hbm, ⟨14, _⟩ => ⟨S32768x16, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1024x2048, .bf16⟩
  | .local _ .vmem, ⟨4, _⟩ => ⟨S1024x32, .bf16⟩
  | .local _ .vmem, ⟨5, _⟩ => ⟨S4x4096, .f32⟩
  | .local _ .vmem, ⟨6, _⟩ => ⟨S1x16, .f32⟩
  | .local _ .vmem, ⟨7, _⟩ => ⟨S1x16, .f32⟩
  | .local _ .vmem, ⟨8, _⟩ => ⟨S256x4096, .f32⟩
  | .local _ .vmem, ⟨9, _⟩ => ⟨S256x4096, .f32⟩
  | .local _ .vmem, ⟨10, _⟩ => ⟨S256x2048, .f32⟩
  | .local _ .vmem, ⟨11, _⟩ => ⟨S256x2048, .f32⟩
  | .local _ .vmem, ⟨12, _⟩ => ⟨S256x16, .f32⟩
  | .local _ .vmem, ⟨13, _⟩ => ⟨S256x16, .f32⟩
  | .local _ .vmem, ⟨14, _⟩ => ⟨S256x16, .f32⟩
  | .local _ .vmem, ⟨15, _⟩ => ⟨S256x16, .f32⟩
  | .local _ .vmem, ⟨16, _⟩ => ⟨S272x4096, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S32768x1024 : Shape := ⟨2, ![32768, 1024]⟩
abbrev S1024x6176 : Shape := ⟨2, ![1024, 6176]⟩
abbrev S4x4096 : Shape := ⟨2, ![4, 4096]⟩
abbrev S16 : Shape := ⟨1, ![16]⟩
abbrev S32768x6176 : Shape := ⟨2, ![32768, 6176]⟩
abbrev S32768x4096 : Shape := ⟨2, ![32768, 4096]⟩
abbrev S32768x2048 : Shape := ⟨2, ![32768, 2048]⟩
abbrev S32768x16 : Shape := ⟨2, ![32768, 16]⟩
abbrev S4x8192x4096 : Shape := ⟨3, ![4, 8192, 4096]⟩
abbrev S_ : Shape := ⟨0, ![]⟩
abbrev S4x8195x4096 : Shape := ⟨3, ![4, 8195, 4096]⟩
abbrev S1x4096 : Shape := ⟨2, ![1, 4096]⟩
abbrev S4096 : Shape := ⟨1, ![4096]⟩
abbrev S1x1x4096 : Shape := ⟨3, ![1, 1, 4096]⟩
abbrev S4x8192x1024 : Shape := ⟨3, ![4, 8192, 1024]⟩
abbrev S4x8192x2048 : Shape := ⟨3, ![4, 8192, 2048]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S1x16 : Shape := ⟨2, ![1, 16]⟩
abbrev S512x64x16 : Shape := ⟨3, ![512, 64, 16]⟩

abbrev nBuf : Space → Nat
  | .hbm => 120
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6176, .f32⟩
  | .hbm, ⟨2, _⟩ => ⟨S4x4096, .f32⟩
  | .hbm, ⟨3, _⟩ => ⟨S16, .f32⟩
  | .hbm, ⟨4, _⟩ => ⟨S16, .f32⟩
  | .hbm, ⟨5, _⟩ => ⟨S32768x6176, .f32⟩
  | .hbm, ⟨6, _⟩ => ⟨S32768x4096, .f32⟩
  | .hbm, ⟨7, _⟩ => ⟨S32768x2048, .f32⟩
  | .hbm, ⟨8, _⟩ => ⟨S32768x16, .f32⟩
  | .hbm, ⟨9, _⟩ => ⟨S32768x16, .f32⟩
  | .hbm, ⟨10, _⟩ => ⟨S4x8192x4096, .f32⟩
  | .hbm, ⟨11, _⟩ => ⟨S_, .i32⟩
  | .hbm, ⟨12, _⟩ => ⟨S_, .f32⟩
  | .hbm, ⟨13, _⟩ => ⟨S4x8195x4096, .f32⟩
  | .hbm, ⟨14, _⟩ => ⟨S4x8192x4096, .f32⟩
  | .hbm, ⟨15, _⟩ => ⟨S1x4096, .f32⟩
  | .hbm, ⟨16, _⟩ => ⟨S4096, .f32⟩
  | .hbm, ⟨17, _⟩ => ⟨S1x1x4096, .f32⟩
  | .hbm, ⟨18, _⟩ => ⟨S4x8192x4096, .f32⟩
  | .hbm, ⟨19, _⟩ => ⟨S4x8192x4096, .f32⟩
  | .hbm, ⟨20, _⟩ => ⟨S_, .f32⟩
  | .hbm, ⟨21, _⟩ => ⟨S4x8192x4096, .f32⟩
  | .hbm, ⟨22, _⟩ => ⟨S4x8192x4096, .f32⟩
  | .hbm, ⟨23, _⟩ => ⟨S4x8192x4096, .f32⟩
  | .hbm, ⟨24, _⟩ => ⟨S1x4096, .f32⟩
  | .hbm, ⟨25, _⟩ => ⟨S4096, .f32⟩
  | .hbm, ⟨26, _⟩ => ⟨S1x1x4096, .f32⟩
  | .hbm, ⟨27, _⟩ => ⟨S4x8192x4096, .f32⟩
  | .hbm, ⟨28, _⟩ => ⟨S4x8192x4096, .f32⟩
  | .hbm, ⟨29, _⟩ => ⟨S4x8192x4096, .f32⟩
  | .hbm, ⟨30, _⟩ => ⟨S4x8192x4096, .f32⟩
  | .hbm, ⟨31, _⟩ => ⟨S1x4096, .f32⟩
  | .hbm, ⟨32, _⟩ => ⟨S4096, .f32⟩
  | .hbm, ⟨33, _⟩ => ⟨S1x1x4096, .f32⟩
  | .hbm, ⟨34, _⟩ => ⟨S4x8192x4096, .f32⟩
  | .hbm, ⟨35, _⟩ => ⟨S4x8192x4096, .f32⟩
  | .hbm, ⟨36, _⟩ => ⟨S4x8192x4096, .f32⟩
  | .hbm, ⟨37, _⟩ => ⟨S4x8192x4096, .f32⟩
  | .hbm, ⟨38, _⟩ => ⟨S1x4096, .f32⟩
  | .hbm, ⟨39, _⟩ => ⟨S4096, .f32⟩
  | .hbm, ⟨40, _⟩ => ⟨S1x1x4096, .f32⟩
  | .hbm, ⟨41, _⟩ => ⟨S4x8192x4096, .f32⟩
  | .hbm, ⟨42, _⟩ => ⟨S4x8192x4096, .f32⟩
  | .hbm, ⟨43, _⟩ => ⟨S4x8192x4096, .f32⟩
  | .hbm, ⟨44, _⟩ => ⟨S4x8192x4096, .f32⟩
  | .hbm, ⟨45, _⟩ => ⟨S4x8192x4096, .f32⟩
  | .hbm, ⟨46, _⟩ => ⟨S_, .f32⟩
  | .hbm, ⟨47, _⟩ => ⟨S4x8192x4096, .f32⟩
  | .hbm, ⟨48, _⟩ => ⟨S4x8192x4096, .f32⟩
  | .hbm, ⟨49, _⟩ => ⟨S_, .f32⟩
  | .hbm, ⟨50, _⟩ => ⟨S4x8192x4096, .f32⟩
  | .hbm, ⟨51, _⟩ => ⟨S4x8192x4096, .f32⟩
  | .hbm, ⟨52, _⟩ => ⟨S4x8192x4096, .f32⟩
  | .hbm, ⟨53, _⟩ => ⟨S4x8192x1024, .f32⟩
  | .hbm, ⟨54, _⟩ => ⟨S4x8192x1024, .f32⟩
  | .hbm, ⟨55, _⟩ => ⟨S4x8192x2048, .f32⟩
  | .hbm, ⟨56, _⟩ => ⟨S4x8192x8x128, .f32⟩
  | .hbm, ⟨57, _⟩ => ⟨S4x8192x8x128, .f32⟩
  | .hbm, ⟨58, _⟩ => ⟨S_, .f32⟩
  | .hbm, ⟨59, _⟩ => ⟨S4x8192x8, .f32⟩
  | .hbm, ⟨60, _⟩ => ⟨S4x8192x8x1, .f32⟩
  | .hbm, ⟨61, _⟩ => ⟨S_, .f32⟩
  | .hbm, ⟨62, _⟩ => ⟨S4x8192x8x1, .f32⟩
  | .hbm, ⟨63, _⟩ => ⟨S4x8192x8x1, .f32⟩
  | .hbm, ⟨64, _⟩ => ⟨S4x8192x8x1, .f32⟩
  | .hbm, ⟨65, _⟩ => ⟨S4x8192x8x128, .f32⟩
  | .hbm, ⟨66, _⟩ => ⟨S4x8192x8x128, .f32⟩
  | .hbm, ⟨67, _⟩ => ⟨S_, .f32⟩
  | .hbm, ⟨68, _⟩ => ⟨S4x8192x8x128, .f32⟩
  | .hbm, ⟨69, _⟩ => ⟨S4x8192x8x128, .f32⟩
  | .hbm, ⟨70, _⟩ => ⟨S4x8192x8x128, .f32⟩
  | .hbm, ⟨71, _⟩ => ⟨S4x8192x8x128, .f32⟩
  | .hbm, ⟨72, _⟩ => ⟨S_, .f32⟩
  | .hbm, ⟨73, _⟩ => ⟨S4x8192x8, .f32⟩
  | .hbm, ⟨74, _⟩ => ⟨S4x8192x8x1, .f32⟩
  | .hbm, ⟨75, _⟩ => ⟨S_, .f32⟩
  | .hbm, ⟨76, _⟩ => ⟨S4x8192x8x1, .f32⟩
  | .hbm, ⟨77, _⟩ => ⟨S4x8192x8x1, .f32⟩
  | .hbm, ⟨78, _⟩ => ⟨S4x8192x8x1, .f32⟩
  | .hbm, ⟨79, _⟩ => ⟨S4x8192x8x128, .f32⟩
  | .hbm, ⟨80, _⟩ => ⟨S4x8192x8x128, .f32⟩
  | .hbm, ⟨81, _⟩ => ⟨S32768x1024, .f32⟩
  | .hbm, ⟨82, _⟩ => ⟨S32768x1024, .f32⟩
  | .hbm, ⟨83, _⟩ => ⟨S32768x2048, .f32⟩
  | .hbm, ⟨84, _⟩ => ⟨S32768x4096, .f32⟩
  | .hbm, ⟨85, _⟩ => ⟨S32768x16, .f32⟩
  | .hbm, ⟨86, _⟩ => ⟨S32768x16, .f32⟩
  | .hbm, ⟨87, _⟩ => ⟨S_, .f32⟩
  | .hbm, ⟨88, _⟩ => ⟨S32768x16, .f32⟩
  | .hbm, ⟨89, _⟩ => ⟨S32768x16, .f32⟩
  | .hbm, ⟨90, _⟩ => ⟨S_, .f32⟩
  | .hbm, ⟨91, _⟩ => ⟨S32768x16, .f32⟩
  | .hbm, ⟨92, _⟩ => ⟨S32768x16, .f32⟩
  | .hbm, ⟨93, _⟩ => ⟨S16, .f32⟩
  | .hbm, ⟨94, _⟩ => ⟨S16, .f32⟩
  | .hbm, ⟨95, _⟩ => ⟨S1x16, .f32⟩
  | .hbm, ⟨96, _⟩ => ⟨S32768x16, .f32⟩
  | .hbm, ⟨97, _⟩ => ⟨S32768x16, .f32⟩
  | .hbm, ⟨98, _⟩ => ⟨S_, .f32⟩
  | .hbm, ⟨99, _⟩ => ⟨S32768x16, .f32⟩
  | .hbm, ⟨100, _⟩ => ⟨S32768x16, .f32⟩
  | .hbm, ⟨101, _⟩ => ⟨S32768x16, .f32⟩
  | .hbm, ⟨102, _⟩ => ⟨S32768x16, .f32⟩
  | .hbm, ⟨103, _⟩ => ⟨S32768x16, .i1⟩
  | .hbm, ⟨104, _⟩ => ⟨S32768x16, .f32⟩
  | .hbm, ⟨105, _⟩ => ⟨S32768x16, .f32⟩
  | .hbm, ⟨106, _⟩ => ⟨S32768x16, .f32⟩
  | .hbm, ⟨107, _⟩ => ⟨S32768x16, .f32⟩
  | .hbm, ⟨108, _⟩ => ⟨S32768x16, .f32⟩
  | .hbm, ⟨109, _⟩ => ⟨S32768x16, .f32⟩
  | .hbm, ⟨110, _⟩ => ⟨S32768x16, .f32⟩
  | .hbm, ⟨111, _⟩ => ⟨S32768x16, .f32⟩
  | .hbm, ⟨112, _⟩ => ⟨S1x16, .f32⟩
  | .hbm, ⟨113, _⟩ => ⟨S32768x16, .f32⟩
  | .hbm, ⟨114, _⟩ => ⟨S32768x16, .f32⟩
  | .hbm, ⟨115, _⟩ => ⟨S512x64x16, .f32⟩
  | .hbm, ⟨116, _⟩ => ⟨S_, .f32⟩
  | .hbm, ⟨117, _⟩ => ⟨S_, .f32⟩
  | .hbm, ⟨118, _⟩ => ⟨S512x64x16, .f32⟩
  | .hbm, ⟨119, _⟩ => ⟨S32768x16, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_0 : Ref sig .tc := ⟨.hbm, 58, rfl⟩
abbrev main_v42 : Ref sig .tc := ⟨.hbm, 59, rfl⟩
abbrev main_v43 : Ref sig .tc := ⟨.hbm, 60, rfl⟩
abbrev main_cst_1 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_2 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_3 : Ref sig .tc := ⟨.hbm, 72, rfl⟩
abbrev main_v53 : Ref sig .tc := ⟨.hbm, 73, rfl⟩
abbrev main_v54 : Ref sig .tc := ⟨.hbm, 74, rfl⟩
abbrev main_cst_4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call2_cst : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call3_call0_cst : Ref sig .tc := ⟨.hbm, 116, rfl⟩
abbrev main_call3_call0_v0 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Kernel6.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S73728x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S73728x1024 : Shape := ⟨2, ![73728, 1024]⟩
abbrev S288 : Shape := ⟨1, ![288]⟩
abbrev S1 : Shape := ⟨1, ![1]⟩
abbrev S32x1024x512 : Shape := ⟨3, ![32, 1024, 512]⟩
abbrev S32x512x1024 : Shape := ⟨3, ![32, 512, 1024]⟩
abbrev S288x256x1024 : Shape := ⟨3, ![288, 256, 1024]⟩
abbrev S288x1 : Shape := ⟨2, ![288, 1]⟩
abbrev S288x1024x512 : Shape := ⟨3, ![288, 1024, 512]⟩
abbrev S288x256x512 : Shape := ⟨3, ![288, 256, 512]⟩
abbrev S_ : Shape := ⟨0, ![]⟩
abbrev S288x512x1024 : Shape := ⟨3, ![288, 512, 1024]⟩
abbrev S288x1x1 : Shape := ⟨3, ![288, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S73728x1024, .f32⟩
  | .hbm, ⟨1, _⟩ => ⟨S288, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S288x256x1024, .f32⟩
  | .hbm, ⟨7, _⟩ => ⟨S288x1, .i32⟩
  | .hbm, ⟨8, _⟩ => ⟨S288x1024x512, .f32⟩
  | .hbm, ⟨9, _⟩ => ⟨S288x256x512, .f32⟩
  | .hbm, ⟨10, _⟩ => ⟨S288x256x512, .f32⟩
  | .hbm, ⟨11, _⟩ => ⟨S288x256x512, .f32⟩
  | .hbm, ⟨12, _⟩ => ⟨S_, .f32⟩
  | .hbm, ⟨13, _⟩ => ⟨S288x256x512, .f32⟩
  | .hbm, ⟨14, _⟩ => ⟨S288x256x512, .f32⟩
  | .hbm, ⟨15, _⟩ => ⟨S_, .f32⟩
  | .hbm, ⟨16, _⟩ => ⟨S288x256x512, .f32⟩
  | .hbm, ⟨17, _⟩ => ⟨S288x256x512, .f32⟩
  | .hbm, ⟨18, _⟩ => ⟨S288x256x512, .f32⟩
  | .hbm, ⟨19, _⟩ => ⟨S288x1, .i32⟩
  | .hbm, ⟨20, _⟩ => ⟨S288x1024x512, .f32⟩
  | .hbm, ⟨21, _⟩ => ⟨S288x256x512, .f32⟩
  | .hbm, ⟨22, _⟩ => ⟨S288x256x512, .f32⟩
  | .hbm, ⟨23, _⟩ => ⟨S288x1, .i32⟩
  | .hbm, ⟨24, _⟩ => ⟨S288x512x1024, .f32⟩
  | .hbm, ⟨25, _⟩ => ⟨S288x256x1024, .f32⟩
  | .hbm, ⟨26, _⟩ => ⟨S288, .i32⟩
  | .hbm, ⟨27, _⟩ => ⟨S_, .i32⟩
  | .hbm, ⟨28, _⟩ => ⟨S288, .i32⟩
  | .hbm, ⟨29, _⟩ => ⟨S288, .i1⟩
  | .hbm, ⟨30, _⟩ => ⟨S288x1x1, .i1⟩
  | .hbm, ⟨31, _⟩ => ⟨S_, .f32⟩
  | .hbm, ⟨32, _⟩ => ⟨S_, .f32⟩
  | .hbm, ⟨33, _⟩ => ⟨S288x256x1024, .i1⟩
  | .hbm, ⟨34, _⟩ => ⟨S288x256x1024, .f32⟩
  | .hbm, ⟨35, _⟩ => ⟨S288x256x1024, .f32⟩
  | .hbm, ⟨36, _⟩ => ⟨S73728x1024, .f32⟩
  | _, _ => ⟨S73728x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_v1 : Ref sig .tc := ⟨.hbm, 11, rfl⟩
abbrev main_call1_cst : Ref sig .tc := ⟨.hbm, 12, rfl⟩
abbrev main_call1_v2 : Ref sig .tc := ⟨.hbm, 13, rfl⟩
abbrev main_call1_v3 : Ref sig .tc := ⟨.hbm, 14, rfl⟩
abbrev main_call1_cst_0 : Ref sig .tc := ⟨.hbm, 15, rfl⟩
abbrev main_call1_v4 : Ref sig .tc := ⟨.hbm, 16, rfl⟩
abbrev main_call1_v5 : Ref sig .tc := ⟨.hbm, 17, rfl⟩
abbrev main_v3 : Ref sig .tc := ⟨.hbm, 18, rfl⟩
abbrev main_call2_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_call4_v0 : Ref sig .tc := ⟨.hbm, 32, rfl⟩
abbrev main_call4_v1 : Ref sig .tc := ⟨.hbm, 33, rfl⟩
abbrev main_call4_v2 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Proof.Chunk.lean ====
/-
  One chunk of the kernel as functions of the chunk's blocks: the solve by repeated squaring, the state the chunk leaves, and
  the rows it writes. The kernel's body runs four chunks per grid point; its payloads are these functions at the four slices.
-/
module

public import proofs.«01_k».proof.Proof.Gen.KernelIdeal.Value
public import Idealize.ShloMosaic.Lib.Pipeline.ValueKit

@[expose] public section

noncomputable section

namespace Cert.KernelIdeal.Chunk

open Idealize.ShloMosaic Idealize.SL.Sem
open Cert.KernelIdeal Cert.KernelIdeal.Gen

variable {F : FTy → Type} [FloatOps F]

/-- Where the row's position is at or after the column's. -/
def lower : IVec S64x64 1 := cmpi .sge (iota .tc S64x64 32 [0] iota_S64x64_d0_w32) (iota .tc S64x64 32 [1] iota_S64x64_d1_w32)

/-- Where the row's position is after the column's. -/
def strict : IVec S64x64 1 := cmpi .sgt (iota .tc S64x64 32 [0] iota_S64x64_d0_w32) (iota .tc S64x64 32 [1] iota_S64x64_d1_w32)

/-- The zero matrix of a chunk's positions by positions. -/
def zeros : FVec F S64x64 .f32 := broadcast S64x64 (Scalar.ofBits .f32 0x00000000#32)

/-- A block's rows. -/
def mat (x : Vec F S1x64x128 .f32) : FVec F S64x128 .f32 := shapeCast S64x128 x shapeCasts_S1x64x128_S64x128

/-- A block's column. -/
def col (x : Vec F S1x1x64x1 .f32) : FVec F S64x1 .f32 := shapeCast S64x1 x shapeCasts_S1x1x64x1_S64x1

/-- A block's row. -/
def row (x : Vec F S1x1x1x1x64 .f32) : FVec F S1x64 .f32 := shapeCast S1x64 x shapeCasts_S1x1x1x1x64_S1x64

/-- The last entry of a block's row. -/
def last (r : Vec F S1x1x1x1x64 .f32) : FVec F S1x1 .f32 := extractStridedSlice S1x1 ![0, 63] (row r) slices_S1x64_o0_63_S1x1

/-- A column along 128 columns. -/
def wide (x : FVec F S64x1 .f32) : FVec F S64x128 .f32 := broadcastTo S64x128 x broadcasts_S64x1_S64x128

/-- The decay between two positions of the chunk. -/
def decay (g : Vec F S1x1x64x1 .f32) (r : Vec F S1x1x1x1x64 .f32) : FVec F S64x64 .f32 :=
  select lower (exp (select lower
    (subf (broadcastTo S64x64 (col g) broadcasts_S64x1_S64x64) (broadcastTo S64x64 (row r) broadcasts_S1x64_S64x64)) zeros)) zeros

/-- The keys scaled by the write strengths. -/
def kb (k : Vec F S1x64x128 .f32) (b : Vec F S1x1x64x1 .f32) : FVec F S64x128 .f32 := mulf (mat k) (wide (col b))

/-- Rows against rows. -/
def rows (x y : FVec F S64x128 .f32) : FVec F S64x64 .f32 :=
  matmul dot_S64x128_S64x128_S64x64_1_1_0_0_n_n none (truncf .bf16 x bitsLt_bf16_f32) (truncf .bf16 y bitsLt_bf16_f32)
    (constant S64x64 .f32 0x00000000#32)

/-- The strictly lower triangular matrix of the chunk's solve. -/
def lmat (k : Vec F S1x64x128 .f32) (b g : Vec F S1x1x64x1 .f32) (r : Vec F S1x1x1x1x64 .f32) : FVec F S64x64 .f32 :=
  select strict (mulf (rows (kb k b) (mat k)) (decay g r)) zeros

/-- The two right sides of the chunk's solve, side by side. -/
def rhs (k v : Vec F S1x64x128 .f32) (b g : Vec F S1x1x64x1 .f32) : FVec F S64x256 .f32 :=
  concatenate S64x256 1 [⟨S64x128, mulf (mat v) (wide (col b))⟩, ⟨S64x128, mulf (kb k b) (wide (exp (col g)))⟩]
    concatenates_S64x128_S64x128_S64x256_d1

/-- A matrix of the chunk applied to the right sides. -/
def app (l : FVec F S64x64 .f32) (x : FVec F S64x256 .f32) : FVec F S64x256 .f32 :=
  matmul dot_S64x64_S64x256_S64x256_1_0_0_1_n_n (some .fp32) l x (constant S64x256 .f32 0x00000000#32)

/-- A matrix of the chunk squared. -/
def sq (l : FVec F S64x64 .f32) : FVec F S64x64 .f32 :=
  matmul dot_S64x64_S64x64_S64x64_1_0_0_1_n_n (some .fp32) l l (constant S64x64 .f32 0x00000000#32)

/-- One doubling: the right sides and their image added. -/
def dbl (p : FVec F S64x64 .f32) (x : FVec F S64x256 .f32) : FVec F S64x256 .f32 := addf x (app p x)

/-- The solve: (I - L), then I plus L to the 2, 4, 8, 16 and 32. -/
def sol (l : FVec F S64x64 .f32) (x : FVec F S64x256 .f32) : FVec F S64x256 .f32 :=
  dbl (sq (sq (sq (sq (sq l))))) (dbl (sq (sq (sq (sq l)))) (dbl (sq (sq (sq l))) (dbl (sq (sq l)) (dbl (sq l) (subf x (app l x))))))

/-- The chunk's solve. -/
def sols (k v : Vec F S1x64x128 .f32) (b g : Vec F S1x1x64x1 .f32) (r : Vec F S1x1x1x1x64 .f32) : FVec F S64x256 .f32 :=
  sol (lmat k b g r) (rhs k v b g)

/-- Rows applied to the state. -/
def onState (x : FVec F S64x128 .f32) (s : Vec F S128x128 .f32) : FVec F S64x128 .f32 :=
  matmul dot_S64x128_S128x128_S64x128_1_0_0_1_n_n none (truncf .bf16 x bitsLt_bf16_f32) (truncf .bf16 s bitsLt_bf16_f32)
    (constant S64x128 .f32 0x00000000#32)

/-- The values the chunk writes. -/
def vnew (k v : Vec F S1x64x128 .f32) (b g : Vec F S1x1x64x1 .f32) (r : Vec F S1x1x1x1x64 .f32) (s : Vec F S128x128 .f32) :
    FVec F S64x128 .f32 :=
  subf (extractStridedSlice S64x128 ![0, 0] (sols k v b g r) slices_S64x256_o0_0_S64x128)
    (onState (extractStridedSlice S64x128 ![0, 128] (sols k v b g r) slices_S64x256_o0_128_S64x128) s)

/-- The keys decayed to the chunk's end. -/
def kdec (k : Vec F S1x64x128 .f32) (g : Vec F S1x1x64x1 .f32) (r : Vec F S1x1x1x1x64 .f32) : FVec F S64x128 .f32 :=
  mulf (mat k) (wide (exp (subf (broadcastTo S64x1 (last r) broadcasts_S1x1_S64x1) (col g))))

/-- The state after the chunk. -/
def state (k v : Vec F S1x64x128 .f32) (b g : Vec F S1x1x64x1 .f32) (r : Vec F S1x1x1x1x64 .f32) (s : Vec F S128x128 .f32) :
    FVec F S128x128 .f32 :=
  shapeCast S128x128 (addf (mulf s (broadcastTo S128x128 (exp (last r)) broadcasts_S1x1_S128x128))
    (matmul dot_S64x128_S64x128_S128x128_0_0_1_1_n_n none (truncf .bf16 (kdec k g r) bitsLt_bf16_f32)
      (truncf .bf16 (vnew k v b g r s) bitsLt_bf16_f32) (constant S128x128 .f32 0x00000000#32))) shapeCasts_S128x128_S128x128

/-- The chunk's output before the normalisation. -/
def raw (q k v : Vec F S1x64x128 .f32) (b g : Vec F S1x1x64x1 .f32) (r : Vec F S1x1x1x1x64 .f32) (s : Vec F S128x128 .f32) :
    FVec F S64x128 .f32 :=
  addf (onState (mulf (mat q) (wide (exp (col g)))) s)
    (matmul dot_S64x64_S64x128_S64x128_1_0_0_1_n_n none
      (truncf .bf16 (mulf (rows (mat q) (mat k)) (decay g r)) bitsLt_bf16_f32)
      (truncf .bf16 (vnew k v b g r s) bitsLt_bf16_f32) (constant S64x128 .f32 0x00000000#32))

/-- The mean of squares of each row, plus the small constant, to the power minus one half. -/
def scale (o : FVec F S64x128 .f32) : FVec F S64x1 .f32 :=
  rsqrt (addf (divf (shapeCast S64x1 (multiReduction .add [1] S64 (mulf o o) 0x00000000#32 reduces_S64x128_S64 (.inl rfl) rfl)
    shapeCasts_S64_S64x1) (broadcast S64x1 (Scalar.ofBits .f32 0x43000000#32))) (broadcast S64x1 (Scalar.ofBits .f32 0x358637BD#32)))

/-- The gate z times its sigmoid. -/
def gate (z : Vec F S1x64x128 .f32) : FVec F S64x128 .f32 :=
  mulf (mat z) (divf (broadcast S64x128 (Scalar.ofBits .f32 0x3F800000#32))
    (addf (broadcast S64x128 (Scalar.ofBits .f32 0x3F800000#32)) (exp (subf (broadcast S64x128 (Scalar.ofBits .f32 0x00000000#32)) (mat z)))))

/-- The rows normalised, weighted and gated. -/
def close (o : FVec F S64x128 .f32) (z : Vec F S1x64x128 .f32) (ng : Vec F S1x128 .f32) : FVec F S1x64x128 .bf16 :=
  shapeCast S1x64x128 (truncf .bf16 (mulf (mulf (mulf o (wide (scale o)))
    (broadcastTo S64x128 (shapeCast S1x128 ng shapeCasts_S1x128_S1x128) broadcasts_S1x128_S64x128)) (gate z)) bitsLt_bf16_f32)
    shapeCasts_S64x128_S1x64x128

/-- The rows the chunk writes. -/
def out (q k v z : Vec F S1x64x128 .f32) (b g : Vec F S1x1x64x1 .f32) (r : Vec F S1x1x1x1x64 .f32) (ng : Vec F S1x128 .f32)
    (s : Vec F S128x128 .f32) : FVec F S1x64x128 .bf16 :=
  close (raw q k v b g r s) z ng

/-- The state before the first chunk. -/
def zero : FVec F S128x128 .f32 :=
  shapeCast S128x128 (broadcast S128x128 (Scalar.ofBits .f32 0x00000000#32)) shapeCasts_S128x128_S128x128

/-- Chunk `n`'s rows of a point's block. -/
def rowsAt (n : Fin 4) (x : Vec F S1x256x128 .f32) : Vec F S1x64x128 .f32 := fun y => x (ix3 0 ⟨64 * n.val + (y 1).val, by have := (y 1).isLt; have := n.isLt; simp at *; omega⟩ (y 2))
/-- Chunk `n`'s part of a point's column. -/
def colAt (n : Fin 4) (x : Vec F S1x1x256x1 .f32) : Vec F S1x1x64x1 .f32 := fun y => x (ix4 0 0 ⟨64 * n.val + (y 2).val, by have := (y 2).isLt; have := n.isLt; simp at *; omega⟩ 0)
/-- Chunk `n`'s row of a point's rows. -/
def rowAt (n : Fin 4) (x : Vec F S1x1x4x1x64 .f32) : Vec F S1x1x1x1x64 .f32 := fun y => x (ix5 0 0 n 0 (y 4))

/-- The state after the first `n` chunks of a point. -/
def states (k v : Vec F S1x256x128 .f32) (b g : Vec F S1x1x256x1 .f32) (r : Vec F S1x1x4x1x64 .f32) (s : Vec F S128x128 .f32) :
    ℕ → Vec F S128x128 .f32
  | 0 => s
  | n + 1 => if h : n < 4 then state (rowsAt ⟨n, h⟩ k) (rowsAt ⟨n, h⟩ v) (colAt ⟨n, h⟩ b) (colAt ⟨n, h⟩ g) (rowAt ⟨n, h⟩ r)
      (states k v b g r s n) else s

/-- What chunk `n` of a point writes. -/
def outs (q k v z : Vec F S1x256x128 .f32) (b g : Vec F S1x1x256x1 .f32) (r : Vec F S1x1x4x1x64 .f32) (ng : Vec F S1x128 .f32)
    (s : Vec F S128x128 .f32) (n : Fin 4) : FVec F S1x64x128 .bf16 :=
  out (rowsAt n q) (rowsAt n k) (rowsAt n v) (rowsAt n z) (colAt n b) (colAt n g) (rowAt n r) ng (states k v b g r s n.val)

end Cert.KernelIdeal.Chunk
-- ==== Proof.ChunkRun.lean ====
/-
  The kernel's body over its input blocks: the scratch ends with the state after the four chunks, and each quarter of the
  output block with what that chunk writes.
-/
module

public import proofs.«01_k».proof.Proof.Chunk

@[expose] public section

noncomputable section

namespace Cert.KernelIdeal.Chunk

open Idealize.ShloMosaic Idealize.SL.Sem
open Cert.KernelIdeal Cert.KernelIdeal.Gen

variable {F : FTy → Type} [FloatOps F]

/-- The load of chunk `n`'s rows of a block. -/
theorem ld_rows (n : Fin 4) (off : Fin 3 → ℕ) (ho : off = ![0, 64 * n.val, 0]) (inb) (x : Vec F S1x256x128 .f32) :
    View.ld x (Rect.unit (s := S1x256x128) off S1x64x128.size inb) = rowsAt n x := by
  subst ho; funext y
  refine View.ld_unit_apply_of _ _ _ _ _ _ fun a => ?_
  have h0 : (y 0).val < 1 := (y 0).isLt
  fin_cases a
  · show 0 = 0 + (y 0).val; omega
  · rfl
  · show (y 2).val = 0 + (y 2).val; omega

/-- The load of chunk `n`'s part of a column. -/
theorem ld_col (n : Fin 4) (off : Fin 4 → ℕ) (ho : off = ![0, 0, 64 * n.val, 0]) (inb) (x : Vec F S1x1x256x1 .f32) :
    View.ld x (Rect.unit (s := S1x1x256x1) off S1x1x64x1.size inb) = colAt n x := by
  subst ho; funext y
  refine View.ld_unit_apply_of _ _ _ _ _ _ fun a => ?_
  have h0 : (y 0).val < 1 := (y 0).isLt
  have h1 : (y 1).val < 1 := (y 1).isLt
  have h3 : (y 3).val < 1 := (y 3).isLt
  fin_cases a
  · show 0 = 0 + (y 0).val; omega
  · show 0 = 0 + (y 1).val; omega
  · rfl
  · show 0 = 0 + (y 3).val; omega

/-- The load of chunk `n`'s row. -/
theorem ld_row (n : Fin 4) (off : Fin 5 → ℕ) (ho : off = ![0, 0, n.val, 0, 0]) (inb) (x : Vec F S1x1x4x1x64 .f32) :
    View.ld x (Rect.unit (s := S1x1x4x1x64) off S1x1x1x1x64.size inb) = rowAt n x := by
  subst ho; funext y
  refine View.ld_unit_apply_of _ _ _ _ _ _ fun a => ?_
  have h0 : (y 0).val < 1 := (y 0).isLt
  have h1 : (y 1).val < 1 := (y 1).isLt
  have h2 : (y 2).val < 1 := (y 2).isLt
  have h3 : (y 3).val < 1 := (y 3).isLt
  fin_cases a
  · show 0 = 0 + (y 0).val; omega
  · show 0 = 0 + (y 1).val; omega
  · show n.val = n.val + (y 2).val; omega
  · show 0 = 0 + (y 3).val; omega
  · show (y 4).val = 0 + (y 4).val; omega

variable [∀ e, Nonempty (Elt F e)]

/-- A later point's body leaves in the scratch the state after its four chunks. -/
theorem sout_B (c i arg3 harg3 arg4 harg4 arg5 harg5 arg6 harg6 arg7 harg7 arg8 harg8 arg9 harg9 arg10 harg10 arg11 harg11 arg12 harg12 h x0 x1 x2 x3 x4 x5 x6 x7 xs0) :
    sout0_B_0 (F := F) c i arg3 harg3 arg4 harg4 arg5 harg5 arg6 harg6 arg7 harg7 arg8 harg8 arg9 harg9 arg10 harg10 arg11 harg11 arg12 harg12 h x0 x1 x2 x3 x4 x5 x6 x7 xs0
      = states x1 x2 x4 x5 x6 xs0 4 := by
  frame_out
  simp only [ld_rows 0 ![0, 0, 0] rfl, ld_rows 1 ![0, 64, 0] rfl, ld_rows 2 ![0, 128, 0] rfl, ld_rows 3 ![0, 192, 0] rfl,
    ld_col 0 ![0, 0, 0, 0] rfl, ld_col 1 ![0, 0, 64, 0] rfl, ld_col 2 ![0, 0, 128, 0] rfl, ld_col 3 ![0, 0, 192, 0] rfl,
    ld_row 0 ![0, 0, 0, 0, 0] rfl, ld_row 1 ![0, 0, 1, 0, 0] rfl, ld_row 2 ![0, 0, 2, 0, 0] rfl, ld_row 3 ![0, 0, 3, 0, 0] rfl]
  rfl

/-- A head's first point's body does so from the zero state. -/
theorem sout_A (c i arg3 harg3 arg4 harg4 arg5 harg5 arg6 harg6 arg7 harg7 arg8 harg8 arg9 harg9 arg10 harg10 arg11 harg11 arg12 harg12 h x0 x1 x2 x3 x4 x5 x6 x7) :
    sout0_A_0 (F := F) c i arg3 harg3 arg4 harg4 arg5 harg5 arg6 harg6 arg7 harg7 arg8 harg8 arg9 harg9 arg10 harg10 arg11 harg11 arg12 harg12 h x0 x1 x2 x3 x4 x5 x6 x7
      = states x1 x2 x4 x5 x6 zero 4 := by
  frame_out
  simp only [ld_rows 0 ![0, 0, 0] rfl, ld_rows 1 ![0, 64, 0] rfl, ld_rows 2 ![0, 128, 0] rfl, ld_rows 3 ![0, 192, 0] rfl,
    ld_col 0 ![0, 0, 0, 0] rfl, ld_col 1 ![0, 0, 64, 0] rfl, ld_col 2 ![0, 0, 128, 0] rfl, ld_col 3 ![0, 0, 192, 0] rfl,
    ld_row 0 ![0, 0, 0, 0, 0] rfl, ld_row 1 ![0, 0, 1, 0, 0] rfl, ld_row 2 ![0, 0, 2, 0, 0] rfl, ld_row 3 ![0, 0, 3, 0, 0] rfl]
  rfl

/-- A point's output block from its four chunks' rows. -/
def blockOf (f : Fin 4 → FVec F S1x64x128 .bf16) : Vec F S1x256x128 .bf16 := fun y =>
  f ⟨(y 1).val / 64, by have := (y 1).isLt; simp at this; omega⟩ (ix3 0 ⟨(y 1).val % 64, Nat.mod_lt _ (by decide)⟩ (y 2))

/-- Its rows in quarter `n` are chunk `n`'s. -/
theorem blockOf_eq (f : Fin 4 → FVec F S1x64x128 .bf16) (y : S1x256x128.Idx) (n : Fin 4) (x : S1x64x128.Idx)
    (h1 : (y 1).val = 64 * n.val + (x 1).val) (h2 : (y 2).val = (x 2).val) : f n x = blockOf f y := by
  have hx : (x 1).val < 64 := (x 1).isLt
  have h0 : (x 0).val < 1 := (x 0).isLt
  unfold blockOf
  have hn : (⟨(y 1).val / 64, by have := (y 1).isLt; simp at this; omega⟩ : Fin 4) = n := by
    apply Fin.ext; show (y 1).val / 64 = n.val; omega
  rw [hn]; congr 1; funext a; apply Fin.ext
  fin_cases a
  · show (x 0).val = 0; omega
  · show (x 1).val = (y 1).val % 64; omega
  · exact h2.symm

/-- A later point's body leaves its chunks' rows in the output block. -/
theorem out_B (c i arg3 harg3 arg4 harg4 arg5 harg5 arg6 harg6 arg7 harg7 arg8 harg8 arg9 harg9 arg10 harg10 arg11 harg11 arg12 harg12 h x0 x1 x2 x3 x4 x5 x6 x7 xs0) :
    out0_B_8 (F := F) c i arg3 harg3 arg4 harg4 arg5 harg5 arg6 harg6 arg7 harg7 arg8 harg8 arg9 harg9 arg10 harg10 arg11 harg11 arg12 harg12 h x0 x1 x2 x3 x4 x5 x6 x7 xs0
      = blockOf (outs x0 x1 x2 x3 x4 x5 x6 x7 xs0) := by
  frame_out
  simp only [ld_rows 0 ![0, 0, 0] rfl, ld_rows 1 ![0, 64, 0] rfl, ld_rows 2 ![0, 128, 0] rfl, ld_rows 3 ![0, 192, 0] rfl,
    ld_col 0 ![0, 0, 0, 0] rfl, ld_col 1 ![0, 0, 64, 0] rfl, ld_col 2 ![0, 0, 128, 0] rfl, ld_col 3 ![0, 0, 192, 0] rfl,
    ld_row 0 ![0, 0, 0, 0, 0] rfl, ld_row 1 ![0, 0, 1, 0, 0] rfl, ld_row 2 ![0, 0, 2, 0, 0] rfl, ld_row 3 ![0, 0, 3, 0, 0] rfl]
  funext y
  canon_tiles x e
  · exact blockOf_eq (outs x0 x1 x2 x3 x4 x5 x6 x7 xs0) y 3 x (by omega) (by omega)
  · exact blockOf_eq (outs x0 x1 x2 x3 x4 x5 x6 x7 xs0) y 2 x (by omega) (by omega)
  · exact blockOf_eq (outs x0 x1 x2 x3 x4 x5 x6 x7 xs0) y 1 x (by omega) (by omega)
  · exact blockOf_eq (outs x0 x1 x2 x3 x4 x5 x6 x7 xs0) y 0 x (by omega) (by omega)

/-- A head's first point's body does so from the zero state. -/
theorem out_A (c i arg3 harg3 arg4 harg4 arg5 harg5 arg6 harg6 arg7 harg7 arg8 harg8 arg9 harg9 arg10 harg10 arg11 harg11 arg12 harg12 h x0 x1 x2 x3 x4 x5 x6 x7) :
    out0_A_8 (F := F) c i arg3 harg3 arg4 harg4 arg5 harg5 arg6 harg6 arg7 harg7 arg8 harg8 arg9 harg9 arg10 harg10 arg11 harg11 arg12 harg12 h x0 x1 x2 x3 x4 x5 x6 x7
      = blockOf (outs x0 x1 x2 x3 x4 x5 x6 x7 zero) := by
  frame_out
  simp only [ld_rows 0 ![0, 0, 0] rfl, ld_rows 1 ![0, 64, 0] rfl, ld_rows 2 ![0, 128, 0] rfl, ld_rows 3 ![0, 192, 0] rfl,
    ld_col 0 ![0, 0, 0, 0] rfl, ld_col 1 ![0, 0, 64, 0] rfl, ld_col 2 ![0, 0, 128, 0] rfl, ld_col 3 ![0, 0, 192, 0] rfl,
    ld_row 0 ![0, 0, 0, 0, 0] rfl, ld_row 1 ![0, 0, 1, 0, 0] rfl, ld_row 2 ![0, 0, 2, 0, 0] rfl, ld_row 3 ![0, 0, 3, 0, 0] rfl]
  funext y
  canon_tiles x e
  · exact blockOf_eq (outs x0 x1 x2 x3 x4 x5 x6 x7 zero) y 3 x (by omega) (by omega)
  · exact blockOf_eq (outs x0 x1 x2 x3 x4 x5 x6 x7 zero) y 2 x (by omega) (by omega)
  · exact blockOf_eq (outs x0 x1 x2 x3 x4 x5 x6 x7 zero) y 1 x (by omega) (by omega)
  · exact blockOf_eq (outs x0 x1 x2 x3 x4 x5 x6 x7 zero) y 0 x (by omega) (by omega)

end Cert.KernelIdeal.Chunk
-- ==== Proof.Delta.lean ====
/-
  One chunk of the gated delta rule over the extended reals, written by rows and columns: the decay, the strictly lower
  triangular matrix, its right sides, what the chunk writes, the next state, the rows before and after the normalisation.
-/
module

public import Idealize.ShloMosaic.PureOps.Ideal

@[expose] public section

noncomputable section

namespace Cert.Delta

open Idealize.ShloMosaic

/-- A matrix of extended reals. -/
abbrev M (m n : ℕ) := Fin m → Fin n → EReal

/-- The decay from position `j` to position `i`. -/
def decay (g : Fin 64 → EReal) : M 64 64 := fun i j => if j ≤ i then Ideal.exp (g i - g j) else 0

/-- The strictly lower triangular matrix of the solve. -/
def lmat (k : M 64 128) (b g : Fin 64 → EReal) : M 64 64 := fun i j =>
  if j < i then (∑ d, (k i d * b i) * k j d) * decay g i j else 0

/-- The right sides: the values and the keys, scaled. -/
def rhs (k v : M 64 128) (b g : Fin 64 → EReal) : M 64 256 := fun i c =>
  if h : c.val < 128 then v i ⟨c.val, h⟩ * b i else (k i ⟨c.val - 128, by omega⟩ * b i) * Ideal.exp (g i)

/-- A matrix times another. -/
def app {m n p : ℕ} (l : M m n) (x : M n p) : M m p := fun i c => ∑ j, l i j * x j c

/-- One doubling. -/
def dbl (p : M 64 64) (x : M 64 256) : M 64 256 := fun i c => x i c + app p x i c

/-- The solve by repeated squaring. -/
def sol (l : M 64 64) (x : M 64 256) : M 64 256 :=
  let l2 := app l l
  let l4 := app l2 l2
  let l8 := app l4 l4
  let l16 := app l8 l8
  let l32 := app l16 l16
  dbl l32 (dbl l16 (dbl l8 (dbl l4 (dbl l2 fun i c => x i c - app l x i c))))

/-- Forward substitution: after `n` rows. -/
def fwd (l : M 64 64) (x : M 64 256) : ℕ → M 64 256
  | 0 => fun _ _ => 0
  | n + 1 => fun i c => if i.val = n then x i c - app l (fwd l x n) i c else fwd l x n i c

/-- The values a chunk writes, from the solution and the state. -/
def vnew (x : M 64 256) (s : M 128 128) : M 64 128 := fun i c =>
  x i ⟨c.val, by omega⟩ - ∑ d : Fin 128, x i ⟨128 + d.val, by omega⟩ * s d c

/-- The state after the chunk. -/
def next (k : M 64 128) (g : Fin 64 → EReal) (x : M 64 256) (s : M 128 128) : M 128 128 := fun d c =>
  s d c * Ideal.exp (g 63) + ∑ i, (k i d * Ideal.exp (g 63 - g i)) * vnew x s i c

/-- The chunk's rows before the normalisation. -/
def raw (q k : M 64 128) (g : Fin 64 → EReal) (x : M 64 256) (s : M 128 128) : M 64 128 := fun i c =>
  (∑ d, (q i d * Ideal.exp (g i)) * s d c) + ∑ j, ((∑ d, q i d * k j d) * decay g i j) * vnew x s j c

/-- A row normalised, weighted and gated. -/
def close (o z ng : Fin 128 → EReal) : Fin 128 → EReal := fun c =>
  o c * Ideal.rsqrt (Ideal.div (∑ d, o d * o d) (Ideal.ofBits .f32 0x43000000#32) + Ideal.ofBits .f32 0x358637BD#32) * ng c
    * (z c * Ideal.div 1 (1 + Ideal.exp (-z c)))

end Cert.Delta
-- ==== Proof.ChunkRead.lean ====
/-
  One chunk of the kernel at the extended reals, read by rows and columns.
-/
module

public import proofs.«01_k».proof.Proof.ChunkRun
public import proofs.«01_k».proof.Proof.Delta
public import Idealize.ShloMosaic.Lib.Pointwise

@[expose] public section

noncomputable section

namespace Cert.KernelIdeal.Chunk

open Idealize.ShloMosaic Idealize.SL.Sem
open Cert.KernelIdeal Cert.KernelIdeal.Gen

/-- A block's rows as a matrix. -/
def m3 (x : Vec Ideal S1x64x128 .f32) : Delta.M 64 128 := fun i d => x (ix3 0 i d)
/-- A block's column as a vector. -/
def c4 (x : Vec Ideal S1x1x64x1 .f32) : Fin 64 → EReal := fun i => x (ix4 0 0 i 0)
/-- A rank-two vector as a matrix. -/
def m2 {m n : ℕ} {φ : FTy} (x : FVec Ideal ⟨2, ![m, n]⟩ φ) : Delta.M m n := fun i d => x (ix2 i d)

/-- A block's row is its column. -/
def Same (g : Vec Ideal S1x1x64x1 .f32) (r : Vec Ideal S1x1x1x1x64 .f32) : Prop := ∀ i : Fin 64, r (ix5 0 0 0 0 i) = g (ix4 0 0 i 0)

/-- The printed lower-triangle mask at a position. -/
theorem select_sge (i j : Fin 64) (x y : EReal) :
    Scalar.select (IntOp.cmpi .sge (BitVec.ofNat 32 i.val) (BitVec.ofNat 32 j.val)) x y = if j ≤ i then x else y := by
  have h : ∀ i j : Fin 64, (IntOp.cmpi .sge (BitVec.ofNat 32 i.val) (BitVec.ofNat 32 j.val) = 1) ↔ j ≤ i := by decide +kernel
  unfold Scalar.select
  by_cases hh : j ≤ i
  · rw [if_pos ((h i j).mpr hh), if_pos hh]
  · rw [if_neg (fun e => hh ((h i j).mp e)), if_neg hh]

/-- The printed strict lower-triangle mask at a position. -/
theorem select_sgt (i j : Fin 64) (x y : EReal) :
    Scalar.select (IntOp.cmpi .sgt (BitVec.ofNat 32 i.val) (BitVec.ofNat 32 j.val)) x y = if j < i then x else y := by
  have h : ∀ i j : Fin 64, (IntOp.cmpi .sgt (BitVec.ofNat 32 i.val) (BitVec.ofNat 32 j.val) = 1) ↔ j < i := by decide +kernel
  unfold Scalar.select
  by_cases hh : j < i
  · rw [if_pos ((h i j).mpr hh), if_pos hh]
  · rw [if_neg (fun e => hh ((h i j).mp e)), if_neg hh]

/-- The decay. -/
theorem decay_read (g r) (h : Same g r) : m2 (decay g r) = Delta.decay (c4 g) := by
  funext i j
  unfold m2 Delta.decay c4
  pointwise [decay, lower, zeros, col, row]
  simp only [select_sge, h j]
  by_cases hh : j ≤ i <;> simp [hh]

/-- Rows against rows. -/
theorem rows_read (x y : FVec Ideal S64x128 .f32) : m2 (rows x y) = fun i j => ∑ d, m2 x i d * m2 y j d := by
  funext i j
  unfold m2
  pointwise [rows]

/-- The scaled keys. -/
theorem kb_read (k b) : m2 (kb k b) = fun i d => m3 k i d * c4 b i := by
  funext i j
  unfold m2 m3 c4
  pointwise [kb, mat, wide, col]

/-- A block's rows. -/
theorem mat_read (k) : m2 (mat (F := Ideal) k) = m3 k := by
  funext i j
  unfold m2 m3
  pointwise [mat]

/-- The strictly lower triangular matrix. -/
theorem lmat_read (k b g r) (h : Same g r) : m2 (lmat k b g r) = Delta.lmat (m3 k) (c4 b) (c4 g) := by
  have e : ∀ i j, m2 (lmat k b g r) i j = if j < i then m2 (rows (kb k b) (mat k)) i j * m2 (decay g r) i j else 0 := by
    intro i j
    unfold m2
    pointwise [lmat, strict, zeros]
    rw [select_sgt]
  funext i j
  rw [e, rows_read, decay_read g r h, kb_read, mat_read]; rfl

/-- A matrix applied to the right sides. -/
theorem app_read (l : FVec Ideal S64x64 .f32) (x : FVec Ideal S64x256 .f32) : m2 (app l x) = Delta.app (m2 l) (m2 x) := by
  funext i j
  unfold m2 Delta.app
  pointwise [app]

/-- A matrix squared. -/
theorem sq_read (l : FVec Ideal S64x64 .f32) : m2 (sq l) = Delta.app (m2 l) (m2 l) := by
  funext i j
  unfold m2 Delta.app
  pointwise [sq]

/-- The right sides. -/
theorem rhs_read (k v b g) : m2 (rhs k v b g) = Delta.rhs (m3 k) (m3 v) (c4 b) (c4 g) := by
  funext i j
  unfold m2 Delta.rhs m3 c4
  pointwise [rhs, kb, mat, wide, col]

/-- One doubling. -/
theorem dbl_read (p x) : m2 (dbl (F := Ideal) p x) = Delta.dbl (m2 p) (m2 x) := by
  funext i j
  unfold Delta.dbl
  rw [← app_read]; rfl

/-- The solve. -/
theorem sol_read (l x) : m2 (sol (F := Ideal) l x) = Delta.sol (m2 l) (m2 x) := by
  have e : m2 (subf x (app l x)) = fun i c => m2 x i c - Delta.app (m2 l) (m2 x) i c := by
    funext i j
    rw [← app_read]; rfl
  unfold sol Delta.sol
  simp only [dbl_read, sq_read, e]

/-- The chunk's solve. -/
theorem sols_read (k v b g r) (h : Same g r) :
    m2 (sols (F := Ideal) k v b g r) = Delta.sol (Delta.lmat (m3 k) (c4 b) (c4 g)) (Delta.rhs (m3 k) (m3 v) (c4 b) (c4 g)) := by
  unfold sols
  rw [sol_read, lmat_read k b g r h, rhs_read]

/-- What the chunk writes. -/
theorem vnew_read (k v b g r) (s : FVec Ideal S128x128 .f32) : m2 (vnew k v b g r s) = Delta.vnew (m2 (sols k v b g r)) (m2 s) := by
  funext i j
  unfold m2 Delta.vnew
  pointwise [vnew, onState]

/-- The last entry of the row. -/
theorem last_read (g r) (h : Same g r) (i j : Fin 1) : last (F := Ideal) r (ix2 i j) = c4 g 63 := by
  rw [show c4 g 63 = r (ix5 0 0 0 0 63) from (h 63).symm]
  pointwise [last, row]

/-- The state after the chunk. -/
theorem state_read (k v b g r) (s : FVec Ideal S128x128 .f32) (h : Same g r) :
    m2 (state k v b g r s) = Delta.next (m3 k) (c4 g) (m2 (sols k v b g r)) (m2 s) := by
  funext i j
  unfold Delta.next
  rw [← vnew_read, ← last_read g r h 0 0]
  unfold m2 m3 c4
  pointwise [state, kdec, mat, wide, col]

/-- The chunk's rows before the normalisation. -/
theorem raw_read (q k v b g r) (s : FVec Ideal S128x128 .f32) (h : Same g r) :
    m2 (raw q k v b g r s) = Delta.raw (m3 q) (m3 k) (c4 g) (m2 (sols k v b g r)) (m2 s) := by
  funext i j
  unfold Delta.raw
  rw [← vnew_read, ← decay_read g r h, ← mat_read q, ← mat_read k]
  have e := rows_read (mat q) (mat k)
  have e' : ∀ i j, ∑ d, m2 (mat q) i d * m2 (mat k) j d = m2 (rows (mat q) (mat k)) i j := fun i j => (congrFun (congrFun e i) j).symm
  simp only [e']
  unfold m2 c4
  pointwise [raw, onState, wide, col]

/-- The chunk's rows normalised, weighted and gated. -/
theorem close_read (o : FVec Ideal S64x128 .f32) (z ng i c) :
    close o z ng (ix3 0 i c) = Delta.close (m2 o i) (m3 z i) (fun d => ng (ix2 0 d)) c := by
  unfold m2 m3 Delta.close
  pointwise [close, gate, scale, wide, mat]
  simp only [zero_sub]

end Cert.KernelIdeal.Chunk
-- ==== Proof.Data.lean ====
/-
  The chunks of the arguments, and the result as a function of them: head by head the states from chunk to chunk, and each
  chunk's rows. The solve of a chunk is a parameter.
-/
module

public import proofs.«01_k».proof.Proof.Delta
public import Idealize.ShloMosaic.Lib.Pointwise

@[expose] public section

noncomputable section

namespace Cert.Delta

open Idealize.ShloMosaic

/-- Position `i` of chunk `n` of sequence `b` among all the tokens. -/
def tok (b : Fin 4) (n : Fin 128) (i : Fin 64) : Fin 32768 := ⟨b.val * 8192 + (n.val * 64 + i.val), by omega⟩

/-- The queries of a chunk: value head `h` reads query head `h / 2`. -/
def qd (a : FVec Ideal ⟨2, ![32768, 4096]⟩ .f32) (b : Fin 4) (h : Fin 16) (n : Fin 128) : M 64 128 := fun i d =>
  a (ix2 (tok b n i) ⟨h.val / 2 * 128 + d.val, by omega⟩)

/-- The keys of a chunk. -/
def kd (a : FVec Ideal ⟨2, ![32768, 4096]⟩ .f32) (b : Fin 4) (h : Fin 16) (n : Fin 128) : M 64 128 := fun i d =>
  a (ix2 (tok b n i) ⟨1024 + (h.val / 2 * 128 + d.val), by omega⟩)

/-- The values of a chunk. -/
def vd (a : FVec Ideal ⟨2, ![32768, 4096]⟩ .f32) (b : Fin 4) (h : Fin 16) (n : Fin 128) : M 64 128 := fun i d =>
  a (ix2 (tok b n i) ⟨2048 + (h.val * 128 + d.val), by omega⟩)

/-- The gates of a chunk. -/
def zd (a : FVec Ideal ⟨2, ![32768, 2048]⟩ .f32) (b : Fin 4) (h : Fin 16) (n : Fin 128) : M 64 128 := fun i d =>
  a (ix2 (tok b n i) ⟨h.val * 128 + d.val, by omega⟩)

/-- A head's numbers at the positions of a chunk. -/
def hd (a : FVec Ideal ⟨2, ![32768, 16]⟩ .f32) (b : Fin 4) (h : Fin 16) (n : Fin 128) : Fin 64 → EReal := fun i =>
  a (ix2 (tok b n i) h)

/-- A way to solve a chunk. -/
abbrev Solver := M 64 64 → M 64 256 → M 64 256

/-- A chunk's solution. -/
def xd (sv : Solver) (a0 : FVec Ideal ⟨2, ![32768, 4096]⟩ .f32) (a2 a3 : FVec Ideal ⟨2, ![32768, 16]⟩ .f32)
    (b : Fin 4) (h : Fin 16) (n : Fin 128) : M 64 256 :=
  sv (lmat (kd a0 b h n) (hd a2 b h n) (hd a3 b h n)) (rhs (kd a0 b h n) (vd a0 b h n) (hd a2 b h n) (hd a3 b h n))

/-- A head's state before chunk `n`. -/
def stateSeq (sv : Solver) (a0 : FVec Ideal ⟨2, ![32768, 4096]⟩ .f32) (a2 a3 : FVec Ideal ⟨2, ![32768, 16]⟩ .f32)
    (b : Fin 4) (h : Fin 16) : ℕ → M 128 128
  | 0 => fun _ _ => 0
  | n + 1 => if hn : n < 128 then
      next (kd a0 b h ⟨n, hn⟩) (hd a3 b h ⟨n, hn⟩) (xd sv a0 a2 a3 b h ⟨n, hn⟩) (stateSeq sv a0 a2 a3 b h n)
    else stateSeq sv a0 a2 a3 b h n

/-- A head's state after a chunk, from the state before it. -/
theorem stateSeq_succ (sv : Solver) (a0 a2 a3 b h) (n : Fin 128) : stateSeq sv a0 a2 a3 b h (n.val + 1)
    = next (kd a0 b h n) (hd a3 b h n) (xd sv a0 a2 a3 b h n) (stateSeq sv a0 a2 a3 b h n.val) := by
  rw [stateSeq, dif_pos n.isLt]

/-- A head's rows in a chunk. -/
def rowsOf (sv : Solver) (a0 : FVec Ideal ⟨2, ![32768, 4096]⟩ .f32) (a1 : FVec Ideal ⟨2, ![32768, 2048]⟩ .f32)
    (a2 a3 : FVec Ideal ⟨2, ![32768, 16]⟩ .f32) (a4 : FVec Ideal ⟨1, ![128]⟩ .f32) (b : Fin 4) (h : Fin 16) (n : Fin 128) :
    M 64 128 := fun i =>
  close (raw (qd a0 b h n) (kd a0 b h n) (hd a3 b h n) (xd sv a0 a2 a3 b h n) (stateSeq sv a0 a2 a3 b h n.val) i)
    (zd a1 b h n i) (fun d => a4 (ix1 d))

/-- The whole result. -/
def result (sv : Solver) (a0 : FVec Ideal ⟨2, ![32768, 4096]⟩ .f32) (a1 : FVec Ideal ⟨2, ![32768, 2048]⟩ .f32)
    (a2 a3 : FVec Ideal ⟨2, ![32768, 16]⟩ .f32) (a4 : FVec Ideal ⟨1, ![128]⟩ .f32) : FVec Ideal ⟨3, ![4, 8192, 2048]⟩ .bf16 := fun y =>
  rowsOf sv a0 a1 a2 a3 a4 (y 0) ⟨(y 2).val / 128, by have : (y 2).val < 2048 := (y 2).isLt; omega⟩
    ⟨(y 1).val / 64, by have : (y 1).val < 8192 := (y 1).isLt; omega⟩ ⟨(y 1).val % 64, Nat.mod_lt _ (by decide)⟩
    ⟨(y 2).val % 128, Nat.mod_lt _ (by decide)⟩

end Cert.Delta
-- ==== Proof.KerRead.lean ====
/-
  The kernel's launch at the ideal numbers: the input blocks of each grid point as parts of the arguments, the state carried
  from point to point, and the result array.
-/
module

public import proofs.«01_k».proof.Proof.ChunkRun
public import proofs.«01_k».proof.Proof.ChunkRead
public import proofs.«01_k».proof.Proof.Data
public import proofs.«01_k».proof.Proof.Gen.KernelIdeal.Value
public import Idealize.ShloMosaic.Lib.Claim
public import Idealize.ShloMosaic.Lib.Pipeline.ValueKit.Point

@[expose] public section

noncomputable section

namespace Cert.KernelIdeal.Launch

open Idealize.ShloMosaic Idealize.ShloMosaic.TcCoe Idealize.SL.Sem
open Cert.KernelIdeal Cert.KernelIdeal.Gen Cert.KernelIdeal.Chunk
open Cert.Delta (M tok qd kd vd zd hd)

variable (m : (ℓ : Loc nD τ sig) → Buf (Elt Ideal) ℓ) (c : Dev nD)

/-- The block indices of the queries. -/
theorem idx0 : ∀ (t : Fin cfg0.N) a, (cfg0.win 0).index t a = ![t.val / 512, t.val % 32, t.val / 32 % 16 / 2] a :=
  (by decide +kernel : ∀ (t : Fin grid0.N) a, win0_0.index t a = ![t.val / 512, t.val % 32, t.val / 32 % 16 / 2] a)

/-- The block indices of the keys. -/
theorem idx1 : ∀ (t : Fin cfg0.N) a, (cfg0.win 1).index t a = ![t.val / 512, t.val % 32, 8 + t.val / 32 % 16 / 2] a :=
  (by decide +kernel : ∀ (t : Fin grid0.N) a, win0_1.index t a = ![t.val / 512, t.val % 32, 8 + t.val / 32 % 16 / 2] a)

/-- The block indices of the values. -/
theorem idx2 : ∀ (t : Fin cfg0.N) a, (cfg0.win 2).index t a = ![t.val / 512, t.val % 32, 16 + t.val / 32 % 16] a :=
  (by decide +kernel : ∀ (t : Fin grid0.N) a, win0_2.index t a = ![t.val / 512, t.val % 32, 16 + t.val / 32 % 16] a)

/-- The block indices of the gates. -/
theorem idx3 : ∀ (t : Fin cfg0.N) a, (cfg0.win 3).index t a = ![t.val / 512, t.val % 32, t.val / 32 % 16] a :=
  (by decide +kernel : ∀ (t : Fin grid0.N) a, win0_3.index t a = ![t.val / 512, t.val % 32, t.val / 32 % 16] a)

/-- The block indices of the write strengths. -/
theorem idx4 : ∀ (t : Fin cfg0.N) a, (cfg0.win 4).index t a = ![t.val / 512, t.val / 32 % 16, t.val % 32, 0] a :=
  (by decide +kernel : ∀ (t : Fin grid0.N) a, win0_4.index t a = ![t.val / 512, t.val / 32 % 16, t.val % 32, 0] a)

/-- The block indices of the decays, as a column. -/
theorem idx5 : ∀ (t : Fin cfg0.N) a, (cfg0.win 5).index t a = ![t.val / 512, t.val / 32 % 16, t.val % 32, 0] a :=
  (by decide +kernel : ∀ (t : Fin grid0.N) a, win0_5.index t a = ![t.val / 512, t.val / 32 % 16, t.val % 32, 0] a)

/-- The block indices of the decays, as rows. -/
theorem idx6 : ∀ (t : Fin cfg0.N) a, (cfg0.win 6).index t a = ![t.val / 512, t.val / 32 % 16, t.val % 32, 0, 0] a :=
  (by decide +kernel : ∀ (t : Fin grid0.N) a, win0_6.index t a = ![t.val / 512, t.val / 32 % 16, t.val % 32, 0, 0] a)

/-- The block indices of the norm's weights. -/
theorem idx7 : ∀ (t : Fin cfg0.N) a, (cfg0.win 7).index t a = ![0, 0] a :=
  (by decide +kernel : ∀ (t : Fin grid0.N) a, win0_7.index t a = ![0, 0] a)

/-- The block indices of the result. -/
theorem idx8 : ∀ (t : Fin cfg0.N) a, (cfg0.win 8).index t a = ![t.val / 512, t.val % 32, t.val / 32 % 16] a :=
  (by decide +kernel : ∀ (t : Fin grid0.N) a, win0_8.index t a = ![t.val / 512, t.val % 32, t.val / 32 % 16] a)

/-- Chunk `n` of point `s`. -/
def chunk (s : Fin 32) (n : Fin 4) : Fin 128 := ⟨4 * s.val + n.val, by omega⟩

variable (t : Fin cfg0.N) (b : Fin 4) (h : Fin 16) (s : Fin 32) (ht : t.val = (b.val * 16 + h.val) * 32 + s.val) (n : Fin 4)

include ht

/-- The queries' block. -/
theorem blk0 : m3 (rowsAt n (iblk m c 0 t)) = qd (m ((c : Thread nD τ).loc main_arg0)) b h (chunk s n) := by
  funext i d
  show iblk m c 0 t (ix3 0 ⟨64 * n.val + i.val, by omega⟩ d) = _
  have e : (win0_0.blk t).view.emb (ix3 (0 : Fin 1) (⟨64 * n.val + i.val, by omega⟩ : Fin 256) d)
      = ix3 b ⟨(4 * s.val + n.val) * 64 + i.val, by omega⟩ ⟨h.val / 2 * 128 + d.val, by omega⟩ := by
    blk_ext [idx0 t]
  unfold qd tok chunk
  blk_simp [iblk]
  rw [e]
  entry_read
  pointwise []

/-- The keys' block. -/
theorem blk1 : m3 (rowsAt n (iblk m c 1 t)) = kd (m ((c : Thread nD τ).loc main_arg0)) b h (chunk s n) := by
  funext i d
  show iblk m c 1 t (ix3 0 ⟨64 * n.val + i.val, by omega⟩ d) = _
  have e : (win0_1.blk t).view.emb (ix3 (0 : Fin 1) (⟨64 * n.val + i.val, by omega⟩ : Fin 256) d)
      = ix3 b ⟨(4 * s.val + n.val) * 64 + i.val, by omega⟩ ⟨1024 + (h.val / 2 * 128 + d.val), by omega⟩ := by
    blk_ext [idx1 t]
  unfold kd tok chunk
  blk_simp [iblk]
  rw [e]
  entry_read
  pointwise []

/-- The values' block. -/
theorem blk2 : m3 (rowsAt n (iblk m c 2 t)) = vd (m ((c : Thread nD τ).loc main_arg0)) b h (chunk s n) := by
  funext i d
  show iblk m c 2 t (ix3 0 ⟨64 * n.val + i.val, by omega⟩ d) = _
  have e : (win0_2.blk t).view.emb (ix3 (0 : Fin 1) (⟨64 * n.val + i.val, by omega⟩ : Fin 256) d)
      = ix3 b ⟨(4 * s.val + n.val) * 64 + i.val, by omega⟩ ⟨2048 + (h.val * 128 + d.val), by omega⟩ := by
    blk_ext [idx2 t]
  unfold vd tok chunk
  blk_simp [iblk]
  rw [e]
  entry_read
  pointwise []

/-- The gates' block. -/
theorem blk3 : m3 (rowsAt n (iblk m c 3 t)) = zd (m ((c : Thread nD τ).loc main_arg1)) b h (chunk s n) := by
  funext i d
  show iblk m c 3 t (ix3 0 ⟨64 * n.val + i.val, by omega⟩ d) = _
  have e : (win0_3.blk t).view.emb (ix3 (0 : Fin 1) (⟨64 * n.val + i.val, by omega⟩ : Fin 256) d)
      = ix3 b ⟨(4 * s.val + n.val) * 64 + i.val, by omega⟩ ⟨h.val * 128 + d.val, by omega⟩ := by
    blk_ext [idx3 t]
  unfold zd tok chunk
  blk_simp [iblk]
  rw [e]
  entry_read
  pointwise []

/-- The write strengths' block. -/
theorem blk4 : c4 (colAt n (iblk m c 4 t)) = hd (m ((c : Thread nD τ).loc main_arg2)) b h (chunk s n) := by
  funext i
  show iblk m c 4 t (ix4 0 0 ⟨64 * n.val + i.val, by omega⟩ 0) = _
  have e : (win0_4.blk t).view.emb (ix4 (0 : Fin 1) (0 : Fin 1) (⟨64 * n.val + i.val, by omega⟩ : Fin 256) (0 : Fin 1))
      = ix4 b h ⟨(4 * s.val + n.val) * 64 + i.val, by omega⟩ 0 := by
    blk_ext [idx4 t]
  unfold hd tok chunk
  blk_simp [iblk]
  rw [e]
  entry_read
  pointwise []

/-- The decays' block, as a column. -/
theorem blk5 : c4 (colAt n (iblk m c 5 t)) = hd (m ((c : Thread nD τ).loc main_arg3)) b h (chunk s n) := by
  funext i
  show iblk m c 5 t (ix4 0 0 ⟨64 * n.val + i.val, by omega⟩ 0) = _
  have e : (win0_5.blk t).view.emb (ix4 (0 : Fin 1) (0 : Fin 1) (⟨64 * n.val + i.val, by omega⟩ : Fin 256) (0 : Fin 1))
      = ix4 b h ⟨(4 * s.val + n.val) * 64 + i.val, by omega⟩ 0 := by
    blk_ext [idx5 t]
  unfold hd tok chunk
  blk_simp [iblk]
  rw [e]
  entry_read
  pointwise []

/-- The decays' block, as rows, holds the same numbers. -/
theorem blk6 : Same (colAt n (iblk m c 5 t)) (rowAt n (iblk m c 6 t)) := by
  intro i
  have h5 := congrFun (blk5 m c t b h s ht n) i
  refine Eq.trans ?_ h5.symm
  show iblk m c 6 t (ix5 0 0 n 0 i) = _
  have e : (win0_6.blk t).view.emb (ix5 (0 : Fin 1) (0 : Fin 1) n (0 : Fin 1) i)
      = ix5 b h (chunk s n) 0 i := by
    unfold chunk
    blk_ext [idx6 t]
  unfold hd tok chunk at *
  blk_simp [iblk]
  rw [e]
  entry_read
  pointwise []

omit ht in
/-- The norm's weights. -/
theorem blk7 : (fun d : Fin 128 => iblk m c 7 t (ix2 0 d)) = fun d => m ((c : Thread nD τ).loc main_arg4) (ix1 d) := by
  funext d
  have e : (win0_7.blk t).view.emb (ix2 (0 : Fin 1) d) = ix2 0 d := by
    blk_ext [idx7 t]
  blk_simp [iblk]
  rw [e]
  entry_read
  pointwise []

end Cert.KernelIdeal.Launch
-- ==== Proof.KerValue.lean ====
/-
  The result array of the kernel's launch: from point to point the scratch holds the head's state, each point writes its four
  chunks' rows, and the blocks cover the array.
-/
module

public import proofs.«01_k».proof.Proof.KerRead

@[expose] public section

noncomputable section

namespace Cert.KernelIdeal.Launch

open Idealize.ShloMosaic Idealize.ShloMosaic.TcCoe Idealize.SL.Sem
open Cert.KernelIdeal Cert.KernelIdeal.Gen Cert.KernelIdeal.Chunk
open Cert.Delta (M tok qd kd vd zd hd)

variable (m : (ℓ : Loc nD τ sig) → Buf (Elt Ideal) ℓ) (c : Dev nD)

/-- A head's state before a chunk, of the launch's arguments. -/
abbrev seq (b : Fin 4) (h : Fin 16) : ℕ → M 128 128 :=
  Delta.stateSeq Delta.sol (m ((c : Thread nD τ).loc main_arg0)) (m ((c : Thread nD τ).loc main_arg2))
    (m ((c : Thread nD τ).loc main_arg3)) b h

/-- The scratch's first contents are zero. -/
theorem zero_read : m2 (zero (F := Ideal)) = fun _ _ => 0 := by
  funext i j
  unfold m2
  pointwise [zero]

/-- Within a point the state goes from chunk to chunk as the head's does. -/
theorem states_read (t : Fin cfg0.N) (b : Fin 4) (h : Fin 16) (s : Fin 32) (ht : t.val = (b.val * 16 + h.val) * 32 + s.val)
    (x : FVec Ideal S128x128 .f32) (hx : m2 x = seq m c b h (4 * s.val)) (n : ℕ) (hn : n ≤ 4) :
    m2 (φ := .f32) (states (iblk m c 1 t) (iblk m c 2 t) (iblk m c 4 t) (iblk m c 5 t) (iblk m c 6 t) x n) = seq m c b h (4 * s.val + n) := by
  induction n with
  | zero => exact hx
  | succ n ih =>
    have hn' : n < 4 := by omega
    rw [states, dif_pos hn', state_read _ _ _ _ _ _ (blk6 m c t b h s ht ⟨n, hn'⟩), sols_read _ _ _ _ _ (blk6 m c t b h s ht ⟨n, hn'⟩),
      ih (by omega), blk1 m c t b h s ht, blk2 m c t b h s ht, blk4 m c t b h s ht, blk5 m c t b h s ht]
    exact (Delta.stateSeq_succ _ _ _ _ _ _ (chunk s ⟨n, hn'⟩)).symm

/-- The scratch after a point holds the head's state after the point's chunks. -/
theorem scratch (n : ℕ) (hn : n < cfg0.N) (b : Fin 4) (h : Fin 16) (s : Fin 32) (ht : n = (b.val * 16 + h.val) * 32 + s.val) :
    m2 (φ := .f32) (outsAt0 m c n hn).2 = seq m c b h (4 * s.val + 4) := by
  induction n generalizing b h s with
  | zero =>
    rw [outsAt0_A m c ⟨0, hn⟩ (Nat.zero_mod _), sout_A]
    refine states_read m c ⟨0, hn⟩ b h s ht zero ?_ 4 (le_refl _)
    have hs : s.val = 0 := by omega
    rw [zero_read, hs]; rfl
  | succ n ih =>
    by_cases h0 : (n + 1) % 32 = 0
    · rw [outsAt0_A m c ⟨n + 1, hn⟩ h0, sout_A]
      refine states_read m c ⟨n + 1, hn⟩ b h s ht zero ?_ 4 (le_refl _)
      have hs : s.val = 0 := by omega
      rw [zero_read, hs]; rfl
    · rw [outsAt0_B m c ⟨n + 1, hn⟩ h0, sout_B]
      refine states_read m c ⟨n + 1, hn⟩ b h s ht _ ?_ 4 (le_refl _)
      have hs : 0 < s.val := by omega
      refine (ih (Nat.lt_of_succ_lt hn) b h ⟨s.val - 1, by omega⟩ (by dsimp only; omega)).trans ?_
      congr 1
      dsimp only
      omega

/-- What a point writes of the result, its four chunks' rows over the state it starts from. -/
theorem written (t : Fin cfg0.N) (b : Fin 4) (h : Fin 16) (s : Fin 32) (ht : t.val = (b.val * 16 + h.val) * 32 + s.val) :
    ∃ x : FVec Ideal S128x128 .f32, m2 x = seq m c b h (4 * s.val) ∧ (outsAt0 m c t.val t.isLt).1
      = blockOf (outs (iblk m c 0 t) (iblk m c 1 t) (iblk m c 2 t) (iblk m c 3 t) (iblk m c 4 t) (iblk m c 5 t) (iblk m c 6 t) (iblk m c 7 t) x) := by
  by_cases h0 : t.val % 32 = 0
  · refine ⟨zero, ?_, ?_⟩
    · have hs : s.val = 0 := by omega
      rw [zero_read, hs]; rfl
    · rw [outsAt0_A m c t h0, out_A]
  · refine ⟨(outsAt0 m c (t.val - 1) (Nat.lt_of_le_of_lt (Nat.sub_le _ _) t.isLt)).2, ?_, ?_⟩
    · have hs : 0 < s.val := by omega
      refine (scratch m c _ _ b h ⟨s.val - 1, by omega⟩ (by dsimp only; omega)).trans ?_
      congr 1
      dsimp only
      omega
    · rw [outsAt0_B m c t h0, out_B]

/-- A chunk's rows in a point's block. -/
theorem outs_read (t : Fin cfg0.N) (b : Fin 4) (h : Fin 16) (s : Fin 32) (ht : t.val = (b.val * 16 + h.val) * 32 + s.val)
    (x : FVec Ideal S128x128 .f32) (hx : m2 x = seq m c b h (4 * s.val)) (n : Fin 4) (i : Fin 64) (d : Fin 128) :
    outs (F := Ideal) (iblk m c 0 t) (iblk m c 1 t) (iblk m c 2 t) (iblk m c 3 t) (iblk m c 4 t) (iblk m c 5 t) (iblk m c 6 t) (iblk m c 7 t) x n (ix3 0 i d)
      = Delta.rowsOf Delta.sol (m ((c : Thread nD τ).loc main_arg0)) (m ((c : Thread nD τ).loc main_arg1))
          (m ((c : Thread nD τ).loc main_arg2)) (m ((c : Thread nD τ).loc main_arg3)) (m ((c : Thread nD τ).loc main_arg4))
          b h (chunk s n) i d := by
  unfold outs out Delta.rowsOf
  rw [close_read, raw_read _ _ _ _ _ _ _ (blk6 m c t b h s ht n), sols_read _ _ _ _ _ (blk6 m c t b h s ht n),
    states_read m c t b h s ht x hx n.val (by omega), blk0 m c t b h s ht, blk1 m c t b h s ht, blk2 m c t b h s ht,
    blk3 m c t b h s ht, blk4 m c t b h s ht, blk5 m c t b h s ht, blk7]
  rfl

/-- The value of the launch. -/
abbrev value : FVec Ideal ⟨3, ![4, 8192, 2048]⟩ .bf16 :=
  Delta.result Delta.sol (m ((c : Thread nD τ).loc main_arg0)) (m ((c : Thread nD τ).loc main_arg1))
    (m ((c : Thread nD τ).loc main_arg2)) (m ((c : Thread nD τ).loc main_arg3)) (m ((c : Thread nD τ).loc main_arg4))

/-- Every index of the result is in a point's block. -/
theorem cover (i : S4x8192x2048.Idx) : ∃ t : Fin cfg0.N, (cfg0.win 8).flush t = true ∧ i ∈ ((cfg0.win 8).blk t).view.set := by
  have h0 : (i 0).val < 4 := (i 0).isLt
  have h1 : (i 1).val < 8192 := (i 1).isLt
  have h2 : (i 2).val < 2048 := (i 2).isLt
  obtain ⟨t, ht⟩ : ∃ t : Fin cfg0.N, t.val = ((i 0).val * 16 + (i 2).val / 128) * 32 + (i 1).val / 256 :=
    ⟨⟨((i 0).val * 16 + (i 2).val / 128) * 32 + (i 1).val / 256, by rw [show cfg0.N = 2048 from N_0]; omega⟩, rfl⟩
  refine ⟨t, flush0_8 t, ?_⟩
  mem_blk
  have e0 : win0_8.index t 0 = t.val / 512 := idx8 t 0
  have e1 : win0_8.index t 1 = t.val % 32 := idx8 t 1
  have e2 : win0_8.index t 2 = t.val / 32 % 16 := idx8 t 2
  rw [e0, e1, e2]
  omega

/-- Equal arguments, equal values. -/
theorem same_args (f : Fin 16 → Fin 128 → M 64 128) {h h' : Fin 16} {n n' : Fin 128} {i i' : Fin 64} {d d' : Fin 128}
    (e1 : h = h') (e2 : n = n') (e3 : i = i') (e4 : d = d') : f h n i d = f h' n' i' d' := by
  subst e1; subst e2; subst e3; subst e4; rfl

/-- A point's block at an index is the result at the block's place. -/
theorem point (t : Fin cfg0.N) (b : Fin 4) (h : Fin 16) (s : Fin 32) (ht : t.val = (b.val * 16 + h.val) * 32 + s.val)
    (y : S1x256x128.Idx) : (outsAt0 m c t.val t.isLt).1 y = value m c (ix3 b
      ⟨s.val * 256 + (y 1).val, by have : (y 1).val < 256 := (y 1).isLt; omega⟩
      ⟨h.val * 128 + (y 2).val, by have : (y 2).val < 128 := (y 2).isLt; omega⟩) := by
  have h1 : (y 1).val < 256 := (y 1).isLt
  have h2 : (y 2).val < 128 := (y 2).isLt
  obtain ⟨x, hx, e⟩ := written m c t b h s ht
  rw [e]
  refine (outs_read m c t b h s ht x hx ⟨(y 1).val / 64, by omega⟩ ⟨(y 1).val % 64, Nat.mod_lt _ (by decide)⟩ (y 2)).trans ?_
  have e1 : (⟨(h.val * 128 + (y 2).val) / 128, by omega⟩ : Fin 16) = h := Fin.ext (by dsimp only; omega)
  have e2 : (⟨(s.val * 256 + (y 1).val) / 64, by omega⟩ : Fin 128) = chunk s ⟨(y 1).val / 64, by omega⟩ :=
    Fin.ext (by unfold chunk; dsimp only; omega)
  have e3 : (⟨(s.val * 256 + (y 1).val) % 64, Nat.mod_lt _ (by decide)⟩ : Fin 64) = ⟨(y 1).val % 64, Nat.mod_lt _ (by decide)⟩ :=
    Fin.ext (by dsimp only; omega)
  have e4 : (⟨(h.val * 128 + (y 2).val) % 128, Nat.mod_lt _ (by decide)⟩ : Fin 128) = y 2 := Fin.ext (by dsimp only; omega)
  exact same_args (Delta.rowsOf Delta.sol (m ((c : Thread nD τ).loc main_arg0)) (m ((c : Thread nD τ).loc main_arg1))
    (m ((c : Thread nD τ).loc main_arg2)) (m ((c : Thread nD τ).loc main_arg3)) (m ((c : Thread nD τ).loc main_arg4)) b)
    e1.symm e2.symm e3.symm e4.symm

/-- **The result array** after the launch. -/
theorem array : (dats m 0 c).arrAt 8 cfg0.N = value m c := by
  refine (dats m 0 c).arrAt_eq_of_emb 8 _ (fun t hf y => ?_) cover
  blk_simp
  rw [after0_8]
  have hN : t.val < 2048 := lt_of_lt_of_eq t.isLt (show cfg0.N = 2048 from N_0)
  refine (point m c t ⟨t.val / 512, by omega⟩ ⟨t.val / 32 % 16, by omega⟩ ⟨t.val % 32, by omega⟩ (by dsimp only; omega) y).trans ?_
  refine congrArg (value m c) ?_
  blk_ext [idx8 t]

end Cert.KernelIdeal.Launch
-- ==== Proof.RefOps.lean ====
/-
  The reference program's operations as lists, @main as the chain of those lists and its two loops, and each loop's body
  as a chain of lists.
-/
module

public import proofs.«01_k».proof.Proof.Gen.ReferenceIdeal
public import Idealize.ShloMosaic.Lib.Pipeline.Regions
public import Idealize.ShloMosaic.Lib.StableHlo.RunLoop

@[expose] public section

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 41 host operations of @main, window 0 (statements 1 … 60), in order. -/
abbrev main_part0_ops0 : List (HloOp τ sig (Elt F)) :=
  ( StableHlo.reshape main_arg0 main_v0 (rfl : (.f32 : EltTy) = .f32) shapeCasts_S32768x4096_S4x8192x4096
  :: StableHlo.unary main_v0 main_v1 ((extractStridedSlice S4x8192x1024 ![0, 0, 0] · slices_S4x8192x4096_S4x8192x1024_0_0_0) : (⟨S4x8192x4096, .f32⟩ : BufTy).Contents (Elt F) → (⟨S4x8192x1024, .f32⟩ : BufTy).Contents (Elt F))
  :: StableHlo.unary main_v0 main_v2 ((extractStridedSlice S4x8192x1024 ![0, 0, 1024] · slices_S4x8192x4096_S4x8192x1024_0_0_1024) : (⟨S4x8192x4096, .f32⟩ : BufTy).Contents (Elt F) → (⟨S4x8192x1024, .f32⟩ : BufTy).Contents (Elt F))
  :: StableHlo.unary main_v0 main_v3 ((extractStridedSlice S4x8192x2048 ![0, 0, 2048] · slices_S4x8192x4096_S4x8192x2048_0_0_2048) : (⟨S4x8192x4096, .f32⟩ : BufTy).Contents (Elt F) → (⟨S4x8192x2048, .f32⟩ : BufTy).Contents (Elt F))
  :: StableHlo.reshape main_v1 main_v4 (rfl : (.f32 : EltTy) = .f32) shapeCasts_S4x8192x1024_S4x8192x8x128
  :: StableHlo.unary main_v4 main_v5 ((transpose S4x8x8192x128 [0, 2, 1, 3] · transposes_S4x8192x8x128_S4x8x8192x128_0_2_1_3) : (⟨S4x8192x8x128, .f32⟩ : BufTy).Contents (Elt F) → (⟨S4x8x8192x128, .f32⟩ : BufTy).Contents (Elt F))
  :: StableHlo.unary main_v5 main_v6 (broadcastInDim S4x8x2x8192x128 ![0, 1, 3, 4] bcast_S4x8x8192x128_S4x8x2x8192x128_0_1_3_4 : (⟨S4x8x8192x128, .f32⟩ : BufTy).Contents (Elt F) → (⟨S4x8x2x8192x128, .f32⟩ : BufTy).Contents (Elt F))
  :: StableHlo.reshape main_v6 main_v7 (rfl : (.f32 : EltTy) = .f32) shapeCasts_S4x8x2x8192x128_S4x16x8192x128
  :: StableHlo.reshape main_v2 main_v8 (rfl : (.f32 : EltTy) = .f32) shapeCasts_S4x8192x1024_S4x8192x8x128
  :: StableHlo.unary main_v8 main_v9 ((transpose S4x8x8192x128 [0, 2, 1, 3] · transposes_S4x8192x8x128_S4x8x8192x128_0_2_1_3) : (⟨S4x8192x8x128, .f32⟩ : BufTy).Contents (Elt F) → (⟨S4x8x8192x128, .f32⟩ : BufTy).Contents (Elt F))
  :: StableHlo.unary main_v9 main_v10 (broadcastInDim S4x8x2x8192x128 ![0, 1, 3, 4] bcast_S4x8x8192x128_S4x8x2x8192x128_0_1_3_4 : (⟨S4x8x8192x128, .f32⟩ : BufTy).Contents (Elt F) → (⟨S4x8x2x8192x128, .f32⟩ : BufTy).Contents (Elt F))
  :: StableHlo.reshape main_v10 main_v11 (rfl : (.f32 : EltTy) = .f32) shapeCasts_S4x8x2x8192x128_S4x16x8192x128
  :: StableHlo.reshape main_v3 main_v12 (rfl : (.f32 : EltTy) = .f32) shapeCasts_S4x8192x2048_S4x8192x16x128
  :: StableHlo.unary main_v12 main_v13 ((transpose S4x16x8192x128 [0, 2, 1, 3] · transposes_S4x8192x16x128_S4x16x8192x128_0_2_1_3) : (⟨S4x8192x16x128, .f32⟩ : BufTy).Contents (Elt F) → (⟨S4x16x8192x128, .f32⟩ : BufTy).Contents (Elt F))
  :: StableHlo.reshape main_arg2 main_v14 (rfl : (.f32 : EltTy) = .f32) shapeCasts_S32768x16_S4x8192x16
  :: StableHlo.unary main_v14 main_v15 ((transpose S4x16x8192 [0, 2, 1] · transposes_S4x8192x16_S4x16x8192_0_2_1) : (⟨S4x8192x16, .f32⟩ : BufTy).Contents (Elt F) → (⟨S4x16x8192, .f32⟩ : BufTy).Contents (Elt F))
  :: StableHlo.reshape main_arg3 main_v16 (rfl : (.f32 : EltTy) = .f32) shapeCasts_S32768x16_S4x8192x16
  :: StableHlo.unary main_v16 main_v17 ((transpose S4x16x8192 [0, 2, 1] · transposes_S4x8192x16_S4x16x8192_0_2_1) : (⟨S4x8192x16, .f32⟩ : BufTy).Contents (Elt F) → (⟨S4x16x8192, .f32⟩ : BufTy).Contents (Elt F))
  :: StableHlo.reshape main_v17 main_v18 (rfl : (.f32 : EltTy) = .f32) shapeCasts_S4x16x8192_S4x16x128x64
  :: StableHlo.reshape main_v7 main_v19 (rfl : (.f32 : EltTy) = .f32) shapeCasts_S4x16x8192x128_S4x16x128x64x128
  :: StableHlo.reshape main_v11 main_v20 (rfl : (.f32 : EltTy) = .f32) shapeCasts_S4x16x8192x128_S4x16x128x64x128
  :: StableHlo.reshape main_v13 main_v21 (rfl : (.f32 : EltTy) = .f32) shapeCasts_S4x16x8192x128_S4x16x128x64x128
  :: StableHlo.reshape main_v15 main_v22 (rfl : (.f32 : EltTy) = .f32) shapeCasts_S4x16x8192_S4x16x128x64
  :: StableHlo.unary main_v22 main_v23 (broadcastInDim S4x16x128x64x1 ![0, 1, 2, 3] bcast_S4x16x128x64_S4x16x128x64x1_0_1_2_3 : (⟨S4x16x128x64, .f32⟩ : BufTy).Contents (Elt F) → (⟨S4x16x128x64x1, .f32⟩ : BufTy).Contents (Elt F))
  :: StableHlo.nullary main_v24 (iotaInDim S64 32 0)
  :: StableHlo.unary main_v24 main_v25 (broadcastInDim S64x1 ![0] bcast_S64_S64x1_0 : (⟨S64, .i32⟩ : BufTy).Contents (Elt F) → (⟨S64x1, .i32⟩ : BufTy).Contents (Elt F))
  :: StableHlo.unary main_v24 main_v26 (broadcastInDim S1x64 ![1] bcast_S64_S1x64_1 : (⟨S64, .i32⟩ : BufTy).Contents (Elt F) → (⟨S1x64, .i32⟩ : BufTy).Contents (Elt F))
  :: StableHlo.unary main_v25 main_v27 (broadcastInDim S64x64 ![0, 1] bcast_S64x1_S64x64_0_1 : (⟨S64x1, .i32⟩ : BufTy).Contents (Elt F) → (⟨S64x64, .i32⟩ : BufTy).Contents (Elt F))
  :: StableHlo.unary main_v26 main_v28 (broadcastInDim S64x64 ![0, 1] bcast_S1x64_S64x64_0_1 : (⟨S1x64, .i32⟩ : BufTy).Contents (Elt F) → (⟨S64x64, .i32⟩ : BufTy).Contents (Elt F))
  :: StableHlo.binary main_v27 main_v28 main_v29 (cmpi .sge : (⟨S64x64, .i32⟩ : BufTy).Contents (Elt F) → (⟨S64x64, .i32⟩ : BufTy).Contents (Elt F) → (⟨S64x64, .i1⟩ : BufTy).Contents (Elt F))
  :: StableHlo.unary main_v24 main_v30 (broadcastInDim S64x1 ![0] bcast_S64_S64x1_0 : (⟨S64, .i32⟩ : BufTy).Contents (Elt F) → (⟨S64x1, .i32⟩ : BufTy).Contents (Elt F))
  :: StableHlo.unary main_v24 main_v31 (broadcastInDim S1x64 ![1] bcast_S64_S1x64_1 : (⟨S64, .i32⟩ : BufTy).Contents (Elt F) → (⟨S1x64, .i32⟩ : BufTy).Contents (Elt F))
  :: StableHlo.unary main_v30 main_v32 (broadcastInDim S64x64 ![0, 1] bcast_S64x1_S64x64_0_1 : (⟨S64x1, .i32⟩ : BufTy).Contents (Elt F) → (⟨S64x64, .i32⟩ : BufTy).Contents (Elt F))
  :: StableHlo.unary main_v31 main_v33 (broadcastInDim S64x64 ![0, 1] bcast_S1x64_S64x64_0_1 : (⟨S1x64, .i32⟩ : BufTy).Contents (Elt F) → (⟨S64x64, .i32⟩ : BufTy).Contents (Elt F))
  :: StableHlo.binary main_v32 main_v33 main_v34 (cmpi .sgt : (⟨S64x64, .i32⟩ : BufTy).Contents (Elt F) → (⟨S64x64, .i32⟩ : BufTy).Contents (Elt F) → (⟨S64x64, .i1⟩ : BufTy).Contents (Elt F))
  :: StableHlo.unary main_v18 main_v35 (broadcastInDim S4x16x128x64x1 ![0, 1, 2, 3] bcast_S4x16x128x64_S4x16x128x64x1_0_1_2_3 : (⟨S4x16x128x64, .f32⟩ : BufTy).Contents (Elt F) → (⟨S4x16x128x64x1, .f32⟩ : BufTy).Contents (Elt F))
  :: StableHlo.unary main_v18 main_v36 (broadcastInDim S4x16x128x1x64 ![0, 1, 2, 4] bcast_S4x16x128x64_S4x16x128x1x64_0_1_2_4 : (⟨S4x16x128x64, .f32⟩ : BufTy).Contents (Elt F) → (⟨S4x16x128x1x64, .f32⟩ : BufTy).Contents (Elt F))
  :: StableHlo.unary main_v35 main_v37 (broadcastInDim S4x16x128x64x64 ![0, 1, 2, 3, 4] bcast_S4x16x128x64x1_S4x16x128x64x64_0_1_2_3_4 : (⟨S4x16x128x64x1, .f32⟩ : BufTy).Contents (Elt F) → (⟨S4x16x128x64x64, .f32⟩ : BufTy).Contents (Elt F))
  :: StableHlo.unary main_v36 main_v38 (broadcastInDim S4x16x128x64x64 ![0, 1, 2, 3, 4] bcast_S4x16x128x1x64_S4x16x128x64x64_0_1_2_3_4 : (⟨S4x16x128x1x64, .f32⟩ : BufTy).Contents (Elt F) → (⟨S4x16x128x64x64, .f32⟩ : BufTy).Contents (Elt F))
  :: StableHlo.binary main_v37 main_v38 main_v39 (subf : (⟨S4x16x128x64x64, .f32⟩ : BufTy).Contents (Elt F) → (⟨S4x16x128x64x64, .f32⟩ : BufTy).Contents (Elt F) → (⟨S4x16x128x64x64, .f32⟩ : BufTy).Contents (Elt F))
  :: StableHlo.nullary main_cst (constant S_ .f32 0x00000000#32)
  :: [] )
/-- Each operation touches TensorCore references only. -/
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.reshape_bufs_sub .., StableHlo.unary_bufs_sub .., StableHlo.unary_bufs_sub .., StableHlo.reshape_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub ..⟩
/-- 4 host operations of @_where (main_call0), window 0 (statements 1 … 60), in order. -/
abbrev main_part0_ops1 : List (HloOp τ sig (Elt F)) :=
  [ StableHlo.TRef.unary (.of main_cst : StableHlo.TRef sig ⟨S_, .f32⟩) (.of main_call0_v0 : StableHlo.TRef sig ⟨S_, .f32⟩) id,
    StableHlo.TRef.unary (.of main_v29 : StableHlo.TRef sig ⟨S64x64, .i1⟩) (.of main_call0_v1 : StableHlo.TRef sig ⟨S4x16x128x64x64, .i1⟩) (broadcastInDim S4x16x128x64x64 ![3, 4] bcast_S64x64_S4x16x128x64x64_3_4),
    StableHlo.TRef.unary (.of main_call0_v0 : StableHlo.TRef sig ⟨S_, .f32⟩) (.of main_call0_v2 : StableHlo.TRef sig ⟨S4x16x128x64x64, .f32⟩) (broadcastInDim S4x16x128x64x64 ![] bcast_S_S4x16x128x64x64),
    StableHlo.TRef.ternary (.of main_call0_v1 : StableHlo.TRef sig ⟨S4x16x128x64x64, .i1⟩) (.of main_v39 : StableHlo.TRef sig ⟨S4x16x128x64x64, .f32⟩) (.of main_call0_v2 : StableHlo.TRef sig ⟨S4x16x128x64x64, .f32⟩) (.of main_v40 : StableHlo.TRef sig ⟨S4x16x128x64x64, .f32⟩) select ]
/-- Each operation touches TensorCore references only. -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 2 host operations of @main, window 0 (statements 1 … 60), in order. -/
abbrev main_part0_ops2 : List (HloOp τ sig (Elt F)) :=
  [ StableHlo.unary main_v40 main_v41 (Host.exp : (⟨S4x16x128x64x64, .f32⟩ : BufTy).Contents (Elt F) → (⟨S4x16x128x64x64, .f32⟩ : BufTy).Contents (Elt F)),
    StableHlo.nullary main_cst_0 (constant S_ .f32 0x00000000#32) ]
/-- Each operation touches TensorCore references only. -/
theorem main_part0_ops2_sub : (main_part0_ops2 : List (HloOp τ sig (Elt F))).Forall fun op => op.bufs ⊆ StableHlo.tcRefs τ sig :=
  ⟨StableHlo.unary_bufs_sub .., StableHlo.nullary_bufs_sub ..⟩
/-- 4 host operations of @_where (main_call1), window 0 (statements 1 … 60), in order. -/
abbrev main_part0_ops3 : List (HloOp τ sig (Elt F)) :=
  [ StableHlo.TRef.unary (.of main_cst_0 : StableHlo.TRef sig ⟨S_, .f32⟩) (.of main_call1_v0 : StableHlo.TRef sig ⟨S_, .f32⟩) id,
    StableHlo.TRef.unary (.of main_v29 : StableHlo.TRef sig ⟨S64x64, .i1⟩) (.of main_call1_v1 : StableHlo.TRef sig ⟨S4x16x128x64x64, .i1⟩) (broadcastInDim S4x16x128x64x64 ![3, 4] bcast_S64x64_S4x16x128x64x64_3_4),
    StableHlo.TRef.unary (.of main_call1_v0 : StableHlo.TRef sig ⟨S_, .f32⟩) (.of main_call1_v2 : StableHlo.TRef sig ⟨S4x16x128x64x64, .f32⟩) (broadcastInDim S4x16x128x64x64 ![] bcast_S_S4x16x128x64x64),
    StableHlo.TRef.ternary (.of main_call1_v1 : StableHlo.TRef sig ⟨S4x16x128x64x64, .i1⟩) (.of main_v41 : StableHlo.TRef sig ⟨S4x16x128x64x64, .f32⟩) (.of main_call1_v2 : StableHlo.TRef sig ⟨S4x16x128x64x64, .f32⟩) (.of main_v42 : StableHlo.TRef sig ⟨S4x16x128x64x64, .f32⟩) select ]
/-- Each operation touches TensorCore references only. -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 5 host operations of @main, window 0 (statements 1 … 60), in order. -/
abbrev main_part0_ops4 : List (HloOp τ sig (Elt F)) :=
  [ StableHlo.unary main_v23 main_v43 (broadcastInDim S4x16x128x64x128 ![0, 1, 2, 3, 4] bcast_S4x16x128x64x1_S4x16x128x64x128_0_1_2_3_4 : (⟨S4x16x128x64x1, .f32⟩ : BufTy).Contents (Elt F) → (⟨S4x16x128x64x128, .f32⟩ : BufTy).Contents (Elt F)),
    StableHlo.binary main_v20 main_v43 main_v44 (mulf : (⟨S4x16x128x64x128, .f32⟩ : BufTy).Contents (Elt F) → (⟨S4x16x128x64x128, .f32⟩ : BufTy).Contents (Elt F) → (⟨S4x16x128x64x128, .f32⟩ : BufTy).Contents (Elt F)),
    StableHlo.binary main_v44 main_v20 main_v45 ((fun l r => Host.dotGeneral dot_S4x16x128x64x128_S4x16x128x64x128_S4x16x128x64x64_4_4_3_3_012_012 none l r) : (⟨S4x16x128x64x128, .f32⟩ : BufTy).Contents (Elt F) → (⟨S4x16x128x64x128, .f32⟩ : BufTy).Contents (Elt F) → (⟨S4x16x128x64x64, .f32⟩ : BufTy).Contents (Elt F)),
    StableHlo.binary main_v45 main_v42 main_v46 (mulf : (⟨S4x16x128x64x64, .f32⟩ : BufTy).Contents (Elt F) → (⟨S4x16x128x64x64, .f32⟩ : BufTy).Contents (Elt F) → (⟨S4x16x128x64x64, .f32⟩ : BufTy).Contents (Elt F)),
    StableHlo.nullary main_cst_1 (constant S_ .f32 0x00000000#32) ]
/-- Each operation touches TensorCore references only. -/
theorem main_part0_ops4_sub : (main_part0_ops4 : List (HloOp τ sig (Elt F))).Forall fun op => op.bufs ⊆ StableHlo.tcRefs τ sig :=
  ⟨StableHlo.unary_bufs_sub .., StableHlo.binary_bufs_sub .., StableHlo.binary_bufs_sub .., StableHlo.binary_bufs_sub .., StableHlo.nullary_bufs_sub ..⟩
/-- 4 host operations of @_where (main_call2), window 0 (statements 1 … 60), in order. -/
abbrev main_part0_ops5 : List (HloOp τ sig (Elt F)) :=
  [ StableHlo.TRef.unary (.of main_cst_1 : StableHlo.TRef sig ⟨S_, .f32⟩) (.of main_call2_v0 : StableHlo.TRef sig ⟨S_, .f32⟩) id,
    StableHlo.TRef.unary (.of main_v34 : StableHlo.TRef sig ⟨S64x64, .i1⟩) (.of main_call2_v1 : StableHlo.TRef sig ⟨S4x16x128x64x64, .i1⟩) (broadcastInDim S4x16x128x64x64 ![3, 4] bcast_S64x64_S4x16x128x64x64_3_4),
    StableHlo.TRef.unary (.of main_call2_v0 : StableHlo.TRef sig ⟨S_, .f32⟩) (.of main_call2_v2 : StableHlo.TRef sig ⟨S4x16x128x64x64, .f32⟩) (broadcastInDim S4x16x128x64x64 ![] bcast_S_S4x16x128x64x64),
    StableHlo.TRef.ternary (.of main_call2_v1 : StableHlo.TRef sig ⟨S4x16x128x64x64, .i1⟩) (.of main_v46 : StableHlo.TRef sig ⟨S4x16x128x64x64, .f32⟩) (.of main_call2_v2 : StableHlo.TRef sig ⟨S4x16x128x64x64, .f32⟩) (.of main_v47 : StableHlo.TRef sig ⟨S4x16x128x64x64, .f32⟩) select ]
/-- Each operation touches TensorCore references only. -/
theorem main_part0_ops5_sub : (main_part0_ops5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 9 host operations of @main, window 0 (statements 1 … 60), in order. -/
abbrev main_part0_ops6 : List (HloOp τ sig (Elt F)) :=
  [ StableHlo.unary main_v23 main_v48 (broadcastInDim S4x16x128x64x128 ![0, 1, 2, 3, 4] bcast_S4x16x128x64x1_S4x16x128x64x128_0_1_2_3_4 : (⟨S4x16x128x64x1, .f32⟩ : BufTy).Contents (Elt F) → (⟨S4x16x128x64x128, .f32⟩ : BufTy).Contents (Elt F)),
    StableHlo.binary main_v21 main_v48 main_v49 (mulf : (⟨S4x16x128x64x128, .f32⟩ : BufTy).Contents (Elt F) → (⟨S4x16x128x64x128, .f32⟩ : BufTy).Contents (Elt F) → (⟨S4x16x128x64x128, .f32⟩ : BufTy).Contents (Elt F)),
    StableHlo.unary main_v18 main_v50 (Host.exp : (⟨S4x16x128x64, .f32⟩ : BufTy).Contents (Elt F) → (⟨S4x16x128x64, .f32⟩ : BufTy).Contents (Elt F)),
    StableHlo.unary main_v50 main_v51 (broadcastInDim S4x16x128x64x1 ![0, 1, 2, 3] bcast_S4x16x128x64_S4x16x128x64x1_0_1_2_3 : (⟨S4x16x128x64, .f32⟩ : BufTy).Contents (Elt F) → (⟨S4x16x128x64x1, .f32⟩ : BufTy).Contents (Elt F)),
    StableHlo.unary main_v51 main_v52 (broadcastInDim S4x16x128x64x128 ![0, 1, 2, 3, 4] bcast_S4x16x128x64x1_S4x16x128x64x128_0_1_2_3_4 : (⟨S4x16x128x64x1, .f32⟩ : BufTy).Contents (Elt F) → (⟨S4x16x128x64x128, .f32⟩ : BufTy).Contents (Elt F)),
    StableHlo.binary main_v44 main_v52 main_v53 (mulf : (⟨S4x16x128x64x128, .f32⟩ : BufTy).Contents (Elt F) → (⟨S4x16x128x64x128, .f32⟩ : BufTy).Contents (Elt F) → (⟨S4x16x128x64x128, .f32⟩ : BufTy).Contents (Elt F)),
    StableHlo.binary main_v49 main_v53 main_v54 ((fun a b => concatenate S4x16x128x64x256 4 [⟨S4x16x128x64x128, a⟩, ⟨S4x16x128x64x128, b⟩] concatenates_S4x16x128x64x128_S4x16x128x64x128_S4x16x128x64x256_d4) : (⟨S4x16x128x64x128, .f32⟩ : BufTy).Contents (Elt F) → (⟨S4x16x128x64x128, .f32⟩ : BufTy).Contents (Elt F) → (⟨S4x16x128x64x256, .f32⟩ : BufTy).Contents (Elt F)),
    StableHlo.nullary main_v55 (iotaInDim S64 32 0),
    StableHlo.unary main_v55 main_v56 (broadcastInDim S64x1 ![0] bcast_S64_S64x1_0 : (⟨S64, .i32⟩ : BufTy).Contents (Elt F) → (⟨S64x1, .i32⟩ : BufTy).Contents (Elt F)) ]
/-- Each operation touches TensorCore references only. -/
theorem main_part0_ops6_sub : (main_part0_ops6 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub ..⟩
/-- Part 0 of `main` is the chain of its stretches. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5 ]
  (StableHlo.seq main_part0_ops6) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- 10 host operations of @main, window 1 (statements 61 … 120), in order. -/
abbrev main_part1_ops0 : List (HloOp τ sig (Elt F)) :=
  [ StableHlo.nullary main_cst_2 (constant S_ .f32 0x00000000#32),
    StableHlo.unary main_cst_2 main_v57 (broadcastInDim S4x16x128x64x256 ![] bcast_S_S4x16x128x64x256 : (⟨S_, .f32⟩ : BufTy).Contents (Elt F) → (⟨S4x16x128x64x256, .f32⟩ : BufTy).Contents (Elt F)),
    StableHlo.nullary main_c (constantI S_ 32 0#32),
    StableHlo.nullary main_c_3 (constantI S_ 32 0#32),
    StableHlo.unary main_v56 main_v58_0 id,
    StableHlo.unary main_v47 main_v58_1 id,
    StableHlo.unary main_v54 main_v58_2 id,
    StableHlo.unary main_c_3 main_v58_3 id,
    StableHlo.unary main_c main_v58_4 id,
    StableHlo.unary main_v57 main_v58_5 id ]
/-- Each operation touches TensorCore references only. -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 38 host operations of @main, window 1 (statements 61 … 120), in order. -/
abbrev main_part1_ops1 : List (HloOp τ sig (Elt F)) :=
  ( StableHlo.unary main_v58_5 main_v59 ((extractStridedSlice S4x16x128x64x128 ![0, 0, 0, 0, 0] · slices_S4x16x128x64x256_S4x16x128x64x128_0_0_0_0_0) : (⟨S4x16x128x64x256, .f32⟩ : BufTy).Contents (Elt F) → (⟨S4x16x128x64x128, .f32⟩ : BufTy).Contents (Elt F))
  :: StableHlo.unary main_v58_5 main_v60 ((extractStridedSlice S4x16x128x64x128 ![0, 0, 0, 0, 128] · slices_S4x16x128x64x256_S4x16x128x64x128_0_0_0_0_128) : (⟨S4x16x128x64x256, .f32⟩ : BufTy).Contents (Elt F) → (⟨S4x16x128x64x128, .f32⟩ : BufTy).Contents (Elt F))
  :: StableHlo.binary main_v19 main_v20 main_v61 ((fun l r => Host.dotGeneral dot_S4x16x128x64x128_S4x16x128x64x128_S4x16x128x64x64_4_4_3_3_012_012 none l r) : (⟨S4x16x128x64x128, .f32⟩ : BufTy).Contents (Elt F) → (⟨S4x16x128x64x128, .f32⟩ : BufTy).Contents (Elt F) → (⟨S4x16x128x64x64, .f32⟩ : BufTy).Contents (Elt F))
  :: StableHlo.binary main_v61 main_v42 main_v62 (mulf : (⟨S4x16x128x64x64, .f32⟩ : BufTy).Contents (Elt F) → (⟨S4x16x128x64x64, .f32⟩ : BufTy).Contents (Elt F) → (⟨S4x16x128x64x64, .f32⟩ : BufTy).Contents (Elt F))
  :: StableHlo.unary main_v18 main_v63 (Host.exp : (⟨S4x16x128x64, .f32⟩ : BufTy).Contents (Elt F) → (⟨S4x16x128x64, .f32⟩ : BufTy).Contents (Elt F))
  :: StableHlo.unary main_v63 main_v64 (broadcastInDim S4x16x128x64x1 ![0, 1, 2, 3] bcast_S4x16x128x64_S4x16x128x64x1_0_1_2_3 : (⟨S4x16x128x64, .f32⟩ : BufTy).Contents (Elt F) → (⟨S4x16x128x64x1, .f32⟩ : BufTy).Contents (Elt F))
  :: StableHlo.unary main_v64 main_v65 (broadcastInDim S4x16x128x64x128 ![0, 1, 2, 3, 4] bcast_S4x16x128x64x1_S4x16x128x64x128_0_1_2_3_4 : (⟨S4x16x128x64x1, .f32⟩ : BufTy).Contents (Elt F) → (⟨S4x16x128x64x128, .f32⟩ : BufTy).Contents (Elt F))
  :: StableHlo.binary main_v19 main_v65 main_v66 (mulf : (⟨S4x16x128x64x128, .f32⟩ : BufTy).Contents (Elt F) → (⟨S4x16x128x64x128, .f32⟩ : BufTy).Contents (Elt F) → (⟨S4x16x128x64x128, .f32⟩ : BufTy).Contents (Elt F))
  :: StableHlo.unary main_v18 main_v67 ((extractStridedSlice S4x16x128x1 ![0, 0, 0, 63] · slices_S4x16x128x64_S4x16x128x1_0_0_0_63) : (⟨S4x16x128x64, .f32⟩ : BufTy).Contents (Elt F) → (⟨S4x16x128x1, .f32⟩ : BufTy).Contents (Elt F))
  :: StableHlo.unary main_v67 main_v68 (broadcastInDim S4x16x128x64 ![0, 1, 2, 3] bcast_S4x16x128x1_S4x16x128x64_0_1_2_3 : (⟨S4x16x128x1, .f32⟩ : BufTy).Contents (Elt F) → (⟨S4x16x128x64, .f32⟩ : BufTy).Contents (Elt F))
  :: StableHlo.binary main_v68 main_v18 main_v69 (subf : (⟨S4x16x128x64, .f32⟩ : BufTy).Contents (Elt F) → (⟨S4x16x128x64, .f32⟩ : BufTy).Contents (Elt F) → (⟨S4x16x128x64, .f32⟩ : BufTy).Contents (Elt F))
  :: StableHlo.unary main_v69 main_v70 (Host.exp : (⟨S4x16x128x64, .f32⟩ : BufTy).Contents (Elt F) → (⟨S4x16x128x64, .f32⟩ : BufTy).Contents (Elt F))
  :: StableHlo.unary main_v70 main_v71 (broadcastInDim S4x16x128x64x1 ![0, 1, 2, 3] bcast_S4x16x128x64_S4x16x128x64x1_0_1_2_3 : (⟨S4x16x128x64, .f32⟩ : BufTy).Contents (Elt F) → (⟨S4x16x128x64x1, .f32⟩ : BufTy).Contents (Elt F))
  :: StableHlo.unary main_v71 main_v72 (broadcastInDim S4x16x128x64x128 ![0, 1, 2, 3, 4] bcast_S4x16x128x64x1_S4x16x128x64x128_0_1_2_3_4 : (⟨S4x16x128x64x1, .f32⟩ : BufTy).Contents (Elt F) → (⟨S4x16x128x64x128, .f32⟩ : BufTy).Contents (Elt F))
  :: StableHlo.binary main_v20 main_v72 main_v73 (mulf : (⟨S4x16x128x64x128, .f32⟩ : BufTy).Contents (Elt F) → (⟨S4x16x128x64x128, .f32⟩ : BufTy).Contents (Elt F) → (⟨S4x16x128x64x128, .f32⟩ : BufTy).Contents (Elt F))
  :: StableHlo.unary main_v18 main_v74 ((extractStridedSlice S4x16x128x1 ![0, 0, 0, 63] · slices_S4x16x128x64_S4x16x128x1_0_0_0_63) : (⟨S4x16x128x64, .f32⟩ : BufTy).Contents (Elt F) → (⟨S4x16x128x1, .f32⟩ : BufTy).Contents (Elt F))
  :: StableHlo.reshape main_v74 main_v75 (rfl : (.f32 : EltTy) = .f32) shapeCasts_S4x16x128x1_S4x16x128
  :: StableHlo.unary main_v75 main_v76 (Host.exp : (⟨S4x16x128, .f32⟩ : BufTy).Contents (Elt F) → (⟨S4x16x128, .f32⟩ : BufTy).Contents (Elt F))
  :: StableHlo.unary main_v59 main_v77 ((transpose S128x4x16x64x128 [2, 0, 1, 3, 4] · transposes_S4x16x128x64x128_S128x4x16x64x128_2_0_1_3_4) : (⟨S4x16x128x64x128, .f32⟩ : BufTy).Contents (Elt F) → (⟨S128x4x16x64x128, .f32⟩ : BufTy).Contents (Elt F))
  :: StableHlo.unary main_v60 main_v78 ((transpose S128x4x16x64x128 [2, 0, 1, 3, 4] · transposes_S4x16x128x64x128_S128x4x16x64x128_2_0_1_3_4) : (⟨S4x16x128x64x128, .f32⟩ : BufTy).Contents (Elt F) → (⟨S128x4x16x64x128, .f32⟩ : BufTy).Contents (Elt F))
  :: StableHlo.unary main_v66 main_v79 ((transpose S128x4x16x64x128 [2, 0, 1, 3, 4] · transposes_S4x16x128x64x128_S128x4x16x64x128_2_0_1_3_4) : (⟨S4x16x128x64x128, .f32⟩ : BufTy).Contents (Elt F) → (⟨S128x4x16x64x128, .f32⟩ : BufTy).Contents (Elt F))
  :: StableHlo.unary main_v73 main_v80 ((transpose S128x4x16x64x128 [2, 0, 1, 3, 4] · transposes_S4x16x128x64x128_S128x4x16x64x128_2_0_1_3_4) : (⟨S4x16x128x64x128, .f32⟩ : BufTy).Contents (Elt F) → (⟨S128x4x16x64x128, .f32⟩ : BufTy).Contents (Elt F))
  :: StableHlo.unary main_v62 main_v81 ((transpose S128x4x16x64x64 [2, 0, 1, 3, 4] · transposes_S4x16x128x64x64_S128x4x16x64x64_2_0_1_3_4) : (⟨S4x16x128x64x64, .f32⟩ : BufTy).Contents (Elt F) → (⟨S128x4x16x64x64, .f32⟩ : BufTy).Contents (Elt F))
  :: StableHlo.unary main_v76 main_v82 ((transpose S128x4x16 [2, 0, 1] · transposes_S4x16x128_S128x4x16_2_0_1) : (⟨S4x16x128, .f32⟩ : BufTy).Contents (Elt F) → (⟨S128x4x16, .f32⟩ : BufTy).Contents (Elt F))
  :: StableHlo.nullary main_cst_4 (constant S_ .f32 0x00000000#32)
  :: StableHlo.unary main_cst_4 main_v83 (broadcastInDim S4x16x128x128 ![] bcast_S_S4x16x128x128 : (⟨S_, .f32⟩ : BufTy).Contents (Elt F) → (⟨S4x16x128x128, .f32⟩ : BufTy).Contents (Elt F))
  :: StableHlo.nullary main_cst_5 (constant S_ .f32 0x00000000#32)
  :: StableHlo.unary main_cst_5 main_v84 (broadcastInDim S128x4x16x64x128 ![] bcast_S_S128x4x16x64x128 : (⟨S_, .f32⟩ : BufTy).Contents (Elt F) → (⟨S128x4x16x64x128, .f32⟩ : BufTy).Contents (Elt F))
  :: StableHlo.nullary main_c_6 (constantI S_ 32 0#32)
  :: StableHlo.unary main_v77 main_v85_0 id
  :: StableHlo.unary main_v78 main_v85_1 id
  :: StableHlo.unary main_v79 main_v85_2 id
  :: StableHlo.unary main_v80 main_v85_3 id
  :: StableHlo.unary main_v81 main_v85_4 id
  :: StableHlo.unary main_v82 main_v85_5 id
  :: StableHlo.unary main_c_6 main_v85_6 id
  :: StableHlo.unary main_v83 main_v85_7 id
  :: StableHlo.unary main_v84 main_v85_8 id
  :: [] )
/-- Each operation touches TensorCore references only. -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 10 host operations of @main, window 1 (statements 61 … 120), in order. -/
abbrev main_part1_ops2 : List (HloOp τ sig (Elt F)) :=
  [ StableHlo.unary main_v85_8 main_v86 ((transpose S4x16x128x64x128 [1, 2, 0, 3, 4] · transposes_S128x4x16x64x128_S4x16x128x64x128_1_2_0_3_4) : (⟨S128x4x16x64x128, .f32⟩ : BufTy).Contents (Elt F) → (⟨S4x16x128x64x128, .f32⟩ : BufTy).Contents (Elt F)),
    StableHlo.reshape main_v86 main_v87 (rfl : (.f32 : EltTy) = .f32) shapeCasts_S4x16x128x64x128_S4x16x8192x128,
    StableHlo.unary main_v87 main_v88 ((transpose S4x8192x16x128 [0, 2, 1, 3] · transposes_S4x16x8192x128_S4x8192x16x128_0_2_1_3) : (⟨S4x16x8192x128, .f32⟩ : BufTy).Contents (Elt F) → (⟨S4x8192x16x128, .f32⟩ : BufTy).Contents (Elt F)),
    StableHlo.reshape main_arg1 main_v89 (rfl : (.f32 : EltTy) = .f32) shapeCasts_S32768x2048_S4x8192x16x128,
    StableHlo.binary main_v88 main_v88 main_v90 (mulf : (⟨S4x8192x16x128, .f32⟩ : BufTy).Contents (Elt F) → (⟨S4x8192x16x128, .f32⟩ : BufTy).Contents (Elt F) → (⟨S4x8192x16x128, .f32⟩ : BufTy).Contents (Elt F)),
    StableHlo.nullary main_cst_7 (constant S_ .f32 0x00000000#32),
    StableHlo.binary main_v90 main_cst_7 main_v91 ((fun x v => Host.reduceAdd x v reducesTo_S4x8192x16x128_S4x8192x16_d3 h_S_) : (⟨S4x8192x16x128, .f32⟩ : BufTy).Contents (Elt F) → (⟨S_, .f32⟩ : BufTy).Contents (Elt F) → (⟨S4x8192x16, .f32⟩ : BufTy).Contents (Elt F)),
    StableHlo.unary main_v91 main_v92 (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)),
    StableHlo.nullary main_cst_8 (constant S_ .f32 0x43000000#32),
    StableHlo.unary main_cst_8 main_v93 (broadcastInDim S4x8192x16x1 ![] bcast_S_S4x8192x16x1 : (⟨S_, .f32⟩ : BufTy).Contents (Elt F) → (⟨S4x8192x16x1, .f32⟩ : BufTy).Contents (Elt F)) ]
/-- Each operation touches TensorCore references only. -/
theorem main_part1_ops2_sub : (main_part1_ops2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub ..⟩
/-- Part 1 of `main` is the chain of its stretches. -/
theorem main_part1_chain (c : Dev nD) : main_part1 (F := F) c = (Pipeline.chainK
  [ StableHlo.seq main_part1_ops0,
    HostLoop.enter 0,
    StableHlo.seq main_part1_ops1,
    HostLoop.enter 1 ]
  (StableHlo.seq main_part1_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

/-- 10 host operations of @main, window 2 (statements 121 … 135), in order. -/
abbrev main_part2_ops0 : List (HloOp τ sig (Elt F)) :=
  [ StableHlo.binary main_v92 main_v93 main_v94 (Host.divf : (⟨S4x8192x16x1, .f32⟩ : BufTy).Contents (Elt F) → (⟨S4x8192x16x1, .f32⟩ : BufTy).Contents (Elt F) → (⟨S4x8192x16x1, .f32⟩ : BufTy).Contents (Elt F)),
    StableHlo.nullary main_cst_9 (constant S_ .f32 0x358637BD#32),
    StableHlo.unary main_cst_9 main_v95 (broadcastInDim S4x8192x16x1 ![] bcast_S_S4x8192x16x1 : (⟨S_, .f32⟩ : BufTy).Contents (Elt F) → (⟨S4x8192x16x1, .f32⟩ : BufTy).Contents (Elt F)),
    StableHlo.binary main_v94 main_v95 main_v96 (addf : (⟨S4x8192x16x1, .f32⟩ : BufTy).Contents (Elt F) → (⟨S4x8192x16x1, .f32⟩ : BufTy).Contents (Elt F) → (⟨S4x8192x16x1, .f32⟩ : BufTy).Contents (Elt F)),
    StableHlo.unary main_v96 main_v97 (Host.rsqrt : (⟨S4x8192x16x1, .f32⟩ : BufTy).Contents (Elt F) → (⟨S4x8192x16x1, .f32⟩ : BufTy).Contents (Elt F)),
    StableHlo.unary main_v97 main_v98 (broadcastInDim S4x8192x16x128 ![0, 1, 2, 3] bcast_S4x8192x16x1_S4x8192x16x128_0_1_2_3 : (⟨S4x8192x16x1, .f32⟩ : BufTy).Contents (Elt F) → (⟨S4x8192x16x128, .f32⟩ : BufTy).Contents (Elt F)),
    StableHlo.binary main_v88 main_v98 main_v99 (mulf : (⟨S4x8192x16x128, .f32⟩ : BufTy).Contents (Elt F) → (⟨S4x8192x16x128, .f32⟩ : BufTy).Contents (Elt F) → (⟨S4x8192x16x128, .f32⟩ : BufTy).Contents (Elt F)),
    StableHlo.unary main_arg4 main_v100 (broadcastInDim S1x1x1x128 ![3] bcast_S128_S1x1x1x128_3 : (⟨S128, .f32⟩ : BufTy).Contents (Elt F) → (⟨S1x1x1x128, .f32⟩ : BufTy).Contents (Elt F)),
    StableHlo.unary main_v100 main_v101 (broadcastInDim S4x8192x16x128 ![0, 1, 2, 3] bcast_S1x1x1x128_S4x8192x16x128_0_1_2_3 : (⟨S1x1x1x128, .f32⟩ : BufTy).Contents (Elt F) → (⟨S4x8192x16x128, .f32⟩ : BufTy).Contents (Elt F)),
    StableHlo.binary main_v99 main_v101 main_v102 (mulf : (⟨S4x8192x16x128, .f32⟩ : BufTy).Contents (Elt F) → (⟨S4x8192x16x128, .f32⟩ : BufTy).Contents (Elt F) → (⟨S4x8192x16x128, .f32⟩ : BufTy).Contents (Elt F)) ]
/-- Each operation touches TensorCore references only. -/
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- 9 host operations of @silu (main_call11), window 2 (statements 121 … 135), in order. -/
abbrev main_part2_ops1 : List (HloOp τ sig (Elt F)) :=
  [ StableHlo.TRef.unary (.of main_v89 : StableHlo.TRef sig ⟨S4x8192x16x128, .f32⟩) (.of main_call11_v0 : StableHlo.TRef sig ⟨S4x8192x16x128, .f32⟩) Host.negf,
    StableHlo.TRef.unary (.of main_call11_v0 : StableHlo.TRef sig ⟨S4x8192x16x128, .f32⟩) (.of main_call11_v1 : StableHlo.TRef sig ⟨S4x8192x16x128, .f32⟩) Host.exp,
    StableHlo.TRef.nullary (.of main_call11_cst : StableHlo.TRef sig ⟨S_, .f32⟩) (constant S_ .f32 0x3F800000#32),
    StableHlo.TRef.unary (.of main_call11_cst : StableHlo.TRef sig ⟨S_, .f32⟩) (.of main_call11_v2 : StableHlo.TRef sig ⟨S4x8192x16x128, .f32⟩) (broadcastInDim S4x8192x16x128 ![] bcast_S_S4x8192x16x128),
    StableHlo.TRef.binary (.of main_call11_v2 : StableHlo.TRef sig ⟨S4x8192x16x128, .f32⟩) (.of main_call11_v1 : StableHlo.TRef sig ⟨S4x8192x16x128, .f32⟩) (.of main_call11_v3 : StableHlo.TRef sig ⟨S4x8192x16x128, .f32⟩) addf,
    StableHlo.TRef.nullary (.of main_call11_cst_0 : StableHlo.TRef sig ⟨S_, .f32⟩) (constant S_ .f32 0x3F800000#32),
    StableHlo.TRef.unary (.of main_call11_cst_0 : StableHlo.TRef sig ⟨S_, .f32⟩) (.of main_call11_v4 : StableHlo.TRef sig ⟨S4x8192x16x128, .f32⟩) (broadcastInDim S4x8192x16x128 ![] bcast_S_S4x8192x16x128),
    StableHlo.TRef.binary (.of main_call11_v4 : StableHlo.TRef sig ⟨S4x8192x16x128, .f32⟩) (.of main_call11_v3 : StableHlo.TRef sig ⟨S4x8192x16x128, .f32⟩) (.of main_call11_v5 : StableHlo.TRef sig ⟨S4x8192x16x128, .f32⟩) Host.divf,
    StableHlo.TRef.binary (.of main_v89 : StableHlo.TRef sig ⟨S4x8192x16x128, .f32⟩) (.of main_call11_v5 : StableHlo.TRef sig ⟨S4x8192x16x128, .f32⟩) (.of main_v103 : StableHlo.TRef sig ⟨S4x8192x16x128, .f32⟩) mulf ]
/-- Each operation touches TensorCore references only. -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
/-- 3 host operations of @main, window 2 (statements 121 … 135), in order. -/
abbrev main_part2_ops2 : List (HloOp τ sig (Elt F)) :=
  [ StableHlo.binary main_v102 main_v103 main_v104 (mulf : (⟨S4x8192x16x128, .f32⟩ : BufTy).Contents (Elt F) → (⟨S4x8192x16x128, .f32⟩ : BufTy).Contents (Elt F) → (⟨S4x8192x16x128, .f32⟩ : BufTy).Contents (Elt F)),
    StableHlo.reshape main_v104 main_v105 (rfl : (.f32 : EltTy) = .f32) shapeCasts_S4x8192x16x128_S4x8192x2048,
    StableHlo.unary main_v105 main_v106 ((truncf .bf16 · bitsLt_bf16_f32) : (⟨S4x8192x2048, .f32⟩ : BufTy).Contents (Elt F) → (⟨S4x8192x2048, .bf16⟩ : BufTy).Contents (Elt F)) ]
/-- Each operation touches TensorCore references only. -/
theorem main_part2_ops2_sub : (main_part2_ops2 : List (HloOp τ sig (Elt F))).Forall fun op => op.bufs ⊆ StableHlo.tcRefs τ sig :=
  ⟨StableHlo.binary_bufs_sub .., StableHlo.reshape_bufs_sub .., StableHlo.unary_bufs_sub ..⟩
/-- The last part of `main` is the chain of its stretches. -/
theorem main_part2_chain (c : Dev nD) : main_part2 (F := F) c = (Pipeline.chain
  [ StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its parts' stretches and the two loops between them. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part1_ops0,
    HostLoop.enter 0,
    StableHlo.seq main_part1_ops1,
    HostLoop.enter 1,
    StableHlo.seq main_part1_ops2,
    StableHlo.seq main_part2_ops0,
    StableHlo.seq main_part2_ops1,
    StableHlo.seq main_part2_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- 7 host operations of host loop 0's body region, in order. -/
abbrev while0Ops0 : List (HloOp τ sig (Elt F)) :=
  [ StableHlo.nullary main_while0b_c_15 (constantI S_ 32 1#32),
    StableHlo.binary main_v58_4 main_while0b_c_15 main_while0b_v107 (addi : (⟨S_, .i32⟩ : BufTy).Contents (Elt F) → (⟨S_, .i32⟩ : BufTy).Contents (Elt F) → (⟨S_, .i32⟩ : BufTy).Contents (Elt F)),
    StableHlo.unary main_v58_4 main_while0b_v108 (id : (⟨S_, .i32⟩ : BufTy).Contents (Elt F) → (⟨S_, .i32⟩ : BufTy).Contents (Elt F)),
    StableHlo.unary main_while0b_v108 main_while0b_v109 (broadcastInDim S64x1 ![] bcast_S_S64x1 : (⟨S_, .i32⟩ : BufTy).Contents (Elt F) → (⟨S64x1, .i32⟩ : BufTy).Contents (Elt F)),
    StableHlo.binary main_v58_0 main_while0b_v109 main_while0b_v110 (cmpi .eq : (⟨S64x1, .i32⟩ : BufTy).Contents (Elt F) → (⟨S64x1, .i32⟩ : BufTy).Contents (Elt F) → (⟨S64x1, .i1⟩ : BufTy).Contents (Elt F)),
    StableHlo.binary main_v58_1 main_v58_5 main_while0b_v111 ((fun l r => Host.dotGeneral dot_S4x16x128x64x64_S4x16x128x64x256_S4x16x128x64x256_4_3_3_4_012_012 none l r) : (⟨S4x16x128x64x64, .f32⟩ : BufTy).Contents (Elt F) → (⟨S4x16x128x64x256, .f32⟩ : BufTy).Contents (Elt F) → (⟨S4x16x128x64x256, .f32⟩ : BufTy).Contents (Elt F)),
    StableHlo.binary main_v58_2 main_while0b_v111 main_while0b_v112 (subf : (⟨S4x16x128x64x256, .f32⟩ : BufTy).Contents (Elt F) → (⟨S4x16x128x64x256, .f32⟩ : BufTy).Contents (Elt F) → (⟨S4x16x128x64x256, .f32⟩ : BufTy).Contents (Elt F)) ]
/-- Each operation touches TensorCore references only. -/
theorem while0Ops0_sub : (while0Ops0 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.binary_bufs_sub .., StableHlo.binary_bufs_sub .., StableHlo.binary_bufs_sub ..⟩
/-- 2 host operations of @_where_0 (main_while0b_call3), in order. -/
abbrev while0Ops0_1 : List (HloOp τ sig (Elt F)) :=
  [ StableHlo.TRef.unary (.of main_while0b_v110 : StableHlo.TRef sig ⟨S64x1, .i1⟩) (.of main_while0b_call3_v0 : StableHlo.TRef sig ⟨S4x16x128x64x256, .i1⟩) (broadcastInDim S4x16x128x64x256 ![3, 4] bcast_S64x1_S4x16x128x64x256_3_4),
    StableHlo.TRef.ternary (.of main_while0b_call3_v0 : StableHlo.TRef sig ⟨S4x16x128x64x256, .i1⟩) (.of main_while0b_v112 : StableHlo.TRef sig ⟨S4x16x128x64x256, .f32⟩) (.of main_v58_5 : StableHlo.TRef sig ⟨S4x16x128x64x256, .f32⟩) (.of main_while0b_v113 : StableHlo.TRef sig ⟨S4x16x128x64x256, .f32⟩) select ]
/-- Each operation touches TensorCore references only. -/
theorem while0Ops0_1_sub : (while0Ops0_1 : List (HloOp τ sig (Elt F))).Forall fun op => op.bufs ⊆ StableHlo.tcRefs τ sig :=
  ⟨StableHlo.unary_bufs_sub .., StableHlo.ternary_bufs_sub ..⟩
/-- 5 host operations of host loop 0's body region, in order. -/
abbrev while0Ops0_2 : List (HloOp τ sig (Elt F)) :=
  [ StableHlo.nullary main_while0b_c_16 (constantI S_ 32 1#32),
    StableHlo.binary main_v58_3 main_while0b_c_16 main_while0b_v114 (addi : (⟨S_, .i32⟩ : BufTy).Contents (Elt F) → (⟨S_, .i32⟩ : BufTy).Contents (Elt F) → (⟨S_, .i32⟩ : BufTy).Contents (Elt F)),
    StableHlo.unary main_while0b_v114 main_v58_3 id,
    StableHlo.unary main_while0b_v107 main_v58_4 id,
    StableHlo.unary main_while0b_v113 main_v58_5 id ]
/-- Each operation touches TensorCore references only. -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The body of loop 0 is the chain of its stretches. -/
theorem while0_body_chain : main_while0_body (F := F) = (Pipeline.chain
  [ StableHlo.seq while0Ops0,
    StableHlo.seq while0Ops0_1,
    StableHlo.seq while0Ops0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- 6 host operations of @dynamic_index_in_dim (main_while1b_call4), in order. -/
abbrev while1Ops0 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.nullary (.of main_while1b_call4_c_2 : StableHlo.TRef sig ⟨S_, .i32⟩) (constantI S_ 32 0#32),
    StableHlo.TRef.unaryIndexed (.of main_v85_0 : StableHlo.TRef sig ⟨S128x4x16x64x128, .f32⟩) ![(.of main_v85_6 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩), (.of main_while1b_call4_c_2 : StableHlo.TRef sig ⟨S_, .i32⟩)] (.of main_while1b_call4_v0 : StableHlo.TRef sig ⟨S1x4x16x64x128, .f32⟩) (fun x i => Host.dynamicSlice S1x4x16x64x128 x (fun k => (i k (Shape.Idx.first h_S_)).toInt) sliceFits_S128x4x16x64x128_S1x4x16x64x128),
    StableHlo.TRef.reshape (.of main_while1b_call4_v0 : StableHlo.TRef sig ⟨S1x4x16x64x128, .f32⟩) (.of main_while1b_v107 : StableHlo.TRef sig ⟨S4x16x64x128, .f32⟩) (rfl : (.f32 : EltTy) = .f32) shapeCasts_S1x4x16x64x128_S4x16x64x128 ]
/-- Each operation touches TensorCore references only. -/
theorem while1Ops0_sub : (while1Ops0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call5), in order. -/
abbrev while1Ops0_1 : List (HloOp τ sig (Elt F)) :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.nullary (.of main_while1b_call5_c_1 : StableHlo.TRef sig ⟨S_, .i32⟩) (constantI S_ 32 0#32),
    StableHlo.TRef.nullary (.of main_while1b_call5_c_2 : StableHlo.TRef sig ⟨S_, .i32⟩) (constantI S_ 32 0#32),
    StableHlo.TRef.unaryIndexed (.of main_v85_1 : StableHlo.TRef sig ⟨S128x4x16x64x128, .f32⟩) ![(.of main_v85_6 : StableHlo.TRef sig ⟨S_, .i32⟩), (.of main_while1b_call5_c : StableHlo.TRef sig ⟨S_, .i32⟩), (.of main_while1b_call5_c_0 : StableHlo.TRef sig ⟨S_, .i32⟩), (.of main_while1b_call5_c_1 : StableHlo.TRef sig ⟨S_, .i32⟩), (.of main_while1b_call5_c_2 : StableHlo.TRef sig ⟨S_, .i32⟩)] (.of main_while1b_call5_v0 : StableHlo.TRef sig ⟨S1x4x16x64x128, .f32⟩) (fun x i => Host.dynamicSlice S1x4x16x64x128 x (fun k => (i k (Shape.Idx.first h_S_)).toInt) sliceFits_S128x4x16x64x128_S1x4x16x64x128),
    StableHlo.TRef.reshape (.of main_while1b_call5_v0 : StableHlo.TRef sig ⟨S1x4x16x64x128, .f32⟩) (.of main_while1b_v108 : StableHlo.TRef sig ⟨S4x16x64x128, .f32⟩) (rfl : (.f32 : EltTy) = .f32) shapeCasts_S1x4x16x64x128_S4x16x64x128 ]
/-- Each operation touches TensorCore references only. -/
theorem while1Ops0_1_sub : (while1Ops0_1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call6), in order. -/
abbrev while1Ops0_2 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.nullary (.of main_while1b_call6_c_1 : StableHlo.TRef sig ⟨S_, .i32⟩) (constantI S_ 32 0#32),
    StableHlo.TRef.nullary (.of main_while1b_call6_c_2 : StableHlo.TRef sig ⟨S_, .i32⟩) (constantI S_ 32 0#32),
    StableHlo.TRef.unaryIndexed (.of main_v85_2 : StableHlo.TRef sig ⟨S128x4x16x64x128, .f32⟩) ![(.of main_v85_6 : StableHlo.TRef sig ⟨S_, .i32⟩), (.of main_while1b_call6_c : StableHlo.TRef sig ⟨S_, .i32⟩), (.of main_while1b_call6_c_0 : StableHlo.TRef sig ⟨S_, .i32⟩), (.of main_while1b_call6_c_1 : StableHlo.TRef sig ⟨S_, .i32⟩), (.of main_while1b_call6_c_2 : StableHlo.TRef sig ⟨S_, .i32⟩)] (.of main_while1b_call6_v0 : StableHlo.TRef sig ⟨S1x4x16x64x128, .f32⟩) (fun x i => Host.dynamicSlice S1x4x16x64x128 x (fun k => (i k (Shape.Idx.first h_S_)).toInt) sliceFits_S128x4x16x64x128_S1x4x16x64x128),
    StableHlo.TRef.reshape (.of main_while1b_call6_v0 : StableHlo.TRef sig ⟨S1x4x16x64x128, .f32⟩) (.of main_while1b_v109 : StableHlo.TRef sig ⟨S4x16x64x128, .f32⟩) (rfl : (.f32 : EltTy) = .f32) shapeCasts_S1x4x16x64x128_S4x16x64x128 ]
/-- Each operation touches TensorCore references only. -/
theorem while1Ops0_2_sub : (while1Ops0_2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim (main_while1b_call7), in order. -/
abbrev while1Ops0_3 : List (HloOp τ sig (Elt F)) :=
  [ StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.nullary (.of main_while1b_call7_c_1 : StableHlo.TRef sig ⟨S_, .i32⟩) (constantI S_ 32 0#32),
    StableHlo.TRef.nullary (.of main_while1b_call7_c_2 : StableHlo.TRef sig ⟨S_, .i32⟩) (constantI S_ 32 0#32),
    StableHlo.TRef.unaryIndexed (.of main_v85_3 : StableHlo.TRef sig ⟨S128x4x16x64x128, .f32⟩) ![(.of main_v85_6 : StableHlo.TRef sig ⟨S_, .i32⟩), (.of main_while1b_call7_c : StableHlo.TRef sig ⟨S_, .i32⟩), (.of main_while1b_call7_c_0 : StableHlo.TRef sig ⟨S_, .i32⟩), (.of main_while1b_call7_c_1 : StableHlo.TRef sig ⟨S_, .i32⟩), (.of main_while1b_call7_c_2 : StableHlo.TRef sig ⟨S_, .i32⟩)] (.of main_while1b_call7_v0 : StableHlo.TRef sig ⟨S1x4x16x64x128, .f32⟩) (fun x i => Host.dynamicSlice S1x4x16x64x128 x (fun k => (i k (Shape.Idx.first h_S_)).toInt) sliceFits_S128x4x16x64x128_S1x4x16x64x128),
    StableHlo.TRef.reshape (.of main_while1b_call7_v0 : StableHlo.TRef sig ⟨S1x4x16x64x128, .f32⟩) (.of main_while1b_v110 : StableHlo.TRef sig ⟨S4x16x64x128, .f32⟩) (rfl : (.f32 : EltTy) = .f32) shapeCasts_S1x4x16x64x128_S4x16x64x128 ]
/-- Each operation touches TensorCore references only. -/
theorem while1Ops0_3_sub : (while1Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 6 host operations of @dynamic_index_in_dim_1 (main_while1b_call8), in order. -/
abbrev while1Ops0_4 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.nullary (.of main_while1b_call8_c_1 : StableHlo.TRef sig ⟨S_, .i32⟩) (constantI S_ 32 0#32),
    StableHlo.TRef.nullary (.of main_while1b_call8_c_2 : StableHlo.TRef sig ⟨S_, .i32⟩) (constantI S_ 32 0#32),
    StableHlo.TRef.unaryIndexed (.of main_v85_4 : StableHlo.TRef sig ⟨S128x4x16x64x64, .f32⟩) ![(.of main_v85_6 : StableHlo.TRef sig ⟨S_, .i32⟩), (.of main_while1b_call8_c : StableHlo.TRef sig ⟨S_, .i32⟩), (.of main_while1b_call8_c_0 : StableHlo.TRef sig ⟨S_, .i32⟩), (.of main_while1b_call8_c_1 : StableHlo.TRef sig ⟨S_, .i32⟩), (.of main_while1b_call8_c_2 : StableHlo.TRef sig ⟨S_, .i32⟩)] (.of main_while1b_call8_v0 : StableHlo.TRef sig ⟨S1x4x16x64x64, .f32⟩) (fun x i => Host.dynamicSlice S1x4x16x64x64 x (fun k => (i k (Shape.Idx.first h_S_)).toInt) sliceFits_S128x4x16x64x64_S1x4x16x64x64),
    StableHlo.TRef.reshape (.of main_while1b_call8_v0 : StableHlo.TRef sig ⟨S1x4x16x64x64, .f32⟩) (.of main_while1b_v111 : StableHlo.TRef sig ⟨S4x16x64x64, .f32⟩) (rfl : (.f32 : EltTy) = .f32) shapeCasts_S1x4x16x64x64_S4x16x64x64 ]
/-- Each operation touches TensorCore references only. -/
theorem while1Ops0_4_sub : (while1Ops0_4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
/-- 4 host operations of @dynamic_index_in_dim_2 (main_while1b_call9), in order. -/
abbrev while1Ops0_5 : List (HloOp τ sig (Elt F)) :=
  [ StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v85_5 : StableHlo.TRef sig ⟨S128x4x16, .f32⟩) ![(.of main_v85_6 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x4x16, .f32⟩) (fun x i => Host.dynamicSlice S1x4x16 x (fun k => (i k (Shape.Idx.first h_S_)).toInt) sliceFits_S128x4x16_S1x4x16),
    StableHlo.TRef.reshape (.of main_while1b_call9_v0 : StableHlo.TRef sig ⟨S1x4x16, .f32⟩) (.of main_while1b_v112 : StableHlo.TRef sig ⟨S4x16, .f32⟩) (rfl : (.f32 : EltTy) = .f32) shapeCasts_S1x4x16_S4x16 ]
/-- Each operation touches TensorCore references only. -/
theorem while1Ops0_5_sub : (while1Ops0_5 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- 10 host operations of host loop 1's body region, in order. -/
abbrev while1Ops0_6 : List (HloOp τ sig (Elt F)) :=
  [ StableHlo.binary main_while1b_v108 main_v85_7 main_while1b_v113 ((fun l r => Host.dotGeneral dot_S4x16x64x128_S4x16x128x128_S4x16x64x128_3_2_2_3_01_01 none l r) : (⟨S4x16x64x128, .f32⟩ : BufTy).Contents (Elt F) → (⟨S4x16x128x128, .f32⟩ : BufTy).Contents (Elt F) → (⟨S4x16x64x128, .f32⟩ : BufTy).Contents (Elt F)),
    StableHlo.binary main_while1b_v107 main_while1b_v113 main_while1b_v114 (subf : (⟨S4x16x64x128, .f32⟩ : BufTy).Contents (Elt F) → (⟨S4x16x64x128, .f32⟩ : BufTy).Contents (Elt F) → (⟨S4x16x64x128, .f32⟩ : BufTy).Contents (Elt F)),
    StableHlo.binary main_while1b_v109 main_v85_7 main_while1b_v115 ((fun l r => Host.dotGeneral dot_S4x16x64x128_S4x16x128x128_S4x16x64x128_3_2_2_3_01_01 none l r) : (⟨S4x16x64x128, .f32⟩ : BufTy).Contents (Elt F) → (⟨S4x16x128x128, .f32⟩ : BufTy).Contents (Elt F) → (⟨S4x16x64x128, .f32⟩ : BufTy).Contents (Elt F)),
    StableHlo.binary main_while1b_v111 main_while1b_v114 main_while1b_v116 ((fun l r => Host.dotGeneral dot_S4x16x64x64_S4x16x64x128_S4x16x64x128_3_2_2_3_01_01 none l r) : (⟨S4x16x64x64, .f32⟩ : BufTy).Contents (Elt F) → (⟨S4x16x64x128, .f32⟩ : BufTy).Contents (Elt F) → (⟨S4x16x64x128, .f32⟩ : BufTy).Contents (Elt F)),
    StableHlo.binary main_while1b_v115 main_while1b_v116 main_while1b_v117 (addf : (⟨S4x16x64x128, .f32⟩ : BufTy).Contents (Elt F) → (⟨S4x16x64x128, .f32⟩ : BufTy).Contents (Elt F) → (⟨S4x16x64x128, .f32⟩ : BufTy).Contents (Elt F)),
    StableHlo.unary main_while1b_v112 main_while1b_v118 (broadcastInDim S4x16x1x1 ![0, 1] bcast_S4x16_S4x16x1x1_0_1 : (⟨S4x16, .f32⟩ : BufTy).Contents (Elt F) → (⟨S4x16x1x1, .f32⟩ : BufTy).Contents (Elt F)),
    StableHlo.unary main_while1b_v118 main_while1b_v119 (broadcastInDim S4x16x128x128 ![0, 1, 2, 3] bcast_S4x16x1x1_S4x16x128x128_0_1_2_3 : (⟨S4x16x1x1, .f32⟩ : BufTy).Contents (Elt F) → (⟨S4x16x128x128, .f32⟩ : BufTy).Contents (Elt F)),
    StableHlo.binary main_v85_7 main_while1b_v119 main_while1b_v120 (mulf : (⟨S4x16x128x128, .f32⟩ : BufTy).Contents (Elt F) → (⟨S4x16x128x128, .f32⟩ : BufTy).Contents (Elt F) → (⟨S4x16x128x128, .f32⟩ : BufTy).Contents (Elt F)),
    StableHlo.binary main_while1b_v110 main_while1b_v114 main_while1b_v121 ((fun l r => Host.dotGeneral dot_S4x16x64x128_S4x16x64x128_S4x16x128x128_2_2_3_3_01_01 none l r) : (⟨S4x16x64x128, .f32⟩ : BufTy).Contents (Elt F) → (⟨S4x16x64x128, .f32⟩ : BufTy).Contents (Elt F) → (⟨S4x16x128x128, .f32⟩ : BufTy).Contents (Elt F)),
    StableHlo.binary main_while1b_v120 main_while1b_v121 main_while1b_v122 (addf : (⟨S4x16x128x128, .f32⟩ : BufTy).Contents (Elt F) → (⟨S4x16x128x128, .f32⟩ : BufTy).Contents (Elt F) → (⟨S4x16x128x128, .f32⟩ : BufTy).Contents (Elt F)) ]
/-- Each operation touches TensorCore references only. -/
theorem while1Ops0_6_sub : (while1Ops0_6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩
/-- 6 host operations of @dynamic_update_index_in_dim (main_while1b_call10), in order. -/
abbrev while1Ops0_7 : List (HloOp τ sig (Elt F)) :=
  [ StableHlo.TRef.unary (.of main_while1b_v117 : StableHlo.TRef sig ⟨S4x16x64x128, .f32⟩) (.of main_while1b_call10_v0 : StableHlo.TRef sig ⟨S1x4x16x64x128, .f32⟩) (broadcastInDim S1x4x16x64x128 ![1, 2, 3, 4] bcast_S4x16x64x128_S1x4x16x64x128_1_2_3_4),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.nullary (.of main_while1b_call10_c_2 : StableHlo.TRef sig ⟨S_, .i32⟩) (constantI S_ 32 0#32),
    StableHlo.TRef.binaryIndexed (.of main_v85_8 : StableHlo.TRef sig ⟨S128x4x16x64x128, .f32⟩) (.of main_while1b_call10_v0 : StableHlo.TRef sig ⟨S1x4x16x64x128, .f32⟩) ![(.of main_v85_6 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩), (.of main_while1b_call10_c_2 : StableHlo.TRef sig ⟨S_, .i32⟩)] (.of main_while1b_v123 : StableHlo.TRef sig ⟨S128x4x16x64x128, .f32⟩) (fun x u i => Host.dynamicUpdateSlice x u (fun k => (i k (Shape.Idx.first h_S_)).toInt) updateFits_S128x4x16x64x128_S1x4x16x64x128) ]
/-- Each operation touches TensorCore references only. -/
theorem while1Ops0_7_sub : (while1Ops0_7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
/-- 5 host operations of host loop 1's body region, in order. -/
abbrev while1Ops0_8 : List (HloOp τ sig (Elt F)) :=
  [ StableHlo.nullary main_while1b_c_18 (constantI S_ 32 1#32),
    StableHlo.binary main_v85_6 main_while1b_c_18 main_while1b_v124 (addi : (⟨S_, .i32⟩ : BufTy).Contents (Elt F) → (⟨S_, .i32⟩ : BufTy).Contents (Elt F) → (⟨S_, .i32⟩ : BufTy).Contents (Elt F)),
    StableHlo.unary main_while1b_v124 main_v85_6 id,
    StableHlo.unary main_while1b_v122 main_v85_7 id,
    StableHlo.unary main_while1b_v123 main_v85_8 id ]
/-- Each operation touches TensorCore references only. -/
theorem while1Ops0_8_sub : (while1Ops0_8 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The body of loop 1 is the chain of its stretches. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, StableHlo.chain_seq_cons]
  chain_rfl

end Cert.ReferenceIdeal.Gen

end
-- ==== Proof.RefTerms.lean ====
/-
  The reference program's values as host terms over its arguments: the per-chunk tensors, the forward substitution row by
  row, the scan over the chunks, and the gated normalisation of what the scan leaves.
-/
module

public import proofs.«01_k».proof.Proof.RefOps
public import Idealize.ShloMosaic.Lib.StableHlo.RunRead
public import Idealize.ShloMosaic.Lib.StableHlo.RunClose
public import Idealize.ShloMosaic.Lib.Scf.Counter

@[expose] public section

noncomputable section

namespace Cert.ReferenceIdeal.Terms

open Idealize.ShloMosaic Idealize.ShloMosaic.TcCoe Idealize.SL.Sem Idealize.ShloMosaic.StableHlo
open Cert.ReferenceIdeal Cert.ReferenceIdeal.Gen

variable {F : FTy → Type} [FloatOps F]

/-- The cumulative decays, head by head and chunk by chunk. -/
def gcT (a3 : FVec F S32768x16 .f32) : FVec F S4x16x128x64 .f32 :=
  shapeCast S4x16x128x64 (transpose S4x16x8192 [0, 2, 1] (shapeCast S4x8192x16 a3 shapeCasts_S32768x16_S4x8192x16)
    transposes_S4x8192x16_S4x16x8192_0_2_1) shapeCasts_S4x16x8192_S4x16x128x64

/-- The write strengths beta as columns, head by head and chunk by chunk. -/
def betaT (a2 : FVec F S32768x16 .f32) : FVec F S4x16x128x64x1 .f32 :=
  broadcastInDim S4x16x128x64x1 ![0, 1, 2, 3] bcast_S4x16x128x64_S4x16x128x64x1_0_1_2_3
    (shapeCast S4x16x128x64 (transpose S4x16x8192 [0, 2, 1] (shapeCast S4x8192x16 a2 shapeCasts_S32768x16_S4x8192x16)
      transposes_S4x8192x16_S4x16x8192_0_2_1) shapeCasts_S4x16x8192_S4x16x128x64)

/-- The query and key columns' common layout: eight heads, each repeated for two value heads, cut into chunks. -/
def headsT (x : FVec F S4x8192x1024 .f32) : FVec F S4x16x128x64x128 .f32 :=
  shapeCast S4x16x128x64x128 (shapeCast S4x16x8192x128 (broadcastInDim S4x8x2x8192x128 ![0, 1, 3, 4]
    bcast_S4x8x8192x128_S4x8x2x8192x128_0_1_3_4 (transpose S4x8x8192x128 [0, 2, 1, 3]
      (shapeCast S4x8192x8x128 x shapeCasts_S4x8192x1024_S4x8192x8x128) transposes_S4x8192x8x128_S4x8x8192x128_0_2_1_3))
    shapeCasts_S4x8x2x8192x128_S4x16x8192x128) shapeCasts_S4x16x8192x128_S4x16x128x64x128

/-- The queries. -/
def qT (a0 : FVec F S32768x4096 .f32) : FVec F S4x16x128x64x128 .f32 :=
  headsT (extractStridedSlice S4x8192x1024 ![0, 0, 0] (shapeCast S4x8192x4096 a0 shapeCasts_S32768x4096_S4x8192x4096)
    slices_S4x8192x4096_S4x8192x1024_0_0_0)

/-- The keys. -/
def kT (a0 : FVec F S32768x4096 .f32) : FVec F S4x16x128x64x128 .f32 :=
  headsT (extractStridedSlice S4x8192x1024 ![0, 0, 1024] (shapeCast S4x8192x4096 a0 shapeCasts_S32768x4096_S4x8192x4096)
    slices_S4x8192x4096_S4x8192x1024_0_0_1024)

/-- The values. -/
def vT (a0 : FVec F S32768x4096 .f32) : FVec F S4x16x128x64x128 .f32 :=
  shapeCast S4x16x128x64x128 (transpose S4x16x8192x128 [0, 2, 1, 3] (shapeCast S4x8192x16x128
    (extractStridedSlice S4x8192x2048 ![0, 0, 2048] (shapeCast S4x8192x4096 a0 shapeCasts_S32768x4096_S4x8192x4096)
      slices_S4x8192x4096_S4x8192x2048_0_0_2048) shapeCasts_S4x8192x2048_S4x8192x16x128)
    transposes_S4x8192x16x128_S4x16x8192x128_0_2_1_3) shapeCasts_S4x16x8192x128_S4x16x128x64x128

/-- Row numbers against column numbers of a chunk: the comparison's mask. -/
def maskT (p : CmpIPredicate) : IVec S64x64 1 :=
  cmpi p (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

/-- A tensor where the mask holds, zero elsewhere. -/
def whereT (p : CmpIPredicate) (x : FVec F S4x16x128x64x64 .f32) : FVec F S4x16x128x64x64 .f32 :=
  select (broadcastInDim S4x16x128x64x64 ![3, 4] bcast_S64x64_S4x16x128x64x64_3_4 (maskT p)) x
    (broadcastInDim S4x16x128x64x64 ![] bcast_S_S4x16x128x64x64 (constant S_ .f32 0x00000000#32))

/-- The decay between two rows of a chunk, zero above the diagonal. -/
def decayT (a3 : FVec F S32768x16 .f32) : FVec F S4x16x128x64x64 .f32 :=
  whereT .sge (Host.exp (whereT .sge (subf
    (broadcastInDim S4x16x128x64x64 ![0, 1, 2, 3, 4] bcast_S4x16x128x64x1_S4x16x128x64x64_0_1_2_3_4
      (broadcastInDim S4x16x128x64x1 ![0, 1, 2, 3] bcast_S4x16x128x64_S4x16x128x64x1_0_1_2_3 (gcT a3)))
    (broadcastInDim S4x16x128x64x64 ![0, 1, 2, 3, 4] bcast_S4x16x128x1x64_S4x16x128x64x64_0_1_2_3_4
      (broadcastInDim S4x16x128x1x64 ![0, 1, 2, 4] bcast_S4x16x128x64_S4x16x128x1x64_0_1_2_4 (gcT a3))))))

/-- A column of beta at every head dimension. -/
def wideT (b : FVec F S4x16x128x64x1 .f32) : FVec F S4x16x128x64x128 .f32 :=
  broadcastInDim S4x16x128x64x128 ![0, 1, 2, 3, 4] bcast_S4x16x128x64x1_S4x16x128x64x128_0_1_2_3_4 b

/-- One number a row, as a column. -/
def colT (x : FVec F S4x16x128x64 .f32) : FVec F S4x16x128x64x1 .f32 :=
  broadcastInDim S4x16x128x64x1 ![0, 1, 2, 3] bcast_S4x16x128x64_S4x16x128x64x1_0_1_2_3 x

/-- The keys times beta. -/
def kbT (a0 : FVec F S32768x4096 .f32) (a2 : FVec F S32768x16 .f32) : FVec F S4x16x128x64x128 .f32 :=
  mulf (kT a0) (wideT (betaT a2))

/-- Rows against rows of a chunk. -/
def rowsT (x y : FVec F S4x16x128x64x128 .f32) : FVec F S4x16x128x64x64 .f32 :=
  Host.dotGeneral dot_S4x16x128x64x128_S4x16x128x64x128_S4x16x128x64x64_4_4_3_3_012_012 none x y

/-- The chunk's strictly lower triangular matrix. -/
def lmatT (a0 : FVec F S32768x4096 .f32) (a2 a3 : FVec F S32768x16 .f32) : FVec F S4x16x128x64x64 .f32 :=
  whereT .sgt (mulf (rowsT (kbT a0 a2) (kT a0)) (decayT a3))

/-- Two tensors side by side. -/
def pairT (x y : FVec F S4x16x128x64x128 .f32) : FVec F S4x16x128x64x256 .f32 :=
  concatenate S4x16x128x64x256 4 [⟨S4x16x128x64x128, x⟩, ⟨S4x16x128x64x128, y⟩]
    concatenates_S4x16x128x64x128_S4x16x128x64x128_S4x16x128x64x256_d4

/-- The right-hand sides: the values times beta beside the decayed keys times beta. -/
def rhsT (a0 : FVec F S32768x4096 .f32) (a2 a3 : FVec F S32768x16 .f32) : FVec F S4x16x128x64x256 .f32 :=
  pairT (mulf (vT a0) (wideT (betaT a2))) (mulf (kbT a0 a2) (wideT (colT (Host.exp (gcT a3)))))

/-- Row numbers as a column. -/
def iiT : IVec S64x1 32 := broadcastInDim S64x1 ![0] bcast_S64_S64x1_0 (iotaInDim S64 32 0)

/-- One row of the forward substitution. -/
def solveStep (l : FVec F S4x16x128x64x64 .f32) (r : FVec F S4x16x128x64x256 .f32) (i : ℕ)
    (x : FVec F S4x16x128x64x256 .f32) : FVec F S4x16x128x64x256 .f32 :=
  select (broadcastInDim S4x16x128x64x256 ![3, 4] bcast_S64x1_S4x16x128x64x256_3_4
      (cmpi .eq iiT (broadcastInDim S64x1 ![] bcast_S_S64x1 (fun _ : S_.Idx => Scf.iv 0#32 1#32 i))))
    (subf r (Host.dotGeneral dot_S4x16x128x64x64_S4x16x128x64x256_S4x16x128x64x256_4_3_3_4_012_012 none l x)) x

/-- The forward substitution after its first rows. -/
def solAt (l : FVec F S4x16x128x64x64 .f32) (r : FVec F S4x16x128x64x256 .f32) : ℕ → FVec F S4x16x128x64x256 .f32
  | 0 => broadcastInDim S4x16x128x64x256 ![] bcast_S_S4x16x128x64x256 (constant S_ .f32 0x00000000#32)
  | i + 1 => solveStep l r i (solAt l r i)

/-- A per-chunk tensor with the chunks first. -/
def firstT (x : FVec F S4x16x128x64x128 .f32) : FVec F S128x4x16x64x128 .f32 :=
  transpose S128x4x16x64x128 [2, 0, 1, 3, 4] x transposes_S4x16x128x64x128_S128x4x16x64x128_2_0_1_3_4

/-- The solution's value columns, chunks first. -/
def uT (s : FVec F S4x16x128x64x256 .f32) : FVec F S128x4x16x64x128 .f32 :=
  firstT (extractStridedSlice S4x16x128x64x128 ![0, 0, 0, 0, 0] s slices_S4x16x128x64x256_S4x16x128x64x128_0_0_0_0_0)

/-- The solution's key columns, chunks first. -/
def wT (s : FVec F S4x16x128x64x256 .f32) : FVec F S128x4x16x64x128 .f32 :=
  firstT (extractStridedSlice S4x16x128x64x128 ![0, 0, 0, 0, 128] s slices_S4x16x128x64x256_S4x16x128x64x128_0_0_0_0_128)

/-- The decayed queries, chunks first. -/
def qdecT (a0 : FVec F S32768x4096 .f32) (a3 : FVec F S32768x16 .f32) : FVec F S128x4x16x64x128 .f32 :=
  firstT (mulf (qT a0) (wideT (colT (Host.exp (gcT a3)))))

/-- The chunk's last cumulative decay. -/
def lastT (a3 : FVec F S32768x16 .f32) : FVec F S4x16x128x1 .f32 :=
  extractStridedSlice S4x16x128x1 ![0, 0, 0, 63] (gcT a3) slices_S4x16x128x64_S4x16x128x1_0_0_0_63

/-- The keys decayed to the chunk's end, chunks first. -/
def kdecT (a0 : FVec F S32768x4096 .f32) (a3 : FVec F S32768x16 .f32) : FVec F S128x4x16x64x128 .f32 :=
  firstT (mulf (kT a0) (wideT (colT (Host.exp (subf
    (broadcastInDim S4x16x128x64 ![0, 1, 2, 3] bcast_S4x16x128x1_S4x16x128x64_0_1_2_3 (lastT a3)) (gcT a3))))))

/-- The queries against the keys, decayed, chunks first. -/
def attnT (a0 : FVec F S32768x4096 .f32) (a3 : FVec F S32768x16 .f32) : FVec F S128x4x16x64x64 .f32 :=
  transpose S128x4x16x64x64 [2, 0, 1, 3, 4] (mulf (rowsT (qT a0) (kT a0)) (decayT a3))
    transposes_S4x16x128x64x64_S128x4x16x64x64_2_0_1_3_4

/-- A chunk's whole decay, chunks first. -/
def cdecT (a3 : FVec F S32768x16 .f32) : FVec F S128x4x16 .f32 :=
  transpose S128x4x16 [2, 0, 1] (Host.exp (shapeCast S4x16x128 (lastT a3) shapeCasts_S4x16x128x1_S4x16x128))
    transposes_S4x16x128_S128x4x16_2_0_1

/-- Where a chunk's slice begins. -/
def at5 (j : ℕ) : Fin 5 → ℤ := fun k =>
  (((![fun _ => Scf.iv 0#32 1#32 j, fun _ => 0#32, fun _ => 0#32, fun _ => 0#32, fun _ => 0#32] : Fin 5 → IVec S_ 32) k)
    (Shape.Idx.first h_S_)).toInt

/-- Where a chunk's slice of a rank-three tensor begins. -/
def at3 (j : ℕ) : Fin 3 → ℤ := fun k =>
  (((![fun _ => Scf.iv 0#32 1#32 j, fun _ => 0#32, fun _ => 0#32] : Fin 3 → IVec S_ 32) k) (Shape.Idx.first h_S_)).toInt

/-- One chunk of a chunks-first tensor. -/
def pickT (x : FVec F S128x4x16x64x128 .f32) (j : ℕ) : FVec F S4x16x64x128 .f32 :=
  shapeCast S4x16x64x128 (Host.dynamicSlice S1x4x16x64x128 x (at5 j) sliceFits_S128x4x16x64x128_S1x4x16x64x128)
    shapeCasts_S1x4x16x64x128_S4x16x64x128

/-- One chunk of a chunks-first square tensor. -/
def pick64T (x : FVec F S128x4x16x64x64 .f32) (j : ℕ) : FVec F S4x16x64x64 .f32 :=
  shapeCast S4x16x64x64 (Host.dynamicSlice S1x4x16x64x64 x (at5 j) sliceFits_S128x4x16x64x64_S1x4x16x64x64)
    shapeCasts_S1x4x16x64x64_S4x16x64x64

/-- One chunk's decay. -/
def pickDT (x : FVec F S128x4x16 .f32) (j : ℕ) : FVec F S4x16 .f32 :=
  shapeCast S4x16 (Host.dynamicSlice S1x4x16 x (at3 j) sliceFits_S128x4x16_S1x4x16) shapeCasts_S1x4x16_S4x16

/-- What the scan reads of the chunks, in one record. -/
structure Xs (F : FTy → Type) [FloatOps F] where
  u : FVec F S128x4x16x64x128 .f32
  w : FVec F S128x4x16x64x128 .f32
  q : FVec F S128x4x16x64x128 .f32
  k : FVec F S128x4x16x64x128 .f32
  a : FVec F S128x4x16x64x64 .f32
  d : FVec F S128x4x16 .f32

/-- The chunk's tensors of the arguments. -/
def xsT (a0 : FVec F S32768x4096 .f32) (a2 a3 : FVec F S32768x16 .f32) : Xs F where
  u := uT (solAt (lmatT a0 a2 a3) (rhsT a0 a2 a3) 64)
  w := wT (solAt (lmatT a0 a2 a3) (rhsT a0 a2 a3) 64)
  q := qdecT a0 a3
  k := kdecT a0 a3
  a := attnT a0 a3
  d := cdecT a3

/-- What a chunk writes beyond what the state already holds. -/
def vnewT (x : Xs F) (j : ℕ) (s : FVec F S4x16x128x128 .f32) : FVec F S4x16x64x128 .f32 :=
  subf (pickT x.u j) (Host.dotGeneral dot_S4x16x64x128_S4x16x128x128_S4x16x64x128_3_2_2_3_01_01 none (pickT x.w j) s)

/-- A chunk's output. -/
def outT (x : Xs F) (j : ℕ) (s : FVec F S4x16x128x128 .f32) : FVec F S4x16x64x128 .f32 :=
  addf (Host.dotGeneral dot_S4x16x64x128_S4x16x128x128_S4x16x64x128_3_2_2_3_01_01 none (pickT x.q j) s)
    (Host.dotGeneral dot_S4x16x64x64_S4x16x64x128_S4x16x64x128_3_2_2_3_01_01 none (pick64T x.a j) (vnewT x j s))

/-- The state after a chunk. -/
def stateT (x : Xs F) (j : ℕ) (s : FVec F S4x16x128x128 .f32) : FVec F S4x16x128x128 .f32 :=
  addf (mulf s (broadcastInDim S4x16x128x128 ![0, 1, 2, 3] bcast_S4x16x1x1_S4x16x128x128_0_1_2_3
      (broadcastInDim S4x16x1x1 ![0, 1] bcast_S4x16_S4x16x1x1_0_1 (pickDT x.d j))))
    (Host.dotGeneral dot_S4x16x64x128_S4x16x64x128_S4x16x128x128_2_2_3_3_01_01 none (pickT x.k j) (vnewT x j s))

/-- The state before a chunk. -/
def stateAt (x : Xs F) : ℕ → FVec F S4x16x128x128 .f32
  | 0 => broadcastInDim S4x16x128x128 ![] bcast_S_S4x16x128x128 (constant S_ .f32 0x00000000#32)
  | j + 1 => stateT x j (stateAt x j)

/-- The outputs after the first chunks. -/
def outsAt (x : Xs F) : ℕ → FVec F S128x4x16x64x128 .f32
  | 0 => broadcastInDim S128x4x16x64x128 ![] bcast_S_S128x4x16x64x128 (constant S_ .f32 0x00000000#32)
  | j + 1 => Host.dynamicUpdateSlice (outsAt x j) (broadcastInDim S1x4x16x64x128 ![1, 2, 3, 4]
      bcast_S4x16x64x128_S1x4x16x64x128_1_2_3_4 (outT x j (stateAt x j))) (at5 j) updateFits_S128x4x16x64x128_S1x4x16x64x128

/-- The outputs, token by token. -/
def tokensT (o : FVec F S128x4x16x64x128 .f32) : FVec F S4x8192x16x128 .f32 :=
  transpose S4x8192x16x128 [0, 2, 1, 3] (shapeCast S4x16x8192x128 (transpose S4x16x128x64x128 [1, 2, 0, 3, 4] o
    transposes_S128x4x16x64x128_S4x16x128x64x128_1_2_0_3_4) shapeCasts_S4x16x128x64x128_S4x16x8192x128)
    transposes_S4x16x8192x128_S4x8192x16x128_0_2_1_3

/-- The normalised outputs, scaled. -/
def normT (o : FVec F S4x8192x16x128 .f32) (a4 : FVec F S128 .f32) : FVec F S4x8192x16x128 .f32 :=
  mulf (mulf o (broadcastInDim S4x8192x16x128 ![0, 1, 2, 3] bcast_S4x8192x16x1_S4x8192x16x128_0_1_2_3
      (Host.rsqrt (addf (Host.divf (broadcastInDim S4x8192x16x1 ![0, 1, 2] bcast_S4x8192x16_S4x8192x16x1_0_1_2
          (Host.reduceAdd (mulf o o) (constant S_ .f32 0x00000000#32) reducesTo_S4x8192x16x128_S4x8192x16_d3 h_S_))
        (broadcastInDim S4x8192x16x1 ![] bcast_S_S4x8192x16x1 (constant S_ .f32 0x43000000#32)))
        (broadcastInDim S4x8192x16x1 ![] bcast_S_S4x8192x16x1 (constant S_ .f32 0x358637BD#32))))))
    (broadcastInDim S4x8192x16x128 ![0, 1, 2, 3] bcast_S1x1x1x128_S4x8192x16x128_0_1_2_3
      (broadcastInDim S1x1x1x128 ![3] bcast_S128_S1x1x1x128_3 a4))

/-- The gate. -/
def gateT (a1 : FVec F S32768x2048 .f32) : FVec F S4x8192x16x128 .f32 :=
  mulf (shapeCast S4x8192x16x128 a1 shapeCasts_S32768x2048_S4x8192x16x128)
    (Host.divf (broadcastInDim S4x8192x16x128 ![] bcast_S_S4x8192x16x128 (constant S_ .f32 0x3F800000#32))
      (addf (broadcastInDim S4x8192x16x128 ![] bcast_S_S4x8192x16x128 (constant S_ .f32 0x3F800000#32))
        (Host.exp (Host.negf (shapeCast S4x8192x16x128 a1 shapeCasts_S32768x2048_S4x8192x16x128)))))

/-- The result of what the scan leaves. -/
def closeT (o : FVec F S128x4x16x64x128 .f32) (a1 : FVec F S32768x2048 .f32) (a4 : FVec F S128 .f32) :
    FVec F S4x8192x2048 .bf16 :=
  truncf .bf16 (shapeCast S4x8192x2048 (mulf (normT (tokensT o) a4) (gateT a1)) shapeCasts_S4x8192x16x128_S4x8192x2048)
    bitsLt_bf16_f32

/-- The reference's result. -/
def resultT (a0 : FVec F S32768x4096 .f32) (a1 : FVec F S32768x2048 .f32) (a2 a3 : FVec F S32768x16 .f32) (a4 : FVec F S128 .f32) :
    FVec F S4x8192x2048 .bf16 := closeT (outsAt (xsT a0 a2 a3) 128) a1 a4

end Cert.ReferenceIdeal.Terms

end
-- ==== Proof.TwoLoops.lean ====
/-
  The run of a host program whose @main is stretches of operations, a counted loop, more stretches, a second counted
  loop and more stretches. Each loop is one segment (`loopSeg`), each stretch one segment (`segsOf`); the second loop
  starts from whatever the stretches between the loops leave.
-/
module

public import Idealize.ShloMosaic.Lib.StableHlo.RunLoop

@[expose] public section

noncomputable section

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)
open TcCoe

variable {nD : Nat} {τ : Topo} {sig : RefSig} {F : FTy → Type} {Λ₀ : Idealize.SL.Sem.Labels}

local notation "𝕄" => MT nD τ sig Unit (Elt F) ℕ (Option PUnit) ℕ

/-- Every buffer's contents after a counted loop entered at `W`: `n` trips and the condition's operations once more. -/
abbrev afterLoop (condOps : List (HloOp τ sig (Elt F))) (bodyI : List (List (HloOp τ sig (Elt F)))) (n : ℕ)
    (W : Dev nD → Valuation τ sig (Elt F)) (c : Dev nD) : Valuation τ sig (Elt F) :=
  after condOps (atTrip condOps bodyI W n c)

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- Nothing is admitted: there is no pipeline. -/
abbrev noAdm : (p : Fin 0) → (pcs p).Adm := fun p => p.elim0
/-- There is no ticket. -/
abbrev noTicket : Fin 0 → Ticket (Ix := Unit) (Name := ℕ) (U := Option PUnit) (Lvl := ℕ) (nD := nD) (τ := τ) pcs (noAdm pcs) := fun j => j.elim0
/-- No semaphore has a level. -/
abbrev noLevels : GSem nD τ sig → Finset Unit := fun _ => ∅
/-- The level of any semaphore is zero. -/
abbrev zeroLevel : GSem nD τ sig → Unit → ℕ := fun _ _ => 0

/-- What each core carries beside its buffers. -/
abbrev Owed (c : Dev nD) : sProp 𝕄 := iprop(∃ W, owes (c : Thread nD τ) (0 : CellTallies nD τ sig Unit) W)

variable {pcs defs₀ loops}

/-- A condition's specification keeps `Owed` beside the buffers. -/
theorem loopCond_of {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W : Dev nD → Valuation τ sig (Elt F)} {n : ℕ}
    (hcond : CondSpec pcs defs₀ loops cond condOps bodyI W n) :
    LoopCond pcs defs₀ Variants.none loops Owed cond condOps bodyI W n := by
  intro k hk c bd
  have hv : ∀ v : Elt F .i1,
      iprop(iprop(⌜v = 1#1 ↔ k < n⌝ ∗ boundary (c : Thread nD τ) ∗ held (c : Thread nD τ) (ucRefs τ sig) (after condOps (atTrip condOps bodyI W k c))) ∗ Owed c)
        ⊢ iprop(⌜v = 1#1 ↔ k < n⌝ ∗ boundary (c : Thread nD τ) ∗ held (c : Thread nD τ) (ucRefs τ sig) (after condOps (atTrip condOps bodyI W k c)) ∗ Owed c) := by
    intro v
    iintro ⟨⟨%h, Hb, Hh⟩, HO⟩
    isplitr; · ipureintro; exact h
    isplitl [Hb]; · iexact Hb
    isplitl [Hh] <;> iassumption
  refine BIBase.Entails.trans ?_ (((sep_mono_left (hcond k hk c bd)).trans (wp_frame_r _ _ _)).trans (wp_mono _ _ _ hv))
  iintro ⟨Hb, Hh, HO⟩
  isplitl [Hb Hh]; · isplitl [Hb] <;> iassumption
  iexact HO

/-- One counted loop as a segment. -/
abbrev seg (l : Fin nL)
    {cond : Prog (TpuEff nD τ sig (Elt F) (HostLoop.Sig (Pipeline.Sig Λ₀ (Fin 0) fun p => (pcs p).Adm) nL) .tc) (Elt F .i1)}
    {body : Prog (TpuEff nD τ sig (Elt F) (HostLoop.Sig (Pipeline.Sig Λ₀ (Fin 0) fun p => (pcs p).Adm) nL) .tc) PUnit}
    (hl : loops l = HostLoop.step l cond body) {condOps : List (HloOp τ sig (Elt F))} {bodyI : List (List (HloOp τ sig (Elt F)))}
    (hB : Plain bodyI) (hb : body = Pipeline.chain (bodyI.map fun ops => (seq ops : Prog _ PUnit))) {n : ℕ}
    {W : Dev nD → Valuation τ sig (Elt F)} (hc : CondSpec pcs defs₀ loops cond condOps bodyI W n) :
    CSeg pcs (noAdm pcs) defs₀ Variants.none noLevels zeroLevel loops (noTicket pcs) :=
  loopSeg _ _ _ _ _ _ _ _ l cond body hl condOps bodyI hB hb n W Owed (loopCond_of hc)

/-- Stretches as segments, entered at `W`. -/
abbrev stretches (items : List (List (HloOp τ sig (Elt F)))) (h : Plain items) (W : Dev nD → Valuation τ sig (Elt F)) :
    List (CSeg pcs (noAdm pcs) defs₀ Variants.none noLevels zeroLevel loops (noTicket pcs)) :=
  segsOf _ _ _ _ _ _ _ _ Owed items h W

end Cert.TwoLoops

namespace Cert.TwoLoops

open Idealize.ShloMosaic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)
open TcCoe

variable {nD : Nat} {τ : Topo} {sig : RefSig} {F : FTy → Type} {Λ₀ : Idealize.SL.Sem.Labels}

/-- THE RUN of stretches, a counted loop, stretches, a second counted loop, stretches: every weakly fair execution from
    zero counters terminates, and every unscoped TensorCore buffer ends at the fold of all of them over the launch
    contents. -/
theorem run_two [∀ e, Nonempty (Elt F e)]
    (pcs : Fin 0 → PCfg sig Λ₀ (Elt F)) (defs₀ : Defs nD τ sig (Elt F) Λ₀) {nL : Nat}
    (loops : Fin nL → Prog (TpuEff nD τ sig (Elt F) (HostLoop.Sig (Pipeline.Sig Λ₀ (Fin 0) fun p => (pcs p).Adm) nL) .tc) PUnit)
    (main : Dev nD → Prog (TpuEff nD τ sig (Elt F) (HostLoop.Sig (Pipeline.Sig Λ₀ (Fin 0) fun p => (pcs p).Adm) nL) .tc) PUnit)
    (l l' : Fin nL)
    (cond cond' : Prog (TpuEff nD τ sig (Elt F) (HostLoop.Sig (Pipeline.Sig Λ₀ (Fin 0) fun p => (pcs p).Adm) nL) .tc) (Elt F .i1))
    (body body' : Prog (TpuEff nD τ sig (Elt F) (HostLoop.Sig (Pipeline.Sig Λ₀ (Fin 0) fun p => (pcs p).Adm) nL) .tc) PUnit)
    (hl : loops l = HostLoop.step l cond body) (hl' : loops l' = HostLoop.step l' cond' body')
    (preI bodyI midI bodyI' postI : List (List (HloOp τ sig (Elt F)))) (condOps condOps' : List (HloOp τ sig (Elt F)))
    (hpre : Plain preI) (hB : Plain bodyI) (hmid : Plain midI) (hB' : Plain bodyI') (hpost : Plain postI)
    (hmain : ∀ c, main c = Pipeline.chain ((preI.map fun ops => (seq ops : Prog _ PUnit)) ++ HostLoop.enter l
      :: ((midI.map fun ops => (seq ops : Prog _ PUnit)) ++ HostLoop.enter l' :: postI.map fun ops => (seq ops : Prog _ PUnit))))
    (hb : body = Pipeline.chain (bodyI.map fun ops => (seq ops : Prog _ PUnit)))
    (hb' : body' = Pipeline.chain (bodyI'.map fun ops => (seq ops : Prog _ PUnit)))
    (n n' : ℕ) (m : (ℓ : Loc nD τ sig) → Buf (Elt F) ℓ) (ρ : Dev nD → PrngReg)
    (W W' : Dev nD → Valuation τ sig (Elt F)) (hW : W = fun c => afterL preI (launchContents m c))
    (hW' : W' = fun c => afterL midI (afterLoop condOps bodyI n W c))
    (hc : CondSpec pcs defs₀ loops cond condOps bodyI W n) (hc' : CondSpec pcs defs₀ loops cond' condOps' bodyI' W' n') :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = afterL postI (afterLoop condOps' bodyI' n' W' c) (Proc.devRef .tc b)) := by
  subst hW
  subst hW'
  exact Pipeline.θ_run_regions_loop_kit (Ix := Unit) (Name := ℕ) (U := Option PUnit) (Lvl := ℕ) (J := Fin 0) (P := Fin 0) (Val := Elt F)
    pcs (noAdm pcs) (fun k => k.1.elim0) defs₀ Variants.none noLevels zeroLevel loops (noTicket pcs) m ρ main
    (stretches preI hpre (launchContents m) ++ seg l hl hB hb hc
      :: (stretches midI hmid (afterLoop condOps bodyI n fun c => afterL preI (launchContents m c)) ++ seg l' hl' hB' hb' hc'
        :: stretches postI hpost (afterLoop condOps' bodyI' n' _)))
    (fun c Q => by
      rw [hmain c]
      unfold Pipeline.CSeg.runL
      simp only [List.map_append, List.map_cons, segsOf_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Owed c))
    (Tₙ := fun c => iprop(held (c : Thread nD τ) (ucRefs τ sig) (afterL postI (afterLoop condOps' bodyI' n' (fun c => afterL midI (afterLoop condOps bodyI n (fun c => afterL preI (launchContents m c)) c)) c))))
    (hch := CSeg.Chains.append (segsOf_chains _ _ _ _ _ _ _ _ Owed preI hpre _) ⟨fun _ => .rfl,
      CSeg.Chains.append (segsOf_chains _ _ _ _ _ _ _ _ Owed midI hmid _) ⟨fun _ => .rfl, segsOf_chains _ _ _ _ _ _ _ _ Owed postI hpost _⟩⟩)
    (hinit := by
      refine Pipeline.initEach noLevels zeroLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL postI (afterLoop condOps' bodyI' n' (fun c => afterL midI (afterLoop condOps bodyI n (fun c => afterL preI (launchContents m c)) c)) c) b)
    (hfin := fun c s' => by
      unfold held
      iintro ⟨Hh, HSI⟩
      ihave Hr := (pointsTo_read_all (ucRefs τ sig) (fun b => ((c : Dev nD), b)) (fun b => afterL postI (afterLoop condOps' bodyI' n' (fun c => afterL midI (afterLoop condOps bodyI n (fun c => afterL preI (launchContents m c)) c)) c) b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.TwoLoops

end
-- ==== Proof.RefRun.lean ====
/-
  The reference program's run: what its two loops keep from trip to trip, and the run's result and unchanged arguments.
-/
module

public import proofs.«01_k».proof.Proof.RefTerms
public import proofs.«01_k».proof.Proof.TwoLoops
public import Idealize.ShloMosaic.Lib.Scf.ExitTest
public import Idealize.ShloMosaic.Lib.Quiescent

@[expose] public section

noncomputable section

namespace Cert.ReferenceIdeal.RefRun

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.ReferenceIdeal Cert.ReferenceIdeal.Gen Cert.ReferenceIdeal.Terms Cert.TwoLoops

variable {F : FTy → Type} [FloatOps F]

/-- What runs before the first loop. -/
abbrev preI : List (List (HloOp τ sig (Elt F))) :=
  [main_part0_ops0, main_part0_ops1, main_part0_ops2, main_part0_ops3, main_part0_ops4, main_part0_ops5, main_part0_ops6, main_part1_ops0]
/-- What runs between the loops. -/
abbrev midI : List (List (HloOp τ sig (Elt F))) := [main_part1_ops1]
/-- What runs after the second loop. -/
abbrev postI : List (List (HloOp τ sig (Elt F))) := [main_part1_ops2, main_part2_ops0, main_part2_ops1, main_part2_ops2]
/-- The first loop's body. -/
abbrev body0 : List (List (HloOp τ sig (Elt F))) := [while0Ops0, while0Ops0_1, while0Ops0_2]
/-- The second loop's body. -/
abbrev body1 : List (List (HloOp τ sig (Elt F))) :=
  [while1Ops0, while1Ops0_1, while1Ops0_2, while1Ops0_3, while1Ops0_4, while1Ops0_5, while1Ops0_6, while1Ops0_7, while1Ops0_8]
/-- The first loop's condition. -/
abbrev cond0 : List (HloOp τ sig (Elt F)) :=
  [ StableHlo.nullary main_while0c_c_15 (constantI S_ 32 64#32),
    StableHlo.binary main_v58_3 main_while0c_c_15 main_while0c_v107 (cmpi .slt : (⟨S_, .i32⟩ : BufTy).Contents (Elt F) → (⟨S_, .i32⟩ : BufTy).Contents (Elt F) → (⟨S_, .i1⟩ : BufTy).Contents (Elt F)) ]
/-- The second loop's condition. -/
abbrev cond1 : List (HloOp τ sig (Elt F)) :=
  [ StableHlo.nullary main_while1c_c_18 (constantI S_ 32 128#32),
    StableHlo.binary main_v85_6 main_while1c_c_18 main_while1c_v107 (cmpi .slt : (⟨S_, .i32⟩ : BufTy).Contents (Elt F) → (⟨S_, .i32⟩ : BufTy).Contents (Elt F) → (⟨S_, .i1⟩ : BufTy).Contents (Elt F)) ]

theorem plain_pre : Plain (preI (F := F)) :=
  .cons main_part0_ops0_sub <| .cons main_part0_ops1_sub <| .cons main_part0_ops2_sub <| .cons main_part0_ops3_sub <|
  .cons main_part0_ops4_sub <| .cons main_part0_ops5_sub <| .cons main_part0_ops6_sub <| .cons main_part1_ops0_sub .nil
theorem plain_mid : Plain (midI (F := F)) := .cons main_part1_ops1_sub .nil
theorem plain_post : Plain (postI (F := F)) :=
  .cons main_part1_ops2_sub <| .cons main_part2_ops0_sub <| .cons main_part2_ops1_sub <| .cons main_part2_ops2_sub .nil
theorem plain_body0 : Plain (body0 (F := F)) := .cons while0Ops0_sub <| .cons while0Ops0_1_sub <| .cons while0Ops0_2_sub .nil
theorem plain_body1 : Plain (body1 (F := F)) :=
  .cons while1Ops0_sub <| .cons while1Ops0_1_sub <| .cons while1Ops0_2_sub <| .cons while1Ops0_3_sub <| .cons while1Ops0_4_sub <|
  .cons while1Ops0_5_sub <| .cons while1Ops0_6_sub <| .cons while1Ops0_7_sub <| .cons while1Ops0_8_sub .nil

/-- The arguments as the valuation's buffers hold them. -/
structure Args (F : FTy → Type) [FloatOps F] where
  a0 : FVec F S32768x4096 .f32
  a1 : FVec F S32768x2048 .f32
  a2 : FVec F S32768x16 .f32
  a3 : FVec F S32768x16 .f32
  a4 : FVec F S128 .f32

/-- The valuation holds the arguments. -/
structure HoldsA (V : Valuation τ sig (Elt F)) (x : Args F) : Prop where
  a0 : V (Proc.devRef .tc main_arg0) = x.a0
  a1 : V (Proc.devRef .tc main_arg1) = x.a1
  a2 : V (Proc.devRef .tc main_arg2) = x.a2
  a3 : V (Proc.devRef .tc main_arg3) = x.a3
  a4 : V (Proc.devRef .tc main_arg4) = x.a4

/-- What the first loop holds before trip `j`. -/
structure Holds0 (V : Valuation τ sig (Elt F)) (x : Args F) (j : ℕ) : Prop extends HoldsA V x where
  q : V (Proc.devRef .tc main_v19) = qT x.a0
  k : V (Proc.devRef .tc main_v20) = kT x.a0
  g : V (Proc.devRef .tc main_v18) = gcT x.a3
  dec : V (Proc.devRef .tc main_v42) = decayT x.a3
  ii : V (Proc.devRef .tc main_v58_0) = iiT
  l : V (Proc.devRef .tc main_v58_1) = lmatT x.a0 x.a2 x.a3
  r : V (Proc.devRef .tc main_v58_2) = rhsT x.a0 x.a2 x.a3
  n3 : V (Proc.devRef .tc main_v58_3) = fun _ : S_.Idx => Scf.iv 0#32 1#32 j
  n4 : V (Proc.devRef .tc main_v58_4) = fun _ : S_.Idx => Scf.iv 0#32 1#32 j
  s : V (Proc.devRef .tc main_v58_5) = solAt (lmatT x.a0 x.a2 x.a3) (rhsT x.a0 x.a2 x.a3) j

/-- What the second loop holds before trip `j`. -/
structure Holds1 (V : Valuation τ sig (Elt F)) (x : Args F) (j : ℕ) : Prop extends HoldsA V x where
  u : V (Proc.devRef .tc main_v85_0) = (xsT x.a0 x.a2 x.a3).u
  w : V (Proc.devRef .tc main_v85_1) = (xsT x.a0 x.a2 x.a3).w
  q : V (Proc.devRef .tc main_v85_2) = (xsT x.a0 x.a2 x.a3).q
  k : V (Proc.devRef .tc main_v85_3) = (xsT x.a0 x.a2 x.a3).k
  a : V (Proc.devRef .tc main_v85_4) = (xsT x.a0 x.a2 x.a3).a
  d : V (Proc.devRef .tc main_v85_5) = (xsT x.a0 x.a2 x.a3).d
  n : V (Proc.devRef .tc main_v85_6) = fun _ : S_.Idx => Scf.iv 0#32 1#32 j
  st : V (Proc.devRef .tc main_v85_7) = stateAt (xsT x.a0 x.a2 x.a3) j
  o : V (Proc.devRef .tc main_v85_8) = outsAt (xsT x.a0 x.a2 x.a3) j

variable {V : Valuation τ sig (Elt F)} {x : Args F} {j : ℕ}

/-- The printed pair as `pairT`. -/
theorem pair_eq (a b : FVec F S4x16x128x64x128 .f32) :
    concatenate S4x16x128x64x256 4 [⟨S4x16x128x64x128, a⟩, ⟨S4x16x128x64x128, b⟩]
      concatenates_S4x16x128x64x128_S4x16x128x64x128_S4x16x128x64x256_d4 = pairT a b := rfl

set_option maxRecDepth 65536 in
set_option maxHeartbeats 4000000 in
/-- The operations before the first loop establish what it holds. -/
theorem pre_holds (h : HoldsA V x) : Holds0 (afterL preI V) x 0 := by
  obtain ⟨h0, h1, h2, h3, h4⟩ := h
  constructor
  · constructor <;> (simp only [afterL_cons, afterL_nil]; after_reads_simp) <;> assumption
  all_goals
    simp only [afterL_cons, afterL_nil]; after_reads_simp
    try (rw [pair_eq]; after_reads_simp)
    try simp only [h0, h1, h2, h3, h4]
    rfl

set_option maxRecDepth 65536 in
set_option maxHeartbeats 4000000 in
/-- One trip of the first loop. -/
theorem step0 (h : Holds0 V x j) : Holds0 (afterL body0 (after cond0 V)) x (j + 1) := by
  obtain ⟨⟨h0, h1, h2, h3, h4⟩, hq, hk, hg, hdec, hii, hl, hr, hn3, hn4, hs⟩ := h
  constructor
  · constructor <;> (simp only [afterL_cons, afterL_nil]; after_reads_simp) <;> assumption
  iterate 7 (simp only [afterL_cons, afterL_nil]; after_reads_simp; assumption)
  all_goals
    simp only [afterL_cons, afterL_nil]; after_reads_simp
    simp only [hii, hl, hr, hn3, hn4, hs, Scf.iv_succ]
    rfl

set_option maxRecDepth 65536 in
set_option maxHeartbeats 4000000 in
/-- The first loop's last condition and the operations between the loops establish what the second loop holds. -/
theorem mid_holds (h : Holds0 V x 64) : Holds1 (afterL midI (after cond0 V)) x 0 := by
  obtain ⟨⟨h0, h1, h2, h3, h4⟩, hq, hk, hg, hdec, hii, hl, hr, hn3, hn4, hs⟩ := h
  constructor
  · constructor <;> (simp only [afterL_cons, afterL_nil]; after_reads_simp) <;> assumption
  all_goals
    simp only [afterL_cons, afterL_nil]; after_reads_simp
    try simp only [hq, hk, hg, hdec, hs]
    rfl

set_option maxRecDepth 65536 in
set_option maxHeartbeats 4000000 in
/-- One trip of the second loop. -/
theorem step1 (h : Holds1 V x j) : Holds1 (afterL body1 (after cond1 V)) x (j + 1) := by
  obtain ⟨⟨h0, h1, h2, h3, h4⟩, hu, hw, hq, hk, ha, hd, hn, hst, ho⟩ := h
  constructor
  · constructor <;> (simp only [afterL_cons, afterL_nil]; after_reads_simp) <;> assumption
  iterate 6 (simp only [afterL_cons, afterL_nil]; after_reads_simp; assumption)
  all_goals
    simp only [afterL_cons, afterL_nil]
    after_reads_simp [unaryIndexed_result_read, binaryIndexed_result_read, indexContents_tref_cons, indexContents_tref_empty,
      indexContents_cons, indexContents_empty]
    simp only [hu, hw, hq, hk, ha, hd, hn, hst, ho, Scf.iv_succ]
    rfl

set_option maxRecDepth 65536 in
set_option maxHeartbeats 4000000 in
/-- The operations after the second loop, on what it leaves. -/
theorem post_reads (h : Holds1 V x 128) :
    HoldsA (afterL postI (after cond1 V)) x
    ∧ afterL postI (after cond1 V) (Proc.devRef .tc main_v106) = resultT x.a0 x.a1 x.a2 x.a3 x.a4 := by
  obtain ⟨⟨h0, h1, h2, h3, h4⟩, hu, hw, hq, hk, ha, hd, hn, hst, ho⟩ := h
  constructor
  · constructor <;> (simp only [afterL_cons, afterL_nil]; after_reads_simp) <;> assumption
  · simp only [afterL_cons, afterL_nil]; after_reads_simp
    simp only [h1, h4, ho]
    rfl

/-! The run: the loops' conditions read their counters, and the two invariants chain. -/

variable (m : (ℓ : Loc nD τ sig) → Buf (Elt F) ℓ) (ρ : Dev nD → PrngReg)

/-- The arguments in a core's memory. -/
abbrev argsOf (c : Dev nD) : Args F where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)

/-- Every buffer's contents when the first loop is entered. -/
def W0 : Dev nD → Valuation τ sig (Elt F) := fun c => afterL preI (launchContents m c)
/-- Every buffer's contents when the second loop is entered. -/
def W1 : Dev nD → Valuation τ sig (Elt F) := fun c => afterL midI (afterLoop cond0 body0 64 (W0 m) c)

theorem holds0_at (c : Dev nD) : ∀ k, Holds0 (atTrip cond0 body0 (W0 m) k c) (argsOf m c) k
  | 0 => pre_holds ⟨rfl, rfl, rfl, rfl, rfl⟩
  | k + 1 => by rw [atTrip_succ]; exact step0 (holds0_at c k)

theorem holds1_at (c : Dev nD) : ∀ k, Holds1 (atTrip cond1 body1 (W1 m) k c) (argsOf m c) k
  | 0 => mid_holds (holds0_at m c 64)
  | k + 1 => by rw [atTrip_succ]; exact step1 (holds1_at c k)

set_option backward.isDefEq.respectTransparency.types false in
/-- The first loop's condition holds for its first 64 runs. -/
theorem cond0_spec : CondSpec (pcfgs (F := F)) defs₀ loops (main_while0_cond (F := F)) cond0 body0 (W0 m) 64 := by
  intro k hk c bd
  have hctr := (holds0_at m c k).n3
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (W0 m) k c) (Proc.devRef .tc main_v58_3) HostLoop.idx0)
      (HloOp.result _ (atTrip cond0 body0 (W0 m) k c) (Proc.devRef .tc main_while0c_c_15) HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option backward.isDefEq.respectTransparency.types false in
/-- The second loop's condition holds for its first 128 runs. -/
theorem cond1_spec : CondSpec (pcfgs (F := F)) defs₀ loops (main_while1_cond (F := F)) cond1 body1 (W1 m) 128 := by
  intro k hk c bd
  have hctr := (holds1_at m c k).n
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (W1 m) k c) (Proc.devRef .tc main_v85_6) HostLoop.idx0)
      (HloOp.result _ (atTrip cond1 body1 (W1 m) k c) (Proc.devRef .tc main_while1c_c_18) HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

/-- The reference's run: the result of the arguments, the arguments unchanged, every counter zero. -/
theorem run [∀ e, Nonempty (Elt F e)] : θ_run (Cert.ReferenceIdeal.defs (F := F)) (onTc (τ := τ) (main (F := F))) ⟨m, fun _ => 0, ρ⟩
    (fun r => (∀ c : Dev nD,
        r.2.mem ((c.tc : Thread nD τ).loc main_v106)
            = resultT (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0) := by
  refine (θ_run _ _ _).mono (fun r h => ⟨fun c => ?_, sem_eq_zero_of_no_sems rfl r.2⟩)
    (run_two pcfgs defs₀ loops main 0 1 _ _ _ _ rfl rfl preI body0 midI body1 postI cond0 cond1 plain_pre plain_body0 plain_mid
      plain_body1 plain_post (fun c => main_chain_windows c) while0_body_chain while1_body_chain 64 128 m ρ (W0 m) (W1 m) rfl rfl
      (cond0_spec m) (cond1_spec m))
  obtain ⟨ha, hr⟩ := post_reads (holds1_at m c 128)
  exact ⟨(h c main_v106 rfl).trans hr, (h c main_arg0 rfl).trans ha.a0, (h c main_arg1 rfl).trans ha.a1, (h c main_arg2 rfl).trans ha.a2,
    (h c main_arg3 rfl).trans ha.a3, (h c main_arg4 rfl).trans ha.a4⟩

end Cert.ReferenceIdeal.RefRun

end
-- ==== Proof.RefRead.lean ====
/-
  The reference's tensors read head by head, chunk by chunk.
-/
module

public import proofs.«01_k».proof.Proof.RefTerms
public import proofs.«01_k».proof.Proof.Data

@[expose] public section

noncomputable section

namespace Cert.ReferenceIdeal.Terms

open Idealize.ShloMosaic
open Cert.ReferenceIdeal Cert.ReferenceIdeal.Gen
open Cert.Delta (M tok qd kd vd zd hd)

/-- One head's chunk of a tensor as a matrix. -/
def m5 {k : ℕ} (x : FVec Ideal ⟨5, ![4, 16, 128, 64, k]⟩ .f32) (b : Fin 4) (h : Fin 16) (n : Fin 128) : M 64 k :=
  fun i d => x (ix5 b h n i d)

/-- The printed comparison of two positions, as a choice. -/
theorem select_sge (i j : Fin 64) (x y : EReal) :
    Scalar.select (IntOp.cmpi .sge (BitVec.ofNat 32 i.val) (BitVec.ofNat 32 j.val)) x y = if j ≤ i then x else y := by
  have h : ∀ i j : Fin 64, (IntOp.cmpi .sge (BitVec.ofNat 32 i.val) (BitVec.ofNat 32 j.val) = 1) ↔ j ≤ i := by decide +kernel
  unfold Scalar.select
  exact if_congr (h i j) rfl rfl

/-- The printed strict comparison of two positions, as a choice. -/
theorem select_sgt (i j : Fin 64) (x y : EReal) :
    Scalar.select (IntOp.cmpi .sgt (BitVec.ofNat 32 i.val) (BitVec.ofNat 32 j.val)) x y = if j < i then x else y := by
  have h : ∀ i j : Fin 64, (IntOp.cmpi .sgt (BitVec.ofNat 32 i.val) (BitVec.ofNat 32 j.val) = 1) ↔ j < i := by decide +kernel
  unfold Scalar.select
  exact if_congr (h i j) rfl rfl

/-- The printed equality of a position and a row's number, as a choice. -/
theorem select_eq (i j : Fin 64) (x y : EReal) :
    Scalar.select (IntOp.cmpi .eq (BitVec.ofNat 32 i.val) (Scf.iv 0#32 1#32 j.val)) x y = if i.val = j.val then x else y := by
  have h : ∀ i j : Fin 64, (IntOp.cmpi .eq (BitVec.ofNat 32 i.val) (Scf.iv 0#32 1#32 j.val) = 1) ↔ i.val = j.val := by decide +kernel
  unfold Scalar.select
  exact if_congr (h i j) rfl rfl

/-- The cumulative decays. -/
theorem gcT_read (a3) (b h n i) : gcT (F := Ideal) a3 (ix4 b h n i) = hd a3 b h n i := by
  unfold hd tok
  pointwise [gcT]

/-- The write strengths. -/
theorem betaT_read (a2) (b h n i u) : betaT (F := Ideal) a2 (ix5 b h n i u) = hd a2 b h n i := by
  unfold hd tok
  pointwise [betaT]

/-- The queries. -/
theorem qT_read (a0) (b h n) : m5 (qT (F := Ideal) a0) b h n = qd a0 b h n := by
  funext i d
  unfold m5 qd tok
  pointwise [qT, headsT]

/-- The keys. -/
theorem kT_read (a0) (b h n) : m5 (kT (F := Ideal) a0) b h n = kd a0 b h n := by
  funext i d
  unfold m5 kd tok
  pointwise [kT, headsT]

/-- The values. -/
theorem vT_read (a0) (b h n) : m5 (vT (F := Ideal) a0) b h n = vd a0 b h n := by
  funext i d
  unfold m5 vd tok
  pointwise [vT]

/-- The decay. -/
theorem decayT_read (a3) (b h n) : m5 (decayT (F := Ideal) a3) b h n = Delta.decay (hd a3 b h n) := by
  funext i j
  unfold m5 Delta.decay
  simp only [← gcT_read]
  pointwise [decayT, whereT, maskT]
  simp only [select_sge]
  by_cases hh : j ≤ i <;> simp [hh]

/-- Rows against rows. -/
theorem rowsT_read (x y) (b h n) : m5 (rowsT (F := Ideal) x y) b h n = fun i j => ∑ d, m5 x b h n i d * m5 y b h n j d := by
  funext i j
  unfold m5
  pointwise [rowsT]

/-- The scaled keys. -/
theorem kbT_read (a0 a2) (b h n) : m5 (kbT (F := Ideal) a0 a2) b h n = fun i d => kd a0 b h n i d * hd a2 b h n i := by
  funext i d
  rw [← kT_read, ← betaT_read a2 b h n i 0]
  unfold m5
  pointwise [kbT, wideT]

/-- The strictly lower triangular matrix. -/
theorem lmatT_read (a0 a2 a3) (b h n) :
    m5 (lmatT (F := Ideal) a0 a2 a3) b h n = Delta.lmat (kd a0 b h n) (hd a2 b h n) (hd a3 b h n) := by
  have e : ∀ i j, m5 (lmatT (F := Ideal) a0 a2 a3) b h n i j
      = if j < i then m5 (rowsT (kbT (F := Ideal) a0 a2) (kT a0)) b h n i j * m5 (decayT (F := Ideal) a3) b h n i j else 0 := by
    intro i j
    unfold m5
    pointwise [lmatT, whereT, maskT]
    rw [select_sgt]
  funext i j
  rw [e, rowsT_read, decayT_read, kbT_read, kT_read]; rfl

/-- The right sides. -/
theorem rhsT_read (a0 a2 a3) (b h n) :
    m5 (rhsT (F := Ideal) a0 a2 a3) b h n = Delta.rhs (kd a0 b h n) (vd a0 b h n) (hd a2 b h n) (hd a3 b h n) := by
  funext i j
  unfold Delta.rhs
  simp only [← vT_read, ← kT_read, ← betaT_read a2 b h n _ 0, ← gcT_read]
  unfold m5
  pointwise [rhsT, pairT, wideT, colT, kbT]

/-- One row of the forward substitution. -/
theorem solveStep_read (l r x) (j : Fin 64) (b h n) : m5 (solveStep (F := Ideal) l r j.val x) b h n
    = fun i c => if i.val = j.val then m5 r b h n i c - Delta.app (m5 l b h n) (m5 x b h n) i c else m5 x b h n i c := by
  funext i c
  unfold m5 Delta.app
  pointwise [solveStep, iiT]
  rw [select_eq]

/-- The forward substitution. -/
theorem solAt_read (l r) (j : ℕ) (hj : j ≤ 64) (b h n) :
    m5 (solAt (F := Ideal) l r j) b h n = Delta.fwd (m5 l b h n) (m5 r b h n) j := by
  induction j with
  | zero =>
    funext i c
    unfold m5 solAt Delta.fwd
    pointwise []
  | succ j ih =>
    have e := solveStep_read l r (solAt (F := Ideal) l r j) ⟨j, by omega⟩ b h n
    rw [show solAt (F := Ideal) l r (j + 1) = solveStep l r j (solAt l r j) from rfl, e, ih (by omega)]
    rfl

/-- A chunk's position along the first axis. -/
theorem clamp5 {k : ℕ} (j : Fin 128) (hh) : Host.clampedStart ⟨5, ![128, 4, 16, 64, k]⟩ ⟨5, ![1, 4, 16, 64, k]⟩ hh (at5 j.val) 0 = j.val := by
  refine Host.clampedStart_of_le _ _ _ _ ?_ ?_
  · have : ∀ j : Fin 128, (Scf.iv 0#32 1#32 j.val).toInt = (j.val : Int) := by decide +kernel
    exact this j
  · show j.val + 1 ≤ 128; omega

/-- The other axes begin at zero. -/
theorem clamp5' {k : ℕ} (j : ℕ) (hh) (a : Fin 5) (ha : a ≠ 0) :
    Host.clampedStart ⟨5, ![128, 4, 16, 64, k]⟩ ⟨5, ![1, 4, 16, 64, k]⟩ hh (at5 j) a = 0 := by
  refine Host.clampedStart_of_le _ _ _ _ ?_ ?_
  · fin_cases a
    · exact absurd rfl ha
    all_goals rfl
  · fin_cases a
    · exact absurd rfl ha
    all_goals exact Nat.le_of_eq (Nat.zero_add _)

/-- One chunk of a chunks-first tensor. -/
theorem pickT_read (x) (j : Fin 128) (b h i d) : pickT (F := Ideal) x j.val (ix4 b h i d) = x (ix5 j b h i d) := by
  pointwise [pickT]
  simp only [clamp5 j, clamp5' j.val _ 1 (by decide), clamp5' j.val _ 2 (by decide), clamp5' j.val _ 3 (by decide), clamp5' j.val _ 4 (by decide), Nat.zero_add]

/-- One chunk of a chunks-first square tensor. -/
theorem pick64T_read (x) (j : Fin 128) (b h i d) : pick64T (F := Ideal) x j.val (ix4 b h i d) = x (ix5 j b h i d) := by
  pointwise [pick64T]
  simp only [clamp5 j, clamp5' j.val _ 1 (by decide), clamp5' j.val _ 2 (by decide), clamp5' j.val _ 3 (by decide), clamp5' j.val _ 4 (by decide), Nat.zero_add]

/-- One chunk's decay. -/
theorem pickDT_read (x) (j : Fin 128) (b h) : pickDT (F := Ideal) x j.val (ix2 b h) = x (ix3 j b h) := by
  have h0 (hh) : Host.clampedStart S128x4x16 S1x4x16 hh (at3 j.val) 0 = j.val := by
    refine Host.clampedStart_of_le _ _ _ _ ?_ ?_
    · have : ∀ j : Fin 128, (Scf.iv 0#32 1#32 j.val).toInt = (j.val : Int) := by decide +kernel
      exact this j
    · show j.val + 1 ≤ 128; omega
  have h1 (hh) : Host.clampedStart S128x4x16 S1x4x16 hh (at3 j.val) 1 = 0 :=
    Host.clampedStart_of_le _ _ _ _ rfl (Nat.le_of_eq (Nat.zero_add _))
  have h2 (hh) : Host.clampedStart S128x4x16 S1x4x16 hh (at3 j.val) 2 = 0 :=
    Host.clampedStart_of_le _ _ _ _ rfl (Nat.le_of_eq (Nat.zero_add _))
  pointwise [pickDT]
  simp only [h0, h1, h2, Nat.zero_add]

/-- What the scan's tensors hold of a chunk. -/
theorem xs_u (a0 a2 a3) (b h) (n : Fin 128) (i : Fin 64) (c : Fin 128) : (xsT (F := Ideal) a0 a2 a3).u (ix5 n b h i c)
    = Delta.xd (fun l x => Delta.fwd l x 64) a0 a2 a3 b h n i ⟨c.val, by omega⟩ := by
  unfold Delta.xd
  rw [← lmatT_read, ← rhsT_read]
  dsimp only
  rw [← solAt_read _ _ 64 (le_refl _)]
  unfold m5
  pointwise [xsT, uT, firstT]

theorem xs_w (a0 a2 a3) (b h) (n : Fin 128) (i : Fin 64) (c : Fin 128) : (xsT (F := Ideal) a0 a2 a3).w (ix5 n b h i c)
    = Delta.xd (fun l x => Delta.fwd l x 64) a0 a2 a3 b h n i ⟨128 + c.val, by omega⟩ := by
  unfold Delta.xd
  rw [← lmatT_read, ← rhsT_read]
  dsimp only
  rw [← solAt_read _ _ 64 (le_refl _)]
  unfold m5
  pointwise [xsT, wT, firstT]

theorem xs_q (a0 a2 a3) (b h) (n : Fin 128) (i : Fin 64) (d : Fin 128) : (xsT (F := Ideal) a0 a2 a3).q (ix5 n b h i d)
    = qd a0 b h n i d * Ideal.exp (hd a3 b h n i) := by
  rw [← gcT_read, ← qT_read]
  unfold m5
  pointwise [xsT, qdecT, firstT, wideT, colT]

theorem xs_k (a0 a2 a3) (b h) (n : Fin 128) (i : Fin 64) (d : Fin 128) : (xsT (F := Ideal) a0 a2 a3).k (ix5 n b h i d)
    = kd a0 b h n i d * Ideal.exp (hd a3 b h n 63 - hd a3 b h n i) := by
  rw [← gcT_read, ← gcT_read, ← kT_read]
  unfold m5
  pointwise [xsT, kdecT, firstT, wideT, colT, lastT]

theorem xs_a (a0 a2 a3) (b h) (n : Fin 128) (i j : Fin 64) : (xsT (F := Ideal) a0 a2 a3).a (ix5 n b h i j)
    = (∑ d, qd a0 b h n i d * kd a0 b h n j d) * Delta.decay (hd a3 b h n) i j := by
  rw [← decayT_read, ← qT_read, ← kT_read]
  have e := congrFun (congrFun (rowsT_read (qT (F := Ideal) a0) (kT a0) b h n) i) j
  rw [← e]
  unfold m5
  pointwise [xsT, attnT]

theorem xs_d (a0 a2 a3) (b h) (n : Fin 128) : (xsT (F := Ideal) a0 a2 a3).d (ix3 n b h) = Ideal.exp (hd a3 b h n 63) := by
  rw [← gcT_read]
  pointwise [xsT, cdecT, lastT]

/-- A head's matrix of a batched tensor. -/
def m4 {m k : ℕ} (x : FVec Ideal ⟨4, ![4, 16, m, k]⟩ .f32) (b : Fin 4) (h : Fin 16) : M m k := fun i d => x (ix4 b h i d)

/-- What a chunk writes. -/
theorem vnewT_read (a0 a2 a3) (n : Fin 128) (s) (b h) : m4 (vnewT (xsT (F := Ideal) a0 a2 a3) n.val s) b h
    = Delta.vnew (Delta.xd (fun l x => Delta.fwd l x 64) a0 a2 a3 b h n) (m4 s b h) := by
  funext i c
  unfold Delta.vnew
  simp only [← xs_u, ← xs_w, ← pickT_read]
  unfold m4
  pointwise [vnewT]

/-- The state after a chunk. -/
theorem stateT_read (a0 a2 a3) (n : Fin 128) (s) (b h) : m4 (stateT (xsT (F := Ideal) a0 a2 a3) n.val s) b h
    = Delta.next (kd a0 b h n) (hd a3 b h n) (Delta.xd (fun l x => Delta.fwd l x 64) a0 a2 a3 b h n) (m4 s b h) := by
  funext i c
  unfold Delta.next
  simp only [← vnewT_read, ← xs_k a0 a2 a3, ← xs_d a0 a2 a3, ← pickT_read, ← pickDT_read]
  unfold m4
  pointwise [stateT]

/-- A chunk's output. -/
theorem outT_read (a0 a2 a3) (n : Fin 128) (s) (b h) : m4 (outT (xsT (F := Ideal) a0 a2 a3) n.val s) b h
    = Delta.raw (qd a0 b h n) (kd a0 b h n) (hd a3 b h n) (Delta.xd (fun l x => Delta.fwd l x 64) a0 a2 a3 b h n) (m4 s b h) := by
  funext i c
  unfold Delta.raw
  simp only [← vnewT_read, ← xs_q a0 a2 a3, ← xs_a a0 a2 a3, ← pickT_read, ← pick64T_read]
  unfold m4
  pointwise [outT]

/-- The state before a chunk. -/
theorem stateAt_read (a0 a2 a3) (n : ℕ) (hn : n ≤ 128) (b h) : m4 (stateAt (xsT (F := Ideal) a0 a2 a3) n) b h
    = Delta.stateSeq (fun l x => Delta.fwd l x 64) a0 a2 a3 b h n := by
  induction n with
  | zero =>
    funext i c
    unfold m4 stateAt Delta.stateSeq
    pointwise []
  | succ n ih =>
    have e := stateT_read a0 a2 a3 ⟨n, by omega⟩ (stateAt (xsT (F := Ideal) a0 a2 a3) n) b h
    rw [show stateAt (xsT (F := Ideal) a0 a2 a3) (n + 1) = stateT (xsT a0 a2 a3) n (stateAt (xsT a0 a2 a3) n) from rfl, e,
      ih (by omega), Delta.stateSeq_succ _ _ _ _ _ _ ⟨n, by omega⟩]

/-- One chunk of the outputs replaced, at an index. -/
theorem put_read (o : FVec Ideal S128x4x16x64x128 .f32) (u : FVec Ideal S4x16x64x128 .f32) (m n : Fin 128) (b h i c) :
    Host.dynamicUpdateSlice o (broadcastInDim S1x4x16x64x128 ![1, 2, 3, 4]
        bcast_S4x16x64x128_S1x4x16x64x128_1_2_3_4 u) (at5 m.val) updateFits_S128x4x16x64x128_S1x4x16x64x128 (ix5 n b h i c)
      = if n = m then u (ix4 b h i c) else o (ix5 n b h i c) := by
  have hv : ∀ j, broadcastInDim S1x4x16x64x128 ![1, 2, 3, 4] bcast_S4x16x64x128_S1x4x16x64x128_1_2_3_4 u (ix5 j b h i c)
      = u (ix4 b h i c) := by
    intro j
    pointwise []
  rw [Host.dynamicUpdateSlice_apply]
  generalize broadcastInDim S1x4x16x64x128 ![1, 2, 3, 4] bcast_S4x16x64x128_S1x4x16x64x128_1_2_3_4 u = v at *
  have hq : ∀ a, Host.clampedStart S128x4x16x64x128 S1x4x16x64x128 updateFits_S128x4x16x64x128_S1x4x16x64x128.1 (at5 m.val) a
      = (![m.val, 0, 0, 0, 0] : Fin 5 → ℕ) a := by
    intro a
    fin_cases a
    · exact clamp5 (k := 128) m _
    · exact clamp5' (k := 128) m.val _ 1 (by decide)
    · exact clamp5' (k := 128) m.val _ 2 (by decide)
    · exact clamp5' (k := 128) m.val _ 3 (by decide)
    · exact clamp5' (k := 128) m.val _ 4 (by decide)
  by_cases he : n = m
  · subst he
    rw [if_pos rfl, dif_pos, ← hv 0]
    · refine congrArg v ?_
      funext a
      apply Fin.ext
      fin_cases a
      · exact (congrArg (fun q => n.val - q) (hq 0)).trans (Nat.sub_self n.val)
      · exact congrArg (fun q => b.val - q) (hq 1)
      · exact congrArg (fun q => h.val - q) (hq 2)
      · exact congrArg (fun q => i.val - q) (hq 3)
      · exact congrArg (fun q => c.val - q) (hq 4)
    · intro a
      fin_cases a
      · exact ⟨(hq 0).trans_le (le_refl n.val), lt_of_lt_of_eq (Nat.lt_succ_self n.val) (congrArg (fun q => q + 1) (hq 0).symm)⟩
      · exact ⟨(hq 1).trans_le (Nat.zero_le _), lt_of_lt_of_eq (b := 0 + 4) (by show b.val < 0 + 4; omega) (congrArg (fun q => q + 4) (hq 1).symm)⟩
      · exact ⟨(hq 2).trans_le (Nat.zero_le _), lt_of_lt_of_eq (b := 0 + 16) (by show h.val < 0 + 16; omega) (congrArg (fun q => q + 16) (hq 2).symm)⟩
      · exact ⟨(hq 3).trans_le (Nat.zero_le _), lt_of_lt_of_eq (b := 0 + 64) (by show i.val < 0 + 64; omega) (congrArg (fun q => q + 64) (hq 3).symm)⟩
      · exact ⟨(hq 4).trans_le (Nat.zero_le _), lt_of_lt_of_eq (b := 0 + 128) (by show c.val < 0 + 128; omega) (congrArg (fun q => q + 128) (hq 4).symm)⟩
  · rw [if_neg he, dif_neg]
    intro hh
    have h1 : m.val ≤ n.val := (hq 0).symm.trans_le (hh 0).1
    have h2 : n.val < m.val + 1 := lt_of_lt_of_eq (hh 0).2 (congrArg (fun q => q + 1) (hq 0))
    exact he (Fin.ext (by omega))

/-- The outputs after the first chunks hold each of those chunks' output. -/
theorem outsAt_read (x : Xs Ideal) (m : ℕ) (hm : m ≤ 128) (n : Fin 128) (hn : n.val < m) (b h i c) :
    outsAt x m (ix5 n b h i c) = outT x n.val (stateAt x n.val) (ix4 b h i c) := by
  induction m with
  | zero => omega
  | succ m ih =>
    refine (put_read (outsAt x m) (outT x m (stateAt x m)) ⟨m, by omega⟩ n b h i c).trans ?_
    by_cases he : n.val = m
    · rw [if_pos (Fin.ext he), he]
    · rw [if_neg (fun e => he (congrArg Fin.val e)), ih (by omega) (by omega)]

/-- The output of a chunk, batched. -/
theorem outs_read (a0 a2 a3) (b h) (n : Fin 128) (i : Fin 64) (c : Fin 128) :
    outsAt (xsT (F := Ideal) a0 a2 a3) 128 (ix5 n b h i c)
      = Delta.raw (qd a0 b h n) (kd a0 b h n) (hd a3 b h n) (Delta.xd (fun l x => Delta.fwd l x 64) a0 a2 a3 b h n)
          (Delta.stateSeq (fun l x => Delta.fwd l x 64) a0 a2 a3 b h n.val) i c := by
  rw [outsAt_read _ 128 (le_refl _) n n.isLt, ← stateAt_read _ _ _ _ (by omega), ← outT_read]
  rfl

/-- The gated normalisation. -/
theorem closeT_read (o a1 a4) (b : Fin 4) (h : Fin 16) (n : Fin 128) (i : Fin 64) (c : Fin 128) (y : S4x8192x2048.Idx)
    (h0 : y 0 = b) (h1 : (y 1).val = n.val * 64 + i.val) (h2 : (y 2).val = h.val * 128 + c.val) :
    closeT (F := Ideal) o a1 a4 y
      = Delta.close (fun c => o (ix5 n b h i c)) (zd a1 b h n i) (fun d => a4 (ix1 d)) c := by
  have e1 : (y 1).val / 64 = n.val := by omega
  have e2 : (y 1).val % 64 = i.val := by omega
  have e3 : (y 2).val / 128 = h.val := by omega
  have e4 : (y 2).val % 128 = c.val := by omega
  have e5 : y 2 = (⟨h.val * 128 + c.val, by omega⟩ : Fin 2048) := Fin.ext h2
  unfold Delta.close zd tok
  pointwise [closeT, normT, gateT, tokensT]
  simp only [e1, e2, e3, e4, h0, Fin.eta]
  simp only [h1, e5]

/-- **The reference's value** at the ideal numbers. -/
theorem resultT_read (a0 a1 a2 a3 a4) : resultT (F := Ideal) a0 a1 a2 a3 a4 = Delta.result (fun l x => Delta.fwd l x 64) a0 a1 a2 a3 a4 := by
  funext y
  have h1 : (y 1).val < 8192 := (y 1).isLt
  have h2 : (y 2).val < 2048 := (y 2).isLt
  unfold resultT Delta.result Delta.rowsOf
  rw [closeT_read _ _ _ (y 0) ⟨(y 2).val / 128, by omega⟩ ⟨(y 1).val / 64, by omega⟩ ⟨(y 1).val % 64, by omega⟩
    ⟨(y 2).val % 128, by omega⟩ y rfl (by dsimp only; omega) (by dsimp only; omega)]
  congr 1
  funext c
  exact outs_read _ _ _ _ _ _ _ _

end Cert.ReferenceIdeal.Terms
-- ==== Proof.Solve.lean ====
/-
  The two solves agree on real numbers: repeated squaring and forward substitution both give the solution of (I + L) y = x, where
  L is strictly lower triangular.
-/
module

public import proofs.«01_k».proof.Proof.Delta
public import Mathlib.Data.Matrix.Mul
public import Mathlib.Data.EReal.Basic
public import Mathlib.Data.EReal.Operations
public import Mathlib.Tactic.NoncommRing

@[expose] public section

noncomputable section

namespace Cert.Delta

open Matrix

/-- A real matrix among the extended reals. -/
def up {m n : ℕ} (a : Matrix (Fin m) (Fin n) ℝ) : M m n := fun i j => ((a i j : ℝ) : EReal)

/-- The sum of real numbers among the extended reals. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The product of real matrices. -/
theorem app_up {m n p : ℕ} (a : Matrix (Fin m) (Fin n) ℝ) (b : Matrix (Fin n) (Fin p) ℝ) : app (up a) (up b) = up (a * b) := by
  funext i j
  unfold app up
  rw [Matrix.mul_apply, coe_sum]
  exact Finset.sum_congr rfl fun k _ => (EReal.coe_mul _ _).symm

/-- One doubling of real matrices. -/
theorem dbl_up (a : Matrix (Fin 64) (Fin 64) ℝ) (x : Matrix (Fin 64) (Fin 256) ℝ) : dbl (up a) (up x) = up ((1 + a) * x) := by
  funext i j
  unfold dbl
  rw [app_up, Matrix.add_mul, Matrix.one_mul]
  exact (EReal.coe_add _ _).symm

/-- The solve by repeated squaring, of real matrices. -/
theorem sol_up (a : Matrix (Fin 64) (Fin 64) ℝ) (x : Matrix (Fin 64) (Fin 256) ℝ) :
    sol (up a) (up x) = up ((1 + a ^ 32) * ((1 + a ^ 16) * ((1 + a ^ 8) * ((1 + a ^ 4) * ((1 + a ^ 2) * ((1 - a) * x)))))) := by
  have e : (fun i c => up x i c - app (up a) (up x) i c) = up ((1 - a) * x) := by
    funext i j
    rw [app_up, Matrix.sub_mul, Matrix.one_mul]
    exact (EReal.coe_sub _ _).symm
  unfold sol
  dsimp only
  rw [e]
  simp only [app_up, dbl_up]
  have h2 : a * a = a ^ 2 := (sq a).symm
  have h4 : a ^ 2 * a ^ 2 = a ^ 4 := by rw [← pow_add]
  have h8 : a ^ 4 * a ^ 4 = a ^ 8 := by rw [← pow_add]
  have h16 : a ^ 8 * a ^ 8 = a ^ 16 := by rw [← pow_add]
  have h32 : a ^ 16 * a ^ 16 = a ^ 32 := by rw [← pow_add]
  rw [h2, h4, h8, h16, h32]

/-- A power of a strictly lower triangular matrix vanishes on more and more diagonals. -/
theorem pow_lower (a : Matrix (Fin 64) (Fin 64) ℝ) (h : ∀ i j, i ≤ j → a i j = 0) (n : ℕ) (i j : Fin 64) (hij : i.val < j.val + n) :
    (a ^ n) i j = 0 := by
  induction n generalizing i with
  | zero => rw [pow_zero, Matrix.one_apply_ne]; intro e; subst e; omega
  | succ n ih =>
    rw [pow_succ', Matrix.mul_apply]
    refine Finset.sum_eq_zero fun k _ => ?_
    by_cases hk : i ≤ k
    · rw [h i k hk, zero_mul]
    · rw [ih k (by have : k.val < i.val := by rw [Fin.le_def] at hk; omega
                   omega), mul_zero]

/-- What repeated squaring leaves solves the system. -/
theorem solves (a : Matrix (Fin 64) (Fin 64) ℝ) (h : ∀ i j, i ≤ j → a i j = 0) (x : Matrix (Fin 64) (Fin 256) ℝ)
    (y : Matrix (Fin 64) (Fin 256) ℝ)
    (hy : y = (1 + a ^ 32) * ((1 + a ^ 16) * ((1 + a ^ 8) * ((1 + a ^ 4) * ((1 + a ^ 2) * ((1 - a) * x)))))) : y = x - a * y := by
  have h64 : a ^ 64 = 0 := by
    ext i j
    exact pow_lower a h 64 i j (by omega)
  have hp : (1 + a) * ((1 + a ^ 32) * ((1 + a ^ 16) * ((1 + a ^ 8) * ((1 + a ^ 4) * ((1 + a ^ 2) * (1 - a)))))) = 1 - a ^ 64 := by
    noncomm_ring
  have hxy : (1 + a) * y = x := by
    subst hy
    calc _ = ((1 + a) * ((1 + a ^ 32) * ((1 + a ^ 16) * ((1 + a ^ 8) * ((1 + a ^ 4) * ((1 + a ^ 2) * (1 - a))))))) * x := by
            simp only [Matrix.mul_assoc]
      _ = x := by rw [hp, h64, sub_zero, Matrix.one_mul]
  rw [Matrix.add_mul, Matrix.one_mul] at hxy
  exact eq_sub_of_add_eq hxy

/-- Forward substitution finds the solution row by row. -/
theorem fwd_up (a : Matrix (Fin 64) (Fin 64) ℝ) (h : ∀ i j, i ≤ j → a i j = 0) (x y : Matrix (Fin 64) (Fin 256) ℝ)
    (hy : y = x - a * y) (n : ℕ) : fwd (up a) (up x) n = fun i c => if i.val < n then up y i c else 0 := by
  induction n with
  | zero => funext i c; simp [fwd]
  | succ n ih =>
    funext i c
    show (if i.val = n then up x i c - app (up a) (fwd (up a) (up x) n) i c else fwd (up a) (up x) n i c) = _
    rw [ih]
    by_cases hi : i.val = n
    · rw [if_pos hi, if_pos (by omega)]
      have e : app (up a) (fun i c => if i.val < n then up y i c else 0) i c = app (up a) (up y) i c := by
        unfold app
        refine Finset.sum_congr rfl fun k _ => ?_
        by_cases hk : k.val < n
        · simp only [if_pos hk]
        · have : up a i k = 0 := by
            unfold up; rw [h i k (by rw [Fin.le_def]; omega)]; rfl
          rw [this, zero_mul, zero_mul]
      rw [e, app_up]
      have := congrFun (congrFun hy i) c
      unfold up
      rw [this, Matrix.sub_apply, EReal.coe_sub]
    · rw [if_neg hi]
      show (if i.val < n then up y i c else 0) = _
      by_cases hk : i.val < n
      · rw [if_pos hk, if_pos (by omega)]
      · rw [if_neg hk, if_neg (by omega)]

/-- On real numbers the two solves agree. -/
theorem sol_eq_fwd (l : M 64 64) (x : M 64 256) (hl : ∀ i j, ∃ r : ℝ, l i j = r) (hx : ∀ i c, ∃ r : ℝ, x i c = r)
    (h : ∀ i j, i ≤ j → l i j = 0) : sol l x = fwd l x 64 := by
  choose a ha using hl
  choose b hb using hx
  obtain rfl : l = up (Matrix.of a) := by funext i j; exact ha i j
  obtain rfl : x = up (Matrix.of b) := by funext i j; exact hb i j
  have hz : ∀ i j, i ≤ j → Matrix.of a i j = 0 := fun i j hij => by
    have := h i j hij
    unfold up at this
    exact_mod_cast this
  rw [sol_up, fwd_up _ hz _ _ (solves _ hz _ _ rfl)]
  funext i c
  rw [if_pos i.isLt]

/-- The chunk's triangular matrix and right sides are real when its entries are: the two solves of the chunk agree. -/
theorem sol_chunk (k v : M 64 128) (b g : Fin 64 → EReal) (hk : ∀ i d, ∃ r : ℝ, k i d = r) (hv : ∀ i d, ∃ r : ℝ, v i d = r)
    (hb : ∀ i, ∃ r : ℝ, b i = r) (hg : ∀ i, ∃ r : ℝ, g i = r) :
    sol (lmat k b g) (rhs k v b g) = fwd (lmat k b g) (rhs k v b g) 64 := by
  choose k' hk using hk
  choose v' hv using hv
  choose b' hb using hb
  choose g' hg using hg
  refine sol_eq_fwd _ _ (fun i j => ?_) (fun i c => ?_) (fun i j hij => ?_)
  · unfold lmat decay
    by_cases h : j < i
    · rw [if_pos h, if_pos (le_of_lt h)]
      refine ⟨(∑ d, (k' i d * b' i) * k' j d) * Real.exp (g' i - g' j), ?_⟩
      rw [EReal.coe_mul, coe_sum, hg i, hg j, ← EReal.coe_sub, Idealize.ShloMosaic.Ideal.exp_coe]
      congr 1
      refine Finset.sum_congr rfl fun d _ => ?_
      rw [hk, hk, hb, EReal.coe_mul, EReal.coe_mul]
    · exact ⟨0, by rw [if_neg h]; rfl⟩
  · unfold rhs
    by_cases h : c.val < 128
    · rw [dif_pos h]
      exact ⟨v' i ⟨c.val, h⟩ * b' i, by rw [hv, hb, EReal.coe_mul]⟩
    · rw [dif_neg h]
      exact ⟨(k' i ⟨c.val - 128, by omega⟩ * b' i) * Real.exp (g' i), by
        rw [hk, hb, hg, Idealize.ShloMosaic.Ideal.exp_coe, EReal.coe_mul, EReal.coe_mul]⟩
  · unfold lmat
    rw [if_neg (not_lt.mpr hij)]

end Cert.Delta
-- ==== Proof.Result.lean ====
/-
  On real arguments a chunk's doubling solution is its forward substitution, so the two results are one.
-/
module

public import proofs.«01_k».proof.Proof.Data
public import proofs.«01_k».proof.Proof.Solve

@[expose] public section

noncomputable section

namespace Cert.Delta

open Idealize.ShloMosaic

/-- The forward substitution of a chunk. -/
abbrev forward : Solver := fun l x => fwd l x 64

/-- A chunk's two solutions agree on real arguments. -/
theorem xd_eq (a0 : FVec Ideal ⟨2, ![32768, 4096]⟩ .f32) (a2 a3 : FVec Ideal ⟨2, ![32768, 16]⟩ .f32)
    (h0 : ∀ i, ∃ r : ℝ, a0 i = r) (h2 : ∀ i, ∃ r : ℝ, a2 i = r) (h3 : ∀ i, ∃ r : ℝ, a3 i = r) (b : Fin 4) (h : Fin 16) (n : Fin 128) :
    xd sol a0 a2 a3 b h n = xd forward a0 a2 a3 b h n :=
  sol_chunk _ _ _ _ (fun _ _ => h0 _) (fun _ _ => h0 _) (fun _ => h2 _) (fun _ => h3 _)

/-- So do the states. -/
theorem stateSeq_eq (a0 : FVec Ideal ⟨2, ![32768, 4096]⟩ .f32) (a2 a3 : FVec Ideal ⟨2, ![32768, 16]⟩ .f32)
    (h0 : ∀ i, ∃ r : ℝ, a0 i = r) (h2 : ∀ i, ∃ r : ℝ, a2 i = r) (h3 : ∀ i, ∃ r : ℝ, a3 i = r) (b : Fin 4) (h : Fin 16) (n : ℕ) :
    stateSeq sol a0 a2 a3 b h n = stateSeq forward a0 a2 a3 b h n := by
  induction n with
  | zero => rfl
  | succ n ih =>
    unfold stateSeq
    rw [ih]
    by_cases hn : n < 128
    · rw [dif_pos hn, dif_pos hn, xd_eq a0 a2 a3 h0 h2 h3]
    · rw [dif_neg hn, dif_neg hn]

/-- **The two results agree** on real arguments. -/
theorem result_eq (a0 : FVec Ideal ⟨2, ![32768, 4096]⟩ .f32) (a1 : FVec Ideal ⟨2, ![32768, 2048]⟩ .f32)
    (a2 a3 : FVec Ideal ⟨2, ![32768, 16]⟩ .f32) (a4 : FVec Ideal ⟨1, ![128]⟩ .f32)
    (h0 : ∀ i, ∃ r : ℝ, a0 i = r) (h2 : ∀ i, ∃ r : ℝ, a2 i = r) (h3 : ∀ i, ∃ r : ℝ, a3 i = r) :
    result sol a0 a1 a2 a3 a4 = result forward a0 a1 a2 a3 a4 := by
  have e : ∀ b h n, rowsOf sol a0 a1 a2 a3 a4 b h n = rowsOf forward a0 a1 a2 a3 a4 b h n := by
    intro b h n
    unfold rowsOf
    rw [xd_eq a0 a2 a3 h0 h2 h3, stateSeq_eq a0 a2 a3 h0 h2 h3]
  funext y
  exact congrFun (congrFun (e _ _ _) _) _

end Cert.Delta
-- ==== Proof.Finite.lean ====
/-
  What the precondition says of the arguments: every entry of three of them is a real number.
-/
module

public import proofs.«01_k».proof.Pre_finite
public import Idealize.ShloMosaic.Lib.ReduceAll
public import Idealize.ShloMosaic.Lib.Pointwise

@[expose] public section

noncomputable section

namespace Cert.Pre_finite

open Idealize.ShloMosaic

/-- The shape relations of the precondition's operations. -/
theorem facts : Facts where
  bcast_S_S32768x4096 := by decide
  reducesTo_S32768x4096_S_d0_1 := by decide
  h_S_ := by decide
  bcast_S_S32768x16 := by decide
  reducesTo_S32768x16_S_d0_1 := by decide

instance : Subsingleton S_.Idx := ⟨fun a b => funext fun i => i.elim0⟩

/-- The bits of infinity. -/
theorem bits_inf : Ideal.ofBits .f32 0x7F800000#32 = (⊤ : EReal) := by
  simp [Ideal.ofBits, Ideal.ieee]

/-- A number whose absolute value is below infinity is a real number. -/
theorem real_of_lt (x : EReal) (h : Ideal.cmp .olt (max x (-x)) (Ideal.ofBits .f32 0x7F800000#32) = 1#1) : ∃ r : ℝ, x = r := by
  rw [bits_inf] at h
  induction x with
  | bot => simp [Ideal.cmp] at h
  | top => simp [Ideal.cmp] at h
  | coe r => exact ⟨r, rfl⟩

variable [Facts]

/-- Under the precondition the entries of the first, third and fourth argument are real numbers. -/
theorem finite (a0 a1 a2 a3 a4) (h : fn (F := Ideal) a0 a1 a2 a3 a4 = fun _ => 1#1) :
    (∀ i, ∃ r : ℝ, a0 i = r) ∧ (∀ i, ∃ r : ℝ, a2 i = r) ∧ (∀ i, ∃ r : ℝ, a3 i = r) := by
  have e := congrFun h ((fun i => i.elim0 : S_.Idx))
  dsimp only [fn] at e
  obtain ⟨e01, e2⟩ := IntOp.andi_eq_one.1 e
  obtain ⟨e0, e1⟩ := IntOp.andi_eq_one.1 e01
  refine ⟨fun i => ?_, fun i => ?_, fun i => ?_⟩
  · exact real_of_lt _ (Host.reduce_andi_all _ _ _ _ _ e0 i)
  · exact real_of_lt _ (Host.reduce_andi_all _ _ _ _ _ e1 i)
  · exact real_of_lt _ (Host.reduce_andi_all _ _ _ _ _ e2 i)

end Cert.Pre_finite
-- ==== Proof.Norm.lean ====
/-
  The output projection with the residual and the layer norm over the extended reals: what both layers' calls compute.
-/
module

public import Idealize.ShloMosaic.Lib.Pointwise

@[expose] public section

noncomputable section

namespace Cert.Norm

open Idealize.ShloMosaic

/-- The mean of a row. -/
def mean (y : Fin 1024 → EReal) : EReal := Ideal.div (∑ k, y k) (Ideal.ofBits .f32 0x44800000#32)

/-- The layer norm of a row `y` with weights `g` and offsets `b`. -/
def ln (y g b : Fin 1024 → EReal) : Fin 1024 → EReal := fun j =>
  (y j - mean y) * Ideal.rsqrt (mean (fun k => (y k - mean y) * (y k - mean y)) + Ideal.ofBits .f32 0x3727C5AC#32) * g j + b j

/-- The scaled residual plus what the mixer adds. -/
def resid (x mix : Fin 1024 → EReal) : Fin 1024 → EReal := fun j => Ideal.ofBits .f32 0x3FB504F3#32 * x j + mix j

/-- The result of the DeltaNet layer's output projection. -/
def out2 (o : FVec Ideal ⟨2, ![32768, 2048]⟩ .bf16) (w : FVec Ideal ⟨2, ![2048, 1024]⟩ .f32) (x : FVec Ideal ⟨2, ![32768, 1024]⟩ .f32)
    (g b : FVec Ideal ⟨1, ![1024]⟩ .f32) (r : Fin 32768) : Fin 1024 → EReal :=
  ln (resid (fun j => x (ix2 r j)) fun j => ∑ k, o (ix2 r k) * w (ix2 k j)) (fun j => g (ix1 j)) (fun j => b (ix1 j))

/-- The result of the attention layer's output projection: the two attentions' columns are side by side. -/
def out3 (oa ob : FVec Ideal ⟨2, ![32768, 512]⟩ .bf16) (w : FVec Ideal ⟨2, ![1024, 1024]⟩ .f32) (x : FVec Ideal ⟨2, ![32768, 1024]⟩ .f32)
    (g b : FVec Ideal ⟨1, ![1024]⟩ .f32) (r : Fin 32768) : Fin 1024 → EReal :=
  ln (resid (fun j => x (ix2 r j)) fun j => (∑ k : Fin 512, oa (ix2 r k) * w (ix2 ⟨k.val, by omega⟩ j))
    + ∑ k : Fin 512, ob (ix2 r k) * w (ix2 ⟨512 + k.val, by omega⟩ j)) (fun j => g (ix1 j)) (fun j => b (ix1 j))

end Cert.Norm
-- ==== Proof.Out2.lean ====
/-
  The DeltaNet layer's output projection: the kernel's result array and the reference's result are the same function of the
  arguments.
-/
module

public import proofs.«01_k».proof.Proof.Norm
public import proofs.«01_k».proof.Proof.Gen.Kernel2Ideal.Value
public import proofs.«01_k».proof.Proof.Gen.Reference2Ideal.Run
public import Idealize.ShloMosaic.Lib.Claim
public import Idealize.ShloMosaic.Lib.Pipeline.ValueKit.Point

@[expose] public section

noncomputable section

namespace Cert.Kernel2Ideal.Out

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- What the body stores, at a row and a column. -/
theorem pay_read (o : Vec Ideal S512x2048 .bf16) (w : Vec Ideal S2048x1024 .bf16) (x : Vec Ideal S512x1024 .f32)
    (g b : Vec Ideal S1x1024 .f32) (r : Fin 512) (j : Fin 1024) :
    k0_pay1 o w x g b (ix2 r j) = Norm.ln (Norm.resid (fun j => x (ix2 r j)) fun j => ∑ k : Fin 2048, o (ix2 r k) * w (ix2 k j))
      (fun j => g (ix2 0 j)) (fun j => b (ix2 0 j)) j := by
  unfold Norm.ln Norm.resid Norm.mean
  pointwise [k0_pay1]

/-- The block the body leaves, at a row and a column. -/
theorem out_read (o : Vec Ideal S512x2048 .bf16) (w : Vec Ideal S2048x1024 .bf16) (x : Vec Ideal S512x1024 .f32)
    (g b : Vec Ideal S1x1024 .f32) (r : Fin 512) (j : Fin 1024) :
    out0_5 o w x g b (ix2 r j) = Norm.ln (Norm.resid (fun j => x (ix2 r j)) fun j => ∑ k : Fin 2048, o (ix2 r k) * w (ix2 k j))
      (fun j => g (ix2 0 j)) (fun j => b (ix2 0 j)) j := by
  have e : out0_5 o w x g b = k0_pay1 o w x g b := by frame_out
  rw [e, pay_read]

/-- The block indices of the mixer's output. -/
theorem idx0 : ∀ (t : Fin cfg0.N) a, (cfg0.win 0).index t a = ![t.val, 0] a :=
  (by decide +kernel : ∀ (t : Fin grid0.N) a, win0_0.index t a = ![t.val, 0] a)
/-- The block index of the weights. -/
theorem idx1 : ∀ (t : Fin cfg0.N) a, (cfg0.win 1).index t a = ![0, 0] a :=
  (by decide +kernel : ∀ (t : Fin grid0.N) a, win0_1.index t a = ![0, 0] a)
/-- The block indices of the residual. -/
theorem idx2 : ∀ (t : Fin cfg0.N) a, (cfg0.win 2).index t a = ![t.val, 0] a :=
  (by decide +kernel : ∀ (t : Fin grid0.N) a, win0_2.index t a = ![t.val, 0] a)
/-- The block index of the norm's weights. -/
theorem idx3 : ∀ (t : Fin cfg0.N) a, (cfg0.win 3).index t a = ![0, 0] a :=
  (by decide +kernel : ∀ (t : Fin grid0.N) a, win0_3.index t a = ![0, 0] a)
/-- The block index of the norm's offsets. -/
theorem idx4 : ∀ (t : Fin cfg0.N) a, (cfg0.win 4).index t a = ![0, 0] a :=
  (by decide +kernel : ∀ (t : Fin grid0.N) a, win0_4.index t a = ![0, 0] a)
/-- The block indices of the result. -/
theorem idx5 : ∀ (t : Fin cfg0.N) a, (cfg0.win 5).index t a = ![t.val, 0] a :=
  (by decide +kernel : ∀ (t : Fin grid0.N) a, win0_5.index t a = ![t.val, 0] a)

variable (t : Fin cfg0.N)

/-- The row of the array that a block's row is. -/
def row (t : Fin cfg0.N) (r : Fin 512) : Fin 32768 := ⟨t.val * 512 + r.val, by have := lt_of_lt_of_eq t.isLt (show cfg0.N = 64 from N_0); omega⟩

/-- The mixer's block. -/
theorem blk0 (r : Fin 512) (k : Fin 2048) : iblk m c 0 t (ix2 r k) = m ((c : Thread nD τ).loc main_arg0) (ix2 (row t r) k) := by
  have e : (win0_0.blk t).view.emb (ix2 r k) = ix2 (row t r) k := by unfold row; blk_ext [idx0 t]
  blk_simp [iblk]
  rw [e]
  entry_read
  rfl

/-- The weights' block. -/
theorem blk1 (k : Fin 2048) (j : Fin 1024) : iblk m c 1 t (ix2 k j) = m ((c : Thread nD τ).loc main_arg1) (ix2 k j) := by
  have e : (win0_1.blk t).view.emb (ix2 k j) = ix2 k j := by blk_ext [idx1 t]
  blk_simp [iblk]
  rw [e]
  entry_read
  pointwise []

/-- The residual's block. -/
theorem blk2 (r : Fin 512) (j : Fin 1024) : iblk m c 2 t (ix2 r j) = m ((c : Thread nD τ).loc main_arg2) (ix2 (row t r) j) := by
  have e : (win0_2.blk t).view.emb (ix2 r j) = ix2 (row t r) j := by unfold row; blk_ext [idx2 t]
  blk_simp [iblk]
  rw [e]
  entry_read
  rfl

/-- The norm's weights. -/
theorem blk3 (j : Fin 1024) : iblk m c 3 t (ix2 0 j) = m ((c : Thread nD τ).loc main_arg3) (ix1 j) := by
  have e : (win0_3.blk t).view.emb (ix2 (0 : Fin 1) j) = ix2 0 j := by blk_ext [idx3 t]
  blk_simp [iblk]
  rw [e]
  entry_read
  pointwise []

/-- The norm's offsets. -/
theorem blk4 (j : Fin 1024) : iblk m c 4 t (ix2 0 j) = m ((c : Thread nD τ).loc main_arg4) (ix1 j) := by
  have e : (win0_4.blk t).view.emb (ix2 (0 : Fin 1) j) = ix2 0 j := by blk_ext [idx4 t]
  blk_simp [iblk]
  rw [e]
  entry_read
  pointwise []

/-- The result as a function of the arguments. -/
abbrev value : FVec Ideal S32768x1024 .f32 := fun i =>
  Norm.out2 (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point leaves, at a row and a column. -/
theorem point (r : Fin 512) (j : Fin 1024) :
    out0_5 (iblk m c 0 t) (iblk m c 1 t) (iblk m c 2 t) (iblk m c 3 t) (iblk m c 4 t) (ix2 r j) = value m c (ix2 (row t r) j) := by
  rw [out_read]
  simp only [blk0, blk1, blk2, blk3, blk4]
  rfl

/-- **The result array** after the launch. -/
theorem array : (dats m 0 c).arrAt 5 cfg0.N = value m c := by
  refine (dats m 0 c).arrAt_eq_of_emb 5 _ (fun t hf y => ?_) (fun i => ?_)
  · blk_simp
    rw [after0_5]
    refine (congrArg _ (ix2_eta y).symm).trans ((point m c t (y 0) (y 1)).trans (congrArg (value m c) ?_))
    unfold row
    blk_ext [idx5 t]
  · have h0 : (i 0).val < 32768 := (i 0).isLt
    have h1 : (i 1).val < 1024 := (i 1).isLt
    refine ⟨⟨(i 0).val / 512, by rw [show cfg0.N = 64 from N_0]; omega⟩, flush0_5 _, ?_⟩
    mem_blk
    have e0 := idx5 ⟨(i 0).val / 512, by rw [show cfg0.N = 64 from N_0]; omega⟩ 0
    have e1 := idx5 ⟨(i 0).val / 512, by rw [show cfg0.N = 64 from N_0]; omega⟩ 1
    change win0_5.index _ 0 = _ at e0
    change win0_5.index _ 1 = _ at e1
    rw [e0, e1]
    simp
    omega

end Cert.Kernel2Ideal.Out
-- ==== Proof.Ref2.lean ====
/-
  The reference of the DeltaNet layer's output projection ends with the same function of its arguments.
-/
module

public import proofs.«01_k».proof.Proof.Norm
public import proofs.«01_k».proof.Proof.Gen.Reference2Ideal.Run

@[expose] public section

noncomputable section

namespace Cert.Reference2Ideal.Read

open Idealize.ShloMosaic Idealize.ShloMosaic.TcCoe Idealize.SL.Sem
open Cert.Reference2Ideal Cert.Reference2Ideal.Gen

/-- The reference's run, its result read by rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = (fun i => Norm.out2 (m ((c : Thread nD τ).loc main_arg0)) (m ((c : Thread nD τ).loc main_arg1))
        (m ((c : Thread nD τ).loc main_arg2)) (m ((c : Thread nD τ).loc main_arg3)) (m ((c : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ⟨(h c).1.trans ?_, (h c).2⟩) (Value.run (F := Ideal) m ρ)
  funext i
  unfold Norm.out2 Norm.ln Norm.resid Norm.mean
  pointwise []

end Cert.Reference2Ideal.Read
-- ==== Proof.Out3.lean ====
/-
  The attention layer's output projection: the kernel's result array as a function of the arguments.
-/
module

public import proofs.«01_k».proof.Proof.Norm
public import proofs.«01_k».proof.Proof.Gen.Kernel3Ideal.Value
public import Idealize.ShloMosaic.Lib.Claim
public import Idealize.ShloMosaic.Lib.Pipeline.ValueKit.Point

@[expose] public section

noncomputable section

namespace Cert.Kernel3Ideal.Out

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The block the body leaves, at a row and a column. -/
theorem out_read (oa ob : Vec Ideal S512x512 .bf16) (wa wb : Vec Ideal S512x1024 .bf16) (x : Vec Ideal S512x1024 .f32)
    (g b : Vec Ideal S1x1024 .f32) (r : Fin 512) (j : Fin 1024) :
    out0_7 oa ob wa wb x g b (ix2 r j) = Norm.ln (Norm.resid (fun j => x (ix2 r j))
        fun j => (∑ k : Fin 512, oa (ix2 r k) * wa (ix2 k j)) + ∑ k : Fin 512, ob (ix2 r k) * wb (ix2 k j))
      (fun j => g (ix2 0 j)) (fun j => b (ix2 0 j)) j := by
  have e : out0_7 oa ob wa wb x g b = k0_pay1 oa wa ob wb x g b := by frame_out
  rw [e]
  unfold Norm.ln Norm.resid Norm.mean
  pointwise [k0_pay1]

/-- The block indices of the first attention's output. -/
theorem idx0 : ∀ (t : Fin cfg0.N) a, (cfg0.win 0).index t a = ![t.val, 0] a :=
  (by decide +kernel : ∀ (t : Fin grid0.N) a, win0_0.index t a = ![t.val, 0] a)
/-- The block indices of the second attention's output. -/
theorem idx1 : ∀ (t : Fin cfg0.N) a, (cfg0.win 1).index t a = ![t.val, 0] a :=
  (by decide +kernel : ∀ (t : Fin grid0.N) a, win0_1.index t a = ![t.val, 0] a)
/-- The block index of the first weights. -/
theorem idx2 : ∀ (t : Fin cfg0.N) a, (cfg0.win 2).index t a = ![0, 0] a :=
  (by decide +kernel : ∀ (t : Fin grid0.N) a, win0_2.index t a = ![0, 0] a)
/-- The block index of the second weights. -/
theorem idx3 : ∀ (t : Fin cfg0.N) a, (cfg0.win 3).index t a = ![0, 0] a :=
  (by decide +kernel : ∀ (t : Fin grid0.N) a, win0_3.index t a = ![0, 0] a)
/-- The block indices of the residual. -/
theorem idx4 : ∀ (t : Fin cfg0.N) a, (cfg0.win 4).index t a = ![t.val, 0] a :=
  (by decide +kernel : ∀ (t : Fin grid0.N) a, win0_4.index t a = ![t.val, 0] a)
/-- The block index of the norm's weights. -/
theorem idx5 : ∀ (t : Fin cfg0.N) a, (cfg0.win 5).index t a = ![0, 0] a :=
  (by decide +kernel : ∀ (t : Fin grid0.N) a, win0_5.index t a = ![0, 0] a)
/-- The block index of the norm's offsets. -/
theorem idx6 : ∀ (t : Fin cfg0.N) a, (cfg0.win 6).index t a = ![0, 0] a :=
  (by decide +kernel : ∀ (t : Fin grid0.N) a, win0_6.index t a = ![0, 0] a)
/-- The block indices of the result. -/
theorem idx7 : ∀ (t : Fin cfg0.N) a, (cfg0.win 7).index t a = ![t.val, 0] a :=
  (by decide +kernel : ∀ (t : Fin grid0.N) a, win0_7.index t a = ![t.val, 0] a)

variable (t : Fin cfg0.N)

/-- The row of the array that a block's row is. -/
def row (t : Fin cfg0.N) (r : Fin 512) : Fin 32768 := ⟨t.val * 512 + r.val, by have := lt_of_lt_of_eq t.isLt (show cfg0.N = 64 from N_0); omega⟩

/-- The first attention's block. -/
theorem blk0 (r : Fin 512) (k : Fin 512) : iblk m c 0 t (ix2 r k) = m ((c : Thread nD τ).loc main_arg0) (ix2 (row t r) k) := by
  have e : (win0_0.blk t).view.emb (ix2 r k) = ix2 (row t r) k := by unfold row; blk_ext [idx0 t]
  blk_simp [iblk]
  rw [e]
  entry_read
  rfl

/-- The second attention's block. -/
theorem blk1 (r : Fin 512) (k : Fin 512) : iblk m c 1 t (ix2 r k) = m ((c : Thread nD τ).loc main_arg1) (ix2 (row t r) k) := by
  have e : (win0_1.blk t).view.emb (ix2 r k) = ix2 (row t r) k := by unfold row; blk_ext [idx1 t]
  blk_simp [iblk]
  rw [e]
  entry_read
  rfl

/-- The first weights are the upper rows of the weight matrix. -/
theorem blk2 (k : Fin 512) (j : Fin 1024) :
    iblk m c 2 t (ix2 k j) = m ((c : Thread nD τ).loc main_arg2) (ix2 ⟨k.val, by omega⟩ j) := by
  have e : (win0_2.blk t).view.emb (ix2 k j) = ix2 k j := by blk_ext [idx2 t]
  blk_simp [iblk]
  rw [e]
  entry_read
  pointwise []

/-- The second weights are the lower rows. -/
theorem blk3 (k : Fin 512) (j : Fin 1024) :
    iblk m c 3 t (ix2 k j) = m ((c : Thread nD τ).loc main_arg2) (ix2 ⟨512 + k.val, by omega⟩ j) := by
  have e : (win0_3.blk t).view.emb (ix2 k j) = ix2 k j := by blk_ext [idx3 t]
  blk_simp [iblk]
  rw [e]
  entry_read
  pointwise []

/-- The residual's block. -/
theorem blk4 (r : Fin 512) (j : Fin 1024) : iblk m c 4 t (ix2 r j) = m ((c : Thread nD τ).loc main_arg3) (ix2 (row t r) j) := by
  have e : (win0_4.blk t).view.emb (ix2 r j) = ix2 (row t r) j := by unfold row; blk_ext [idx4 t]
  blk_simp [iblk]
  rw [e]
  entry_read
  rfl

/-- The norm's weights. -/
theorem blk5 (j : Fin 1024) : iblk m c 5 t (ix2 0 j) = m ((c : Thread nD τ).loc main_arg4) (ix1 j) := by
  have e : (win0_5.blk t).view.emb (ix2 (0 : Fin 1) j) = ix2 0 j := by blk_ext [idx5 t]
  blk_simp [iblk]
  rw [e]
  entry_read
  pointwise []

/-- The norm's offsets. -/
theorem blk6 (j : Fin 1024) : iblk m c 6 t (ix2 0 j) = m ((c : Thread nD τ).loc main_arg5) (ix1 j) := by
  have e : (win0_6.blk t).view.emb (ix2 (0 : Fin 1) j) = ix2 0 j := by blk_ext [idx6 t]
  blk_simp [iblk]
  rw [e]
  entry_read
  pointwise []

/-- The result as a function of the arguments. -/
abbrev value : FVec Ideal S32768x1024 .f32 := fun i =>
  Norm.out3 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- What a point leaves, at a row and a column. -/
theorem point (r : Fin 512) (j : Fin 1024) :
    out0_7 (iblk m c 0 t) (iblk m c 1 t) (iblk m c 2 t) (iblk m c 3 t) (iblk m c 4 t) (iblk m c 5 t) (iblk m c 6 t) (ix2 r j)
      = value m c (ix2 (row t r) j) := by
  rw [out_read]
  simp only [blk0, blk1, blk2, blk3, blk4, blk5, blk6]
  rfl

/-- **The result array** after the launch. -/
theorem array : (dats m 0 c).arrAt 7 cfg0.N = value m c := by
  refine (dats m 0 c).arrAt_eq_of_emb 7 _ (fun t hf y => ?_) (fun i => ?_)
  · blk_simp
    rw [after0_7]
    refine (congrArg _ (ix2_eta y).symm).trans ((point m c t (y 0) (y 1)).trans (congrArg (value m c) ?_))
    unfold row
    blk_ext [idx7 t]
  · have h0 : (i 0).val < 32768 := (i 0).isLt
    have h1 : (i 1).val < 1024 := (i 1).isLt
    obtain ⟨t, ht⟩ : ∃ t : Fin cfg0.N, t.val = (i 0).val / 512 := ⟨⟨(i 0).val / 512, by rw [show cfg0.N = 64 from N_0]; omega⟩, rfl⟩
    refine ⟨t, flush0_7 t, ?_⟩
    mem_blk
    have e0 : win0_7.index t 0 = t.val := idx7 t 0
    have e1 : win0_7.index t 1 = 0 := idx7 t 1
    rw [e0, e1]
    omega

end Cert.Kernel3Ideal.Out
-- ==== Proof.Ref3.lean ====
/-
  The reference of the attention layer's output projection ends with the same function of its arguments.
-/
module

public import proofs.«01_k».proof.Proof.Norm
public import proofs.«01_k».proof.Proof.Gen.Reference3Ideal.Run

@[expose] public section

noncomputable section

namespace Cert.Reference3Ideal.Read

open Idealize.ShloMosaic Idealize.ShloMosaic.TcCoe Idealize.SL.Sem
open Cert.Reference3Ideal Cert.Reference3Ideal.Gen

/-- The reference's run, its result read by rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = (fun i => Norm.out3 (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2⟩) (Value.run (F := Ideal) m ρ)
  funext i
  unfold Norm.out3 Norm.ln Norm.resid Norm.mean Value.res_main_v30
  pointwise [Value.fn_main_v2]

end Cert.Reference3Ideal.Read
-- ==== Proof.Slab.lean ====
/-
  One point of the attention layer's input projection: what the body leaves in each of its seven result blocks.
-/
module

public import proofs.«01_k».proof.Proof.Gen.Kernel4Ideal.Value
public import Idealize.ShloMosaic.Lib.Pointwise
public import Idealize.ShloMosaic.Lib.Claim
public import Idealize.ShloMosaic.Lib.Pipeline.ValueKit.Point

@[expose] public section

noncomputable section

namespace Cert.Kernel4Ideal.Slab

open Idealize.ShloMosaic Idealize.ShloMosaic.TcCoe Idealize.SL.Sem
open Cert.Kernel4Ideal Cert.Kernel4Ideal.Gen

/-- The rotation of a row of eight slabs of 128 columns: a column times its cosine plus its partner, 64 columns on within the slab, times its sine. -/
def rot (y : Fin 1024 → EReal) (c s : Fin 128 → EReal) (C : Fin 1024) : EReal :=
  y C * c ⟨C.val % 128, by omega⟩ + y ⟨128 * (C.val / 128) + (C.val % 128 + 64) % 128, by omega⟩ * s ⟨C.val % 128, by omega⟩

/-- One slab rotated, at an entry. -/
theorem slab (y : FVec Ideal S512x1024 .f32) (c s : FVec Ideal S512x128 .f32) (off : ℕ) (h : S512x1024.Slices ![0, off] S512x128)
    (hoff : off % 128 = 0) (x : S512x128.Idx) (r : Fin 512) (C : Fin 1024) (hr : r.val = (x 0).val) (hC : C.val = off + (x 1).val) :
    addf (mulf (extractStridedSlice S512x128 ![0, off] y h) c)
      (mulf (dynamicRotate 1 64#32 none (extractStridedSlice S512x128 ![0, off] y h) rotates_S512x128_d1) s) x
    = rot (fun C => y (ix2 r C)) (fun l => c (ix2 r l)) (fun l => s (ix2 r l)) C := by
  obtain ⟨r', l, rfl⟩ : ∃ (r : Fin 512) (l : Fin 128), x = ix2 r l := ⟨x 0, x 1, (ix2_eta x).symm⟩
  obtain rfl : r = r' := Fin.ext hr
  have hC' : C.val = off + l.val := hC
  have e1 : (off + l.val) % 128 = l.val := by omega
  have e2 : 128 * ((off + l.val) / 128) = off := by omega
  unfold rot
  pointwise []
  simp only [hC', e1, e2]
  have e3 : (l.val + 128 - 64) % 128 = (l.val + 64) % 128 := by omega
  simp only [e3]
  have eC : (⟨off + l.val, by have := C.isLt; omega⟩ : Fin 1024) = C := Fin.ext hC'.symm
  rw [eC]

variable (x0 : Vec Ideal S512x1024 .f32) (x1 : Vec Ideal S1024x3072 .bf16) (x2 : Vec Ideal S512x128 .f32) (x3 : Vec Ideal S512x128 .f32)

/-- The rotated queries of a block, at a row and a column. -/
def qRot (r : Fin 512) (C : Fin 1024) : EReal :=
  rot (fun C => k0_pay43 x0 x1 x2 x3 (ix2 r C)) (fun l => k0_pay41 x0 x1 x2 x3 (ix2 r l)) (fun l => k0_pay42 x0 x1 x2 x3 (ix2 r l)) C

/-- The rotated keys of a block, at a row and a column. -/
def kRot (r : Fin 512) (C : Fin 1024) : EReal :=
  rot (fun C => k0_pay44 x0 x1 x2 x3 (ix2 r C)) (fun l => k0_pay41 x0 x1 x2 x3 (ix2 r l)) (fun l => k0_pay42 x0 x1 x2 x3 (ix2 r l)) C

/-- The first heads' queries. -/
theorem out4 (y : S512x512.Idx) : out0_4 x0 x1 x2 x3 y
    = qRot x0 x1 x2 x3 (y 0) ⟨(y 1).val, by have h : (y 1).val < 512 := (y 1).isLt; omega⟩ * Ideal.ofBits .f32 0x3E000000#32 := by
  unfold out0_4
  canon_tiles x h
  all_goals
    exact congrArg (· * Ideal.ofBits .f32 0x3E000000#32) (slab (k0_pay43 x0 x1 x2 x3) (k0_pay41 x0 x1 x2 x3) (k0_pay42 x0 x1 x2 x3) _ _ rfl x (y 0) _ h0
      (by simp only []; omega))

/-- The last heads' queries. -/
theorem out7 (y : S512x512.Idx) : out0_7 x0 x1 x2 x3 y
    = qRot x0 x1 x2 x3 (y 0) ⟨512 + (y 1).val, by have h : (y 1).val < 512 := (y 1).isLt; omega⟩ * Ideal.ofBits .f32 0x3E000000#32 := by
  unfold out0_7
  canon_tiles x h
  all_goals
    exact congrArg (· * Ideal.ofBits .f32 0x3E000000#32) (slab (k0_pay43 x0 x1 x2 x3) (k0_pay41 x0 x1 x2 x3) (k0_pay42 x0 x1 x2 x3) _ _ rfl x (y 0) _ h0
      (by simp only []; omega))

/-- The first heads' keys. -/
theorem out5 (y : S512x512.Idx) : out0_5 x0 x1 x2 x3 y
    = kRot x0 x1 x2 x3 (y 0) ⟨(y 1).val, by have h : (y 1).val < 512 := (y 1).isLt; omega⟩ := by
  unfold out0_5
  canon_tiles x h
  all_goals
    exact slab (k0_pay44 x0 x1 x2 x3) (k0_pay41 x0 x1 x2 x3) (k0_pay42 x0 x1 x2 x3) _ _ rfl x (y 0) _ h0 (by simp only []; omega)

/-- The last heads' keys. -/
theorem out8 (y : S512x512.Idx) : out0_8 x0 x1 x2 x3 y
    = kRot x0 x1 x2 x3 (y 0) ⟨512 + (y 1).val, by have h : (y 1).val < 512 := (y 1).isLt; omega⟩ := by
  unfold out0_8
  canon_tiles x h
  · exact slab (k0_pay44 x0 x1 x2 x3) (k0_pay41 x0 x1 x2 x3) (k0_pay42 x0 x1 x2 x3) _ _ rfl x (y 0) _ h0 (by simp only []; omega)
  · exact slab (k0_pay44 x0 x1 x2 x3) (k0_pay41 x0 x1 x2 x3) (k0_pay42 x0 x1 x2 x3) _ _ rfl x (y 0) _ h0 (by simp only []; omega)
  · exact slab (k0_pay44 x0 x1 x2 x3) (k0_pay41 x0 x1 x2 x3) (k0_pay42 x0 x1 x2 x3) _ slices_S512x1024_o0_640_S512x128 rfl x (y 0) _ h0 (by simp only []; omega)
  · exact slab (k0_pay44 x0 x1 x2 x3) (k0_pay41 x0 x1 x2 x3) (k0_pay42 x0 x1 x2 x3) _ _ rfl x (y 0) _ h0 (by simp only []; omega)

/-- The mean of a slab's upper 256 rows. -/
theorem mean_upper (z : FVec Ideal S512x128 .f32) (x : S1x1x128.Idx) :
    k0_pay27 z x = Ideal.div (∑ i : Fin 256, z (ix2 ⟨i.val, by omega⟩ (x 2))) (Ideal.ofBits .f32 0x43800000#32) := by
  pointwise [k0_pay27]

/-- The mean of a slab's lower 256 rows. -/
theorem mean_lower (z : FVec Ideal S512x128 .f32) (x : S1x1x128.Idx) :
    k0_pay28 z x = Ideal.div (∑ i : Fin 256, z (ix2 ⟨256 + i.val, by omega⟩ (x 2))) (Ideal.ofBits .f32 0x43800000#32) := by
  pointwise [k0_pay28]

/-- The first slab of keys. -/
theorem k_slab0 (r : Fin 512) (l : Fin 128) (C : Fin 1024) (hC : C.val = 0 + l.val) :
    k0_pay21 (k0_pay40 x0 x1 x2 x3) (k0_pay41 x0 x1 x2 x3) (k0_pay42 x0 x1 x2 x3) (View.ld x1 r0_7) (ix2 r l) = kRot x0 x1 x2 x3 r C :=
  slab (k0_pay44 x0 x1 x2 x3) (k0_pay41 x0 x1 x2 x3) (k0_pay42 x0 x1 x2 x3) _ _ rfl _ r C rfl hC

/-- The second slab of keys. -/
theorem k_slab1 (r : Fin 512) (l : Fin 128) (C : Fin 1024) (hC : C.val = 128 + l.val) :
    k0_pay45 x0 x1 x2 x3 (ix2 r l) = kRot x0 x1 x2 x3 r C :=
  slab (k0_pay44 x0 x1 x2 x3) (k0_pay41 x0 x1 x2 x3) (k0_pay42 x0 x1 x2 x3) _ _ rfl _ r C rfl hC

/-- The third slab of keys. -/
theorem k_slab2 (r : Fin 512) (l : Fin 128) (C : Fin 1024) (hC : C.val = 256 + l.val) :
    k0_pay29 (k0_pay41 x0 x1 x2 x3) (k0_pay42 x0 x1 x2 x3) (k0_pay44 x0 x1 x2 x3) (ix2 r l) = kRot x0 x1 x2 x3 r C :=
  slab (k0_pay44 x0 x1 x2 x3) (k0_pay41 x0 x1 x2 x3) (k0_pay42 x0 x1 x2 x3) _ _ rfl _ r C rfl hC

/-- The fourth slab of keys. -/
theorem k_slab3 (r : Fin 512) (l : Fin 128) (C : Fin 1024) (hC : C.val = 384 + l.val) :
    k0_pay34 (k0_pay41 x0 x1 x2 x3) (k0_pay42 x0 x1 x2 x3) (k0_pay44 x0 x1 x2 x3) (ix2 r l) = kRot x0 x1 x2 x3 r C :=
  slab (k0_pay44 x0 x1 x2 x3) (k0_pay41 x0 x1 x2 x3) (k0_pay42 x0 x1 x2 x3) _ _ rfl _ r C rfl hC

/-- The mean over 256 rows, starting at row `256 * g`, of a column of the rotated keys. -/
def kMean (g : Fin 2) (C : Fin 1024) : EReal :=
  Ideal.div (∑ i : Fin 256, kRot x0 x1 x2 x3 ⟨256 * g.val + i.val, by omega⟩ C) (Ideal.ofBits .f32 0x43800000#32)

/-- A piece of the upper means is the mean of its slab. -/
theorem upper (z : FVec Ideal S512x128 .f32) (x : S1x1x128.Idx) (g : Fin 2) (C : Fin 1024) (hg : g.val = 0)
    (hz : ∀ r, z (ix2 r (x 2)) = kRot x0 x1 x2 x3 r C) : k0_pay27 z x = kMean x0 x1 x2 x3 g C := by
  obtain rfl : g = 0 := Fin.ext hg
  refine (mean_upper z x).trans (congrArg (Ideal.div · _) (Finset.sum_congr rfl fun i _ => (hz _).trans ?_))
  congr 1
  exact Fin.ext (by simp)

/-- A piece of the lower means is the mean of its slab. -/
theorem lower (z : FVec Ideal S512x128 .f32) (x : S1x1x128.Idx) (g : Fin 2) (C : Fin 1024) (hg : g.val = 1)
    (hz : ∀ r, z (ix2 r (x 2)) = kRot x0 x1 x2 x3 r C) : k0_pay28 z x = kMean x0 x1 x2 x3 g C := by
  obtain rfl : g = 1 := Fin.ext hg
  refine (mean_lower z x).trans (congrArg (Ideal.div · _) (Finset.sum_congr rfl fun i _ => (hz _).trans ?_))
  congr 1

/-- The means of the first heads' keys over each half of the block's rows. -/
theorem out10 (y : S2x1x512.Idx) : out0_10 x0 x1 x2 x3 y
    = kMean x0 x1 x2 x3 (y 0) ⟨(y 2).val, by have h : (y 2).val < 512 := (y 2).isLt; omega⟩ := by
  unfold out0_10
  canon_tiles x h
  · exact lower x0 x1 x2 x3 _ x _ _ (by omega) fun r => k_slab3 x0 x1 x2 x3 r _ _ (by simp only []; omega)
  · exact upper x0 x1 x2 x3 _ x _ _ (by omega) fun r => k_slab3 x0 x1 x2 x3 r _ _ (by simp only []; omega)
  · exact lower x0 x1 x2 x3 _ x _ _ (by omega) fun r => k_slab2 x0 x1 x2 x3 r _ _ (by simp only []; omega)
  · exact upper x0 x1 x2 x3 _ x _ _ (by omega) fun r => k_slab2 x0 x1 x2 x3 r _ _ (by simp only []; omega)
  · exact lower x0 x1 x2 x3 _ x _ _ (by omega) fun r => k_slab1 x0 x1 x2 x3 r _ _ (by simp only []; omega)
  · exact upper x0 x1 x2 x3 _ x _ _ (by omega) fun r => k_slab1 x0 x1 x2 x3 r _ _ (by simp only []; omega)
  · exact lower x0 x1 x2 x3 _ x _ _ (by omega) fun r => k_slab0 x0 x1 x2 x3 r _ _ (by simp only []; omega)
  · exact upper x0 x1 x2 x3 _ x _ _ (by omega) fun r => k_slab0 x0 x1 x2 x3 r _ _ (by simp only []; omega)

/-- The first heads' values. -/
theorem out6 (r : Fin 512) (C : Fin 512) : out0_6 x0 x1 x2 x3 (ix2 r C)
    = ∑ k : Fin 1024, x0 (ix2 r k) * x1 (ix2 k ⟨2048 + C.val, by omega⟩) := by
  have e : out0_6 x0 x1 x2 x3 = k0_pay5 (k0_pay40 x0 x1 x2 x3) (View.ld x1 r0_16) := by frame_out
  rw [e]
  pointwise [k0_pay5, k0_pay4, k0_pay40, k0_pay7]

/-- The last heads' values. -/
theorem out9 (r : Fin 512) (C : Fin 512) : out0_9 x0 x1 x2 x3 (ix2 r C)
    = ∑ k : Fin 1024, x0 (ix2 r k) * x1 (ix2 k ⟨2048 + (512 + C.val), by omega⟩) := by
  have e : out0_9 x0 x1 x2 x3 = k0_pay6 (k0_pay40 x0 x1 x2 x3) (View.ld x1 r0_16) := by frame_out
  rw [e]
  pointwise [k0_pay6, k0_pay4, k0_pay40, k0_pay7]

/-- The queries before their rotation. -/
theorem q_read (r : Fin 512) (C : Fin 1024) : k0_pay43 x0 x1 x2 x3 (ix2 r C) = ∑ k : Fin 1024, x0 (ix2 r k) * x1 (ix2 k ⟨C.val, by omega⟩) := by
  pointwise [k0_pay43, k0_pay10, k0_pay7]

/-- The keys before their rotation. -/
theorem k_read (r : Fin 512) (C : Fin 1024) : k0_pay44 x0 x1 x2 x3 (ix2 r C) = ∑ k : Fin 1024, x0 (ix2 r k) * x1 (ix2 k ⟨1024 + C.val, by omega⟩) := by
  pointwise [k0_pay44, k0_pay40, k0_pay20, k0_pay7]

/-- The cosines. -/
theorem c_read (r : Fin 512) (l : Fin 128) : k0_pay41 x0 x1 x2 x3 (ix2 r l) = x2 (ix2 r l) := by
  pointwise [k0_pay41, k0_pay8]

/-- The sines. -/
theorem s_read (r : Fin 512) (l : Fin 128) : k0_pay42 x0 x1 x2 x3 (ix2 r l) = x3 (ix2 r l) := by
  pointwise [k0_pay42, k0_pay9]

end Cert.Kernel4Ideal.Slab
-- ==== Proof.Perm.lean ====
/-
  The columns of the attention layer's input weights in the order in which the kernel reads them.
-/
module

public import proofs.«01_k».proof.Proof.Gen.Kernel4Ideal
public import Idealize.ShloMosaic.Lib.Pointwise
public import Idealize.ShloMosaic.Lib.Claim

@[expose] public section

noncomputable section

namespace Cert.Kernel4Ideal.Perm

open Idealize.ShloMosaic
open Cert.Kernel4Ideal Cert.Kernel4Ideal.Gen

/-- The weights' column that stands at a column of the paired layout: of two heads the first halves, then the second halves. -/
def pair (C : ℕ) : ℕ := 64 * (2 * (C / 128) + C % 64 / 32) + 32 * (C % 128 / 64) + C % 32

/-- The weights' column at each column of the reordered weights: queries and keys paired, values as they are. -/
def src (C : ℕ) : ℕ := if C < 2048 then 1024 * (C / 1024) + pair (C % 1024) else C

/-- The program's table of columns. -/
theorem table (C : Fin 3072) : lit0 C = BitVec.ofNat 32 (src C.val) :=
  (by decide +kernel : ∀ C : Fin 3072, lit0 C = BitVec.ofNat 32 (src C.val)) C

/-- A reordered column is a column. -/
theorem src_lt (C : ℕ) (h : C < 3072) : src C < 3072 := by unfold src pair; split <;> omega

/-- A gather of columns, at a row and a column. -/
theorem gather_read (w : FVec Ideal S1024x3072 .f32) (idx : IVec S3072x1 32) (k : Fin 1024) (C : Fin 3072) (j : Fin 3072)
    (h : (idx (ix2 C 0)).toInt = j.val) :
    Host.gather gather_S1024x3072_S3072x1_S1024x3072_0_1_n_n_1_1_10241 w idx (ix2 k C) = w (ix2 k j) := by
  have hs : ∀ n, gather_S1024x3072_S3072x1_S1024x3072_0_1_n_n_1_1_10241.siIdx (ix2 k C) n = ix2 C 0 := by
    intro n
    funext b
    refine Fin.ext ?_
    match b with
    | ⟨0, _⟩ => rfl
    | ⟨1, _⟩ => exact Nat.lt_one_iff.mp (Fin.isLt _)
  unfold Host.gather
  congr 1
  funext a
  refine Fin.ext ?_
  show GatherDims.start _ (ix2 k C) idx a + GatherDims.batchCoord _ (ix2 k C) a + GatherDims.offCoord _ (ix2 k C) a = _
  rw [GatherDims.batchCoord_eq_zero _ _ _ List.not_mem_nil]
  unfold GatherDims.start
  match a with
  | ⟨0, h0⟩ =>
    rw [dif_neg (show (⟨0, h0⟩ : Fin 2) ∉ gather_S1024x3072_S3072x1_S1024x3072_0_1_n_n_1_1_10241.startIndexMap from
      (by decide : (0 : Fin 2) ∉ [(1 : Fin 2)]))]
    show 0 + 0 + k.val = k.val
    omega
  | ⟨1, h1⟩ =>
    rw [GatherDims.offCoord_eq_zero _ _ _ (fun h => ((GatherDims.mem_sKept _ _).mp h).1 (List.mem_singleton.mpr rfl))]
    rw [dif_pos (show (⟨1, h1⟩ : Fin 2) ∈ gather_S1024x3072_S3072x1_S1024x3072_0_1_n_n_1_1_10241.startIndexMap from List.mem_singleton.mpr rfl), hs, h]
    show min j.val 3071 + 0 + 0 = j.val
    omega

end Cert.Kernel4Ideal.Perm
-- ==== Proof.Tables.lean ====
/-
  The tables of cosines and sines that the attention layer's input projection stages.
-/
module

public import proofs.«01_k».proof.Proof.Gen.Kernel4Ideal.Value
public import Idealize.ShloMosaic.Lib.Claim
public import Idealize.ShloMosaic.Lib.Pipeline.ValueKit.Point

@[expose] public section

noncomputable section

namespace Cert.Kernel4Ideal.Tables

open Idealize.ShloMosaic Idealize.ShloMosaic.TcCoe Idealize.SL.Sem Idealize.ShloMosaic.StableHlo
open Cert.Kernel4Ideal Cert.Kernel4Ideal.Gen

variable (m : (ℓ : Loc nD τ sig) → Buf (Elt Ideal) ℓ) (c : Dev nD)

/-- The angle of each position at each frequency. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
            (mulf (broadcastInDim S32 ![] bcast_S_S32 (constant S_ .f32 0x40000000#32)) (sitofp .f32 (iotaInDim S32 32 0)))))
          (broadcastInDim S32 ![] bcast_S_S32 (constant S_ .f32 0x42800000#32))))))

set_option maxHeartbeats 1000000 in
/-- The cosines, four times side by side. -/
theorem cosines : V m c main_v18 = concatenate S8192x128 1 [⟨S8192x32, Host.cos angles⟩, ⟨S8192x32, Host.cos angles⟩,
    ⟨S8192x32, Host.cos angles⟩, ⟨S8192x32, Host.cos angles⟩] concatenates_S8192x32_S8192x32_S8192x32_S8192x32_S8192x128_d1 := by
  unfold V
  simp only [after_cons, after_nil]
  rw [unary_result_ne]; rotate_left; decide
  rw [binary_result_ne]; rotate_left; decide
  rw [unary_result_ne]; rotate_left; decide
  rw [ternary_result_ne]; rotate_left; decide
  rw [binary_result_ne]; rotate_left; decide
  rw [unary_result_ne]; rotate_left; decide
  rw [nullary_result_ne]; rotate_left; decide
  rw [nary_result_ne]; rotate_left; decide
  rw [unary_result_ne]; rotate_left; decide
  rw [unary_result_ne]; rotate_left; decide
  rw [nary4_result]
  generalize hF : (unary main_v15 main_v17 _ _ _ : HloOp τ sig (Elt Ideal)).result _ = F
  have e : F (Proc.devRef .tc main_v16) = Host.cos angles := by
    rw [← hF]
    after_results_simp
    rfl
  rw [e]
  rfl

set_option maxHeartbeats 1000000 in
/-- The sines, four times side by side, the first two negated. -/
theorem sines : V m c main_v21 = concatenate S8192x128 1 [⟨S8192x32, Host.negf (Host.sin angles)⟩, ⟨S8192x32, Host.negf (Host.sin angles)⟩,
    ⟨S8192x32, Host.sin angles⟩, ⟨S8192x32, Host.sin angles⟩] concatenates_S8192x32_S8192x32_S8192x32_S8192x32_S8192x128_d1 := by
  unfold V
  simp only [after_cons, after_nil]
  rw [unary_result_ne]; rotate_left; decide
  rw [binary_result_ne]; rotate_left; decide
  rw [unary_result_ne]; rotate_left; decide
  rw [ternary_result_ne]; rotate_left; decide
  rw [binary_result_ne]; rotate_left; decide
  rw [unary_result_ne]; rotate_left; decide
  rw [nullary_result_ne]; rotate_left; decide
  rw [nary4_result]
  generalize hG : (nary ![main_v16, main_v16, main_v16, main_v16] main_v18 _ _ _ : HloOp τ sig (Elt Ideal)).result _ = G
  have g : G (Proc.devRef .tc main_v17) = Host.sin angles := by
    rw [← hG, nary_result_ne]
    · after_results_simp
      rfl
    · decide
  generalize hF : (unary main_v17 main_v20 _ _ _ : HloOp τ sig (Elt Ideal)).result _ = F
  have e1 : F (Proc.devRef .tc main_v17) = Host.sin angles := by
    rw [← hF]
    after_results_simp
    exact g
  have e2 : F (Proc.devRef .tc main_v19) = Host.negf (Host.sin angles) := by
    rw [← hF]
    after_results_simp
    rw [g]
  have e3 : F (Proc.devRef .tc main_v20) = Host.negf (Host.sin angles) := by
    rw [← hF]
    after_results_simp
    rw [g]
  rw [e1, e2, e3]
  rfl

end Cert.Kernel4Ideal.Tables
-- ==== Proof.Rope.lean ====
/-
  The attention layer's input projection over the extended reals: queries, keys and values in the paired layout, the first two rotated.
-/
module

public import Idealize.ShloMosaic.Lib.Pointwise

@[expose] public section

noncomputable section

namespace Cert.Rope

open Idealize.ShloMosaic

/-- An entry of the product of the rows with the weights. -/
def proj (x : FVec Ideal ⟨2, ![32768, 1024]⟩ .f32) (w : FVec Ideal ⟨2, ![1024, 3072]⟩ .f32) (r : Fin 32768) (j : Fin 3072) : EReal :=
  ∑ k, x (ix2 r k) * w (ix2 k j)

/-- The position of a row in its sequence. -/
def pos (r : Fin 32768) : Fin 8192 := ⟨r.val % 8192, by omega⟩

/-- The column of the paired layout at which a head's entry of the first half stands, read back: head `2 * (C / 128) + C % 64 / 32`, entry `C % 32`. -/
def lo (C : Fin 1024) : Fin 1024 := ⟨64 * (2 * (C.val / 128) + C.val % 64 / 32) + C.val % 32, by omega⟩

/-- The same head's entry of the second half. -/
def hi (C : Fin 1024) : Fin 1024 := ⟨64 * (2 * (C.val / 128) + C.val % 64 / 32) + 32 + C.val % 32, by omega⟩

/-- A row of heads rotated at a position, at a column of the paired layout. -/
def rope (cs sn : FVec Ideal ⟨2, ![8192, 32]⟩ .f32) (y : Fin 1024 → EReal) (s : Fin 8192) (C : Fin 1024) : EReal :=
  if C.val % 128 < 64 then y (lo C) * cs (ix2 s ⟨C.val % 32, by omega⟩) - y (hi C) * sn (ix2 s ⟨C.val % 32, by omega⟩)
  else y (hi C) * cs (ix2 s ⟨C.val % 32, by omega⟩) + y (lo C) * sn (ix2 s ⟨C.val % 32, by omega⟩)

variable (cs sn : FVec Ideal ⟨2, ![8192, 32]⟩ .f32) (x : FVec Ideal ⟨2, ![32768, 1024]⟩ .f32) (w : FVec Ideal ⟨2, ![1024, 3072]⟩ .f32)

/-- The scaled queries. -/
def q (r : Fin 32768) (C : Fin 1024) : EReal :=
  rope cs sn (fun j => proj x w r ⟨j.val, by omega⟩) (pos r) C * Ideal.ofBits .f32 0x3E000000#32

/-- The keys. -/
def k (r : Fin 32768) (C : Fin 1024) : EReal := rope cs sn (fun j => proj x w r ⟨1024 + j.val, by omega⟩) (pos r) C

/-- The values. -/
def v (r : Fin 32768) (C : Fin 1024) : EReal := proj x w r ⟨2048 + C.val, by omega⟩

/-- The mean of the keys over a block of 256 rows. -/
def mean (b : Fin 128) (C : Fin 1024) : EReal :=
  Ideal.div (∑ i : Fin 256, k cs sn x w ⟨256 * b.val + i.val, by omega⟩ C) (Ideal.ofBits .f32 0x43800000#32)

/-- A column of the first 512. -/
abbrev fst (C : Fin 512) : Fin 1024 := ⟨C.val, by omega⟩

/-- A column of the last 512. -/
abbrev snd (C : Fin 512) : Fin 1024 := ⟨512 + C.val, by omega⟩

end Cert.Rope
-- ==== Proof.Out4.lean ====
/-
  The attention layer's input projection: the kernel's seven result arrays as functions of the arguments.
-/
module

public import proofs.«01_k».proof.Proof.Slab
public import proofs.«01_k».proof.Proof.Perm
public import proofs.«01_k».proof.Proof.Tables
public import proofs.«01_k».proof.Proof.Rope
public import Idealize.ShloMosaic.Lib.Claim
public import Idealize.ShloMosaic.Lib.Pipeline.ValueKit.Point

@[expose] public section

noncomputable section

namespace Cert.Kernel4Ideal.Out

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The block indices of the rows. -/
theorem idx0 : ∀ (t : Fin cfg0.N) a, (cfg0.win 0).index t a = ![t.val, 0] a :=
  (by decide +kernel : ∀ (t : Fin grid0.N) a, win0_0.index t a = ![t.val, 0] a)
/-- The block index of the weights. -/
theorem idx1 : ∀ (t : Fin cfg0.N) a, (cfg0.win 1).index t a = ![0, 0] a :=
  (by decide +kernel : ∀ (t : Fin grid0.N) a, win0_1.index t a = ![0, 0] a)
/-- The block indices of the cosines. -/
theorem idx2 : ∀ (t : Fin cfg0.N) a, (cfg0.win 2).index t a = ![t.val % 16, 0] a :=
  (by decide +kernel : ∀ (t : Fin grid0.N) a, win0_2.index t a = ![t.val % 16, 0] a)
/-- The block indices of the sines. -/
theorem idx3 : ∀ (t : Fin cfg0.N) a, (cfg0.win 3).index t a = ![t.val % 16, 0] a :=
  (by decide +kernel : ∀ (t : Fin grid0.N) a, win0_3.index t a = ![t.val % 16, 0] a)

variable (t : Fin cfg0.N)

/-- The row of the array that a block's row is. -/
def row (t : Fin cfg0.N) (r : Fin 512) : Fin 32768 := ⟨t.val * 512 + r.val, by have := lt_of_lt_of_eq t.isLt (show cfg0.N = 64 from N_0); omega⟩

/-- The rows' block. -/
theorem blk0 (r : Fin 512) (k : Fin 1024) : iblk m c 0 t (ix2 r k) = m ((c : Thread nD τ).loc main_arg0) (ix2 (row t r) k) := by
  have e : (win0_0.blk t).view.emb (ix2 r k) = ix2 (row t r) k := by unfold row; blk_ext [idx0 t]
  blk_simp [iblk]
  rw [e]
  entry_read
  rfl

/-- The reordered weights. -/
theorem blk1 (k : Fin 1024) (C : Fin 3072) (j : Fin 3072) (hj : j.val = Perm.src C.val) :
    iblk m c 1 t (ix2 k C) = m ((c : Thread nD τ).loc main_arg1) (ix2 k j) := by
  have e : (win0_1.blk t).view.emb (ix2 k C) = ix2 k C := by blk_ext [idx1 t]
  blk_simp [iblk]
  rw [e]
  entry_read
  refine Perm.gather_read _ _ k C j ?_
  show (lit0 (S3072.rowMajor (ix1 C))).toInt = j.val
  have e1 : S3072.rowMajor (ix1 C) = C := Fin.ext (Shape.rowMajor_val_one _)
  rw [e1, Perm.table, ← hj]
  have := j.isLt
  rw [BitVec.toInt_eq_toNat_of_lt (by simp; omega)]
  simp
  omega

/-- Four arrays of 32 columns side by side, at a row and a column. -/
theorem four_read (A B C D : FVec Ideal S8192x32 .f32) (s : Fin 8192) (l : Fin 128) :
    concatenate S8192x128 1 [⟨S8192x32, A⟩, ⟨S8192x32, B⟩, ⟨S8192x32, C⟩, ⟨S8192x32, D⟩]
      concatenates_S8192x32_S8192x32_S8192x32_S8192x32_S8192x128_d1 (ix2 s l)
    = if l.val < 64 then (if l.val < 32 then A else B) (ix2 s ⟨l.val % 32, by omega⟩)
      else (if l.val < 96 then C else D) (ix2 s ⟨l.val % 32, by omega⟩) := by
  pointwise []
  have key : ∀ (Z : FVec Ideal S8192x32 .f32) (j : Fin 32), j.val = l.val % 32 → Z (ix2 s j) = Z (ix2 s ⟨l.val % 32, by omega⟩) :=
    fun Z j h => congrArg Z (congrArg (ix2 s) (Fin.ext h))
  by_cases h1 : l.val < 32
  · rw [dif_pos h1]
    refine (key A _ (by show l.val = _; omega)).trans ?_
    rw [if_pos (by omega), if_pos h1]
  rw [dif_neg h1]
  by_cases h2 : l.val < 64
  · rw [dif_pos (by omega)]
    refine (key B _ (by show l.val - 32 = _; omega)).trans ?_
    rw [if_pos h2, if_neg h1]
  rw [dif_neg (by omega)]
  by_cases h3 : l.val < 96
  · rw [dif_pos (by omega)]
    refine (key C _ (by show l.val - 32 - 32 = _; omega)).trans ?_
    rw [if_neg h2, if_pos h3]
  rw [dif_neg (by omega)]
  refine (key D _ (by show l.val - 32 - 32 - 32 = _; omega)).trans ?_
  rw [if_neg h2, if_neg h3]

/-- The cosines' block. -/
theorem blk2 (r : Fin 512) (l : Fin 128) : iblk m c 2 t (ix2 r l) = Host.cos Tables.angles (ix2 (Rope.pos (row t r)) ⟨l.val % 32, by omega⟩) := by
  have e : (win0_2.blk t).view.emb (ix2 r l) = ix2 (Rope.pos (row t r)) l := by unfold Rope.pos row; blk_ext [idx2 t]
  blk_simp [iblk]
  rw [e]
  refine (congrFun (Tables.cosines m c) _).trans ((four_read _ _ _ _ _ _).trans ?_)
  simp

/-- The sines' block. -/
theorem blk3 (r : Fin 512) (l : Fin 128) : iblk m c 3 t (ix2 r l)
    = if l.val < 64 then - Host.sin Tables.angles (ix2 (Rope.pos (row t r)) ⟨l.val % 32, by omega⟩)
      else Host.sin Tables.angles (ix2 (Rope.pos (row t r)) ⟨l.val % 32, by omega⟩) := by
  have e : (win0_3.blk t).view.emb (ix2 r l) = ix2 (Rope.pos (row t r)) l := by unfold Rope.pos row; blk_ext [idx3 t]
  blk_simp [iblk]
  rw [e]
  refine (congrFun (Tables.sines m c) _).trans ((four_read _ _ _ _ _ _).trans ?_)
  simp
  rfl

/-- A rotated row of the reordered columns is the rotated row of heads. -/
theorem rot_rope (cs sn : FVec Ideal S8192x32 .f32) (y y' : Fin 1024 → EReal) (a b : Fin 128 → EReal) (p : Fin 8192)
    (hy : ∀ C j : Fin 1024, j.val = Perm.pair C.val → y C = y' j) (ha : ∀ l : Fin 128, a l = cs (ix2 p ⟨l.val % 32, by omega⟩))
    (hb : ∀ l : Fin 128, b l = if l.val < 64 then - sn (ix2 p ⟨l.val % 32, by omega⟩) else sn (ix2 p ⟨l.val % 32, by omega⟩)) (C : Fin 1024) :
    Slab.rot y a b C = Rope.rope cs sn y' p C := by
  have e : (⟨C.val % 128 % 32, by omega⟩ : Fin 32) = ⟨C.val % 32, by omega⟩ := Fin.ext (by simp only []; omega)
  unfold Slab.rot Rope.rope
  rw [ha, hb]
  simp only [e]
  split_ifs with h
  · rw [hy C (Rope.lo C) (by simp only [Rope.lo, Perm.pair]; omega), hy _ (Rope.hi C) (by simp only [Rope.hi, Perm.pair]; omega),
      mul_neg, ← sub_eq_add_neg]
  · rw [hy C (Rope.hi C) (by simp only [Rope.hi, Perm.pair]; omega), hy _ (Rope.lo C) (by simp only [Rope.lo, Perm.pair]; omega)]

/-- The cosines of the angles. -/
abbrev cs : FVec Ideal S8192x32 .f32 := Host.cos Tables.angles
/-- The sines of the angles. -/
abbrev sn : FVec Ideal S8192x32 .f32 := Host.sin Tables.angles
/-- The rows. -/
abbrev xs : FVec Ideal S32768x1024 .f32 := m ((c : Thread nD τ).loc main_arg0)
/-- The weights. -/
abbrev ws : FVec Ideal S1024x3072 .f32 := m ((c : Thread nD τ).loc main_arg1)

/-- Blocks that hold a row of the rows, the reordered weights, and the cosines and sines of the row's position. -/
structure Holds (x0 : FVec Ideal S512x1024 .f32) (x1 : FVec Ideal S1024x3072 .bf16) (x2 x3 : FVec Ideal S512x128 .f32)
    (x : FVec Ideal S32768x1024 .f32) (w : FVec Ideal S1024x3072 .f32) (r : Fin 512) (R : Fin 32768) : Prop where
  rows : ∀ k, x0 (ix2 r k) = x (ix2 R k)
  weights : ∀ k (C j : Fin 3072), j.val = Perm.src C.val → x1 (ix2 k C) = w (ix2 k j)
  cosine : ∀ l : Fin 128, x2 (ix2 r l) = cs (ix2 (Rope.pos R) ⟨l.val % 32, by omega⟩)
  sine : ∀ l : Fin 128, x3 (ix2 r l) = if l.val < 64 then - sn (ix2 (Rope.pos R) ⟨l.val % 32, by omega⟩) else sn (ix2 (Rope.pos R) ⟨l.val % 32, by omega⟩)

section

variable {x0 : FVec Ideal S512x1024 .f32} {x1 : FVec Ideal S1024x3072 .bf16} {x2 x3 : FVec Ideal S512x128 .f32}
variable {x : FVec Ideal S32768x1024 .f32} {w : FVec Ideal S1024x3072 .f32} {r : Fin 512} {R : Fin 32768} (H : Holds x0 x1 x2 x3 x w r R)
include H

/-- Such blocks' product with the reordered weights. -/
theorem proj_read (C j : Fin 3072) (hj : j.val = Perm.src C.val) :
    ∑ k : Fin 1024, x0 (ix2 r k) * x1 (ix2 k C) = Rope.proj x w R j :=
  Finset.sum_congr rfl fun k _ => congrArg₂ (fun a b : EReal => a * b) (H.rows k) (H.weights k C j hj)

/-- Such blocks' rotated queries. -/
theorem q_rot (C : Fin 1024) : Slab.qRot x0 x1 x2 x3 r C
    = Rope.rope cs sn (fun j => Rope.proj x w R ⟨j.val, by omega⟩) (Rope.pos R) C :=
  rot_rope cs sn _ _ _ _ _
    (fun C j h => (Slab.q_read x0 x1 x2 x3 r C).trans (proj_read H _ _ (by
      have := C.isLt; simp only [Perm.src]; rw [if_pos (by omega), h]; simp only [Perm.pair]; omega)))
    (fun l => (Slab.c_read x0 x1 x2 x3 r l).trans (H.cosine l)) (fun l => (Slab.s_read x0 x1 x2 x3 r l).trans (H.sine l)) C

/-- Such blocks' rotated keys. -/
theorem k_rot (C : Fin 1024) : Slab.kRot x0 x1 x2 x3 r C = Rope.k cs sn x w R C :=
  rot_rope cs sn _ _ _ _ _
    (fun C j h => (Slab.k_read x0 x1 x2 x3 r C).trans (proj_read H _ _ (by
      have := C.isLt; simp only [Perm.src]; rw [if_pos (by omega), h]; simp only [Perm.pair]; omega)))
    (fun l => (Slab.c_read x0 x1 x2 x3 r l).trans (H.cosine l)) (fun l => (Slab.s_read x0 x1 x2 x3 r l).trans (H.sine l)) C

/-- Such blocks' values. -/
theorem v_dot (C : Fin 1024) : ∑ k : Fin 1024, x0 (ix2 r k) * x1 (ix2 k ⟨2048 + C.val, by omega⟩) = Rope.v x w R C :=
  proj_read H _ _ (by have := C.isLt; simp only [Perm.src]; rw [if_neg (by omega)])

end

/-- Each point's blocks are such blocks, at each of their rows. -/
theorem holds (r : Fin 512) : Holds (iblk m c 0 t) (iblk m c 1 t) (iblk m c 2 t) (iblk m c 3 t) (xs m c) (ws m c) r (row t r) where
  rows := blk0 m c t r
  weights := blk1 m c t
  cosine := blk2 m c t r
  sine := blk3 m c t r

/-- The results as functions of the arguments: queries, keys and values of the first half of the heads. -/
abbrev qa : FVec Ideal S32768x512 .f32 := fun i => Rope.q cs sn (xs m c) (ws m c) (i 0) (Rope.fst (i 1))
/-- The keys. -/
abbrev ka : FVec Ideal S32768x512 .f32 := fun i => Rope.k cs sn (xs m c) (ws m c) (i 0) (Rope.fst (i 1))
/-- The values. -/
abbrev va : FVec Ideal S32768x512 .f32 := fun i => Rope.v (xs m c) (ws m c) (i 0) (Rope.fst (i 1))
/-- The queries of the second half of the heads. -/
abbrev qb : FVec Ideal S32768x512 .f32 := fun i => Rope.q cs sn (xs m c) (ws m c) (i 0) (Rope.snd (i 1))
/-- The keys. -/
abbrev kb : FVec Ideal S32768x512 .f32 := fun i => Rope.k cs sn (xs m c) (ws m c) (i 0) (Rope.snd (i 1))
/-- The values. -/
abbrev vb : FVec Ideal S32768x512 .f32 := fun i => Rope.v (xs m c) (ws m c) (i 0) (Rope.snd (i 1))
/-- The blocks' mean keys. -/
abbrev km : FVec Ideal S128x1x512 .f32 := fun i => Rope.mean cs sn (xs m c) (ws m c) (i 0) (Rope.fst (i 2))

/-- What a point leaves in the first queries' window. -/
theorem point4 (y : S512x512.Idx) : out0_4 (iblk m c 0 t) (iblk m c 1 t) (iblk m c 2 t) (iblk m c 3 t) y = qa m c (ix2 (row t (y 0)) (y 1)) :=
  (Slab.out4 _ _ _ _ y).trans (congrArg (fun z : EReal => z * _) (q_rot (holds m c t (y 0)) _))

/-- What a point leaves in the second queries' window. -/
theorem point7 (y : S512x512.Idx) : out0_7 (iblk m c 0 t) (iblk m c 1 t) (iblk m c 2 t) (iblk m c 3 t) y = qb m c (ix2 (row t (y 0)) (y 1)) :=
  (Slab.out7 _ _ _ _ y).trans (congrArg (fun z : EReal => z * _) (q_rot (holds m c t (y 0)) _))

/-- What a point leaves in the first keys' window. -/
theorem point5 (y : S512x512.Idx) : out0_5 (iblk m c 0 t) (iblk m c 1 t) (iblk m c 2 t) (iblk m c 3 t) y = ka m c (ix2 (row t (y 0)) (y 1)) :=
  (Slab.out5 _ _ _ _ y).trans (k_rot (holds m c t (y 0)) _)

/-- What a point leaves in the second keys' window. -/
theorem point8 (y : S512x512.Idx) : out0_8 (iblk m c 0 t) (iblk m c 1 t) (iblk m c 2 t) (iblk m c 3 t) y = kb m c (ix2 (row t (y 0)) (y 1)) :=
  (Slab.out8 _ _ _ _ y).trans (k_rot (holds m c t (y 0)) _)

/-- What a point leaves in the first values' window. -/
theorem point6 (y : S512x512.Idx) : out0_6 (iblk m c 0 t) (iblk m c 1 t) (iblk m c 2 t) (iblk m c 3 t) y = va m c (ix2 (row t (y 0)) (y 1)) :=
  (congrArg _ (ix2_eta y).symm).trans ((Slab.out6 _ _ _ _ (y 0) (y 1)).trans (v_dot (holds m c t (y 0)) (Rope.fst (y 1))))

/-- What a point leaves in the second values' window. -/
theorem point9 (y : S512x512.Idx) : out0_9 (iblk m c 0 t) (iblk m c 1 t) (iblk m c 2 t) (iblk m c 3 t) y = vb m c (ix2 (row t (y 0)) (y 1)) :=
  (congrArg _ (ix2_eta y).symm).trans ((Slab.out9 _ _ _ _ (y 0) (y 1)).trans (v_dot (holds m c t (y 0)) (Rope.snd (y 1))))

/-- The block of 256 rows of the array that each half of a point's rows is. -/
def half (t : Fin cfg0.N) (g : Fin 2) : Fin 128 := ⟨t.val * 2 + g.val, by have := lt_of_lt_of_eq t.isLt (show cfg0.N = 64 from N_0); omega⟩

/-- What a point leaves in the mean keys' window. -/
theorem point10 (y : S2x1x512.Idx) : out0_10 (iblk m c 0 t) (iblk m c 1 t) (iblk m c 2 t) (iblk m c 3 t) y
    = km m c (ix3 (half t (y 0)) (0 : Fin 1) (y 2)) := by
  refine (Slab.out10 _ _ _ _ y).trans (congrArg (Ideal.div · _) (Finset.sum_congr rfl fun i _ => (k_rot (holds m c t _) _).trans ?_))
  refine congrArg (fun R => Rope.k cs sn (xs m c) (ws m c) R _) (Fin.ext ?_)
  show t.val * 512 + (256 * (y 0).val + i.val) = 256 * (t.val * 2 + (y 0).val) + i.val
  omega

/-- The block indices of result window 4. -/
theorem idx4 : ∀ (t : Fin cfg0.N) a, (cfg0.win 4).index t a = ![t.val, 0] a :=
  (by decide +kernel : ∀ (t : Fin grid0.N) a, win0_4.index t a = ![t.val, 0] a)
/-- The block indices of result window 5. -/
theorem idx5 : ∀ (t : Fin cfg0.N) a, (cfg0.win 5).index t a = ![t.val, 0] a :=
  (by decide +kernel : ∀ (t : Fin grid0.N) a, win0_5.index t a = ![t.val, 0] a)
/-- The block indices of result window 6. -/
theorem idx6 : ∀ (t : Fin cfg0.N) a, (cfg0.win 6).index t a = ![t.val, 0] a :=
  (by decide +kernel : ∀ (t : Fin grid0.N) a, win0_6.index t a = ![t.val, 0] a)
/-- The block indices of result window 7. -/
theorem idx7 : ∀ (t : Fin cfg0.N) a, (cfg0.win 7).index t a = ![t.val, 0] a :=
  (by decide +kernel : ∀ (t : Fin grid0.N) a, win0_7.index t a = ![t.val, 0] a)
/-- The block indices of result window 8. -/
theorem idx8 : ∀ (t : Fin cfg0.N) a, (cfg0.win 8).index t a = ![t.val, 0] a :=
  (by decide +kernel : ∀ (t : Fin grid0.N) a, win0_8.index t a = ![t.val, 0] a)
/-- The block indices of result window 9. -/
theorem idx9 : ∀ (t : Fin cfg0.N) a, (cfg0.win 9).index t a = ![t.val, 0] a :=
  (by decide +kernel : ∀ (t : Fin grid0.N) a, win0_9.index t a = ![t.val, 0] a)
/-- The block indices of result window 10. -/
theorem idx10 : ∀ (t : Fin cfg0.N) a, (cfg0.win 10).index t a = ![t.val, 0, 0] a :=
  (by decide +kernel : ∀ (t : Fin grid0.N) a, win0_10.index t a = ![t.val, 0, 0] a)

/-- The point whose block holds a row. -/
theorem tile (r : Fin 32768) : ∃ t : Fin cfg0.N, t.val = r.val / 512 := ⟨⟨r.val / 512, by rw [show cfg0.N = 64 from N_0]; omega⟩, rfl⟩

/-- **The first queries** after the launch. -/
theorem array4 : (dats m 0 c).arrAt 4 cfg0.N = qa m c := by
  refine (dats m 0 c).arrAt_eq_of_emb 4 _ (fun t hf y => ?_) (fun i => ?_)
  · blk_simp
    rw [after0_4]
    refine (point4 m c t y).trans (congrArg (qa m c) ?_)
    unfold row
    blk_ext [idx4 t]
  · have h0 : (i 0).val < 32768 := (i 0).isLt
    have h1 : (i 1).val < 512 := (i 1).isLt
    obtain ⟨t, ht⟩ := tile (i 0)
    refine ⟨t, flush0_4 t, ?_⟩
    mem_blk
    have e0 : win0_4.index t 0 = t.val := idx4 t 0
    have e1 : win0_4.index t 1 = 0 := idx4 t 1
    rw [e0, e1]
    omega

/-- **The first keys** after the launch. -/
theorem array5 : (dats m 0 c).arrAt 5 cfg0.N = ka m c := by
  refine (dats m 0 c).arrAt_eq_of_emb 5 _ (fun t hf y => ?_) (fun i => ?_)
  · blk_simp
    rw [after0_5]
    refine (point5 m c t y).trans (congrArg (ka m c) ?_)
    unfold row
    blk_ext [idx5 t]
  · have h0 : (i 0).val < 32768 := (i 0).isLt
    have h1 : (i 1).val < 512 := (i 1).isLt
    obtain ⟨t, ht⟩ := tile (i 0)
    refine ⟨t, flush0_5 t, ?_⟩
    mem_blk
    have e0 : win0_5.index t 0 = t.val := idx5 t 0
    have e1 : win0_5.index t 1 = 0 := idx5 t 1
    rw [e0, e1]
    omega

/-- **The first values** after the launch. -/
theorem array6 : (dats m 0 c).arrAt 6 cfg0.N = va m c := by
  refine (dats m 0 c).arrAt_eq_of_emb 6 _ (fun t hf y => ?_) (fun i => ?_)
  · blk_simp
    rw [after0_6]
    refine (point6 m c t y).trans (congrArg (va m c) ?_)
    unfold row
    blk_ext [idx6 t]
  · have h0 : (i 0).val < 32768 := (i 0).isLt
    have h1 : (i 1).val < 512 := (i 1).isLt
    obtain ⟨t, ht⟩ := tile (i 0)
    refine ⟨t, flush0_6 t, ?_⟩
    mem_blk
    have e0 : win0_6.index t 0 = t.val := idx6 t 0
    have e1 : win0_6.index t 1 = 0 := idx6 t 1
    rw [e0, e1]
    omega

/-- **The second queries** after the launch. -/
theorem array7 : (dats m 0 c).arrAt 7 cfg0.N = qb m c := by
  refine (dats m 0 c).arrAt_eq_of_emb 7 _ (fun t hf y => ?_) (fun i => ?_)
  · blk_simp
    rw [after0_7]
    refine (point7 m c t y).trans (congrArg (qb m c) ?_)
    unfold row
    blk_ext [idx7 t]
  · have h0 : (i 0).val < 32768 := (i 0).isLt
    have h1 : (i 1).val < 512 := (i 1).isLt
    obtain ⟨t, ht⟩ := tile (i 0)
    refine ⟨t, flush0_7 t, ?_⟩
    mem_blk
    have e0 : win0_7.index t 0 = t.val := idx7 t 0
    have e1 : win0_7.index t 1 = 0 := idx7 t 1
    rw [e0, e1]
    omega

/-- **The second keys** after the launch. -/
theorem array8 : (dats m 0 c).arrAt 8 cfg0.N = kb m c := by
  refine (dats m 0 c).arrAt_eq_of_emb 8 _ (fun t hf y => ?_) (fun i => ?_)
  · blk_simp
    rw [after0_8]
    refine (point8 m c t y).trans (congrArg (kb m c) ?_)
    unfold row
    blk_ext [idx8 t]
  · have h0 : (i 0).val < 32768 := (i 0).isLt
    have h1 : (i 1).val < 512 := (i 1).isLt
    obtain ⟨t, ht⟩ := tile (i 0)
    refine ⟨t, flush0_8 t, ?_⟩
    mem_blk
    have e0 : win0_8.index t 0 = t.val := idx8 t 0
    have e1 : win0_8.index t 1 = 0 := idx8 t 1
    rw [e0, e1]
    omega

/-- **The second values** after the launch. -/
theorem array9 : (dats m 0 c).arrAt 9 cfg0.N = vb m c := by
  refine (dats m 0 c).arrAt_eq_of_emb 9 _ (fun t hf y => ?_) (fun i => ?_)
  · blk_simp
    rw [after0_9]
    refine (point9 m c t y).trans (congrArg (vb m c) ?_)
    unfold row
    blk_ext [idx9 t]
  · have h0 : (i 0).val < 32768 := (i 0).isLt
    have h1 : (i 1).val < 512 := (i 1).isLt
    obtain ⟨t, ht⟩ := tile (i 0)
    refine ⟨t, flush0_9 t, ?_⟩
    mem_blk
    have e0 : win0_9.index t 0 = t.val := idx9 t 0
    have e1 : win0_9.index t 1 = 0 := idx9 t 1
    rw [e0, e1]
    omega

/-- **The mean keys** after the launch. -/
theorem array10 : (dats m 0 c).arrAt 10 cfg0.N = km m c := by
  refine (dats m 0 c).arrAt_eq_of_emb 10 _ (fun t hf y => ?_) (fun i => ?_)
  · blk_simp
    rw [after0_10]
    refine (point10 m c t y).trans (congrArg (km m c) ?_)
    unfold half
    blk_ext [idx10 t]
  · have h0 : (i 0).val < 128 := (i 0).isLt
    have h1 : (i 1).val < 1 := (i 1).isLt
    have h2 : (i 2).val < 512 := (i 2).isLt
    obtain ⟨t, ht⟩ : ∃ t : Fin cfg0.N, t.val = (i 0).val / 2 := ⟨⟨(i 0).val / 2, by rw [show cfg0.N = 64 from N_0]; omega⟩, rfl⟩
    refine ⟨t, flush0_10 t, ?_⟩
    mem_blk
    have e0 : win0_10.index t 0 = t.val := idx10 t 0
    have e1 : win0_10.index t 1 = 0 := idx10 t 1
    have e2 : win0_10.index t 2 = 0 := idx10 t 2
    rw [e0, e1, e2]
    omega

end Cert.Kernel4Ideal.Out
-- ==== Proof.Ref4.lean ====
/-
  The reference of the attention layer's input projection ends with the same functions of its arguments.
-/
module

public import proofs.«01_k».proof.Proof.Rope
public import proofs.«01_k».proof.Proof.Tables
public import proofs.«01_k».proof.Proof.Gen.Reference4Ideal.Run

@[expose] public section

noncomputable section

namespace Cert.Reference4Ideal.Read

open Idealize.ShloMosaic Idealize.ShloMosaic.TcCoe Idealize.SL.Sem
open Cert.Reference4Ideal Cert.Reference4Ideal.Gen

/-- The rows' product with the weights. -/
abbrev prod (x : FVec Ideal S32768x1024 .f32) (w : FVec Ideal S1024x3072 .f32) : FVec Ideal S32768x3072 .f32 :=
  Host.dotGeneral dot_S32768x1024_S1024x3072_S32768x3072_1_0_0_1_n_n none x w

/-- The product with its heads in front. -/
abbrev heads (p : FVec Ideal S32768x3072 .f32) : FVec Ideal S4x3x16x8192x64 .f32 :=
  transpose S4x3x16x8192x64 [0, 2, 3, 1, 4] (shapeCast _ p shapeCasts_S32768x3072_S4x8192x3x16x64) transposes_S4x8192x3x16x64_S4x3x16x8192x64_0_2_3_1_4

/-- One of queries, keys and values. -/
def part (t : ℕ) (h : S4x3x16x8192x64.Slices ![0, t, 0, 0, 0] S4x1x16x8192x64) (p : FVec Ideal S32768x3072 .f32) : FVec Ideal S4x16x8192x64 .f32 :=
  shapeCast _ (extractStridedSlice S4x1x16x8192x64 ![0, t, 0, 0, 0] (heads p) h) shapeCasts_S4x1x16x8192x64_S4x16x8192x64

/-- An entry of it. -/
theorem part_read (t : ℕ) (h : S4x3x16x8192x64.Slices ![0, t, 0, 0, 0] S4x1x16x8192x64) (ht : t < 3) (p : FVec Ideal S32768x3072 .f32)
    (b : Fin 4) (n : Fin 16) (s : Fin 8192) (d : Fin 64) :
    part t h p (ix4 b n s d) = p (ix2 ⟨8192 * b.val + s.val, by omega⟩ ⟨1024 * t + 64 * n.val + d.val, by omega⟩) := by
  pointwise [part]
  exact congrArg p (congrArg₂ ix2 (Fin.ext (by show b.val * 8192 + s.val = 8192 * b.val + s.val; omega))
    (Fin.ext (by show t * 1024 + n.val * 64 + d.val = 1024 * t + 64 * n.val + d.val; omega)))

/-- A table of positions and frequencies, for every head. -/
abbrev spread (z : FVec Ideal S8192x32 .f32) : FVec Ideal S4x16x8192x32 .f32 :=
  broadcastInDim S4x16x8192x32 ![0, 1, 2, 3] bcast_S1x1x8192x32_S4x16x8192x32_0_1_2_3 (broadcastInDim S1x1x8192x32 ![2, 3] bcast_S8192x32_S1x1x8192x32_2_3 z)

/-- The heads rotated. -/
def rotated (cs sn : FVec Ideal S8192x32 .f32) (z : FVec Ideal S4x16x8192x64 .f32) : FVec Ideal S4x16x8192x64 .f32 :=
  Value.fn_main_v39
    (subf (mulf (extractStridedSlice S4x16x8192x32 ![0, 0, 0, 0] z slices_S4x16x8192x64_S4x16x8192x32_0_0_0_0) (spread cs))
      (mulf (extractStridedSlice S4x16x8192x32 ![0, 0, 0, 32] z slices_S4x16x8192x64_S4x16x8192x32_0_0_0_32) (spread sn)))
    (addf (mulf (extractStridedSlice S4x16x8192x32 ![0, 0, 0, 32] z slices_S4x16x8192x64_S4x16x8192x32_0_0_0_32) (spread cs))
      (mulf (extractStridedSlice S4x16x8192x32 ![0, 0, 0, 0] z slices_S4x16x8192x64_S4x16x8192x32_0_0_0_0) (spread sn)))

/-- An entry of them. -/
theorem rotated_read (cs sn : FVec Ideal S8192x32 .f32) (z : FVec Ideal S4x16x8192x64 .f32) (b : Fin 4) (n : Fin 16) (s : Fin 8192) (d : Fin 64) :
    rotated cs sn z (ix4 b n s d)
      = if d.val < 32 then z (ix4 b n s ⟨d.val % 32, by omega⟩) * cs (ix2 s ⟨d.val % 32, by omega⟩)
          - z (ix4 b n s ⟨32 + d.val % 32, by omega⟩) * sn (ix2 s ⟨d.val % 32, by omega⟩)
        else z (ix4 b n s ⟨32 + d.val % 32, by omega⟩) * cs (ix2 s ⟨d.val % 32, by omega⟩)
          + z (ix4 b n s ⟨d.val % 32, by omega⟩) * sn (ix2 s ⟨d.val % 32, by omega⟩) := by
  pointwise [rotated, Value.fn_main_v39]
  by_cases h : d.val < 32
  · rw [dif_pos h, if_pos h]
    have e : d.val % 32 = d.val := by omega
    simp only [e]
  · rw [dif_neg h, if_neg h]
    have e : d.val % 32 = d.val - 32 := by omega
    simp only [e]

/-- The paired layout. -/
def paired (z : FVec Ideal S4x16x8192x64 .f32) : FVec Ideal S32768x1024 .f32 :=
  shapeCast _ (transpose S4x8192x8x2x2x32 [0, 3, 1, 4, 2, 5] (shapeCast _ z shapeCasts_S4x16x8192x64_S4x8x2x8192x2x32)
    transposes_S4x8x2x8192x2x32_S4x8192x8x2x2x32_0_3_1_4_2_5) shapeCasts_S4x8192x8x2x2x32_S32768x1024

/-- An entry of it. -/
theorem paired_read (z : FVec Ideal S4x16x8192x64 .f32) (r : Fin 32768) (C : Fin 1024) :
    paired z (ix2 r C) = z (ix4 ⟨r.val / 8192, by omega⟩ ⟨2 * (C.val / 128) + C.val % 64 / 32, by omega⟩ ⟨r.val % 8192, by omega⟩
      ⟨32 * (C.val % 128 / 64) + C.val % 32, by omega⟩) := by
  pointwise [paired]
  have e1 : C.val / 128 * 2 + C.val / 32 % 2 = 2 * (C.val / 128) + C.val % 64 / 32 := by omega
  have e2 : C.val / 64 % 2 * 32 + C.val % 32 = 32 * (C.val % 128 / 64) + C.val % 32 := by omega
  simp only [e1, e2]

/-- The queries or the keys, rotated and paired. -/
theorem rope_read (cs sn : FVec Ideal S8192x32 .f32) (t : ℕ) (h : S4x3x16x8192x64.Slices ![0, t, 0, 0, 0] S4x1x16x8192x64) (ht : t < 3)
    (p : FVec Ideal S32768x3072 .f32) (r : Fin 32768) (C : Fin 1024) :
    paired (rotated cs sn (part t h p)) (ix2 r C) = Rope.rope cs sn (fun j => p (ix2 r ⟨1024 * t + j.val, by omega⟩)) (Rope.pos r) C := by
  rw [paired_read, rotated_read]
  simp only [part_read t h ht]
  unfold Rope.rope Rope.lo Rope.hi Rope.pos
  have er : (⟨8192 * (r.val / 8192) + r.val % 8192, by omega⟩ : Fin 32768) = r := Fin.ext (by show 8192 * (r.val / 8192) + r.val % 8192 = r.val; omega)
  have ef : (32 * (C.val % 128 / 64) + C.val % 32) % 32 = C.val % 32 := by omega
  have ed : (32 * (C.val % 128 / 64) + C.val % 32 < 32) = (C.val % 128 < 64) := propext ⟨fun _ => by omega, fun _ => by omega⟩
  simp only [er, ef, ed, ← Nat.add_assoc]

variable (m : (ℓ : Loc nD τ sig) → Buf (Elt Ideal) ℓ) (c : Dev nD)

/-- The rows' product with the weights. -/
abbrev pr : FVec Ideal S32768x3072 .f32 := prod (m ((c.tc : Thread nD τ).loc main_arg0)) (m ((c.tc : Thread nD τ).loc main_arg1))
/-- The cosines of the angles. -/
abbrev cs : FVec Ideal S8192x32 .f32 := Host.cos Cert.Kernel4Ideal.Tables.angles
/-- The sines of the angles. -/
abbrev sn : FVec Ideal S8192x32 .f32 := Host.sin Cert.Kernel4Ideal.Tables.angles

/-- The reference's queries, before their columns are divided. -/
def qs : FVec Ideal S32768x1024 .f32 :=
  paired (mulf (rotated cs sn (part 0 slices_S4x3x16x8192x64_S4x1x16x8192x64_0_0_0_0_0 (pr m c)))
    (broadcastInDim S4x16x8192x64 ![] bcast_S_S4x16x8192x64 (constant S_ .f32 0x3E000000#32)))
/-- Its keys. -/
def ks : FVec Ideal S32768x1024 .f32 := paired (rotated cs sn (part 1 slices_S4x3x16x8192x64_S4x1x16x8192x64_0_1_0_0_0 (pr m c)))
/-- Its values. -/
def vs : FVec Ideal S32768x1024 .f32 :=
  shapeCast _ (transpose S4x8192x16x64 [0, 2, 1, 3] (part 2 slices_S4x3x16x8192x64_S4x1x16x8192x64_0_2_0_0_0 (pr m c))
    transposes_S4x16x8192x64_S4x8192x16x64_0_2_1_3) shapeCasts_S4x8192x16x64_S32768x1024

/-- An entry of the product. -/
theorem prod_read (x : FVec Ideal S32768x1024 .f32) (w : FVec Ideal S1024x3072 .f32) (r : Fin 32768) (j : Fin 3072) :
    prod x w (ix2 r j) = Rope.proj x w r j := by
  unfold Rope.proj
  pointwise []

/-- The queries. -/
theorem q_read (r : Fin 32768) (C : Fin 1024) :
    qs m c (ix2 r C) = Rope.q cs sn (m ((c.tc : Thread nD τ).loc main_arg0)) (m ((c.tc : Thread nD τ).loc main_arg1)) r C := by
  refine ((paired_read _ r C).trans (congrArg (fun z : EReal => z * Ideal.ofBits .f32 0x3E000000#32)
    ((paired_read _ r C).symm.trans ((rope_read cs sn 0 _ (by decide) (pr m c) r C).trans ?_))))
  simp only [prod_read, Nat.mul_zero, Nat.zero_add]

/-- The keys. -/
theorem k_read (r : Fin 32768) (C : Fin 1024) :
    ks m c (ix2 r C) = Rope.k cs sn (m ((c.tc : Thread nD τ).loc main_arg0)) (m ((c.tc : Thread nD τ).loc main_arg1)) r C := by
  refine (rope_read cs sn 1 _ (by decide) (pr m c) r C).trans ?_
  unfold Rope.k
  simp only [prod_read, Nat.mul_one]

/-- The values. -/
theorem v_read (r : Fin 32768) (C : Fin 1024) :
    vs m c (ix2 r C) = Rope.v (m ((c.tc : Thread nD τ).loc main_arg0)) (m ((c.tc : Thread nD τ).loc main_arg1)) r C := by
  unfold vs Rope.v
  pointwise []
  refine (part_read 2 _ (by decide) _ _ _ _ _).trans ((prod_read _ _ _ _).trans ?_)
  exact congrArg₂ (Rope.proj _ _) (Fin.ext (by simp only []; omega)) (Fin.ext (by simp only []; omega))

/-- The first 512 columns. -/
abbrev left (z : FVec Ideal S32768x1024 .f32) : FVec Ideal S32768x512 .f32 := extractStridedSlice S32768x512 ![0, 0] z slices_S32768x1024_S32768x512_0_0
/-- The last 512 columns. -/
abbrev right (z : FVec Ideal S32768x1024 .f32) : FVec Ideal S32768x512 .f32 := extractStridedSlice S32768x512 ![0, 512] z slices_S32768x1024_S32768x512_0_512

/-- The mean over each block of 256 rows. -/
def means (z : FVec Ideal S32768x1024 .f32) : FVec Ideal S128x1x512 .f32 :=
  Host.divf (broadcastInDim S128x1x512 ![0, 2] bcast_S128x512_S128x1x512_0_2 (Host.reduceAdd (shapeCast _ (left z)
    shapeCasts_S32768x512_S128x256x512) (constant S_ .f32 0x00000000#32) reducesTo_S128x256x512_S128x512_d1 h_S_))
    (broadcastInDim S128x1x512 ![] bcast_S_S128x1x512 (constant S_ .f32 0x43800000#32))

/-- An entry of the means. -/
theorem means_read (z : FVec Ideal S32768x1024 .f32) (i : S128x1x512.Idx) :
    means z i = Ideal.div (∑ n : Fin 256, z (ix2 ⟨256 * (i 0).val + n.val, by have h : (i 0).val < 128 := (i 0).isLt; omega⟩ (Rope.fst (i 2))))
      (Ideal.ofBits .f32 0x43800000#32) := by
  pointwise [means]
  refine congrArg (Ideal.div · _) (Finset.sum_congr rfl fun n _ => congrArg z (congrArg₂ ix2 (Fin.ext ?_) rfl))
  exact congrArg (· + n.val) (Nat.mul_comm _ _)

/-- The columns' halves at an entry. -/
theorem left_read (z : FVec Ideal S32768x1024 .f32) (i : S32768x512.Idx) : left z i = z (ix2 (i 0) (Rope.fst (i 1))) := by pointwise []
/-- The last columns at an entry. -/
theorem right_read (z : FVec Ideal S32768x1024 .f32) (i : S32768x512.Idx) : right z i = z (ix2 (i 0) (Rope.snd (i 1))) := by pointwise []

/-- The first queries, as printed. -/
theorem res78 : Value.res_main_v78 m c = truncf .bf16 (left (qs m c)) bitsLt_bf16_f32 := by
  unfold Value.res_main_v78 qs paired rotated part Value.fn_main_v39 left heads pr prod spread cs sn Cert.Kernel4Ideal.Tables.angles
  with_reducible rfl

/-- The second queries, as printed. -/
theorem res83 : Value.res_main_v83 m c = right (qs m c) := by
  unfold Value.res_main_v83 qs paired rotated part Value.fn_main_v39 right heads pr prod spread cs sn Cert.Kernel4Ideal.Tables.angles
  with_reducible rfl

/-- The first keys, as printed. -/
theorem res80 : Value.res_main_v80 m c = truncf .bf16 (left (ks m c)) bitsLt_bf16_f32 := by
  unfold Value.res_main_v80 ks paired rotated part Value.fn_main_v39 left heads pr prod spread cs sn Cert.Kernel4Ideal.Tables.angles
  with_reducible rfl

/-- The second keys, as printed. -/
theorem res84 : Value.res_main_v84 m c = right (ks m c) := by
  unfold Value.res_main_v84 ks paired rotated part Value.fn_main_v39 right heads pr prod spread cs sn Cert.Kernel4Ideal.Tables.angles
  with_reducible rfl

/-- The mean keys, as printed. -/
theorem res76 : Value.res_main_v76 m c = means (ks m c) := by
  unfold Value.res_main_v76 means ks paired rotated part Value.fn_main_v39 left heads pr prod spread cs sn Cert.Kernel4Ideal.Tables.angles
  with_reducible rfl

/-- Narrowing changes no entry at the extended reals. -/
theorem narrow_read (z : FVec Ideal S32768x512 .f32) (i : S32768x512.Idx) : truncf .bf16 z bitsLt_bf16_f32 i = z i := rfl

/-- The first queries. -/
theorem out78 : Value.res_main_v78 m c = fun i : S32768x512.Idx => Rope.q cs sn (m ((c.tc : Thread nD τ).loc main_arg0)) (m ((c.tc : Thread nD τ).loc main_arg1)) (i 0) (Rope.fst (i 1)) := by
  rw [res78]
  exact funext fun i => (narrow_read _ i).trans ((left_read (qs m c) i).trans (q_read m c _ _))

/-- The first keys. -/
theorem out80 : Value.res_main_v80 m c = fun i : S32768x512.Idx => Rope.k cs sn (m ((c.tc : Thread nD τ).loc main_arg0)) (m ((c.tc : Thread nD τ).loc main_arg1)) (i 0) (Rope.fst (i 1)) := by
  rw [res80]
  exact funext fun i => (narrow_read _ i).trans ((left_read (ks m c) i).trans (k_read m c _ _))

/-- The first values. -/
theorem out82 : truncf .bf16 (left (vs m c)) bitsLt_bf16_f32 = fun i : S32768x512.Idx => Rope.v (m ((c.tc : Thread nD τ).loc main_arg0)) (m ((c.tc : Thread nD τ).loc main_arg1)) (i 0) (Rope.fst (i 1)) :=
  funext fun i => (narrow_read _ i).trans ((left_read (vs m c) i).trans (v_read m c _ _))

/-- The second queries. -/
theorem out83 : Value.res_main_v83 m c = fun i : S32768x512.Idx => Rope.q cs sn (m ((c.tc : Thread nD τ).loc main_arg0)) (m ((c.tc : Thread nD τ).loc main_arg1)) (i 0) (Rope.snd (i 1)) := by
  rw [res83]
  exact funext fun i => (right_read (qs m c) i).trans (q_read m c _ _)

/-- The second keys. -/
theorem out84 : Value.res_main_v84 m c = fun i : S32768x512.Idx => Rope.k cs sn (m ((c.tc : Thread nD τ).loc main_arg0)) (m ((c.tc : Thread nD τ).loc main_arg1)) (i 0) (Rope.snd (i 1)) := by
  rw [res84]
  exact funext fun i => (right_read (ks m c) i).trans (k_read m c _ _)

/-- The second values. -/
theorem out85 : right (vs m c) = fun i : S32768x512.Idx => Rope.v (m ((c.tc : Thread nD τ).loc main_arg0)) (m ((c.tc : Thread nD τ).loc main_arg1)) (i 0) (Rope.snd (i 1)) :=
  funext fun i => (right_read (vs m c) i).trans (v_read m c _ _)

/-- The mean keys. -/
theorem out76 : Value.res_main_v76 m c = fun i : S128x1x512.Idx => Rope.mean cs sn (m ((c.tc : Thread nD τ).loc main_arg0)) (m ((c.tc : Thread nD τ).loc main_arg1)) (i 0) (Rope.fst (i 2)) := by
  rw [res76]
  exact funext fun i => (means_read (ks m c) i).trans (congrArg (Ideal.div · _) (Finset.sum_congr rfl fun n _ => k_read m c _ _))

/-- The reference's run, its seven results read by rows and columns. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = (fun i : S32768x512.Idx => Rope.q cs sn (m ((c.tc : Thread nD τ).loc main_arg0)) (m ((c.tc : Thread nD τ).loc main_arg1)) (i 0) (Rope.fst (i 1)))
      ∧ r.2.mem ((c.tc : Thread nD τ).loc main_v80) = (fun i : S32768x512.Idx => Rope.k cs sn (m ((c.tc : Thread nD τ).loc main_arg0)) (m ((c.tc : Thread nD τ).loc main_arg1)) (i 0) (Rope.fst (i 1)))
      ∧ r.2.mem ((c.tc : Thread nD τ).loc main_v82) = (fun i : S32768x512.Idx => Rope.v (m ((c.tc : Thread nD τ).loc main_arg0)) (m ((c.tc : Thread nD τ).loc main_arg1)) (i 0) (Rope.fst (i 1)))
      ∧ r.2.mem ((c.tc : Thread nD τ).loc main_v83) = (fun i : S32768x512.Idx => Rope.q cs sn (m ((c.tc : Thread nD τ).loc main_arg0)) (m ((c.tc : Thread nD τ).loc main_arg1)) (i 0) (Rope.snd (i 1)))
      ∧ r.2.mem ((c.tc : Thread nD τ).loc main_v84) = (fun i : S32768x512.Idx => Rope.k cs sn (m ((c.tc : Thread nD τ).loc main_arg0)) (m ((c.tc : Thread nD τ).loc main_arg1)) (i 0) (Rope.snd (i 1)))
      ∧ r.2.mem ((c.tc : Thread nD τ).loc main_v85) = (fun i : S32768x512.Idx => Rope.v (m ((c.tc : Thread nD τ).loc main_arg0)) (m ((c.tc : Thread nD τ).loc main_arg1)) (i 0) (Rope.snd (i 1)))
      ∧ r.2.mem ((c.tc : Thread nD τ).loc main_v76) = (fun i : S128x1x512.Idx => Rope.mean cs sn (m ((c.tc : Thread nD τ).loc main_arg0)) (m ((c.tc : Thread nD τ).loc main_arg1)) (i 0) (Rope.fst (i 2)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ?_) (Value.run (F := Ideal) m ρ)
  obtain ⟨h0, h1, h2, h3, h4, h5, h6, ha⟩ := h c
  exact ⟨h0.trans (out78 m c), h1.trans (out80 m c), h2.trans (out82 m c), h3.trans (out83 m c), h4.trans (out84 m c), h5.trans (out85 m c),
    h6.trans (out76 m c), ha⟩

end Cert.Reference4Ideal.Read
-- ==== Proof.Gdn.lean ====
/-
  The gated DeltaNet layer's input projection over the extended reals: the convolved, gated and normalized columns, the
  write strengths and the running decays, as functions of the rows, the weights and the gate's parameters.
-/
module

public import Idealize.ShloMosaic.Lib.Pointwise

@[expose] public section

noncomputable section

namespace Cert.Gdn

open Idealize.ShloMosaic

/-- `y` times its logistic. -/
def silu (y : EReal) : EReal := y * Ideal.div 1 (1 + Ideal.exp (0 - y))

/-- The logarithm of `1 + exp a`, written so that the exponential does not overflow. -/
def softplus (a : EReal) : EReal := max a 0 + Ideal.log (1 + Ideal.exp (0 - max a (-a)))

/-- A column of the head of 128 columns that `C` stands in. -/
def mate (C : Fin 4096) (l : Fin 128) : Fin 4096 := ⟨128 * (C.val / 128) + l.val, by omega⟩

/-- A row of columns, each head divided by its length. -/
def unit (s : Fin 4096 → EReal) (C : Fin 4096) : EReal :=
  s C * Ideal.rsqrt (∑ l, s (mate C l) * s (mate C l) + Ideal.ofBits .f32 0x358637BD#32)

/-- A row of convolved columns gated, the queries' heads normalized and scaled, the keys' heads normalized. -/
def heads (y : Fin 4096 → EReal) (C : Fin 4096) : EReal :=
  if C.val < 1024 then unit (fun j => silu (y j)) C * Ideal.ofBits .f32 0x3DB504F3#32
  else if C.val < 2048 then unit (fun j => silu (y j)) C
  else silu (y C)

theorem heads_q (y : Fin 4096 → EReal) (C : Fin 4096) (h : C.val < 1024) :
    heads y C = unit (fun j => silu (y j)) C * Ideal.ofBits .f32 0x3DB504F3#32 := if_pos h

theorem heads_k (y : Fin 4096 → EReal) (C : Fin 4096) (h : 1024 ≤ C.val) (h' : C.val < 2048) : heads y C = unit (fun j => silu (y j)) C :=
  (if_neg (by omega)).trans (if_pos h')

theorem heads_v (y : Fin 4096 → EReal) (C : Fin 4096) (h : 2048 ≤ C.val) : heads y C = silu (y C) :=
  (if_neg (by omega)).trans (if_neg (by omega))

/-- Four taps weighted. -/
def four (u v : Fin 4 → EReal) : EReal := u 0 * v 0 + u 1 * v 1 + u 2 * v 2 + u 3 * v 3

variable (x : FVec Ideal ⟨2, ![32768, 1024]⟩ .f32) (w : FVec Ideal ⟨2, ![1024, 6176]⟩ .f32) (cw : FVec Ideal ⟨2, ![4, 4096]⟩ .f32)
  (al dt : FVec Ideal ⟨1, ![16]⟩ .f32)

/-- An entry of the product of the rows with the weights (zero past the last row). -/
def proj (n : ℕ) (j : Fin 6176) : EReal := if hn : n < 32768 then ∑ k, x (ix2 ⟨n, hn⟩ k) * w (ix2 k j) else 0

/-- What the tap `j` of the causal convolution reads at row `n`: the row `3 - j` earlier in its sequence of 8192, zero before the sequence. -/
def tap (n : ℕ) (C : Fin 4096) (j : Fin 4) : EReal := if n % 8192 + j.val < 3 then 0 else proj x w (n + j.val - 3) ⟨C.val, by omega⟩

/-- The convolution along a sequence. -/
def conv (n : ℕ) (C : Fin 4096) : EReal := four (tap x w n C) fun j => cw (ix2 j C)

/-- The queries, keys and values of a row. -/
def qkv (n : ℕ) (C : Fin 4096) : EReal := heads (conv x w cw n) C

/-- The gate's columns. -/
def gate (n : ℕ) (C : Fin 2048) : EReal := proj x w n ⟨4096 + C.val, by omega⟩

/-- The write strengths. -/
def beta (n : ℕ) (a : Fin 16) : EReal := Ideal.div 1 (1 + Ideal.exp (0 - proj x w n ⟨6144 + a.val, by omega⟩))

/-- The logarithm of a row's decay. -/
def decay (n : ℕ) (a : Fin 16) : EReal := (0 - Ideal.exp (al (ix1 a))) * softplus (proj x w n ⟨6160 + a.val, by omega⟩ + dt (ix1 a))

/-- The decays' running sum within a chunk of 64 rows. -/
def total (n : ℕ) (a : Fin 16) : EReal := ∑ j : Fin 64, if j.val ≤ n % 64 then decay x w al dt (64 * (n / 64) + j.val) a else 0

end Cert.Gdn
-- ==== Proof.Cum5.lean ====
/-
  The running sum within chunks of 64 rows, as the host writes it: a window of 64 rows over the chunk padded with zeros in front.
-/
module

public import Idealize.ShloMosaic.Lib.Pointwise
public import Idealize.ShloMosaic.Lib.Claim

@[expose] public section

noncomputable section

namespace Cert.Cum

open Idealize.ShloMosaic

/-- A left fold that adds terms is the starting value and their sum. -/
theorem foldl_sum {n : ℕ} (f : Fin n → EReal) (v : EReal) : (List.finRange n).foldl (fun a k => a + f k) v = v + ∑ k, f k := by
  have key : ∀ (l : List (Fin n)) (v : EReal), l.foldl (fun a k => a + f k) v = v + (l.map f).sum := by
    intro l
    induction l with
    | nil => intro v; simp
    | cons a l ih => intro v; rw [List.foldl_cons, ih, List.map_cons, List.sum_cons, add_assoc]
  rw [key, ← Fin.sum_univ_def]

/-- The chunks. -/
abbrev Chunks : Shape := ⟨3, ![512, 64, 16]⟩
/-- The window. -/
abbrev Win : Shape := ⟨3, ![1, 64, 1]⟩

theorem numel_win : Win.numel = 64 := by decide

/-- The window's positions, in row-major order. -/
theorem win_val : ∀ (n : Fin Win.numel), ((Win.rowMajor.symm n) 0).val = 0 ∧ ((Win.rowMajor.symm n) 1).val = n.val ∧ ((Win.rowMajor.symm n) 2).val = 0 := by
  decide +kernel

/-- The terms a window reads, over the chunk's rows. -/
theorem window_sum (F : Fin 64 → EReal) (j : Fin 64) :
    ∑ n : Fin 64, (if h : 63 ≤ j.val + n.val then F ⟨j.val + n.val - 63, by omega⟩ else 0) = ∑ k : Fin 64, if k.val ≤ j.val then F k else 0 := by
  have e1 : ∑ n : Fin 64, (if h : 63 ≤ j.val + n.val then F ⟨j.val + n.val - 63, by omega⟩ else 0)
      = ∑ n ∈ Finset.univ.filter (fun n : Fin 64 => 63 ≤ j.val + n.val), F ⟨(j.val + n.val - 63) % 64, by omega⟩ := by
    rw [Finset.sum_filter]
    refine Finset.sum_congr rfl fun n _ => ?_
    split_ifs with h
    · exact congrArg F (Fin.ext (by simp only []; omega))
    · rfl
  rw [e1, ← Finset.sum_filter]
  refine Finset.sum_bij (fun n _ => (⟨(j.val + n.val - 63) % 64, by omega⟩ : Fin 64)) ?_ ?_ ?_ ?_
  · intro n hn
    rw [Finset.mem_filter] at hn ⊢
    refine ⟨Finset.mem_univ _, ?_⟩
    have := hn.2
    simp only []; omega
  · intro a ha b hb h
    rw [Finset.mem_filter] at ha hb
    have := Fin.mk.inj h
    exact Fin.ext (by omega)
  · intro k hk
    rw [Finset.mem_filter] at hk
    have := hk.2
    refine ⟨⟨63 + k.val - j.val, by omega⟩, ?_, ?_⟩
    · rw [Finset.mem_filter]; exact ⟨Finset.mem_univ _, by simp only []; omega⟩
    · exact Fin.ext (by simp only []; omega)
  · intro n hn
    rfl

/-- A host window sum is the starting value and what its window's positions read. -/
theorem window_fold {s t u : Shape} {window strides lo hi : Fin s.rank → ℕ} (x : FVec Ideal s .f32) (init : u.Idx → Ideal .f32)
    (h : s.ReduceWindows window strides lo hi t) (hu : 0 < u.numel) (j : t.Idx) :
    Host.reduceWindowAdd (F := Ideal) window strides lo hi x init h hu j
      = (init (Shape.Idx.first hu) : EReal) + ∑ n : Fin (⟨s.rank, window⟩ : Shape).numel,
        if hin : ∀ a, lo a ≤ (j (a.cast h.1.symm)).val * strides a + ((⟨s.rank, window⟩ : Shape).rowMajor.symm n a).val
            ∧ (j (a.cast h.1.symm)).val * strides a + ((⟨s.rank, window⟩ : Shape).rowMajor.symm n a).val - lo a < s.size a then
          x (fun a => ⟨(j (a.cast h.1.symm)).val * strides a + ((⟨s.rank, window⟩ : Shape).rowMajor.symm n a).val - lo a, (hin a).2⟩)
        else (init (Shape.Idx.first hu) : EReal) := by
  refine Eq.trans ?_ (foldl_sum _ _)
  unfold Host.reduceWindowAdd
  rw [Ideal.hostReduceWindowAdd_def]
  unfold Ideal.hostReduceWindowAdd Host.reduceWindow
  dsimp only
  refine congrArg (fun f => List.foldl f _ _) (funext fun r => funext fun n => congrArg (fun z : EReal => r + z) ?_)
  split_ifs <;> rfl

/-- The running sum read: the chunk's rows up to the row. -/
theorem cum_read (x : FVec Ideal Chunks .f32) {u : Shape} (init : u.Idx → Ideal .f32) (h : Chunks.ReduceWindows ![1, 64, 1] ![1, 1, 1] ![0, 63, 0] ![0, 0, 0] Chunks)
    (hu : 0 < u.numel) (h0 : init (Shape.Idx.first hu) = (0 : EReal)) (b : Fin 512) (j : Fin 64) (l : Fin 16) :
    Host.reduceWindowAdd (F := Ideal) ![1, 64, 1] ![1, 1, 1] ![0, 63, 0] ![0, 0, 0] x init h hu (ix3 b j l)
      = ∑ k : Fin 64, if k.val ≤ j.val then x (ix3 b k l) else 0 := by
  have hstep : ∀ n : Fin Win.numel, (if hin : ∀ a : Fin 3, (![0, 63, 0] : Fin 3 → ℕ) a ≤ ((ix3 b j l : Chunks.Idx) a).val * (![1, 1, 1] : Fin 3 → ℕ) a + (Win.rowMajor.symm n a).val
          ∧ ((ix3 b j l : Chunks.Idx) a).val * (![1, 1, 1] : Fin 3 → ℕ) a + (Win.rowMajor.symm n a).val - (![0, 63, 0] : Fin 3 → ℕ) a < Chunks.size a then
        x (fun a => ⟨((ix3 b j l : Chunks.Idx) a).val * (![1, 1, 1] : Fin 3 → ℕ) a + (Win.rowMajor.symm n a).val - (![0, 63, 0] : Fin 3 → ℕ) a, (hin a).2⟩) else (0 : EReal))
      = if h : 63 ≤ j.val + n.val then x (ix3 b ⟨j.val + n.val - 63, by have := lt_of_lt_of_eq n.isLt numel_win; omega⟩ l) else 0 := by
    intro n
    obtain ⟨w0, w1, w2⟩ := win_val n
    have hn := lt_of_lt_of_eq n.isLt numel_win
    by_cases h63 : 63 ≤ j.val + n.val
    · rw [dif_pos h63, dif_pos]
      · refine congrArg x (funext fun a => Fin.ext ?_)
        match a with
        | 0 => show b.val * 1 + (Win.rowMajor.symm n 0).val - 0 = b.val; omega
        | 1 => show j.val * 1 + (Win.rowMajor.symm n 1).val - 63 = j.val + n.val - 63; omega
        | 2 => show l.val * 1 + (Win.rowMajor.symm n 2).val - 0 = l.val; omega
      · intro a
        match a with
        | 0 => show 0 ≤ b.val * 1 + (Win.rowMajor.symm n 0).val ∧ b.val * 1 + (Win.rowMajor.symm n 0).val - 0 < 512; omega
        | 1 => show 63 ≤ j.val * 1 + (Win.rowMajor.symm n 1).val ∧ j.val * 1 + (Win.rowMajor.symm n 1).val - 63 < 64; omega
        | 2 => show 0 ≤ l.val * 1 + (Win.rowMajor.symm n 2).val ∧ l.val * 1 + (Win.rowMajor.symm n 2).val - 0 < 16; omega
    · rw [dif_neg h63, dif_neg]
      intro hin
      have h1 : 63 ≤ j.val * 1 + (Win.rowMajor.symm n 1).val := (hin 1).1
      omega
  refine (window_fold (window := ![1, 64, 1]) (strides := ![1, 1, 1]) (lo := ![0, 63, 0]) (hi := ![0, 0, 0]) x init h hu _).trans ?_
  rw [h0, zero_add]
  refine Eq.trans (Fintype.sum_congr _ _ fun n => Eq.trans (by split_ifs <;> rename_i a b <;> first | rfl | exact absurd a b | exact absurd b a) (hstep n)) ?_
  refine Eq.trans ?_ (window_sum (fun k => x (ix3 b k l)) j)
  exact Fintype.sum_equiv (finCongr numel_win) _ _ fun n => rfl

end Cert.Cum
-- ==== Proof.Ref5.lean ====
/-
  The reference of the gated DeltaNet layer's input projection ends with the same functions of its arguments.
-/
module

public import proofs.«01_k».proof.Proof.Gdn
public import proofs.«01_k».proof.Proof.Cum5
public import proofs.«01_k».proof.Proof.Gen.Reference5Ideal.Run

@[expose] public section

noncomputable section

namespace Cert.Reference5Ideal.Read

open Idealize.ShloMosaic Idealize.ShloMosaic.TcCoe Idealize.SL.Sem
open Cert.Reference5Ideal Cert.Reference5Ideal.Gen

variable (x : FVec Ideal S32768x1024 .f32) (w : FVec Ideal S1024x6176 .f32) (cw : FVec Ideal S4x4096 .f32) (al dt : FVec Ideal S16 .f32)

/-- The rows' product with the weights. -/
abbrev prod : FVec Ideal S32768x6176 .f32 := Host.dotGeneral dot_S32768x1024_S1024x6176_S32768x6176_1_0_0_1_n_n none x w

/-- An entry of the product. -/
theorem prod_read (r : Fin 32768) (j : Fin 6176) : prod x w (ix2 r j) = Gdn.proj x w r.val j := by
  unfold Gdn.proj
  rw [dif_pos r.isLt]
  pointwise []

/-- The columns to be convolved, three rows of zeros before each sequence. -/
abbrev padded (p : FVec Ideal S32768x6176 .f32) : FVec Ideal S4x8195x4096 .f32 :=
  pad S4x8195x4096 ![0, 3, 0] ![0, 0, 0] ![0, 0, 0] (shapeCast _ (extractStridedSlice S32768x4096 ![0, 0] p slices_S32768x6176_S32768x4096_0_0)
    shapeCasts_S32768x4096_S4x8192x4096) (sitofp .f32 (constantI S_ 32 0#32)) pads_S4x8192x4096_S4x8195x4096_000_300_000 h_S_

/-- A tap's rows times the tap's weights. -/
def term (k : ℕ) (h : S4x8195x4096.Slices ![0, k, 0] S4x8192x4096) (h' : S4x4096.Slices ![k, 0] S1x4096) (p : FVec Ideal S32768x6176 .f32) : FVec Ideal S4x8192x4096 .f32 :=
  mulf (extractStridedSlice S4x8192x4096 ![0, k, 0] (padded p) h)
    (broadcastInDim S4x8192x4096 ![0, 1, 2] bcast_S1x1x4096_S4x8192x4096_0_1_2 (broadcastInDim S1x1x4096 ![2] bcast_S4096_S1x1x4096_2
      (shapeCast _ (extractStridedSlice S1x4096 ![k, 0] cw h') shapeCasts_S1x4096_S4096)))

/-- An entry of the padded columns. -/
theorem padded_read (b : Fin 4) (s : Fin 8195) (C : Fin 4096) : padded (prod x w) (ix3 b s C)
    = if s.val < 3 then 0 else Gdn.proj x w (8192 * b.val + s.val - 3) ⟨C.val, by omega⟩ := by
  unfold padded
  pointwise []
  by_cases h : s.val < 3
  · rw [dif_neg (by omega), if_pos h]
    show ((((0#32 : BitVec 32).toInt : ℤ) : ℝ) : EReal) = 0
    simp
  · rw [dif_pos (by omega), if_neg h]
    unfold Gdn.proj
    rw [dif_pos (by omega)]
    refine Finset.sum_congr rfl fun k _ => ?_
    exact congrArg₂ (fun a b : EReal => a * b) (congrArg x (congrArg₂ ix2 (Fin.ext (by simp only []; omega)) rfl)) rfl

/-- An entry of a tap's term. -/
theorem term_read (k : ℕ) (hk : k < 4) (h : S4x8195x4096.Slices ![0, k, 0] S4x8192x4096) (h' : S4x4096.Slices ![k, 0] S1x4096) (p : FVec Ideal S32768x6176 .f32)
    (b : Fin 4) (s : Fin 8192) (C : Fin 4096) : term cw k h h' p (ix3 b s C) = padded p (ix3 b ⟨k + s.val, by omega⟩ C) * cw (ix2 ⟨k, hk⟩ C) := by
  pointwise [term]

/-- The convolved columns, gated. -/
def gated : FVec Ideal S4x8192x4096 .f32 :=
  let z := addf (addf (addf (addf (broadcastInDim S4x8192x4096 ![] bcast_S_S4x8192x4096 (constant S_ .f32 0x00000000#32))
      (term cw 0 slices_S4x8195x4096_S4x8192x4096_0_0_0 slices_S4x4096_S1x4096_0_0 (prod x w)))
      (term cw 1 slices_S4x8195x4096_S4x8192x4096_0_1_0 slices_S4x4096_S1x4096_1_0 (prod x w)))
      (term cw 2 slices_S4x8195x4096_S4x8192x4096_0_2_0 slices_S4x4096_S1x4096_2_0 (prod x w)))
      (term cw 3 slices_S4x8195x4096_S4x8192x4096_0_3_0 slices_S4x4096_S1x4096_3_0 (prod x w))
  mulf z (Host.divf (broadcastInDim S4x8192x4096 ![] bcast_S_S4x8192x4096 (constant S_ .f32 0x3F800000#32))
    (addf (broadcastInDim S4x8192x4096 ![] bcast_S_S4x8192x4096 (constant S_ .f32 0x3F800000#32)) (Host.exp (Host.negf z))))

/-- Eight heads of 128 columns. -/
abbrev split (z : FVec Ideal S4x8192x1024 .f32) : FVec Ideal S4x8192x8x128 .f32 := shapeCast _ z shapeCasts_S4x8192x1024_S4x8192x8x128

/-- Heads divided by their lengths. -/
def normed (z : FVec Ideal S4x8192x8x128 .f32) : FVec Ideal S4x8192x8x128 .f32 :=
  mulf z (broadcastInDim S4x8192x8x128 ![0, 1, 2, 3] bcast_S4x8192x8x1_S4x8192x8x128_0_1_2_3 (Host.rsqrt (addf
    (broadcastInDim S4x8192x8x1 ![0, 1, 2] bcast_S4x8192x8_S4x8192x8x1_0_1_2 (Host.reduceAdd (mulf z z) (constant S_ .f32 0x00000000#32) reducesTo_S4x8192x8x128_S4x8192x8_d3 h_S_))
    (broadcastInDim S4x8192x8x1 ![] bcast_S_S4x8192x8x1 (constant S_ .f32 0x358637BD#32)))))

/-- An entry of a head divided by its length. -/
theorem normed_read (z : FVec Ideal S4x8192x8x128 .f32) (b : Fin 4) (s : Fin 8192) (n : Fin 8) (d : Fin 128) : normed z (ix4 b s n d)
    = z (ix4 b s n d) * Ideal.rsqrt (∑ l, z (ix4 b s n l) * z (ix4 b s n l) + Ideal.ofBits .f32 0x358637BD#32) := by
  pointwise [normed]

/-- The queries. -/
def qs (g : FVec Ideal S4x8192x4096 .f32) : FVec Ideal S32768x1024 .f32 :=
  shapeCast _ (mulf (normed (split (extractStridedSlice S4x8192x1024 ![0, 0, 0] g slices_S4x8192x4096_S4x8192x1024_0_0_0)))
    (broadcastInDim S4x8192x8x128 ![] bcast_S_S4x8192x8x128 (constant S_ .f32 0x3DB504F3#32))) shapeCasts_S4x8192x8x128_S32768x1024
/-- The keys. -/
def ks (g : FVec Ideal S4x8192x4096 .f32) : FVec Ideal S32768x1024 .f32 :=
  shapeCast _ (normed (split (extractStridedSlice S4x8192x1024 ![0, 0, 1024] g slices_S4x8192x4096_S4x8192x1024_0_0_1024))) shapeCasts_S4x8192x8x128_S32768x1024
/-- The values. -/
def vs (g : FVec Ideal S4x8192x4096 .f32) : FVec Ideal S32768x2048 .f32 :=
  shapeCast _ (extractStridedSlice S4x8192x2048 ![0, 0, 2048] g slices_S4x8192x4096_S4x8192x2048_0_0_2048) shapeCasts_S4x8192x2048_S32768x2048

/-- The position of a row in its sequence. -/
abbrev seq (r : Fin 32768) : Fin 4 := ⟨r.val / 8192, by omega⟩
/-- The sequence of a row. -/
abbrev pos (r : Fin 32768) : Fin 8192 := ⟨r.val % 8192, by omega⟩

/-- An entry of the gated columns. -/
theorem gated_read (r : Fin 32768) (C : Fin 4096) : gated x w cw (ix3 (seq r) (pos r) C) = Gdn.silu (Gdn.conv x w cw r.val C) := by
  have ht : ∀ (k : ℕ) (hk : k < 4) (h : S4x8195x4096.Slices ![0, k, 0] S4x8192x4096) (h' : S4x4096.Slices ![k, 0] S1x4096),
      term cw k h h' (prod x w) (ix3 (seq r) (pos r) C) = Gdn.tap x w r.val C ⟨k, hk⟩ * cw (ix2 ⟨k, hk⟩ C) := by
    intro k hk h h'
    rw [term_read cw k hk, padded_read]
    unfold Gdn.tap
    refine congrArg (fun z : EReal => z * _) ?_
    refine if_congr ⟨fun _ => by simp only [] at *; omega, fun _ => by simp only [] at *; omega⟩ rfl ?_
    exact congrArg (fun n => Gdn.proj x w n _) (by simp only []; omega)
  have hz : ∀ z : EReal, z * Ideal.div 1 (1 + Ideal.exp (-z)) = Gdn.silu z := fun z => by unfold Gdn.silu; rw [zero_sub]
  refine Eq.trans ?_ (hz _)
  unfold Gdn.conv Gdn.four
  have e0 := ht 0 (by omega) slices_S4x8195x4096_S4x8192x4096_0_0_0 slices_S4x4096_S1x4096_0_0
  have e1 := ht 1 (by omega) slices_S4x8195x4096_S4x8192x4096_0_1_0 slices_S4x4096_S1x4096_1_0
  have e2 := ht 2 (by omega) slices_S4x8195x4096_S4x8192x4096_0_2_0 slices_S4x4096_S1x4096_2_0
  have e3 := ht 3 (by omega) slices_S4x8195x4096_S4x8192x4096_0_3_0 slices_S4x4096_S1x4096_3_0
  unfold gated
  generalize term cw 0 slices_S4x8195x4096_S4x8192x4096_0_0_0 slices_S4x4096_S1x4096_0_0 (prod x w) = t0 at *
  generalize term cw 1 slices_S4x8195x4096_S4x8192x4096_0_1_0 slices_S4x4096_S1x4096_1_0 (prod x w) = t1 at *
  generalize term cw 2 slices_S4x8195x4096_S4x8192x4096_0_2_0 slices_S4x4096_S1x4096_2_0 (prod x w) = t2 at *
  generalize term cw 3 slices_S4x8195x4096_S4x8192x4096_0_3_0 slices_S4x4096_S1x4096_3_0 (prod x w) = t3 at *
  pointwise []
  rw [e0, e1, e2, e3]
  rfl

/-- An entry of the queries. -/
theorem qs_read (g : FVec Ideal S4x8192x4096 .f32) (r : Fin 32768) (C : Fin 1024) : qs g (ix2 r C)
    = Gdn.unit (fun j => g (ix3 (seq r) (pos r) j)) ⟨C.val, by omega⟩ * Ideal.ofBits .f32 0x3DB504F3#32 := by
  unfold Gdn.unit
  pointwise [qs]
  rw [normed_read]
  pointwise []
  have e : ∀ l : Fin 128, Gdn.mate ⟨C.val, by omega⟩ l = ⟨C.val / 128 * 128 + l.val, by omega⟩ := fun l => Fin.ext (by show 128 * (C.val / 128) + l.val = C.val / 128 * 128 + l.val; omega)
  simp only [e]

/-- An entry of the keys. -/
theorem ks_read (g : FVec Ideal S4x8192x4096 .f32) (r : Fin 32768) (C : Fin 1024) : ks g (ix2 r C)
    = Gdn.unit (fun j => g (ix3 (seq r) (pos r) j)) ⟨1024 + C.val, by omega⟩ := by
  unfold Gdn.unit
  pointwise [ks]
  rw [normed_read]
  pointwise []
  have e : ∀ l : Fin 128, Gdn.mate ⟨1024 + C.val, by omega⟩ l = ⟨1024 + (C.val / 128 * 128 + l.val), by omega⟩ := fun l =>
    Fin.ext (by show 128 * ((1024 + C.val) / 128) + l.val = 1024 + (C.val / 128 * 128 + l.val); omega)
  simp only [e]

/-- An entry of the values. -/
theorem vs_read (g : FVec Ideal S4x8192x4096 .f32) (r : Fin 32768) (C : Fin 2048) : vs g (ix2 r C) = g (ix3 (seq r) (pos r) ⟨2048 + C.val, by omega⟩) := by
  pointwise [vs]
  try rfl

/-- The logarithms of the decays. -/
def decays : FVec Ideal S32768x16 .f32 :=
  let a := addf (extractStridedSlice S32768x16 ![0, 6160] (prod x w) slices_S32768x6176_S32768x16_0_6160)
    (broadcastInDim S32768x16 ![0, 1] bcast_S1x16_S32768x16_0_1 (broadcastInDim S1x16 ![1] bcast_S16_S1x16_1 dt))
  let o := broadcastInDim S32768x16 ![] bcast_S_S32768x16 (constant S_ .f32 0x00000000#32)
  mulf (broadcastInDim S32768x16 ![0, 1] bcast_S1x16_S32768x16_0_1 (broadcastInDim S1x16 ![1] bcast_S16_S1x16_1 (Host.negf (Host.exp al))))
    (select (cmpf .une (subf a o) (subf a o)) (addf a o) (addf (maximumf a o) (Host.log1p (Host.exp (Host.negf (Host.absf (subf a o)))))))

/-- An entry of them. -/
theorem decays_read (r : Fin 32768) (l : Fin 16) : decays x w al dt (ix2 r l) = Gdn.decay x w al dt r.val l := by
  unfold Gdn.decay Gdn.softplus
  pointwise [decays]
  have e : Gdn.proj x w r.val ⟨6160 + l.val, by omega⟩ = ∑ k, x (ix2 r k) * w (ix2 k ⟨6160 + l.val, by omega⟩) := by
    unfold Gdn.proj; rw [dif_pos r.isLt]
  rw [e, if_neg (fun h => h rfl), zero_sub, zero_sub]
  rfl

/-- The running sums. -/
def totals (d : FVec Ideal S32768x16 .f32) : FVec Ideal S32768x16 .f32 :=
  shapeCast _ (Host.reduceWindowAdd ![1, 64, 1] ![1, 1, 1] ![0, 63, 0] ![0, 0, 0] (shapeCast S512x64x16 d shapeCasts_S32768x16_S512x64x16)
    (broadcastInDim S_ ![] bcast_S_S_ (constant S_ .f32 0x00000000#32)) reduceWindows_S512x64x16_S512x64x16_w1s1p0_0_w64s1p63_0_w1s1p0_0 h_S_) shapeCasts_S512x64x16_S32768x16

/-- An entry of them. -/
theorem totals_read (d : FVec Ideal S32768x16 .f32) (r : Fin 32768) (l : Fin 16) :
    totals d (ix2 r l) = ∑ k : Fin 64, if k.val ≤ r.val % 64 then d (ix2 ⟨64 * (r.val / 64) + k.val, by omega⟩ l) else 0 := by
  unfold totals
  have key := fun (b : Fin 512) (j : Fin 64) => Cum.cum_read (shapeCast S512x64x16 d shapeCasts_S32768x16_S512x64x16)
    (broadcastInDim S_ ![] bcast_S_S_ (constant (F := Ideal) S_ .f32 0x00000000#32)) reduceWindows_S512x64x16_S512x64x16_w1s1p0_0_w64s1p63_0_w1s1p0_0 h_S_
    (by pointwise []) b j l
  generalize Host.reduceWindowAdd ![1, 64, 1] ![1, 1, 1] ![0, 63, 0] ![0, 0, 0] (shapeCast S512x64x16 d shapeCasts_S32768x16_S512x64x16)
    (broadcastInDim S_ ![] bcast_S_S_ (constant (F := Ideal) S_ .f32 0x00000000#32)) reduceWindows_S512x64x16_S512x64x16_w1s1p0_0_w64s1p63_0_w1s1p0_0 h_S_ = z at *
  pointwise []
  refine (key _ _).trans (Finset.sum_congr rfl fun k _ => if_congr Iff.rfl ?_ rfl)
  pointwise []
  exact congrArg d (congrArg₂ ix2 (Fin.ext (by simp only []; omega)) rfl)

/-- The queries, keys and values side by side. -/
theorem cat_read (q k : FVec Ideal S32768x1024 .f32) (v : FVec Ideal S32768x2048 .f32) (r : Fin 32768) (C : Fin 4096) :
    Value.fn_main_v63 (F := Ideal) q k v (ix2 r C) = if h : C.val < 1024 then q (ix2 r ⟨C.val, h⟩) else if h' : C.val < 2048 then k (ix2 r ⟨C.val - 1024, by omega⟩)
      else v (ix2 r ⟨C.val - 2048, by omega⟩) := by
  pointwise [Value.fn_main_v63]
  have e : (⟨C.val - 1024 - 1024, by omega⟩ : Fin 2048) = ⟨C.val - 2048, by omega⟩ := Fin.ext (Nat.sub_sub _ _ _)
  split_ifs <;> first
    | rfl
    | (rename_i d; exact absurd rfl d)
    | rw [dif_pos (show C.val < 2048 by omega)]
    | rw [dif_neg (show ¬ C.val < 2048 by omega)]; exact congrArg v (congrArg (ix2 r) e)

variable (m : (ℓ : Loc nD τ sig) → Buf (Elt Ideal) ℓ) (c : Dev nD)

/-- The queries, keys and values, composed. -/
def qkv : FVec Ideal S32768x4096 .f32 := Value.fn_main_v63 (F := Ideal) (qs (gated x w cw)) (ks (gated x w cw)) (vs (gated x w cw))

/-- **The reference's queries, keys and values.** -/
theorem qkv_read (r : Fin 32768) (C : Fin 4096) : qkv x w cw (ix2 r C) = Gdn.qkv x w cw r.val C := by
  refine (cat_read _ _ _ r C).trans ?_
  unfold Gdn.qkv
  by_cases h : C.val < 1024
  · rw [dif_pos h, qs_read, Gdn.heads_q _ _ h]
    simp only [gated_read]
  by_cases h' : C.val < 2048
  · rw [dif_neg h, dif_pos h', ks_read, Gdn.heads_k _ _ (by omega) h']
    simp only [gated_read]
    exact congrArg (Gdn.unit _) (Fin.ext (by simp only []; omega))
  · rw [dif_neg h, dif_neg h', vs_read, Gdn.heads_v _ _ (by omega), gated_read]
    exact congrArg (fun C => Gdn.silu (Gdn.conv x w cw r.val C)) (Fin.ext (by simp only []; omega))

set_option maxRecDepth 16384 in
/-- The generated run's first result is that composed term. -/
theorem res0 : Value.res_main_v63 m c = qkv (m ((c.tc : Thread nD τ).loc main_arg0)) (m ((c.tc : Thread nD τ).loc main_arg1)) (m ((c.tc : Thread nD τ).loc main_arg2)) := by
  unfold Value.res_main_v63 qkv qs ks vs normed gated term Value.fn_main_v63
  with_reducible rfl

/-- An entry of the projected gates. -/
theorem gate_read (r : Fin 32768) (C : Fin 2048) :
    extractStridedSlice S32768x2048 ![0, 4096] (prod x w) slices_S32768x6176_S32768x2048_0_4096 (ix2 r C) = Gdn.gate x w r.val C := by
  unfold Gdn.gate Gdn.proj
  rw [dif_pos r.isLt]
  pointwise []

/-- The write strengths. -/
def betas : FVec Ideal S32768x16 .f32 :=
  Host.divf (broadcastInDim S32768x16 ![] bcast_S_S32768x16 (constant S_ .f32 0x3F800000#32)) (addf (broadcastInDim S32768x16 ![] bcast_S_S32768x16 (constant S_ .f32 0x3F800000#32))
    (Host.exp (Host.negf (extractStridedSlice S32768x16 ![0, 6144] (prod x w) slices_S32768x6176_S32768x16_0_6144))))

/-- An entry of the write strengths. -/
theorem betas_read (r : Fin 32768) (l : Fin 16) : betas x w (ix2 r l) = Gdn.beta x w r.val l := by
  unfold Gdn.beta Gdn.proj
  rw [dif_pos r.isLt, zero_sub]
  pointwise [betas]

/-- **The reference's running decays.** -/
theorem total_read (r : Fin 32768) (l : Fin 16) : totals (decays x w al dt) (ix2 r l) = Gdn.total x w al dt r.val l := by
  refine (totals_read _ r l).trans ?_
  unfold Gdn.total
  exact Finset.sum_congr rfl fun k _ => if_congr Iff.rfl (decays_read x w al dt _ l) rfl

/-- **The reference's run**, read off: its four results entry by entry, its arguments unchanged. -/
theorem ends (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v63) = (fun i => Gdn.qkv (m ((c.tc : Thread nD τ).loc main_arg0)) (m ((c.tc : Thread nD τ).loc main_arg1)) (m ((c.tc : Thread nD τ).loc main_arg2)) (i 0).val (i 1))
      ∧ r.2.mem ((c.tc : Thread nD τ).loc main_v2) = (fun i => Gdn.gate (m ((c.tc : Thread nD τ).loc main_arg0)) (m ((c.tc : Thread nD τ).loc main_arg1)) (i 0).val (i 1))
      ∧ r.2.mem ((c.tc : Thread nD τ).loc main_v69) = (fun i => Gdn.beta (m ((c.tc : Thread nD τ).loc main_arg0)) (m ((c.tc : Thread nD τ).loc main_arg1)) (i 0).val (i 1))
      ∧ r.2.mem ((c.tc : Thread nD τ).loc main_v81) = (fun i => Gdn.total (m ((c.tc : Thread nD τ).loc main_arg0)) (m ((c.tc : Thread nD τ).loc main_arg1)) (m ((c.tc : Thread nD τ).loc main_arg3)) (m ((c.tc : Thread nD τ).loc main_arg4)) (i 0).val (i 1)) := by
  refine (θ_run defs _ _).mono (fun r h c => ?_) (Value.run m ρ)
  obtain ⟨h0, h1, h2, h3, -⟩ := h c
  refine ⟨h0.trans ?_, h1.trans ?_, h2.trans ?_, h3.trans ?_⟩
  · exact (res0 m c).trans (funext fun i => (congrArg _ (eq_ix2 i)).trans (qkv_read _ _ _ _ _))
  · exact funext fun i => (congrArg _ (eq_ix2 i)).trans (gate_read _ _ _ _)
  · exact funext fun i => (congrArg (betas _ _) (eq_ix2 i)).trans (betas_read _ _ _ _)
  · exact funext fun i => (congrArg (totals (decays _ _ _ _)) (eq_ix2 i)).trans (total_read _ _ _ _ _ _)

end Cert.Reference5Ideal.Read
-- ==== Proof.Blocks5.lean ====
/-
  The gated DeltaNet layer's input projection: the blocks a point is handed, as entries of the arguments.
-/
module

public import proofs.«01_k».proof.Proof.Gdn
public import proofs.«01_k».proof.Proof.Gen.Kernel5Ideal.Frame
public import Idealize.ShloMosaic.Lib.Claim
public import Idealize.ShloMosaic.Lib.Pipeline.ValueKit.Point

@[expose] public section

noncomputable section

namespace Cert.Kernel5Ideal.Blocks

open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- The block indices of the rows. -/
theorem idx0 : ∀ (t : Fin cfg0.N) a, (cfg0.win 0).index t a = ![t.val, 0] a :=
  (by decide +kernel : ∀ (t : Fin grid0.N) a, win0_0.index t a = ![t.val, 0] a)
/-- The block index of the convolved columns' weights. -/
theorem idx1 : ∀ (t : Fin cfg0.N) a, (cfg0.win 1).index t a = ![0, 0] a :=
  (by decide +kernel : ∀ (t : Fin grid0.N) a, win0_1.index t a = ![0, 0] a)
/-- The block index of the gates' weights. -/
theorem idx2 : ∀ (t : Fin cfg0.N) a, (cfg0.win 2).index t a = ![0, 0] a :=
  (by decide +kernel : ∀ (t : Fin grid0.N) a, win0_2.index t a = ![0, 0] a)
/-- The block index of the strengths' and decays' weights. -/
theorem idx3 : ∀ (t : Fin cfg0.N) a, (cfg0.win 3).index t a = ![0, 0] a :=
  (by decide +kernel : ∀ (t : Fin grid0.N) a, win0_3.index t a = ![0, 0] a)
/-- The block index of the taps' weights. -/
theorem idx4 : ∀ (t : Fin cfg0.N) a, (cfg0.win 4).index t a = ![0, 0] a :=
  (by decide +kernel : ∀ (t : Fin grid0.N) a, win0_4.index t a = ![0, 0] a)
/-- The block index of the decays' rates. -/
theorem idx5 : ∀ (t : Fin cfg0.N) a, (cfg0.win 5).index t a = ![0, 0] a :=
  (by decide +kernel : ∀ (t : Fin grid0.N) a, win0_5.index t a = ![0, 0] a)
/-- The block index of the decays' offsets. -/
theorem idx6 : ∀ (t : Fin cfg0.N) a, (cfg0.win 6).index t a = ![0, 0] a :=
  (by decide +kernel : ∀ (t : Fin grid0.N) a, win0_6.index t a = ![0, 0] a)

/-- The rows. -/
abbrev xs : FVec Ideal S32768x1024 .f32 := m ((c : Thread nD τ).loc main_arg0)
/-- The weights. -/
abbrev ws : FVec Ideal S1024x6176 .f32 := m ((c : Thread nD τ).loc main_arg1)
/-- The taps' weights. -/
abbrev cws : FVec Ideal S4x4096 .f32 := m ((c : Thread nD τ).loc main_arg2)
/-- The decays' rates, as logarithms. -/
abbrev als : FVec Ideal S16 .f32 := m ((c : Thread nD τ).loc main_arg3)
/-- The decays' offsets. -/
abbrev dts : FVec Ideal S16 .f32 := m ((c : Thread nD τ).loc main_arg4)

variable (t : Fin cfg0.N)

theorem lt128 (t : Fin cfg0.N) : t.val < 128 := lt_of_lt_of_eq t.isLt (show cfg0.N = 128 from N_0)

/-- The row of the array that a block's row is. -/
def row (t : Fin cfg0.N) (r : Fin 256) : Fin 32768 := ⟨t.val * 256 + r.val, by have := lt128 t; omega⟩

/-- The rows' block. -/
theorem blk0 (r : Fin 256) (k : Fin 1024) : iblk m c 0 t (ix2 r k) = xs m c (ix2 (row t r) k) := by
  have e : (win0_0.blk t).view.emb (ix2 r k) = ix2 (row t r) k := by unfold row; blk_ext [idx0 t]
  blk_simp [iblk]
  rw [e]
  entry_read
  rfl

/-- The convolved columns' weights. -/
theorem blk1 (k : Fin 1024) (C : Fin 4096) : iblk m c 1 t (ix2 k C) = ws m c (ix2 k ⟨C.val, by omega⟩) := by
  have e : (win0_1.blk t).view.emb (ix2 k C) = ix2 k C := by blk_ext [idx1 t]
  blk_simp [iblk]
  rw [e]
  entry_read
  pointwise []

/-- The gates' weights. -/
theorem blk2 (k : Fin 1024) (C : Fin 2048) : iblk m c 2 t (ix2 k C) = ws m c (ix2 k ⟨4096 + C.val, by omega⟩) := by
  have e : (win0_2.blk t).view.emb (ix2 k C) = ix2 k C := by blk_ext [idx2 t]
  blk_simp [iblk]
  rw [e]
  entry_read
  pointwise []

/-- The strengths' and decays' weights. -/
theorem blk3 (k : Fin 1024) (C : Fin 32) : iblk m c 3 t (ix2 k C) = ws m c (ix2 k ⟨6144 + C.val, by omega⟩) := by
  have e : (win0_3.blk t).view.emb (ix2 k C) = ix2 k C := by blk_ext [idx3 t]
  blk_simp [iblk]
  rw [e]
  entry_read
  pointwise []

/-- The taps' weights. -/
theorem blk4 (j : Fin 4) (C : Fin 4096) : iblk m c 4 t (ix2 j C) = cws m c (ix2 j C) := by
  have e : (win0_4.blk t).view.emb (ix2 j C) = ix2 j C := by blk_ext [idx4 t]
  blk_simp [iblk]
  rw [e]
  entry_read
  rfl

/-- The decays' rates. -/
theorem blk5 (l : Fin 16) : iblk m c 5 t (ix2 (0 : Fin 1) l) = als m c (ix1 l) := by
  have e : (win0_5.blk t).view.emb (ix2 (0 : Fin 1) l) = ix2 (0 : Fin 1) l := by blk_ext [idx5 t]
  blk_simp [iblk]
  rw [e]
  entry_read
  pointwise []

/-- The decays' offsets. -/
theorem blk6 (l : Fin 16) : iblk m c 6 t (ix2 (0 : Fin 1) l) = dts m c (ix1 l) := by
  have e : (win0_6.blk t).view.emb (ix2 (0 : Fin 1) l) = ix2 (0 : Fin 1) l := by blk_ext [idx6 t]
  blk_simp [iblk]
  rw [e]
  entry_read
  pointwise []

end Cert.Kernel5Ideal.Blocks
-- ==== Proof.Run5.lean ====
/-
  One point of the gated DeltaNet layer's input projection, run: what the body leaves in the four output blocks and in the
  scratch, at a point that starts a sequence (the head rows of the scratch are cleared) and at a point that goes on with one.
-/
module

public import proofs.«01_k».proof.Proof.Gen.Kernel5Ideal.Frame
public import proofs.«01_k».proof.Proof.Gen.Kernel5Ideal.Skeleton
public import Idealize.ShloMosaic.Lib.Exec
public import Idealize.ShloMosaic.Lib.Claim

@[expose] public section

set_option maxRecDepth 16384

noncomputable section

namespace Cert.Kernel5Ideal.Body

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition: the point's number is a multiple of 32 (a sequence starts). -/
abbrev starts (i : grid0.Coords) : Prop :=
  let n : BitVec 32 := BitVec.ofNat 32 (i 0).val
  let d : BitVec 32 := Scalar.select (Scalar.cmpi .eq 32#32 0#32) 1#32 32#32
  let r : BitVec 32 := Scalar.remsi n d
  let s : BitVec 32 := Scalar.select (Scalar.andi (Scalar.xori (Scalar.cmpi .slt r 0#32) (Scalar.cmpi .slt d 0#32)) (Scalar.cmpi .ne r 0#32)) (Scalar.addi r d) r
  Scalar.cmpi .ne (Scalar.extui (Scalar.cmpi .eq s 0#32)) 0#32 = 1#1

/-- It holds at the points 0, 32, 64 and 96. -/
theorem starts_iff : ∀ t : Fin cfg0.N, starts (grid0.coords t) ↔ t.val % 32 = 0 :=
  (by decide +kernel : ∀ t : Fin grid0.N, starts (grid0.coords t) ↔ t.val % 32 = 0)

set_option maxHeartbeats 4000000 in
/-- The body at a point that starts a sequence, on whole buffers: the inputs end as they were, each output and the scratch with the pieces this run finds written. -/
noncomputable def runStart (c : Dev nD) (i : grid0.Coords) (arg1 : Memref sig .tc .vmem S256x1024 .f32) (harg1 : arg1.IsWhole) (arg2 : Memref sig .tc .vmem S1024x4096 .bf16) (harg2 : arg2.IsWhole) (arg3 : Memref sig .tc .vmem S1024x2048 .bf16) (harg3 : arg3.IsWhole) (arg4 : Memref sig .tc .vmem S1024x32 .bf16) (harg4 : arg4.IsWhole) (arg5 : Memref sig .tc .vmem S4x4096 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S256x4096 .f32) (harg8 : arg8.IsWhole) (arg9 : Memref sig .tc .vmem S256x2048 .f32) (harg9 : arg9.IsWhole) (arg10 : Memref sig .tc .vmem S256x16 .f32) (harg10 : arg10.IsWhole) (arg11 : Memref sig .tc .vmem S256x16 .f32) (harg11 : arg11.IsWhole) (arg12 : Memref sig .tc .vmem S272x4096 .f32) (harg12 : arg12.IsWhole)
    (hc : starts i)
    (x0 : Vec F S256x1024 .f32) (x1 : Vec F S1024x4096 .bf16) (x2 : Vec F S1024x2048 .bf16) (x3 : Vec F S1024x32 .bf16) (x4 : Vec F S4x4096 .f32) (x5 : Vec F S1x16 .f32) (x6 : Vec F S1x16 .f32) (xs : Vec F S272x4096 .f32) :
    Σ' (L7 : List (View.Piece (Elt F) S256x4096 .f32)) (L8 : List (View.Piece (Elt F) S256x2048 .f32)) (L9 : List (View.Piece (Elt F) S256x16 .f32)) (L10 : List (View.Piece (Elt F) S256x16 .f32)), { LS : List (View.Piece (Elt F) S272x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_gdn_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_gdn_proj_eq_skeleton]; unfold cc0_gdn_proj_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexact HS

set_option maxHeartbeats 4000000 in
/-- The body at any other point, likewise. -/
noncomputable def runNext (c : Dev nD) (i : grid0.Coords) (arg1 : Memref sig .tc .vmem S256x1024 .f32) (harg1 : arg1.IsWhole) (arg2 : Memref sig .tc .vmem S1024x4096 .bf16) (harg2 : arg2.IsWhole) (arg3 : Memref sig .tc .vmem S1024x2048 .bf16) (harg3 : arg3.IsWhole) (arg4 : Memref sig .tc .vmem S1024x32 .bf16) (harg4 : arg4.IsWhole) (arg5 : Memref sig .tc .vmem S4x4096 .f32) (harg5 : arg5.IsWhole) (arg6 : Memref sig .tc .vmem S1x16 .f32) (harg6 : arg6.IsWhole) (arg7 : Memref sig .tc .vmem S1x16 .f32) (harg7 : arg7.IsWhole) (arg8 : Memref sig .tc .vmem S256x4096 .f32) (harg8 : arg8.IsWhole) (arg9 : Memref sig .tc .vmem S256x2048 .f32) (harg9 : arg9.IsWhole) (arg10 : Memref sig .tc .vmem S256x16 .f32) (harg10 : arg10.IsWhole) (arg11 : Memref sig .tc .vmem S256x16 .f32) (harg11 : arg11.IsWhole) (arg12 : Memref sig .tc .vmem S272x4096 .f32) (harg12 : arg12.IsWhole)
    (hc : ¬ starts i)
    (x0 : Vec F S256x1024 .f32) (x1 : Vec F S1024x4096 .bf16) (x2 : Vec F S1024x2048 .bf16) (x3 : Vec F S1024x32 .bf16) (x4 : Vec F S4x4096 .f32) (x5 : Vec F S1x16 .f32) (x6 : Vec F S1x16 .f32) (xs : Vec F S272x4096 .f32) :
    Σ' (L7 : List (View.Piece (Elt F) S256x4096 .f32)) (L8 : List (View.Piece (Elt F) S256x2048 .f32)) (L9 : List (View.Piece (Elt F) S256x16 .f32)) (L10 : List (View.Piece (Elt F) S256x16 .f32)), { LS : List (View.Piece (Elt F) S272x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (arg12.view.loc (c : Thread nD τ) ↦[arg12.view.set]{fullShare} arg12.view.writes (Elt F) (harg12.unread xs) LS)) -∗ K ⟨⟩))
          ⊢ wp frame (wpE (defs₀ (F := F)) Variants.none c none) E (cc0_gdn_proj i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_gdn_proj_eq_skeleton]; unfold cc0_gdn_proj_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hfs
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    iexact HS

end Cert.Kernel5Ideal.Body

end
-- ==== Proof.Triangle.lean ====
/-
  The triangle of a running sum over chunks of 64 rows: the comparisons that draw it, and a sum over it.
-/
module

public import Idealize.ShloMosaic.Lib.Pointwise

@[expose] public section

noncomputable section

namespace Cert.Triangle

open Idealize.ShloMosaic

/-- The triangle: rows of one chunk, the second no later than the first. -/
theorem triangle : ∀ r j : Fin 256, (IntOp.andi (IntOp.cmpi CmpIPredicate.eq (BitVec.ofNat 32 (r.val / 64)) (BitVec.ofNat 32 (j.val / 64)))
      (IntOp.cmpi CmpIPredicate.sle (BitVec.ofNat 32 j.val) (BitVec.ofNat 32 r.val)) = 1#1) ↔ (r.val / 64 = j.val / 64 ∧ j.val ≤ r.val) := by
  decide +kernel

/-- A sum over the triangle is a sum along the row's chunk. -/
theorem triangle_sum (g : Fin 256 → EReal) (r : Fin 256) :
    (∑ j : Fin 256, if r.val / 64 = j.val / 64 ∧ j.val ≤ r.val then g j else 0)
      = ∑ j : Fin 64, if j.val ≤ r.val % 64 then g ⟨64 * (r.val / 64) + j.val, by omega⟩ else 0 := by
  symm
  refine Finset.sum_of_injOn (fun j => ⟨64 * (r.val / 64) + j.val, by omega⟩) ?_ (fun _ _ => Finset.mem_coe.2 (Finset.mem_univ _)) ?_ ?_
  · intro i _ j _ h
    have := congrArg Fin.val h
    exact Fin.ext (by simp only [] at this; omega)
  · intro j _ hj
    refine if_neg fun h => hj ⟨⟨j.val % 64, by omega⟩, Finset.mem_coe.2 (Finset.mem_univ _), Fin.ext ?_⟩
    show 64 * (r.val / 64) + j.val % 64 = j.val
    omega
  · intro j _
    have e : j.val ≤ r.val % 64 ↔ (r.val / 64 = (64 * (r.val / 64) + j.val) / 64 ∧ 64 * (r.val / 64) + j.val ≤ r.val) := by omega
    exact if_congr e rfl rfl

end Cert.Triangle
-- ==== Proof.Slab5.lean ====
/-
  The gated DeltaNet layer's input projection: what one point of the kernel computes of its blocks, read entry by entry.
-/
module

public import proofs.«01_k».proof.Proof.Run5
public import proofs.«01_k».proof.Proof.Gdn
public import proofs.«01_k».proof.Proof.Triangle

@[expose] public section

set_option maxRecDepth 16384

noncomputable section

namespace Cert.Kernel5Ideal.Slab

open Idealize.ShloMosaic Idealize.ShloMosaic.TcCoe
open Cert.Kernel5Ideal Cert.Kernel5Ideal.Gen

variable (A B C D : FVec Ideal S256x128 .f32) (a b c d : FVec Ideal S1x128 .f32)

/-- Four shifted rows of a slab of 128 columns, weighted and summed. -/
abbrev sum4 : FVec Ideal S256x128 .f32 :=
  addf (addf (addf (addf (broadcast S256x128 (Scalar.ofBits .f32 0x00000000#32)) (mulf A (broadcastTo S256x128 a broadcasts_S1x128_S256x128)))
    (mulf B (broadcastTo S256x128 b broadcasts_S1x128_S256x128))) (mulf C (broadcastTo S256x128 c broadcasts_S1x128_S256x128)))
    (mulf D (broadcastTo S256x128 d broadcasts_S1x128_S256x128))

/-- A slab times its logistic. -/
abbrev act (y : FVec Ideal S256x128 .f32) : FVec Ideal S256x128 .f32 :=
  mulf y (divf (broadcast S256x128 (Scalar.ofBits .f32 0x3F800000#32))
    (addf (broadcast S256x128 (Scalar.ofBits .f32 0x3F800000#32)) (exp (subf (broadcast S256x128 (Scalar.ofBits .f32 0x00000000#32)) y))))

/-- A slab with its rows divided by their lengths. -/
abbrev norm (s : FVec Ideal S256x128 .f32) : FVec Ideal S256x128 .f32 :=
  mulf s (broadcastTo S256x128 (rsqrt (addf (shapeCast S256x1 (multiReduction .add [1] S256 (mulf s s) 0x00000000#32 reduces_S256x128_S256 (.inl rfl) rfl) shapeCasts_S256_S256x1)
    (broadcast S256x1 (Scalar.ofBits .f32 0x358637BD#32)))) broadcasts_S256x1_S256x128)

/-- A slab of the values. -/
def vals : FVec Ideal S256x128 .f32 := act (sum4 A B C D a b c d)
/-- A slab of the keys. -/
def keys : FVec Ideal S256x128 .f32 := norm (act (sum4 A B C D a b c d))
/-- A slab of the queries. -/
def queries : FVec Ideal S256x128 .f32 :=
  mulf (norm (act (sum4 A B C D a b c d))) (broadcast S256x128 (Scalar.ofBits .f32 0x3DB504F3#32))

theorem vals_read (r : Fin 256) (l : Fin 128) : vals A B C D a b c d (ix2 r l)
    = Gdn.silu (A (ix2 r l) * a (ix2 0 l) + B (ix2 r l) * b (ix2 0 l) + C (ix2 r l) * c (ix2 0 l) + D (ix2 r l) * d (ix2 0 l)) := by
  pointwise [vals, Gdn.silu]

theorem norm_read (s : FVec Ideal S256x128 .f32) (r : Fin 256) (l : Fin 128) : norm s (ix2 r l)
    = s (ix2 r l) * Ideal.rsqrt (∑ j, s (ix2 r j) * s (ix2 r j) + Ideal.ofBits .f32 0x358637BD#32) := by
  pointwise []

theorem queries_read (r : Fin 256) (l : Fin 128) : queries A B C D a b c d (ix2 r l)
    = keys A B C D a b c d (ix2 r l) * Ideal.ofBits .f32 0x3DB504F3#32 := rfl

/-- What one point leaves in the block of queries, keys and values: from the rows of its buffer and the weights of the taps. -/
def tile (S : ℕ → Fin 4096 → EReal) (cw : Fin 4 → Fin 4096 → EReal) (y : S256x4096.Idx) : EReal :=
  Gdn.heads (fun C => Gdn.four (fun j => S (5 + j.val + (y 0).val) C) fun j => cw j C) (y 1)

/-- Four shifted reads of the buffer and the taps' weights, at the slab of 128 columns from `o`. -/
structure Reads (S : ℕ → Fin 4096 → EReal) (cw : Fin 4 → Fin 4096 → EReal) (o : ℕ) (ho : o + 128 ≤ 4096) : Prop where
  hA : ∀ (r : Fin 256) (l : Fin 128), A (ix2 r l) = S (5 + r.val) ⟨o + l.val, by omega⟩
  hB : ∀ (r : Fin 256) (l : Fin 128), B (ix2 r l) = S (6 + r.val) ⟨o + l.val, by omega⟩
  hC : ∀ (r : Fin 256) (l : Fin 128), C (ix2 r l) = S (7 + r.val) ⟨o + l.val, by omega⟩
  hD : ∀ (r : Fin 256) (l : Fin 128), D (ix2 r l) = S (8 + r.val) ⟨o + l.val, by omega⟩
  ha : ∀ l : Fin 128, a (ix2 0 l) = cw 0 ⟨o + l.val, by omega⟩
  hb : ∀ l : Fin 128, b (ix2 0 l) = cw 1 ⟨o + l.val, by omega⟩
  hc : ∀ l : Fin 128, c (ix2 0 l) = cw 2 ⟨o + l.val, by omega⟩
  hd : ∀ l : Fin 128, d (ix2 0 l) = cw 3 ⟨o + l.val, by omega⟩

variable {A B C D a b c d} {S : ℕ → Fin 4096 → EReal} {cw : Fin 4 → Fin 4096 → EReal}

section Piece

variable {o : ℕ} {ho : o + 128 ≤ 4096}

/-- Where a slab's entry stands in the block. -/
theorem emb_slab (inb : ∀ a : Fin 2, ![0, o] a + S256x128.size a ≤ S256x4096.size a) (r : Fin 256) (l : Fin 128) :
    (Rect.unit (s := S256x4096) ![0, o] S256x128.size inb).emb (ix2 r l) = ix2 r ⟨o + l.val, by omega⟩ := by
  refine Rect.emb_eq_of_coords _ _ _ fun a => ?_
  match a with
  | 0 => show r.val = 0 + 1 * r.val; omega
  | 1 => show o + l.val = o + 1 * l.val; omega

/-- A function of a slab's indices is known by its entries. -/
theorem idx_slab (x : S256x128.Idx) : x = ix2 (x 0) (x 1) := by
  funext a; match a with | 0 => rfl | 1 => rfl

/-- The values' slab at the columns from `o`, as a piece of the block. -/
theorem vals_piece (h : Reads A B C D a b c d S cw o ho) (h1 : 2048 ≤ o) (r : Fin 256) (l : Fin 128) :
    vals A B C D a b c d (ix2 r l) = tile S cw (ix2 r ⟨o + l.val, by omega⟩) := by
  rw [vals_read, h.hA, h.hB, h.hC, h.hD, h.ha, h.hb, h.hc, h.hd]
  exact (Gdn.heads_v (fun C => Gdn.four (fun j => S (5 + j.val + r.val) C) fun j => cw j C) ⟨o + l.val, by omega⟩ (by show 2048 ≤ o + l.val; omega)).symm

/-- A normalized slab at the columns from `o`. -/
theorem keys_unit (h : Reads A B C D a b c d S cw o ho) (h1 : o % 128 = 0) (r : Fin 256) (l : Fin 128) :
    keys A B C D a b c d (ix2 r l)
      = Gdn.unit (fun C => Gdn.silu (Gdn.four (fun j => S (5 + j.val + r.val) C) fun j => cw j C)) ⟨o + l.val, by omega⟩ := by
  have e : ∀ j : Fin 128, vals A B C D a b c d (ix2 r j)
      = Gdn.silu (Gdn.four (fun i => S (5 + i.val + r.val) ⟨o + j.val, by omega⟩) fun i => cw i ⟨o + j.val, by omega⟩) := fun j => by
    rw [vals_read, h.hA, h.hB, h.hC, h.hD, h.ha, h.hb, h.hc, h.hd]; rfl
  have em : ∀ j : Fin 128, Gdn.mate ⟨o + l.val, by omega⟩ j = ⟨o + j.val, by omega⟩ := fun j =>
    Fin.ext (by show 128 * ((o + l.val) / 128) + j.val = o + j.val; omega)
  refine (norm_read (vals A B C D a b c d) r l).trans ?_
  unfold Gdn.unit
  simp only [em, e]

theorem keys_piece (h : Reads A B C D a b c d S cw o ho) (h0 : o % 128 = 0) (h1 : 1024 ≤ o) (h2 : o < 2048) (r : Fin 256) (l : Fin 128) :
    keys A B C D a b c d (ix2 r l) = tile S cw (ix2 r ⟨o + l.val, by omega⟩) := by
  rw [keys_unit h h0]
  exact (Gdn.heads_k _ _ (by show 1024 ≤ o + l.val; omega) (by show o + l.val < 2048; omega)).symm

theorem queries_piece (h : Reads A B C D a b c d S cw o ho) (h0 : o % 128 = 0) (h1 : o < 1024) (r : Fin 256) (l : Fin 128) :
    queries A B C D a b c d (ix2 r l) = tile S cw (ix2 r ⟨o + l.val, by omega⟩) := by
  rw [queries_read, keys_unit h h0]
  exact (Gdn.heads_q _ _ (by show o + l.val < 1024; omega)).symm

end Piece

/-! ### The products, the strengths and the decays -/

section Gates

variable (X : FVec Ideal S256x1024 .f32)

theorem prod_read (W : Vec Ideal S1024x4096 .bf16) (r : Fin 256) (l : Fin 4096) : k0_pay3 X W (ix2 r l) = ∑ k, X (ix2 r k) * W (ix2 k l) := by
  pointwise [k0_pay3, k0_pay1]

theorem clear_read (r : Fin 8) (l : Fin 4096) : k0_pay2 (F := Ideal) (ix2 r l) = 0 := by
  pointwise [k0_pay2]

theorem gate_read (W : Vec Ideal S1024x2048 .bf16) (r : Fin 256) (l : Fin 2048) : k0_pay80 (k0_pay1 X) W (ix2 r l) = ∑ k, X (ix2 r k) * W (ix2 k l) := by
  pointwise [k0_pay80, k0_pay1]

variable (W : Vec Ideal S1024x32 .bf16) (dt al : Vec Ideal S1x16 .f32)

theorem beta_read (r : Fin 256) (l : Fin 16) : k0_pay82 (k0_pay1 X) W (ix2 r l)
    = Ideal.div 1 (1 + Ideal.exp (0 - ∑ k, X (ix2 r k) * W (ix2 k ⟨l.val, by omega⟩))) := by
  pointwise [k0_pay82, k0_pay81, k0_pay1]

theorem decay_read (r : Fin 256) (l : Fin 16) : k0_pay84 (k0_pay83 (k0_pay1 X) W dt) al (ix2 r l)
    = (0 - Ideal.exp (al (ix2 0 l))) * Gdn.softplus (∑ k, X (ix2 r k) * W (ix2 k ⟨16 + l.val, by omega⟩) + dt (ix2 0 l)) := by
  pointwise [k0_pay84, k0_pay83, k0_pay81, k0_pay1, Gdn.softplus]
  rfl

/-- A row's chunk: the quotient by 64, as the kernel computes it. -/
theorem chunk_of : ∀ r : Fin 256, Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi 1#32 0#32))
        (IntOp.cmpi CmpIPredicate.ne (IntOp.remsi ArithUnit.vector (BitVec.ofNat 32 r.val) 64#32) 0#32))
      (IntOp.subi (IntOp.divsi ArithUnit.vector (BitVec.ofNat 32 r.val) 64#32) 1#32)
      (IntOp.divsi ArithUnit.vector (BitVec.ofNat 32 r.val) 64#32) = BitVec.ofNat 32 (r.val / 64) := by decide +kernel

/-- The rows' chunks, as the kernel keeps them. -/
theorem rows_chunk (r j : Fin 256) : k0_pay85 (ix2 r j) = BitVec.ofNat 32 (r.val / 64) := by
  pointwise [k0_pay85]
  exact chunk_of r

theorem total_read (g : FVec Ideal S256x16 .f32) (r : Fin 256) (l : Fin 16) :
    k0_pay88 g (iota .tc S256x256 32 [0] iota_S256x256_d0_w32) (iota .tc S256x256 32 [1] iota_S256x256_d1_w32) k0_pay85 64#32 k0_pay86 k0_pay87 1#32 0#32 (ix2 r l)
      = ∑ j : Fin 64, if j.val ≤ r.val % 64 then g (ix2 ⟨64 * (r.val / 64) + j.val, by omega⟩ l) else 0 := by
  refine Eq.trans ?_ (Triangle.triangle_sum (fun j => g (ix2 j l)) r)
  pointwise [k0_pay88, k0_pay86, k0_pay87]
  refine Finset.sum_congr rfl fun j _ => ?_
  refine Eq.trans ?_ (if_congr (Triangle.triangle r j) rfl rfl)
  rw [rows_chunk, chunk_of j]
  rfl

end Gates

end Cert.Kernel5Ideal.Slab
-- ==== Proof.Tile5.lean ====
/-
  The gated DeltaNet layer's input projection: what a run of the body leaves in its output blocks and in the scratch, as
  functions of the blocks.
-/
module

public import proofs.«01_k».proof.Proof.Slab5
public import Idealize.ShloMosaic.Lib.WholeRead

@[expose] public section

set_option maxRecDepth 65536

noncomputable section

namespace Cert.Kernel5Ideal.Tile

open Idealize.ShloMosaic Idealize.ShloMosaic.TcCoe
open Cert.Kernel5Ideal Cert.Kernel5Ideal.Gen

/-- What a run starts from: the blocks of the rows, the weights and the taps' weights, told by the rows `S` of the buffer the body fills. -/
structure Told (x0 : Vec Ideal S256x1024 .f32) (x1 : Vec Ideal S1024x4096 .bf16) (x4 : Vec Ideal S4x4096 .f32)
    (S : ℕ → Fin 4096 → EReal) (cw : Fin 4 → Fin 4096 → EReal) : Prop where
  prod : ∀ (r : Fin 256) (C : Fin 4096), ∑ k, x0 (ix2 r k) * x1 (ix2 k C) = S (8 + r.val) C
  taps : ∀ (j : Fin 4) (C : Fin 4096), x4 (ix2 j C) = cw j C

variable {S : ℕ → Fin 4096 → EReal} {cw : Fin 4 → Fin 4096 → EReal}

/-- A load of a whole block reads the block. -/
theorem whole_read {s : Shape} {e : EltTy} {m : Memref sig .tc .vmem s e} (h : m.IsWhole) (X : Vec Ideal s e) {off : Fin s.rank → ℕ}
    (hz : ∀ a, off a = 0) (inb : ∀ a, off a + s.size a ≤ s.size a) :
    View.readAt (Elt Ideal) m.view (Rect.unit off s.size inb).toLoadRect (h.unread X) = X := by
  refine funext fun x => (Memref.IsWhole.readAt_unread h X _ x).trans (congrArg X (funext fun a => Fin.ext ?_))
  show off a + 1 * (x a).val = (x a).val
  rw [hz]; omega

/-- A load of one row of the taps' weights. -/
theorem taps_read {m : Memref sig .tc .vmem S4x4096 .f32} (h : m.IsWhole) (x4 : Vec Ideal S4x4096 .f32) (hx : ∀ (j : Fin 4) (C : Fin 4096), x4 (ix2 j C) = cw j C)
    (j : Fin 4) {o : ℕ} (ho : o + 128 ≤ 4096) (inb : ∀ a : Fin 2, ![j.val, o] a + S1x128.size a ≤ S4x4096.size a) (l : Fin 128) :
    View.readAt (Elt Ideal) m.view (Rect.unit (s := S4x4096) ![j.val, o] S1x128.size inb).toLoadRect (h.unread x4) (ix2 0 l) = cw j ⟨o + l.val, by omega⟩ := by
  refine (Memref.IsWhole.readAt_unread h x4 _ _).trans (Eq.trans (congrArg x4 (funext fun a => Fin.ext ?_)) (hx j _))
  match a with
  | 0 => rfl
  | 1 => show o + 1 * l.val = o + l.val; omega

/-- A load of 256 rows of the buffer at a slab of columns. -/
theorem rows_read {v : View sig .tc .vmem S272x4096 .f32} (f : v.ty.Contents (Elt Ideal)) (k : ℕ)
    (hf : ∀ (i : Fin 272) (C : Fin 4096), k ≤ i.val → i.val < k + 256 → v.read (Elt Ideal) f (ix2 i C) = S i.val C)
    {o : ℕ} (ho : o + 128 ≤ 4096) (inb : ∀ a : Fin 2, ![k, o] a + S256x128.size a ≤ S272x4096.size a) (r : Fin 256) (l : Fin 128) :
    View.readAt (Elt Ideal) v (Rect.unit (s := S272x4096) ![k, o] S256x128.size inb).toLoadRect f (ix2 r l) = S (k + r.val) ⟨o + l.val, by omega⟩ := by
  have hk : k + 256 ≤ 272 := inb 0
  refine Eq.trans (congrArg (v.read (Elt Ideal) f) (funext fun a => Fin.ext ?_)) (hf ⟨k + r.val, by omega⟩ ⟨o + l.val, by omega⟩ (by simp only []; omega) (by simp only []; omega))
  match a with
  | 0 => show k + 1 * r.val = k + r.val; omega
  | 1 => show o + 1 * l.val = o + l.val; omega

/-- The rows of the buffer that the product fills, whatever was there. -/
theorem fill_read {v : View sig .tc .vmem S272x4096 .f32} (f : v.ty.Contents (Elt Ideal)) (L : List (View.Piece (Elt Ideal) S272x4096 .f32))
    (inb : ∀ a : Fin 2, ![8, 0] a + S256x4096.size a ≤ S272x4096.size a) (P : Vec Ideal S256x4096 .f32) (hP : ∀ r C, P (ix2 r C) = S (8 + r.val) C)
    (i : Fin 272) (C : Fin 4096) (h1 : 8 ≤ i.val) (h2 : i.val < 264) :
    v.read (Elt Ideal) (v.writes (Elt Ideal) f (⟨Rect.unit (s := S272x4096) ![8, 0] S256x4096.size inb, P⟩ :: L)) (ix2 i C) = S i.val C := by
  have e : ix2 i C = (Rect.unit (s := S272x4096) ![8, 0] S256x4096.size inb).emb (ix2 ⟨i.val - 8, by omega⟩ C) := by
    symm
    refine Rect.emb_eq_of_coords _ _ _ fun a => ?_
    match a with
    | 0 => show i.val = 8 + 1 * (i.val - 8); omega
    | 1 => show C.val = 0 + 1 * C.val; omega
  rw [e]
  refine (View.read_writes_cons_emb _ _ _ _ _ _).trans ((hP _ _).trans ?_)
  show S (8 + (i.val - 8)) C = _
  congr 1; omega

/-- The rows before them are as they were. -/
theorem fill_miss {v : View sig .tc .vmem S272x4096 .f32} (f : v.ty.Contents (Elt Ideal)) (L : List (View.Piece (Elt Ideal) S272x4096 .f32))
    (inb : ∀ a : Fin 2, ![8, 0] a + S256x4096.size a ≤ S272x4096.size a) (P : Vec Ideal S256x4096 .f32)
    (i : Fin 272) (C : Fin 4096) (h : i.val < 8) :
    v.read (Elt Ideal) (v.writes (Elt Ideal) f (⟨Rect.unit (s := S272x4096) ![8, 0] S256x4096.size inb, P⟩ :: L)) (ix2 i C)
      = v.read (Elt Ideal) (v.writes (Elt Ideal) f L) (ix2 i C) :=
  View.read_writes_cons_miss _ _ _ _ _ (Rect.not_mem_set_of_axis _ _ 0 8 256 rfl rfl rfl (.inl h))

/-- The eight head rows, written last or first. -/
theorem head_read {v : View sig .tc .vmem S272x4096 .f32} (f : v.ty.Contents (Elt Ideal)) (L : List (View.Piece (Elt Ideal) S272x4096 .f32))
    (inb : ∀ a : Fin 2, ![0, 0] a + S8x4096.size a ≤ S272x4096.size a) (P : Vec Ideal S8x4096 .f32)
    (i : Fin 272) (C : Fin 4096) (h : i.val < 8) :
    v.read (Elt Ideal) (v.writes (Elt Ideal) f (⟨Rect.unit (s := S272x4096) ![0, 0] S8x4096.size inb, P⟩ :: L)) (ix2 i C) = P (ix2 ⟨i.val, h⟩ C) := by
  have e : ix2 i C = (Rect.unit (s := S272x4096) ![0, 0] S8x4096.size inb).emb (ix2 ⟨i.val, h⟩ C) := by
    symm
    refine Rect.emb_eq_of_coords _ _ _ fun a => ?_
    match a with
    | 0 => show i.val = 0 + 1 * i.val; omega
    | 1 => show C.val = 0 + 1 * C.val; omega
  rw [e]
  exact View.read_writes_cons_emb _ _ _ _ _ _

/-- A piece of the block of queries, keys and values holds what the block is to hold. -/
def Good (S : ℕ → Fin 4096 → EReal) (cw : Fin 4 → Fin 4096 → EReal) (p : View.Piece (Elt Ideal) S256x4096 .f32) : Prop :=
  ∀ x : p.1.shape.Idx, p.2 x = Slab.tile S cw (p.1.emb x)

open Slab in
/-- A slab of the values, at every index of the piece that holds it. -/
theorem vals_ok {A B C D : FVec Ideal S256x128 .f32} {a b c d : FVec Ideal S1x128 .f32} {o : ℕ} (ho : o + 128 ≤ 4096)
    (inb : ∀ a : Fin 2, ![0, o] a + S256x128.size a ≤ S256x4096.size a) (h1 : 2048 ≤ o) {pay : FVec Ideal S256x128 .f32} (hp : pay = vals A B C D a b c d) (h : Reads A B C D a b c d S cw o ho) :
    Good S cw ⟨Rect.unit (s := S256x4096) ![0, o] S256x128.size inb, pay⟩ := by
  intro x
  show pay x = tile S cw ((Rect.unit (s := S256x4096) ![0, o] S256x128.size inb).emb x)
  obtain ⟨r, l, rfl⟩ : ∃ (r : Fin 256) (l : Fin 128), x = ix2 r l := ⟨_, _, idx_slab x⟩
  rw [hp, emb_slab (ho := ho)]
  exact vals_piece h h1 r l

open Slab in
/-- A slab of the keys. -/
theorem keys_ok {A B C D : FVec Ideal S256x128 .f32} {a b c d : FVec Ideal S1x128 .f32} {o : ℕ} (ho : o + 128 ≤ 4096)
    (inb : ∀ a : Fin 2, ![0, o] a + S256x128.size a ≤ S256x4096.size a) (h0 : o % 128 = 0) (h1 : 1024 ≤ o) (h2 : o < 2048)
    {pay : FVec Ideal S256x128 .f32} (hp : pay = keys A B C D a b c d) (h : Reads A B C D a b c d S cw o ho) :
    Good S cw ⟨Rect.unit (s := S256x4096) ![0, o] S256x128.size inb, pay⟩ := by
  intro x
  show pay x = tile S cw ((Rect.unit (s := S256x4096) ![0, o] S256x128.size inb).emb x)
  obtain ⟨r, l, rfl⟩ : ∃ (r : Fin 256) (l : Fin 128), x = ix2 r l := ⟨_, _, idx_slab x⟩
  rw [hp, emb_slab (ho := ho)]
  exact keys_piece h h0 h1 h2 r l

open Slab in
/-- A slab of the queries. -/
theorem queries_ok {A B C D : FVec Ideal S256x128 .f32} {a b c d : FVec Ideal S1x128 .f32} {o : ℕ} (ho : o + 128 ≤ 4096)
    (inb : ∀ a : Fin 2, ![0, o] a + S256x128.size a ≤ S256x4096.size a) (h0 : o % 128 = 0) (h1 : o < 1024)
    {pay : FVec Ideal S256x128 .f32} (hp : pay = queries A B C D a b c d) (h : Reads A B C D a b c d S cw o ho) :
    Good S cw ⟨Rect.unit (s := S256x4096) ![0, o] S256x128.size inb, pay⟩ := by
  intro x
  show pay x = tile S cw ((Rect.unit (s := S256x4096) ![0, o] S256x128.size inb).emb x)
  obtain ⟨r, l, rfl⟩ : ∃ (r : Fin 256) (l : Fin 128), x = ix2 r l := ⟨_, _, idx_slab x⟩
  rw [hp, emb_slab (ho := ho)]
  exact queries_piece h h0 h1 r l

section Runs

variable (c : Dev nD) (i : grid0.Coords) (arg1 : Memref sig .tc .vmem S256x1024 .f32) (harg1 : arg1.IsWhole) (arg2 : Memref sig .tc .vmem S1024x4096 .bf16) (harg2 : arg2.IsWhole)
  (arg3 : Memref sig .tc .vmem S1024x2048 .bf16) (harg3 : arg3.IsWhole) (arg4 : Memref sig .tc .vmem S1024x32 .bf16) (harg4 : arg4.IsWhole)
  (arg5 : Memref sig .tc .vmem S4x4096 .f32) (harg5 : arg5.IsWhole) (arg6 : Memref sig .tc .vmem S1x16 .f32) (harg6 : arg6.IsWhole)
  (arg7 : Memref sig .tc .vmem S1x16 .f32) (harg7 : arg7.IsWhole) (arg8 : Memref sig .tc .vmem S256x4096 .f32) (harg8 : arg8.IsWhole)
  (arg9 : Memref sig .tc .vmem S256x2048 .f32) (harg9 : arg9.IsWhole) (arg10 : Memref sig .tc .vmem S256x16 .f32) (harg10 : arg10.IsWhole)
  (arg11 : Memref sig .tc .vmem S256x16 .f32) (harg11 : arg11.IsWhole) (arg12 : Memref sig .tc .vmem S272x4096 .f32) (harg12 : arg12.IsWhole)
  (x0 : Vec Ideal S256x1024 .f32) (x1 : Vec Ideal S1024x4096 .bf16) (x2 : Vec Ideal S1024x2048 .bf16) (x3 : Vec Ideal S1024x32 .bf16) (x4 : Vec Ideal S4x4096 .f32)
  (x5 x6 : Vec Ideal S1x16 .f32) (xs : Vec Ideal S272x4096 .f32)

/-- The product the run stores in the buffer. -/
theorem stored (h : Told x0 x1 x4 S cw) (r : Fin 256) (C : Fin 4096) :
    k0_pay3 (View.readAt (Elt Ideal) arg1.view (Rect.unit (s := S256x1024) ![0, 0] S256x1024.size inb_S256x1024_S256x1024_0_0).toLoadRect (harg1.unread x0))
      (View.readAt (Elt Ideal) arg2.view (Rect.unit (s := S1024x4096) ![0, 0] S1024x4096.size inb_S1024x4096_S1024x4096_0_0).toLoadRect (harg2.unread x1)) (ix2 r C)
      = S (8 + r.val) C := by
  have z : ∀ a : Fin 2, (![0, 0] : Fin 2 → ℕ) a = 0 := fun a => by match a with | 0 => rfl | 1 => rfl
  refine (Slab.prod_read _ _ r C).trans (Eq.trans (Finset.sum_congr rfl fun k _ => ?_) (h.prod r C))
  exact congr (congrArg HMul.hMul (congrFun (whole_read harg1 x0 z _) _)) (congrFun (whole_read harg2 x1 z _) _)

/-- The buffer while the slabs are computed, at a point that goes on with a sequence. -/
theorem next_buf (h : Told x0 x1 x4 S cw) (hs : ∀ (i : Fin 272) (C : Fin 4096), i.val < 8 → xs (ix2 i C) = S i.val C) (i : Fin 272) (C : Fin 4096) (hi : i.val < 264) :
    arg12.view.read (Elt Ideal) (arg12.view.writes (Elt Ideal) (harg12.unread xs) (Body.runNext.sl.HS_1 c arg1 harg1 arg2 harg2 x0 x1)) (ix2 i C) = S i.val C := by
  by_cases h8 : i.val < 8
  · refine (fill_miss _ _ _ _ i C h8).trans ?_
    refine (congrFun (harg12.read_unread xs) _).trans (hs i C h8)
  · exact fill_read _ _ _ _ (stored arg1 harg1 arg2 harg2 x0 x1 x4 h) i C (by omega) hi

/-- The rows the product fills, over whatever was there. -/
theorem next_fill (h : Told x0 x1 x4 S cw) (f : arg12.view.ty.Contents (Elt Ideal)) (i : Fin 272) (C : Fin 4096) (h8 : 8 ≤ i.val) (hi : i.val < 264) :
    arg12.view.read (Elt Ideal) (arg12.view.writes (Elt Ideal) f (Body.runNext.sl.HS_1 c arg1 harg1 arg2 harg2 x0 x1)) (ix2 i C) = S i.val C :=
  fill_read _ _ _ _ (stored arg1 harg1 arg2 harg2 x0 x1 x4 h) i C h8 hi

/-- The buffer while the slabs are computed, at a point that starts a sequence, over whatever was there. -/
theorem start_buf (h : Told x0 x1 x4 S cw) (hs : ∀ (i : ℕ) (C : Fin 4096), i < 8 → S i C = 0) (f : arg12.view.ty.Contents (Elt Ideal)) (i : Fin 272) (C : Fin 4096) (hi : i.val < 264) :
    arg12.view.read (Elt Ideal) (arg12.view.writes (Elt Ideal) f (Body.runStart.sl.HS_2 c arg1 harg1 arg2 harg2 x0 x1)) (ix2 i C) = S i.val C := by
  by_cases h8 : i.val < 8
  · refine (fill_miss _ _ _ _ i C h8).trans ((head_read _ _ _ _ i C h8).trans ?_)
    exact (Slab.clear_read _ _).trans (hs _ _ h8).symm
  · exact fill_read _ _ _ _ (stored arg1 harg1 arg2 harg2 x0 x1 x4 h) i C (by omega) hi

end Runs

end Cert.Kernel5Ideal.Tile
-- ==== Proof.Slabs5.lean ====
/-
  The block of queries, keys and values that a run of the body leaves.
-/
module

public import proofs.«01_k».proof.Proof.Tile5
public import Idealize.ShloMosaic.Lib.WholeRead

@[expose] public section

set_option maxRecDepth 65536

noncomputable section

namespace Cert.Kernel5Ideal.Tile

open Idealize.ShloMosaic Idealize.ShloMosaic.TcCoe
open Cert.Kernel5Ideal Cert.Kernel5Ideal.Gen

variable {S : ℕ → Fin 4096 → EReal} {cw : Fin 4 → Fin 4096 → EReal}

/-! The four slabs whose payload is handed a broadcast value from an earlier part of the body. -/

section Handed

variable (A B C D : FVec Ideal S256x128 .f32) (a b c d : FVec Ideal S1x128 .f32)

theorem pay10 : k0_pay10 k0_pay8 A (k0_pay9 a) B b C c D d = Slab.queries A B C D a b c d := rfl
theorem pay30 : k0_pay30 (k0_pay28 A a B b) C (k0_pay29 c) D d = Slab.keys A B C D a b c d := rfl
theorem pay37 : k0_pay37 (k0_pay35 A a) B (k0_pay36 b) C c D d = Slab.keys A B C D a b c d := rfl
theorem pay44 : k0_pay44 k0_pay42 A (k0_pay43 a) B b C c D d = Slab.vals A B C D a b c d := rfl

end Handed

section Runs

variable (c : Dev nD) (i : grid0.Coords) (arg1 : Memref sig .tc .vmem S256x1024 .f32) (harg1 : arg1.IsWhole) (arg2 : Memref sig .tc .vmem S1024x4096 .bf16) (harg2 : arg2.IsWhole)
  (arg3 : Memref sig .tc .vmem S1024x2048 .bf16) (harg3 : arg3.IsWhole) (arg4 : Memref sig .tc .vmem S1024x32 .bf16) (harg4 : arg4.IsWhole)
  (arg5 : Memref sig .tc .vmem S4x4096 .f32) (harg5 : arg5.IsWhole) (arg6 : Memref sig .tc .vmem S1x16 .f32) (harg6 : arg6.IsWhole)
  (arg7 : Memref sig .tc .vmem S1x16 .f32) (harg7 : arg7.IsWhole) (arg8 : Memref sig .tc .vmem S256x4096 .f32) (harg8 : arg8.IsWhole)
  (arg9 : Memref sig .tc .vmem S256x2048 .f32) (harg9 : arg9.IsWhole) (arg10 : Memref sig .tc .vmem S256x16 .f32) (harg10 : arg10.IsWhole)
  (arg11 : Memref sig .tc .vmem S256x16 .f32) (harg11 : arg11.IsWhole) (arg12 : Memref sig .tc .vmem S272x4096 .f32) (harg12 : arg12.IsWhole)
  (x0 : Vec Ideal S256x1024 .f32) (x1 : Vec Ideal S1024x4096 .bf16) (x2 : Vec Ideal S1024x2048 .bf16) (x3 : Vec Ideal S1024x32 .bf16) (x4 : Vec Ideal S4x4096 .f32)
  (x5 x6 : Vec Ideal S1x16 .f32) (xs : Vec Ideal S272x4096 .f32)

set_option maxHeartbeats 1600000 in
/-- The block of queries, keys and values at a point that goes on with a sequence. -/
theorem next_qkv (hc : ¬ Body.starts i) (h : Told x0 x1 x4 S cw) (hs : ∀ (i : Fin 272) (C : Fin 4096), i.val < 8 → xs (ix2 i C) = S i.val C) :
    ∀ p ∈ (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1, Good S cw p := by
  have rd : ∀ {o : ℕ} (ho : o + 128 ≤ 4096) (i5 : ∀ a : Fin 2, ![5, o] a + S256x128.size a ≤ S272x4096.size a) (i6 : ∀ a : Fin 2, ![6, o] a + S256x128.size a ≤ S272x4096.size a) (i7 : ∀ a : Fin 2, ![7, o] a + S256x128.size a ≤ S272x4096.size a) (i8 : ∀ a : Fin 2, ![8, o] a + S256x128.size a ≤ S272x4096.size a) (j0 : ∀ a : Fin 2, ![0, o] a + S1x128.size a ≤ S4x4096.size a) (j1 : ∀ a : Fin 2, ![1, o] a + S1x128.size a ≤ S4x4096.size a) (j2 : ∀ a : Fin 2, ![2, o] a + S1x128.size a ≤ S4x4096.size a) (j3 : ∀ a : Fin 2, ![3, o] a + S1x128.size a ≤ S4x4096.size a),
      Slab.Reads (View.readAt (Elt Ideal) arg12.view (Rect.unit (s := S272x4096) ![5, o] S256x128.size i5).toLoadRect (arg12.view.writes (Elt Ideal) (harg12.unread xs) (Body.runNext.sl.HS_1 c arg1 harg1 arg2 harg2 x0 x1)))
        (View.readAt (Elt Ideal) arg12.view (Rect.unit (s := S272x4096) ![6, o] S256x128.size i6).toLoadRect (arg12.view.writes (Elt Ideal) (harg12.unread xs) (Body.runNext.sl.HS_1 c arg1 harg1 arg2 harg2 x0 x1)))
        (View.readAt (Elt Ideal) arg12.view (Rect.unit (s := S272x4096) ![7, o] S256x128.size i7).toLoadRect (arg12.view.writes (Elt Ideal) (harg12.unread xs) (Body.runNext.sl.HS_1 c arg1 harg1 arg2 harg2 x0 x1)))
        (View.readAt (Elt Ideal) arg12.view (Rect.unit (s := S272x4096) ![8, o] S256x128.size i8).toLoadRect (arg12.view.writes (Elt Ideal) arg12.view.junk (Body.runNext.sl.HS_1 c arg1 harg1 arg2 harg2 x0 x1)))
        (View.readAt (Elt Ideal) arg5.view (Rect.unit (s := S4x4096) ![0, o] S1x128.size j0).toLoadRect (harg5.unread x4))
        (View.readAt (Elt Ideal) arg5.view (Rect.unit (s := S4x4096) ![1, o] S1x128.size j1).toLoadRect (harg5.unread x4))
        (View.readAt (Elt Ideal) arg5.view (Rect.unit (s := S4x4096) ![2, o] S1x128.size j2).toLoadRect (harg5.unread x4))
        (View.readAt (Elt Ideal) arg5.view (Rect.unit (s := S4x4096) ![3, o] S1x128.size j3).toLoadRect (harg5.unread x4)) S cw o ho := fun ho i5 i6 i7 i8 j0 j1 j2 j3 =>
    ⟨fun r l => rows_read _ 5 (fun i C _ h2 => next_buf c arg1 harg1 arg2 harg2 arg12 harg12 x0 x1 x4 xs h hs i C (by omega)) ho i5 r l,
      fun r l => rows_read _ 6 (fun i C _ h2 => next_buf c arg1 harg1 arg2 harg2 arg12 harg12 x0 x1 x4 xs h hs i C (by omega)) ho i6 r l,
      fun r l => rows_read _ 7 (fun i C _ h2 => next_buf c arg1 harg1 arg2 harg2 arg12 harg12 x0 x1 x4 xs h hs i C (by omega)) ho i7 r l,
      fun r l => rows_read _ 8 (fun i C h1 h2 => next_fill c arg1 harg1 arg2 harg2 arg12 x0 x1 x4 h _ i C h1 (by omega)) ho i8 r l,
      taps_read harg5 x4 h.taps 0 ho j0, taps_read harg5 x4 h.taps 1 ho j1, taps_read harg5 x4 h.taps 2 ho j2, taps_read harg5 x4 h.taps 3 ho j3⟩
  dsimp only [Body.runNext]
  iterate 15 refine List.forall_mem_cons.2 ⟨vals_ok (S := S) (cw := cw) (by omega) _ (by omega) rfl (rd (by omega) _ _ _ _ _ _ _ _), ?_⟩
  refine List.forall_mem_cons.2 ⟨vals_ok (S := S) (cw := cw) (by omega) _ (by omega) (pay44 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  refine List.forall_mem_cons.2 ⟨keys_ok (S := S) (cw := cw) (by omega) _ (by omega) (by omega) (by omega) (pay37 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  refine List.forall_mem_cons.2 ⟨keys_ok (S := S) (cw := cw) (by omega) _ (by omega) (by omega) (by omega) (pay30 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  iterate 5 refine List.forall_mem_cons.2 ⟨queries_ok (S := S) (cw := cw) (by omega) _ (by omega) (by omega) rfl (rd (by omega) _ _ _ _ _ _ _ _), ?_⟩
  refine List.forall_mem_cons.2 ⟨queries_ok (S := S) (cw := cw) (by omega) _ (by omega) (by omega) (pay10 _ _ _ _ _ _ _ _) (rd (by omega) _ _ _ _ _ _ _ _), ?_⟩
  iterate 2 refine List.forall_mem_cons.2 ⟨queries_ok (S := S) (cw := cw) (by omega) _ (by omega) (by omega) rfl (rd (by omega) _ _ _ _ _ _ _ _), ?_⟩
  exact fun p hp => absurd hp List.not_mem_nil

set_option maxHeartbeats 1600000 in
/-- The block of queries, keys and values at a point that starts a sequence. -/
theorem start_qkv (hc : Body.starts i) (h : Told x0 x1 x4 S cw) (hs : ∀ (i : ℕ) (C : Fin 4096), i < 8 → S i C = 0) :
    ∀ p ∈ (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1, Good S cw p := by
  have rd : ∀ {o : ℕ} (ho : o + 128 ≤ 4096) (i5 : ∀ a : Fin 2, ![5, o] a + S256x128.size a ≤ S272x4096.size a) (i6 : ∀ a : Fin 2, ![6, o] a + S256x128.size a ≤ S272x4096.size a) (i7 : ∀ a : Fin 2, ![7, o] a + S256x128.size a ≤ S272x4096.size a) (i8 : ∀ a : Fin 2, ![8, o] a + S256x128.size a ≤ S272x4096.size a) (j0 : ∀ a : Fin 2, ![0, o] a + S1x128.size a ≤ S4x4096.size a) (j1 : ∀ a : Fin 2, ![1, o] a + S1x128.size a ≤ S4x4096.size a) (j2 : ∀ a : Fin 2, ![2, o] a + S1x128.size a ≤ S4x4096.size a) (j3 : ∀ a : Fin 2, ![3, o] a + S1x128.size a ≤ S4x4096.size a),
      Slab.Reads (View.readAt (Elt Ideal) arg12.view (Rect.unit (s := S272x4096) ![5, o] S256x128.size i5).toLoadRect (arg12.view.writes (Elt Ideal) arg12.view.junk (Body.runStart.sl.HS_2 c arg1 harg1 arg2 harg2 x0 x1)))
        (View.readAt (Elt Ideal) arg12.view (Rect.unit (s := S272x4096) ![6, o] S256x128.size i6).toLoadRect (arg12.view.writes (Elt Ideal) arg12.view.junk (Body.runStart.sl.HS_2 c arg1 harg1 arg2 harg2 x0 x1)))
        (View.readAt (Elt Ideal) arg12.view (Rect.unit (s := S272x4096) ![7, o] S256x128.size i7).toLoadRect (arg12.view.writes (Elt Ideal) arg12.view.junk (Body.runStart.sl.HS_2 c arg1 harg1 arg2 harg2 x0 x1)))
        (View.readAt (Elt Ideal) arg12.view (Rect.unit (s := S272x4096) ![8, o] S256x128.size i8).toLoadRect (arg12.view.writes (Elt Ideal) arg12.view.junk (Body.runStart.sl.HS_2 c arg1 harg1 arg2 harg2 x0 x1)))
        (View.readAt (Elt Ideal) arg5.view (Rect.unit (s := S4x4096) ![0, o] S1x128.size j0).toLoadRect (harg5.unread x4))
        (View.readAt (Elt Ideal) arg5.view (Rect.unit (s := S4x4096) ![1, o] S1x128.size j1).toLoadRect (harg5.unread x4))
        (View.readAt (Elt Ideal) arg5.view (Rect.unit (s := S4x4096) ![2, o] S1x128.size j2).toLoadRect (harg5.unread x4))
        (View.readAt (Elt Ideal) arg5.view (Rect.unit (s := S4x4096) ![3, o] S1x128.size j3).toLoadRect (harg5.unread x4)) S cw o ho := fun ho i5 i6 i7 i8 j0 j1 j2 j3 =>
    ⟨fun r l => rows_read _ 5 (fun i C _ h2 => start_buf c arg1 harg1 arg2 harg2 arg12 x0 x1 x4 h hs _ i C (by omega)) ho i5 r l,
      fun r l => rows_read _ 6 (fun i C _ h2 => start_buf c arg1 harg1 arg2 harg2 arg12 x0 x1 x4 h hs _ i C (by omega)) ho i6 r l,
      fun r l => rows_read _ 7 (fun i C _ h2 => start_buf c arg1 harg1 arg2 harg2 arg12 x0 x1 x4 h hs _ i C (by omega)) ho i7 r l,
      fun r l => rows_read _ 8 (fun i C _ h2 => start_buf c arg1 harg1 arg2 harg2 arg12 x0 x1 x4 h hs _ i C (by omega)) ho i8 r l,
      taps_read harg5 x4 h.taps 0 ho j0, taps_read harg5 x4 h.taps 1 ho j1, taps_read harg5 x4 h.taps 2 ho j2, taps_read harg5 x4 h.taps 3 ho j3⟩
  dsimp only [Body.runStart]
  iterate 15 refine List.forall_mem_cons.2 ⟨vals_ok (S := S) (cw := cw) (by omega) _ (by omega) rfl (rd (by omega) _ _ _ _ _ _ _ _), ?_⟩
  refine List.forall_mem_cons.2 ⟨vals_ok (S := S) (cw := cw) (by omega) _ (by omega) (pay44 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  refine List.forall_mem_cons.2 ⟨keys_ok (S := S) (cw := cw) (by omega) _ (by omega) (by omega) (by omega) (pay37 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  refine List.forall_mem_cons.2 ⟨keys_ok (S := S) (cw := cw) (by omega) _ (by omega) (by omega) (by omega) (pay30 _ _ _ _ _ _ _ _) (rd (by omega) _ _ _ _ _ _ _ _), ?_⟩
  iterate 2 refine List.forall_mem_cons.2 ⟨keys_ok (S := S) (cw := cw) (by omega) _ (by omega) (by omega) (by omega) rfl (rd (by omega) _ _ _ _ _ _ _ _), ?_⟩
  iterate 5 refine List.forall_mem_cons.2 ⟨queries_ok (S := S) (cw := cw) (by omega) _ (by omega) (by omega) rfl (rd (by omega) _ _ _ _ _ _ _ _), ?_⟩
  refine List.forall_mem_cons.2 ⟨queries_ok (S := S) (cw := cw) (by omega) _ (by omega) (by omega) (pay10 _ _ _ _ _ _ _ _) (rd (by omega) _ _ _ _ _ _ _ _), ?_⟩
  iterate 2 refine List.forall_mem_cons.2 ⟨queries_ok (S := S) (cw := cw) (by omega) _ (by omega) (by omega) rfl (rd (by omega) _ _ _ _ _ _ _ _), ?_⟩
  exact fun p hp => absurd hp List.not_mem_nil

end Runs

end Cert.Kernel5Ideal.Tile
-- ==== Proof.Gates5.lean ====
/-
  What a run of the body leaves in the blocks of gates, write strengths and decays and in the scratch's head rows, and the
  block of queries, keys and values as one function.
-/
module

public import proofs.«01_k».proof.Proof.Slabs5

@[expose] public section

set_option maxRecDepth 65536

noncomputable section

namespace Cert.Kernel5Ideal.Tile

open Idealize.ShloMosaic Idealize.ShloMosaic.TcCoe
open Cert.Kernel5Ideal Cert.Kernel5Ideal.Gen

variable {S : ℕ → Fin 4096 → EReal} {cw : Fin 4 → Fin 4096 → EReal}

/-- A column of a slab, or of the slabs before it, lies in one of the pieces. -/
theorem cover_cons {o : ℕ} (inb : ∀ a : Fin 2, ![0, o] a + S256x128.size a ≤ S256x4096.size a) {pay : FVec Ideal S256x128 .f32}
    {L : List (View.Piece (Elt Ideal) S256x4096 .f32)} (y : S256x4096.Idx)
    (tail : (y 1).val < o → ∃ p ∈ L, y ∈ p.1.set) :
    (y 1).val < o + 128 → ∃ p ∈ (⟨Rect.unit (s := S256x4096) ![0, o] S256x128.size inb, pay⟩ :: L : List (View.Piece (Elt Ideal) S256x4096 .f32)), y ∈ p.1.set := by
  intro hlt
  by_cases h : (y 1).val < o
  · obtain ⟨p, hp, hy⟩ := tail h
    exact ⟨p, List.mem_cons_of_mem _ hp, hy⟩
  · refine ⟨_, List.mem_cons_self, ?_⟩
    have h0 : (y 0).val < 256 := (y 0).isLt
    have e : (Rect.unit (s := S256x4096) ![0, o] S256x128.size inb).emb (ix2 (⟨(y 0).val, h0⟩ : Fin 256) (⟨(y 1).val - o, by omega⟩ : Fin 128)) = y := by
      refine Rect.emb_eq_of_coords _ _ _ fun a => ?_
      match a with
      | 0 => show (y 0).val = 0 + 1 * (y 0).val; omega
      | 1 => show (y 1).val = o + 1 * ((y 1).val - o); omega
    exact e ▸ LoadRect.idx_mem _ _

/-- A block stored whole, whatever was there. -/
theorem whole_stored {s : Shape} {e : EltTy} {v : View sig .tc .vmem s e} (f : v.ty.Contents (Elt Ideal)) {off : Fin s.rank → ℕ} (hz : ∀ a, off a = 0)
    (inb : ∀ a, off a + s.size a ≤ s.size a) (P : Vec Ideal s e) :
    v.read (Elt Ideal) (v.writes (Elt Ideal) f [⟨Rect.unit off s.size inb, P⟩]) = P := by
  funext y
  have e : (Rect.unit off s.size inb).emb y = y := Rect.emb_eq_of_coords _ _ _ fun a => by
    show (y a).val = off a + 1 * (y a).val
    rw [hz]; omega
  exact (congrArg _ e.symm).trans (View.read_writes_cons_emb _ _ _ _ _ _)

/-- Both offsets of a whole block are zero. -/
theorem zero2 : ∀ a : Fin 2, (![0, 0] : Fin 2 → ℕ) a = 0 := fun a => by match a with | 0 => rfl | 1 => rfl

/-- A payload of the same shape. -/
theorem same_read (P : Vec Ideal S8x4096 .f32) (r : Fin 8) (C : Fin 4096) : k0_pay79 P (ix2 r C) = P (ix2 r C) := by
  pointwise [k0_pay79]

section Runs

variable (c : Dev nD) (i : grid0.Coords) (arg1 : Memref sig .tc .vmem S256x1024 .f32) (harg1 : arg1.IsWhole) (arg2 : Memref sig .tc .vmem S1024x4096 .bf16) (harg2 : arg2.IsWhole)
  (arg3 : Memref sig .tc .vmem S1024x2048 .bf16) (harg3 : arg3.IsWhole) (arg4 : Memref sig .tc .vmem S1024x32 .bf16) (harg4 : arg4.IsWhole)
  (arg5 : Memref sig .tc .vmem S4x4096 .f32) (harg5 : arg5.IsWhole) (arg6 : Memref sig .tc .vmem S1x16 .f32) (harg6 : arg6.IsWhole)
  (arg7 : Memref sig .tc .vmem S1x16 .f32) (harg7 : arg7.IsWhole) (arg8 : Memref sig .tc .vmem S256x4096 .f32) (harg8 : arg8.IsWhole)
  (arg9 : Memref sig .tc .vmem S256x2048 .f32) (harg9 : arg9.IsWhole) (arg10 : Memref sig .tc .vmem S256x16 .f32) (harg10 : arg10.IsWhole)
  (arg11 : Memref sig .tc .vmem S256x16 .f32) (harg11 : arg11.IsWhole) (arg12 : Memref sig .tc .vmem S272x4096 .f32) (harg12 : arg12.IsWhole)
  (x0 : Vec Ideal S256x1024 .f32) (x1 : Vec Ideal S1024x4096 .bf16) (x2 : Vec Ideal S1024x2048 .bf16) (x3 : Vec Ideal S1024x32 .bf16) (x4 : Vec Ideal S4x4096 .f32)
  (x5 x6 : Vec Ideal S1x16 .f32) (xs : Vec Ideal S272x4096 .f32)

/-- The rows' block as the run loads it. -/
theorem rows_load : k0_pay1 (View.readAt (Elt Ideal) arg1.view (Rect.unit (s := S256x1024) ![0, 0] S256x1024.size inb_S256x1024_S256x1024_0_0).toLoadRect (harg1.unread x0)) = k0_pay1 x0 :=
  congrArg _ (whole_read harg1 x0 zero2 _)

/-- The block of gates. -/
def gates : Vec Ideal S256x2048 .f32 := k0_pay80 (k0_pay1 x0) x2
/-- The block of write strengths. -/
def betas : Vec Ideal S256x16 .f32 := k0_pay82 (k0_pay1 x0) x3
/-- The block of running decays. -/
def totals : Vec Ideal S256x16 .f32 :=
  k0_pay88 (k0_pay84 (k0_pay83 (k0_pay1 x0) x3 x6) x5) (iota .tc S256x256 32 [0] iota_S256x256_d0_w32) (iota .tc S256x256 32 [1] iota_S256x256_d1_w32) k0_pay85 64#32 k0_pay86 k0_pay87 1#32 0#32

set_option maxHeartbeats 1600000 in
/-- The pieces of the block of queries, keys and values cover it. -/
theorem next_cover (hc : ¬ Body.starts i) (y : S256x4096.Idx) : ∃ p ∈ (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1, y ∈ p.1.set := by
  dsimp only [Body.runNext]
  have h1 : (y 1).val < 3968 + 128 := (y 1).isLt
  revert h1
  iterate 31 refine cover_cons _ y ?_
  exact cover_cons _ y fun h => absurd h (Nat.not_lt_zero _)

/-- The block of queries, keys and values. -/
theorem next_7 (hc : ¬ Body.starts i) (h : Told x0 x1 x4 S cw) (hs : ∀ (i : Fin 272) (C : Fin 4096), i.val < 8 → xs (ix2 i C) = S i.val C) (f : arg8.view.ty.Contents (Elt Ideal)) :
    arg8.view.read (Elt Ideal) (arg8.view.writes (Elt Ideal) f (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1) = Slab.tile S cw :=
  funext fun y => View.read_writes_apply_of_pieces arg8.view f (Slab.tile S cw) _ (next_qkv c i arg1 harg1 arg2 harg2 arg3 harg3 arg4 harg4 arg5 harg5 arg6 harg6 arg7 harg7 arg8 harg8 arg9 harg9 arg10 harg10 arg11 harg11 arg12 harg12 x0 x1 x2 x3 x4 x5 x6 xs hc h hs) y (next_cover c i arg1 harg1 arg2 harg2 arg3 harg3 arg4 harg4 arg5 harg5 arg6 harg6 arg7 harg7 arg8 harg8 arg9 harg9 arg10 harg10 arg11 harg11 arg12 harg12 x0 x1 x2 x3 x4 x5 x6 xs hc y)

set_option maxHeartbeats 1600000 in
/-- The block of gates. -/
theorem next_8 (hc : ¬ Body.starts i) (f : arg9.view.ty.Contents (Elt Ideal)) :
    arg9.view.read (Elt Ideal) (arg9.view.writes (Elt Ideal) f (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.1) = gates x0 x2 := by
  dsimp only [Body.runNext]
  refine (whole_stored _ zero2 _ _).trans ?_
  exact congrArg₂ k0_pay80 (rows_load arg1 harg1 x0) (whole_read harg3 x2 zero2 _)

set_option maxHeartbeats 1600000 in
/-- The block of write strengths. -/
theorem next_9 (hc : ¬ Body.starts i) (f : arg10.view.ty.Contents (Elt Ideal)) :
    arg10.view.read (Elt Ideal) (arg10.view.writes (Elt Ideal) f (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.1) = betas x0 x3 := by
  dsimp only [Body.runNext]
  refine (whole_stored _ zero2 _ _).trans ?_
  exact congrArg₂ k0_pay82 (rows_load arg1 harg1 x0) (whole_read harg4 x3 zero2 _)

set_option maxHeartbeats 1600000 in
/-- The block of running decays. -/
theorem next_10 (hc : ¬ Body.starts i) (f : arg11.view.ty.Contents (Elt Ideal)) :
    arg11.view.read (Elt Ideal) (arg11.view.writes (Elt Ideal) f (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.1) = totals x0 x3 x5 x6 := by
  dsimp only [Body.runNext]
  refine (whole_stored _ zero2 _ _).trans ?_
  have e : k0_pay84 (k0_pay83 (k0_pay1 (View.readAt (Elt Ideal) arg1.view (Rect.unit (s := S256x1024) ![0, 0] S256x1024.size inb_S256x1024_S256x1024_0_0).toLoadRect (harg1.unread x0)))
      (View.readAt (Elt Ideal) arg4.view (Rect.unit (s := S1024x32) ![0, 0] S1024x32.size inb_S1024x32_S1024x32_0_0).toLoadRect (harg4.unread x3))
      (View.readAt (Elt Ideal) arg7.view (Rect.unit (s := S1x16) ![0, 0] S1x16.size inb_S1x16_S1x16_0_0).toLoadRect (harg7.unread x6)))
      (View.readAt (Elt Ideal) arg6.view (Rect.unit (s := S1x16) ![0, 0] S1x16.size inb_S1x16_S1x16_0_0).toLoadRect (harg6.unread x5))
      = k0_pay84 (k0_pay83 (k0_pay1 x0) x3 x6) x5 := by
    rw [rows_load, whole_read harg4 x3 zero2, whole_read harg7 x6 zero2, whole_read harg6 x5 zero2]
  exact congrArg (fun g => k0_pay88 g (iota .tc S256x256 32 [0] iota_S256x256_d0_w32) (iota .tc S256x256 32 [1] iota_S256x256_d1_w32) k0_pay85 64#32 k0_pay86 k0_pay87 1#32 0#32) e

set_option maxHeartbeats 1600000 in
/-- The head rows of the scratch after the run: the last eight rows it filled. -/
theorem next_head (hc : ¬ Body.starts i) (h : Told x0 x1 x4 S cw) (hs : ∀ (i : Fin 272) (C : Fin 4096), i.val < 8 → xs (ix2 i C) = S i.val C) (f : arg12.view.ty.Contents (Elt Ideal)) (j : Fin 272) (C : Fin 4096) (hj : j.val < 8) :
    arg12.view.read (Elt Ideal) (arg12.view.writes (Elt Ideal) f (Body.runNext (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.2.1) (ix2 j C) = S (256 + j.val) C := by
  dsimp only [Body.runNext]
  refine (head_read _ _ _ _ j C hj).trans ((same_read _ _ _).trans ?_)
  show arg12.view.read (Elt Ideal) (arg12.view.writes (Elt Ideal) arg12.view.junk (Body.runNext.sl.HS_1 c arg1 harg1 arg2 harg2 x0 x1)) _ = _
  have e : (Rect.unit (s := S272x4096) ![256, 0] S8x4096.size inb_S272x4096_S8x4096_256_0).emb (ix2 (⟨j.val, hj⟩ : Fin 8) C) = ix2 (⟨256 + j.val, by omega⟩ : Fin 272) C := by
    refine Rect.emb_eq_of_coords _ _ _ fun a => ?_
    match a with
    | 0 => show 256 + j.val = 256 + 1 * j.val; omega
    | 1 => show C.val = 0 + 1 * C.val; omega
  refine (congrArg _ e).trans ?_
  exact next_fill c arg1 harg1 arg2 harg2 arg12 x0 x1 x4 h _ _ _ (by simp only []; omega) (by simp only []; omega)

set_option maxHeartbeats 1600000 in
/-- The pieces of the block of queries, keys and values cover it. -/
theorem start_cover (hc : Body.starts i) (y : S256x4096.Idx) : ∃ p ∈ (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1, y ∈ p.1.set := by
  dsimp only [Body.runStart]
  have h1 : (y 1).val < 3968 + 128 := (y 1).isLt
  revert h1
  iterate 31 refine cover_cons _ y ?_
  exact cover_cons _ y fun h => absurd h (Nat.not_lt_zero _)

/-- The block of queries, keys and values. -/
theorem start_7 (hc : Body.starts i) (h : Told x0 x1 x4 S cw) (hs : ∀ (i : ℕ) (C : Fin 4096), i < 8 → S i C = 0) (f : arg8.view.ty.Contents (Elt Ideal)) :
    arg8.view.read (Elt Ideal) (arg8.view.writes (Elt Ideal) f (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).1) = Slab.tile S cw :=
  funext fun y => View.read_writes_apply_of_pieces arg8.view f (Slab.tile S cw) _ (start_qkv c i arg1 harg1 arg2 harg2 arg3 harg3 arg4 harg4 arg5 harg5 arg6 harg6 arg7 harg7 arg8 harg8 arg9 harg9 arg10 harg10 arg11 harg11 arg12 harg12 x0 x1 x2 x3 x4 x5 x6 xs hc h hs) y (start_cover c i arg1 harg1 arg2 harg2 arg3 harg3 arg4 harg4 arg5 harg5 arg6 harg6 arg7 harg7 arg8 harg8 arg9 harg9 arg10 harg10 arg11 harg11 arg12 harg12 x0 x1 x2 x3 x4 x5 x6 xs hc y)

set_option maxHeartbeats 1600000 in
/-- The block of gates. -/
theorem start_8 (hc : Body.starts i) (f : arg9.view.ty.Contents (Elt Ideal)) :
    arg9.view.read (Elt Ideal) (arg9.view.writes (Elt Ideal) f (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.1) = gates x0 x2 := by
  dsimp only [Body.runStart]
  refine (whole_stored _ zero2 _ _).trans ?_
  exact congrArg₂ k0_pay80 (rows_load arg1 harg1 x0) (whole_read harg3 x2 zero2 _)

set_option maxHeartbeats 1600000 in
/-- The block of write strengths. -/
theorem start_9 (hc : Body.starts i) (f : arg10.view.ty.Contents (Elt Ideal)) :
    arg10.view.read (Elt Ideal) (arg10.view.writes (Elt Ideal) f (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.1) = betas x0 x3 := by
  dsimp only [Body.runStart]
  refine (whole_stored _ zero2 _ _).trans ?_
  exact congrArg₂ k0_pay82 (rows_load arg1 harg1 x0) (whole_read harg4 x3 zero2 _)

set_option maxHeartbeats 1600000 in
/-- The block of running decays. -/
theorem start_10 (hc : Body.starts i) (f : arg11.view.ty.Contents (Elt Ideal)) :
    arg11.view.read (Elt Ideal) (arg11.view.writes (Elt Ideal) f (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.1) = totals x0 x3 x5 x6 := by
  dsimp only [Body.runStart]
  refine (whole_stored _ zero2 _ _).trans ?_
  have e : k0_pay84 (k0_pay83 (k0_pay1 (View.readAt (Elt Ideal) arg1.view (Rect.unit (s := S256x1024) ![0, 0] S256x1024.size inb_S256x1024_S256x1024_0_0).toLoadRect (harg1.unread x0)))
      (View.readAt (Elt Ideal) arg4.view (Rect.unit (s := S1024x32) ![0, 0] S1024x32.size inb_S1024x32_S1024x32_0_0).toLoadRect (harg4.unread x3))
      (View.readAt (Elt Ideal) arg7.view (Rect.unit (s := S1x16) ![0, 0] S1x16.size inb_S1x16_S1x16_0_0).toLoadRect (harg7.unread x6)))
      (View.readAt (Elt Ideal) arg6.view (Rect.unit (s := S1x16) ![0, 0] S1x16.size inb_S1x16_S1x16_0_0).toLoadRect (harg6.unread x5))
      = k0_pay84 (k0_pay83 (k0_pay1 x0) x3 x6) x5 := by
    rw [rows_load, whole_read harg4 x3 zero2, whole_read harg7 x6 zero2, whole_read harg6 x5 zero2]
  exact congrArg (fun g => k0_pay88 g (iota .tc S256x256 32 [0] iota_S256x256_d0_w32) (iota .tc S256x256 32 [1] iota_S256x256_d1_w32) k0_pay85 64#32 k0_pay86 k0_pay87 1#32 0#32) e

set_option maxHeartbeats 1600000 in
/-- The head rows of the scratch after the run: the last eight rows it filled. -/
theorem start_head (hc : Body.starts i) (h : Told x0 x1 x4 S cw) (hs : ∀ (i : ℕ) (C : Fin 4096), i < 8 → S i C = 0) (f : arg12.view.ty.Contents (Elt Ideal)) (j : Fin 272) (C : Fin 4096) (hj : j.val < 8) :
    arg12.view.read (Elt Ideal) (arg12.view.writes (Elt Ideal) f (Body.runStart (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 xs).2.2.2.2.1) (ix2 j C) = S (256 + j.val) C := by
  dsimp only [Body.runStart]
  refine (head_read _ _ _ _ j C hj).trans ((same_read _ _ _).trans ?_)
  show arg12.view.read (Elt Ideal) (arg12.view.writes (Elt Ideal) arg12.view.junk (Body.runStart.sl.HS_2 c arg1 harg1 arg2 harg2 x0 x1)) _ = _
  have e : (Rect.unit (s := S272x4096) ![256, 0] S8x4096.size inb_S272x4096_S8x4096_256_0).emb (ix2 (⟨j.val, hj⟩ : Fin 8) C) = ix2 (⟨256 + j.val, by omega⟩ : Fin 272) C := by
    refine Rect.emb_eq_of_coords _ _ _ fun a => ?_
    match a with
    | 0 => show 256 + j.val = 256 + 1 * j.val; omega
    | 1 => show C.val = 0 + 1 * C.val; omega
  refine (congrArg _ e).trans ?_
  exact start_buf c arg1 harg1 arg2 harg2 arg12 x0 x1 x4 h hs _ _ _ (by simp only []; omega)

end Runs

end Cert.Kernel5Ideal.Tile
-- ==== Proof.Point5.lean ====
/-
  The gated DeltaNet layer's input projection: the blocks a point stores, as rows of the whole arrays.
-/
module

public import proofs.«01_k».proof.Proof.Blocks5
public import proofs.«01_k».proof.Proof.Gates5

@[expose] public section

noncomputable section

namespace Cert.Kernel5Ideal.Blocks

open Idealize.ShloMosaic Idealize.ShloMosaic.TcCoe Idealize.SL.Sem
open Cert.Kernel5Ideal Cert.Kernel5Ideal.Gen

section Rows

variable (x : FVec Ideal S32768x1024 .f32) (w : FVec Ideal S1024x6176 .f32) (cw : FVec Ideal S4x4096 .f32)

/-- The rows of the buffer point `t` fills: eight rows before its own, zero where a sequence starts, then its own. -/
def buffer (t : ℕ) (i : ℕ) (C : Fin 4096) : EReal := if t % 32 = 0 ∧ i < 8 then 0 else Gdn.proj x w (t * 256 + i - 8) ⟨C.val, by omega⟩

/-- The taps read the buffer. -/
theorem tap_buffer (t : ℕ) (r : Fin 256) (C : Fin 4096) (j : Fin 4) : buffer x w t (5 + j.val + r.val) C = Gdn.tap x w (t * 256 + r.val) C j := by
  unfold buffer Gdn.tap
  refine if_congr ⟨fun h => by omega, fun h => by omega⟩ rfl ?_
  exact congrArg (fun n => Gdn.proj x w n _) (by omega)

/-- The queries, keys and values of a point's rows. -/
theorem tile_rows (t : ℕ) : Slab.tile (buffer x w t) (fun j C => cw (ix2 j C)) = fun y => Gdn.qkv x w cw (t * 256 + (y 0).val) (y 1) := by
  funext y
  unfold Slab.tile Gdn.qkv Gdn.conv
  refine congrArg (fun f => Gdn.heads f (y 1)) (funext fun C => ?_)
  refine congrArg (fun f => Gdn.four f _) (funext fun j => ?_)
  exact tap_buffer x w t (y 0) C j

/-- The buffer starts with zeros where a sequence starts. -/
theorem buffer_start (t : ℕ) (h : t % 32 = 0) (i : ℕ) (C : Fin 4096) (hi : i < 8) : buffer x w t i C = 0 := if_pos ⟨h, hi⟩

/-- The buffer's last eight rows are the next point's first. -/
theorem buffer_next (t j : ℕ) (h : (t + 1) % 32 ≠ 0) (C : Fin 4096) : buffer x w t (256 + j) C = buffer x w (t + 1) j C := by
  unfold buffer
  rw [if_neg (by omega), if_neg (by omega)]
  exact congrArg (fun n => Gdn.proj x w n _) (by omega)

end Rows

variable (m : (ℓ : Loc nD τ sig) → Buf (Elt Ideal) ℓ) (c : Dev nD) (t : Fin cfg0.N)

/-- A row of the product. -/
theorem proj_row (r : Fin 256) (j : Fin 6176) : Gdn.proj (xs m c) (ws m c) (t.val * 256 + r.val) j = ∑ k, xs m c (ix2 (row t r) k) * ws m c (ix2 k j) :=
  dif_pos (row t r).isLt

/-- What a point's run starts from. -/
theorem told : Tile.Told (iblk m c 0 t) (iblk m c 1 t) (iblk m c 4 t) (buffer (xs m c) (ws m c) t.val) (fun j C => cws m c (ix2 j C)) where
  prod r C := by
    unfold buffer
    rw [if_neg (by omega)]
    refine Eq.trans ?_ ((proj_row m c t r _).symm.trans (congrArg (fun n => Gdn.proj (xs m c) (ws m c) n _) (by omega)))
    exact Finset.sum_congr rfl fun k _ => by rw [blk0, blk1]
  taps j C := blk4 m c t j C

/-- An entry of the gates of a point's rows. -/
theorem gate_row (r : Fin 256) (l : Fin 2048) : Tile.gates (iblk m c 0 t) (iblk m c 2 t) (ix2 r l) = Gdn.gate (xs m c) (ws m c) (t.val * 256 + r.val) l := by
  refine (Slab.gate_read (iblk m c 0 t) (iblk m c 2 t) r l).trans (Eq.trans ?_ (proj_row m c t r _).symm)
  exact Finset.sum_congr rfl fun k _ => congrArg₂ (fun a b : EReal => a * b) (blk0 m c t r k) (blk2 m c t k l)

/-- The gates of a point's rows. -/
theorem gate_rows : Tile.gates (iblk m c 0 t) (iblk m c 2 t) = fun y => Gdn.gate (xs m c) (ws m c) (t.val * 256 + (y 0).val) (y 1) :=
  funext fun y => (congrArg _ (eq_ix2 y)).trans (gate_row m c t (y 0) (y 1))

/-- An entry of the write strengths of a point's rows. -/
theorem beta_row (r : Fin 256) (l : Fin 16) : Tile.betas (iblk m c 0 t) (iblk m c 3 t) (ix2 r l) = Gdn.beta (xs m c) (ws m c) (t.val * 256 + r.val) l := by
  refine (Slab.beta_read (iblk m c 0 t) (iblk m c 3 t) r l).trans ?_
  refine congrArg (fun z => Ideal.div 1 (1 + Ideal.exp (0 - z))) (Eq.trans ?_ (proj_row m c t r _).symm)
  exact Finset.sum_congr rfl fun k _ => congrArg₂ (fun a b : EReal => a * b) (blk0 m c t r k) (blk3 m c t k ⟨l.val, by omega⟩)

/-- The write strengths of a point's rows. -/
theorem beta_rows : Tile.betas (iblk m c 0 t) (iblk m c 3 t) = fun y => Gdn.beta (xs m c) (ws m c) (t.val * 256 + (y 0).val) (y 1) :=
  funext fun y => (congrArg _ (eq_ix2 y)).trans (beta_row m c t (y 0) (y 1))

/-- A decay from its parts. -/
theorem decay_parts {a a' p p' d d' : EReal} (ha : a = a') (hp : p = p') (hd : d = d') :
    (0 - Ideal.exp a) * Gdn.softplus (p + d) = (0 - Ideal.exp a') * Gdn.softplus (p' + d') := by
  rw [ha, hp, hd]

/-- A row's decay, from the point's blocks. -/
theorem decay_row (r : Fin 256) (l : Fin 16) : k0_pay84 (k0_pay83 (k0_pay1 (iblk m c 0 t)) (iblk m c 3 t) (iblk m c 6 t)) (iblk m c 5 t) (ix2 r l)
    = Gdn.decay (xs m c) (ws m c) (als m c) (dts m c) (t.val * 256 + r.val) l := by
  have e : (⟨6144 + (16 + l.val), by omega⟩ : Fin 6176) = ⟨6160 + l.val, by omega⟩ := Fin.ext (by show 6144 + (16 + l.val) = 6160 + l.val; omega)
  refine (Slab.decay_read (iblk m c 0 t) (iblk m c 3 t) (iblk m c 6 t) (iblk m c 5 t) r l).trans (decay_parts (blk5 m c t l) ?_ (blk6 m c t l))
  refine Eq.trans ?_ (proj_row m c t r _).symm
  exact Finset.sum_congr rfl fun k _ => congrArg₂ (fun a b : EReal => a * b) (blk0 m c t r k)
    ((blk3 m c t k ⟨16 + l.val, by omega⟩).trans (congrArg (fun j => ws m c (ix2 k j)) e))

/-- An entry of the running decays of a point's rows: a point's rows are whole chunks. -/
theorem total_row (r : Fin 256) (l : Fin 16) : Tile.totals (iblk m c 0 t) (iblk m c 3 t) (iblk m c 5 t) (iblk m c 6 t) (ix2 r l)
    = Gdn.total (xs m c) (ws m c) (als m c) (dts m c) (t.val * 256 + r.val) l := by
  refine (Slab.total_read (k0_pay84 (k0_pay83 (k0_pay1 (iblk m c 0 t)) (iblk m c 3 t) (iblk m c 6 t)) (iblk m c 5 t)) r l).trans ?_
  unfold Gdn.total
  refine Finset.sum_congr rfl fun j _ => if_congr (by omega) ?_ rfl
  exact (decay_row m c t _ l).trans (congrArg (fun n => Gdn.decay (xs m c) (ws m c) (als m c) (dts m c) n l) (by simp only []; omega))

/-- The running decays of a point's rows. -/
theorem total_rows : Tile.totals (iblk m c 0 t) (iblk m c 3 t) (iblk m c 5 t) (iblk m c 6 t)
    = fun y => Gdn.total (xs m c) (ws m c) (als m c) (dts m c) (t.val * 256 + (y 0).val) (y 1) :=
  funext fun y => (congrArg _ (eq_ix2 y)).trans (total_row m c t (y 0) (y 1))

end Cert.Kernel5Ideal.Blocks
-- ==== Proof.Body5.lean ====
/-
  The gated DeltaNet layer's input projection as a launch: the points in order, each handed by the scratch the eight rows
  before its own, and the arrays they leave.
-/
module

public import proofs.«01_k».proof.Proof.Point5
public import proofs.«01_k».proof.Proof.Gen.Kernel5Ideal.Points

@[expose] public section

set_option maxRecDepth 16384

noncomputable section

namespace Cert.Kernel5Ideal.Blocks

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the scratch holds before point `n`: unless a sequence starts there, the eight rows before the point's own. -/
def Holds (c : Dev nD) (n : ℕ) (X : Vec Ideal S272x4096 .f32) : Prop :=
  n % 32 ≠ 0 → ∀ (i : Fin 272) (C : Fin 4096), i.val < 8 → X (ix2 i C) = buffer (xs m c) (ws m c) n i.val C

/-- The scratch as one buffer. -/
abbrev scratch : Memref sig .tc .vmem S272x4096 .f32 := Memref.whole cc0_scratch0

/-- The invariant before point `n`. -/
def inv (c : Dev nD) (n : ℕ) : sProp 𝕄 :=
  iprop((∃ X, iprop(⌜Holds m c n X⌝ ∗ owns (c : Thread nD τ) scratch fullShare X)) ∗ (∃ r, prngReg c r))

/-- The pipeline's data: the inputs' blocks, the four outputs' blocks, the scratch's invariant. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Slab.tile (buffer (xs m c) (ws m c) t.val) (fun j C => cws m c (ix2 j C))
    | ⟨8, _⟩ => Tile.gates (iblk m c 0 t) (iblk m c 2 t)
    | ⟨9, _⟩ => Tile.betas (iblk m c 0 t) (iblk m c 3 t)
    | ⟨10, _⟩ => Tile.totals (iblk m c 0 t) (iblk m c 3 t) (iblk m c 5 t) (iblk m c 6 t)
  Φ t := inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = Slab.tile (buffer (xs m c) (ws m c) t.val) (fun j C => cws m c (ix2 j C)) := by dsimp only [dats]
theorem after8 (c : Dev nD) (t : Fin cfg0.N) : (dats m 0 c).after 8 t = Tile.gates (iblk m c 0 t) (iblk m c 2 t) := by dsimp only [dats]
theorem after9 (c : Dev nD) (t : Fin cfg0.N) : (dats m 0 c).after 9 t = Tile.betas (iblk m c 0 t) (iblk m c 3 t) := by dsimp only [dats]
theorem after10 (c : Dev nD) (t : Fin cfg0.N) : (dats m 0 c).after 10 t = Tile.totals (iblk m c 0 t) (iblk m c 3 t) (iblk m c 5 t) (iblk m c 6 t) := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- The staging buffer a window uses at a point. -/
abbrev st (w : Fin cfg0.W) (t : Fin cfg0.N) := (cfg0.win w).stage (cfg0.slots t w)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare ((dats m 0 c).before 7 t d))
    ∗ (∃ d, owns (c : Thread nD τ) (st 8 t) fullShare ((dats m 0 c).before 8 t d))
    ∗ (∃ d, owns (c : Thread nD τ) (st 9 t) fullShare ((dats m 0 c).before 9 t d))
    ∗ (∃ d, owns (c : Thread nD τ) (st 10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (st 0 t) fullShare ((dats m 0 c).after 0 t)
    ∗ owns (c : Thread nD τ) (st 1 t) fullShare ((dats m 0 c).after 1 t)
    ∗ owns (c : Thread nD τ) (st 2 t) fullShare ((dats m 0 c).after 2 t)
    ∗ owns (c : Thread nD τ) (st 3 t) fullShare ((dats m 0 c).after 3 t)
    ∗ owns (c : Thread nD τ) (st 4 t) fullShare ((dats m 0 c).after 4 t)
    ∗ owns (c : Thread nD τ) (st 5 t) fullShare ((dats m 0 c).after 5 t)
    ∗ owns (c : Thread nD τ) (st 6 t) fullShare ((dats m 0 c).after 6 t)
    ∗ owns (c : Thread nD τ) (st 7 t) fullShare ((dats m 0 c).after 7 t)
    ∗ owns (c : Thread nD τ) (st 8 t) fullShare ((dats m 0 c).after 8 t)
    ∗ owns (c : Thread nD τ) (st 9 t) fullShare ((dats m 0 c).after 9 t)
    ∗ owns (c : Thread nD τ) (st 10 t) fullShare ((dats m 0 c).after 10 t))

theorem inv_castSucc (c : Dev nD) (t : Fin cfg0.N) : (dats m 0 c).Φ t.castSucc = inv m c t.val := rfl
theorem inv_succ (c : Dev nD) (t : Fin cfg0.N) : (dats m 0 c).Φ t.succ = inv m c (t.val + 1) := rfl

set_option maxHeartbeats 6400000 in
/-- The body at any point, by whether a sequence starts there. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, after0, after1, after2, after3, after4, after5, after6, after7, after8, after9, after10,
    inv_castSucc, inv_succ]
  unfold inv
  have ht := told m c t
  iintro ⟨⟨⟨%X, %hX, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 32 = 0
  · have hs := fun (i : ℕ) (C : Fin 4096) (hi : i < 8) => buffer_start (xs m c) (ws m c) t.val h0 i C hi
    iapply ((Body.runStart (F := Ideal) c (grid0.coords t) _ _ _ _ _ _ _ _ _ _ _ _ _ _ _ _ _ _ _ _ _ _ _ (Memref.isWhole_whole _) ((Body.starts_iff t).mpr h0) (iblk m c 0 t) (iblk m c 1 t) (iblk m c 2 t) (iblk m c 3 t) (iblk m c 4 t) (iblk m c 5 t) (iblk m c 6 t) X).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, ⟨%e7, H7⟩, ⟨%e8, H8⟩, ⟨%e9, H9⟩, ⟨%e10, H10⟩, HS⟩
    isplitl [HS Hg]
    · isplitl [HS]
      · iexists _
        isplitr
        swap
        · unfold owns; iexists _; isplitr
          swap; · iexact HS
          ipureintro; rfl
        · ipureintro
          intro hn i C hi
          exact (Tile.start_head c _ _ _ _ _ _ _ _ _ _ _ _ _ _ _ _ _ _ _ _ _ _ _ _ _ _ _ _ _ _ _ _ _ _ ht hs _ i C hi).trans (buffer_next _ _ _ _ hn C)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact Tile.start_7 c _ _ _ _ _ _ _ _ _ _ _ _ _ _ _ _ _ _ _ _ _ _ _ _ _ _ _ _ _ _ _ _ _ _ ht hs _
    isplitl [H8]
    · unfold owns; iexists _; isplitr
      swap; · iexact H8
      ipureintro
      exact Tile.start_8 c _ _ _ _ _ _ _ _ _ _ _ _ _ _ _ _ _ _ _ _ _ _ _ _ _ _ _ _ _ _ _ _ _ _ _
    isplitl [H9]
    · unfold owns; iexists _; isplitr
      swap; · iexact H9
      ipureintro
      exact Tile.start_9 c _ _ _ _ _ _ _ _ _ _ _ _ _ _ _ _ _ _ _ _ _ _ _ _ _ _ _ _ _ _ _ _ _ _ _
    unfold owns; iexists _; isplitr
    swap; · iexact H10
    ipureintro
    exact Tile.start_10 c _ _ _ _ _ _ _ _ _ _ _ _ _ _ _ _ _ _ _ _ _ _ _ _ _ _ _ _ _ _ _ _ _ _ _
  · have hs := fun (i : Fin 272) (C : Fin 4096) (hi : i.val < 8) => hX h0 i C hi
    iapply ((Body.runNext (F := Ideal) c (grid0.coords t) _ _ _ _ _ _ _ _ _ _ _ _ _ _ _ _ _ _ _ _ _ _ _ (Memref.isWhole_whole _) (fun h => h0 ((Body.starts_iff t).mp h)) (iblk m c 0 t) (iblk m c 1 t) (iblk m c 2 t) (iblk m c 3 t) (iblk m c 4 t) (iblk m c 5 t) (iblk m c 6 t) X).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS]; · iexact HS
    iintro ⟨H0, H1, H2, H3, H4, H5, H6, ⟨%e7, H7⟩, ⟨%e8, H8⟩, ⟨%e9, H9⟩, ⟨%e10, H10⟩, HS⟩
    isplitl [HS Hg]
    · isplitl [HS]
      · iexists _
        isplitr
        swap
        · unfold owns; iexists _; isplitr
          swap; · iexact HS
          ipureintro; rfl
        · ipureintro
          intro hn i C hi
          exact (Tile.next_head c _ _ _ _ _ _ _ _ _ _ _ _ _ _ _ _ _ _ _ _ _ _ _ _ _ _ _ _ _ _ _ _ _ _ ht hs _ i C hi).trans (buffer_next _ _ _ _ hn C)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      exact Tile.next_7 c _ _ _ _ _ _ _ _ _ _ _ _ _ _ _ _ _ _ _ _ _ _ _ _ _ _ _ _ _ _ _ _ _ _ ht hs _
    isplitl [H8]
    · unfold owns; iexists _; isplitr
      swap; · iexact H8
      ipureintro
      exact Tile.next_8 c _ _ _ _ _ _ _ _ _ _ _ _ _ _ _ _ _ _ _ _ _ _ _ _ _ _ _ _ _ _ _ _ _ _ _
    isplitl [H9]
    · unfold owns; iexists _; isplitr
      swap; · iexact H9
      ipureintro
      exact Tile.next_9 c _ _ _ _ _ _ _ _ _ _ _ _ _ _ _ _ _ _ _ _ _ _ _ _ _ _ _ _ _ _ _ _ _ _ _
    unfold owns; iexists _; isplitr
    swap; · iexact H10
    ipureintro
    exact Tile.next_10 c _ _ _ _ _ _ _ _ _ _ _ _ _ _ _ _ _ _ _ _ _ _ _ _ _ _ _ _ _ _ _ _ _ _ _

/-- The body table's row is the body at the point's buffers. -/
theorem defs₀_row (t : Fin cfg0.N) : defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch's scratch and register, as one statement. -/
theorem phi_eq (c : Dev nD) : (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Before the first point the invariant asks nothing of the scratch. -/
theorem hin (c : Dev nD) : Pipeline.ΦA spec0 c ⊢ (dats m 0 c).Φ 0 := by
  rw [show (dats m 0 c).Φ 0 = inv m c 0 from rfl, phi_eq]
  unfold inv
  iintro ⟨⟨%d, HS⟩, Hg⟩
  isplitl [HS]
  · iexists d
    isplitr
    · ipureintro
      exact fun h => absurd rfl h
    iexact HS
  iexact Hg

/-- After the last point it gives the scratch back. -/
theorem hout (c : Dev nD) : (dats m 0 c).Φ (Fin.last cfg0.N) ⊢ Pipeline.ΦA spec0 c := by
  rw [show (dats m 0 c).Φ (Fin.last cfg0.N) = inv m c (Fin.last cfg0.N).val from rfl, phi_eq]
  unfold inv
  iintro ⟨⟨%d, -, HS⟩, Hg⟩
  isplitl [HS]
  · iexists d; iexact HS
  iexact Hg

set_option backward.isDefEq.respectTransparency.types false in
/-- The launch: every array at what the data says, every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel5Ideal.Blocks
-- ==== Proof.Out5.lean ====
/-
  The gated DeltaNet layer's input projection: the four arrays a run leaves.
-/
module

public import proofs.«01_k».proof.Proof.Body5

@[expose] public section

noncomputable section

namespace Cert.Kernel5Ideal.Blocks

open Idealize.ShloMosaic Idealize.ShloMosaic.TcCoe Idealize.SL.Sem
open Cert.Kernel5Ideal Cert.Kernel5Ideal.Gen

variable (m : (ℓ : Loc nD τ sig) → Buf (Elt Ideal) ℓ) (ρ : Dev nD → PrngReg) (c : Dev nD)

/-- The block indices of the queries, keys and values. -/
theorem idx7 : ∀ (t : Fin cfg0.N) a, (cfg0.win 7).index t a = ![t.val, 0] a :=
  (by decide +kernel : ∀ (t : Fin grid0.N) a, win0_7.index t a = ![t.val, 0] a)
/-- The block indices of the gates. -/
theorem idx8 : ∀ (t : Fin cfg0.N) a, (cfg0.win 8).index t a = ![t.val, 0] a :=
  (by decide +kernel : ∀ (t : Fin grid0.N) a, win0_8.index t a = ![t.val, 0] a)
/-- The block indices of the write strengths. -/
theorem idx9 : ∀ (t : Fin cfg0.N) a, (cfg0.win 9).index t a = ![t.val, 0] a :=
  (by decide +kernel : ∀ (t : Fin grid0.N) a, win0_9.index t a = ![t.val, 0] a)
/-- The block indices of the running decays. -/
theorem idx10 : ∀ (t : Fin cfg0.N) a, (cfg0.win 10).index t a = ![t.val, 0] a :=
  (by decide +kernel : ∀ (t : Fin grid0.N) a, win0_10.index t a = ![t.val, 0] a)

/-- The queries, keys and values. -/
def qkvs : FVec Ideal S32768x4096 .f32 := fun i => Gdn.qkv (xs m c) (ws m c) (cws m c) (i 0).val (i 1)
/-- The gates. -/
def gate : FVec Ideal S32768x2048 .f32 := fun i => Gdn.gate (xs m c) (ws m c) (i 0).val (i 1)
/-- The write strengths. -/
def beta : FVec Ideal S32768x16 .f32 := fun i => Gdn.beta (xs m c) (ws m c) (i 0).val (i 1)
/-- The running decays. -/
def total : FVec Ideal S32768x16 .f32 := fun i => Gdn.total (xs m c) (ws m c) (als m c) (dts m c) (i 0).val (i 1)

variable (t : Fin cfg0.N)

/-- A stored entry of the queries, keys and values. -/
theorem point7 (y : S256x4096.Idx) : Slab.tile (buffer (xs m c) (ws m c) t.val) (fun j C => cws m c (ix2 j C)) y = qkvs m c (ix2 (row t (y 0)) (y 1)) :=
  congrFun (tile_rows (xs m c) (ws m c) (cws m c) t.val) y
/-- A stored entry of the gates. -/
theorem point8 (y : S256x2048.Idx) : Tile.gates (iblk m c 0 t) (iblk m c 2 t) y = gate m c (ix2 (row t (y 0)) (y 1)) := congrFun (gate_rows m c t) y
/-- A stored entry of the write strengths. -/
theorem point9 (y : S256x16.Idx) : Tile.betas (iblk m c 0 t) (iblk m c 3 t) y = beta m c (ix2 (row t (y 0)) (y 1)) := congrFun (beta_rows m c t) y
/-- A stored entry of the running decays. -/
theorem point10 (y : S256x16.Idx) : Tile.totals (iblk m c 0 t) (iblk m c 3 t) (iblk m c 5 t) (iblk m c 6 t) y = total m c (ix2 (row t (y 0)) (y 1)) :=
  congrFun (total_rows m c t) y

/-- The point that stores a row. -/
theorem tile_of (r : Fin 32768) : ∃ t : Fin cfg0.N, t.val = r.val / 256 :=
  ⟨⟨r.val / 256, lt_of_lt_of_eq (by omega : r.val / 256 < 128) (show cfg0.N = 128 from N_0).symm⟩, rfl⟩

/-- **The array of queries, keys and values.** -/
theorem array7 : (dats m 0 c).arrAt 7 cfg0.N = qkvs m c := by
  refine (dats m 0 c).arrAt_eq_of_emb 7 _ (fun t hf y => ?_) (fun i => ?_)
  · blk_simp
    rw [after7]
    refine (point7 m c t y).trans (congrArg (qkvs m c) ?_)
    unfold row
    blk_ext [idx7 t]
  · have h0 : (i 0).val < 32768 := (i 0).isLt
    have h1 : (i 1).val < 4096 := (i 1).isLt
    obtain ⟨t, ht⟩ := tile_of (i 0)
    refine ⟨t, flush0_7 t, ?_⟩
    mem_blk
    have e0 : win0_7.index t 0 = t.val := idx7 t 0
    have e1 : win0_7.index t 1 = 0 := idx7 t 1
    rw [e0, e1]
    omega

/-- **The array of gates.** -/
theorem array8 : (dats m 0 c).arrAt 8 cfg0.N = gate m c := by
  refine (dats m 0 c).arrAt_eq_of_emb 8 _ (fun t hf y => ?_) (fun i => ?_)
  · blk_simp
    rw [after8]
    refine (point8 m c t y).trans (congrArg (gate m c) ?_)
    unfold row
    blk_ext [idx8 t]
  · have h0 : (i 0).val < 32768 := (i 0).isLt
    have h1 : (i 1).val < 2048 := (i 1).isLt
    obtain ⟨t, ht⟩ := tile_of (i 0)
    refine ⟨t, flush0_8 t, ?_⟩
    mem_blk
    have e0 : win0_8.index t 0 = t.val := idx8 t 0
    have e1 : win0_8.index t 1 = 0 := idx8 t 1
    rw [e0, e1]
    omega

/-- **The array of write strengths.** -/
theorem array9 : (dats m 0 c).arrAt 9 cfg0.N = beta m c := by
  refine (dats m 0 c).arrAt_eq_of_emb 9 _ (fun t hf y => ?_) (fun i => ?_)
  · blk_simp
    rw [after9]
    refine (point9 m c t y).trans (congrArg (beta m c) ?_)
    unfold row
    blk_ext [idx9 t]
  · have h0 : (i 0).val < 32768 := (i 0).isLt
    have h1 : (i 1).val < 16 := (i 1).isLt
    obtain ⟨t, ht⟩ := tile_of (i 0)
    refine ⟨t, flush0_9 t, ?_⟩
    mem_blk
    have e0 : win0_9.index t 0 = t.val := idx9 t 0
    have e1 : win0_9.index t 1 = 0 := idx9 t 1
    rw [e0, e1]
    omega

/-- **The array of running decays.** -/
theorem array10 : (dats m 0 c).arrAt 10 cfg0.N = total m c := by
  refine (dats m 0 c).arrAt_eq_of_emb 10 _ (fun t hf y => ?_) (fun i => ?_)
  · blk_simp
    rw [after10]
    refine (point10 m c t y).trans (congrArg (total m c) ?_)
    unfold row
    blk_ext [idx10 t]
  · have h0 : (i 0).val < 32768 := (i 0).isLt
    have h1 : (i 1).val < 16 := (i 1).isLt
    obtain ⟨t, ht⟩ := tile_of (i 0)
    refine ⟨t, flush0_10 t, ?_⟩
    mem_blk
    have e0 : win0_10.index t 0 = t.val := idx10 t 0
    have e1 : win0_10.index t 1 = 0 := idx10 t 1
    rw [e0, e1]
    omega

/-- A run that ends as the launch says. -/
theorem run_main : θ_run defs (onTc (τ := τ) (main (F := Ideal))) (s₀ m ρ) (Pipeline.FramePost cfgs (dats m) 0 (V m)) :=
  (θ_run defs _ _).mono (fun _ h => h.1) (run_main_quiescent m ρ)

/-- **The frame**: every run ends, every counter at zero, the arguments unchanged. -/
theorem ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

/-- **The four results** of every run. -/
theorem results : θ_run defs (onTc (τ := τ) (main (F := Ideal))) ⟨m, fun _ => 0, ρ⟩ (fun r => ∀ c : Dev nD,
      r.2.mem ((c.tc : Thread nD τ).loc main_v6_0) = qkvs m c
      ∧ r.2.mem ((c.tc : Thread nD τ).loc main_v6_1) = gate m c
      ∧ r.2.mem ((c.tc : Thread nD τ).loc main_v6_2) = beta m c
      ∧ r.2.mem ((c.tc : Thread nD τ).loc main_v6_3) = total m c) :=
  (θ_run defs _ _).mono (fun _ h c => ⟨((h c).1 7).trans (array7 m c), ((h c).1 8).trans (array8 m c), ((h c).1 9).trans (array9 m c),
    ((h c).1 10).trans (array10 m c)⟩) (run_main m ρ)

end Cert.Kernel5Ideal.Blocks
-- ==== Proof.Frame5.lean ====
/-
  The gated DeltaNet layer's input projection, as compiled: every run ends, its arguments unchanged. Nothing is said of what
  the four results hold.
-/
module

public import proofs.«01_k».proof.Proof.Run5Bits

@[expose] public section

set_option maxRecDepth 16384

noncomputable section

namespace Cert.Kernel5.Body

open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four outputs are forgotten. -/
def forgets : Fin 11 → Bool := fun w => match w with
  | ⟨7, _⟩ => true
  | ⟨8, _⟩ => true
  | ⟨9, _⟩ => true
  | ⟨10, _⟩ => true
  | _ => false

/-- The scratch as one buffer. -/
abbrev scratch : Memref sig .tc .vmem S272x4096 .f32 := Memref.whole cc0_scratch0

/-- The pipeline's data: the inputs' blocks, the outputs unnamed, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

/-- The staging buffer a window uses at a point. -/
abbrev st (w : Fin cfg0.W) (t : Fin cfg0.N) := (cfg0.win w).stage (cfg0.slots t w)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st 0 t) fullShare ((dats m 0 c).before 0 t d))
    ∗ (∃ d, owns (c : Thread nD τ) (st 1 t) fullShare ((dats m 0 c).before 1 t d))
    ∗ (∃ d, owns (c : Thread nD τ) (st 2 t) fullShare ((dats m 0 c).before 2 t d))
    ∗ (∃ d, owns (c : Thread nD τ) (st 3 t) fullShare ((dats m 0 c).before 3 t d))
    ∗ (∃ d, owns (c : Thread nD τ) (st 4 t) fullShare ((dats m 0 c).before 4 t d))
    ∗ (∃ d, owns (c : Thread nD τ) (st 5 t) fullShare ((dats m 0 c).before 5 t d))
    ∗ (∃ d, owns (c : Thread nD τ) (st 6 t) fullShare ((dats m 0 c).before 6 t d))
    ∗ (∃ d, owns (c : Thread nD τ) (st 7 t) fullShare d)
    ∗ (∃ d, owns (c : Thread nD τ) (st 8 t) fullShare d)
    ∗ (∃ d, owns (c : Thread nD τ) (st 9 t) fullShare d)
    ∗ (∃ d, owns (c : Thread nD τ) (st 10 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st 0 t) fullShare ((dats m 0 c).after 0 t)
    ∗ owns (c : Thread nD τ) (st 1 t) fullShare ((dats m 0 c).after 1 t)
    ∗ owns (c : Thread nD τ) (st 2 t) fullShare ((dats m 0 c).after 2 t)
    ∗ owns (c : Thread nD τ) (st 3 t) fullShare ((dats m 0 c).after 3 t)
    ∗ owns (c : Thread nD τ) (st 4 t) fullShare ((dats m 0 c).after 4 t)
    ∗ owns (c : Thread nD τ) (st 5 t) fullShare ((dats m 0 c).after 5 t)
    ∗ owns (c : Thread nD τ) (st 6 t) fullShare ((dats m 0 c).after 6 t)
    ∗ (∃ d, owns (c : Thread nD τ) (st 7 t) fullShare d)
    ∗ (∃ d, owns (c : Thread nD τ) (st 8 t) fullShare d)
    ∗ (∃ d, owns (c : Thread nD τ) (st 9 t) fullShare d)
    ∗ (∃ d, owns (c : Thread nD τ) (st 10 t) fullShare d))

/-- The launch's scratch and register, as one statement. -/
theorem phi_eq (c : Dev nD) : (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

set_option maxHeartbeats 6400000 in
/-- The body at any point, by whether a sequence starts there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, after0, after1, after2, after3, after4, after5, after6,
    show (dats m 0 c).Φ t.castSucc = Pipeline.ΦA spec0 c from rfl, show (dats m 0 c).Φ t.succ = Pipeline.ΦA spec0 c from rfl, phi_eq]
  iintro ⟨⟨⟨%X, HS⟩, Hg⟩, Ho, ⟨%d0, H0⟩, ⟨%d1, H1⟩, ⟨%d2, H2⟩, ⟨%d3, H3⟩, ⟨%d4, H4⟩, ⟨%d5, H5⟩, ⟨%d6, H6⟩, H7, H8, H9, H10⟩
  by_cases h0 : starts (grid0.coords t)
  · iapply ((runStart (F := F) c (grid0.coords t) _ _ _ _ _ _ _ _ _ _ _ _ _ _ _ _ _ _ _ _ _ _ _ (Memref.isWhole_whole _) h0 (iblk m c 0 t) (iblk m c 1 t) (iblk m c 2 t) (iblk m c 3 t) (iblk m c 4 t) (iblk m c 5 t) (iblk m c 6 t) X).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, ⟨%e7, H7⟩, ⟨%e8, H8⟩, ⟨%e9, H9⟩, ⟨%e10, H10⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; unfold owns; iexists _; isplitr
      swap; · iexact H7
      ipureintro; rfl
    isplitl [H8]
    · iexists _; unfold owns; iexists _; isplitr
      swap; · iexact H8
      ipureintro; rfl
    isplitl [H9]
    · iexists _; unfold owns; iexists _; isplitr
      swap; · iexact H9
      ipureintro; rfl
    iexists _; unfold owns; iexists _; isplitr
    swap; · iexact H10
    ipureintro; rfl
  · iapply ((runNext (F := F) c (grid0.coords t) _ _ _ _ _ _ _ _ _ _ _ _ _ _ _ _ _ _ _ _ _ _ _ (Memref.isWhole_whole _) h0 (iblk m c 0 t) (iblk m c 1 t) (iblk m c 2 t) (iblk m c 3 t) (iblk m c 4 t) (iblk m c 5 t) (iblk m c 6 t) X).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    iintro ⟨H0, H1, H2, H3, H4, H5, H6, ⟨%e7, H7⟩, ⟨%e8, H8⟩, ⟨%e9, H9⟩, ⟨%e10, H10⟩, HS⟩
    isplitl [HS Hg]
    · isplitl [HS]
      · iexists _; unfold owns; iexists _; isplitr
        swap; · iexact HS
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; unfold owns; iexists _; isplitr
      swap; · iexact H7
      ipureintro; rfl
    isplitl [H8]
    · iexists _; unfold owns; iexists _; isplitr
      swap; · iexact H8
      ipureintro; rfl
    isplitl [H9]
    · iexists _; unfold owns; iexists _; isplitr
      swap; · iexact H9
      ipureintro; rfl
    iexists _; unfold owns; iexists _; isplitr
    swap; · iexact H10
    ipureintro; rfl

/-- The body table's row is the body at the point's buffers. -/
theorem defs₀_row (t : Fin cfg0.N) : defs₀ (F := F) .tc cfg0.body (cfg0.bodyArgs t (cfg0.slots t)) = bodyAt0 t := by
  unfold defs₀; rw [Defs.onTc_tc]

/-- The body's obligation at every point, the outputs forgotten. -/
theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every buffer that is no output's array as the region found it, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- **The frame**: every run ends, every counter at zero, the arguments unchanged. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans ((A_eq m c 0).trans (V_main_arg0 m c)),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel5.Body
-- ==== Proof.Run6.lean ====
/-
  The experts' feed-forward call: the body at one point, by what its branches decide.
-/
module

public import proofs.«01_k».proof.Proof.Gen.Kernel6Ideal.Launch
public import proofs.«01_k».proof.Proof.Gen.Kernel6Ideal.Skeleton
public import Idealize.ShloMosaic.Lib.Claim
public import Idealize.ShloMosaic.Lib.Pipeline.ValueKit.Point

@[expose] public section

noncomputable section

namespace Cert.Kernel6Ideal.Ffn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The blocks' experts, as a buffer. -/
abbrev tb0 : Memref sig .tc .smem S288 .i32 := Memref.whole main_arg1
/-- The number of blocks in use, as a buffer. -/
abbrev tb1 : Memref sig .tc .smem S1 .i32 := Memref.whole main_arg2
/-- The three scratches. -/
abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

variable (T0 : S288.Idx → Elt Ideal .i32) (T1 : S1.Idx → Elt Ideal .i32)

/-- The point's expert. -/
def expertHere (i : grid0.Coords) : Elt Ideal .i32 := View.readAt (Elt Ideal) tb0.view (Rect.unit (s := S288) (k0_off1 i) S1.size (k0_off1_inb i)).toLoadRect T0 (Shape.Idx.first (numel1_S1.symm ▸ Nat.one_pos))
/-- The expert of the point before. -/
def expertBefore (i : grid0.Coords) : Elt Ideal .i32 := View.readAt (Elt Ideal) tb0.view (Rect.unit (s := S288) (k0_off2 i) S1.size (k0_off2_inb i)).toLoadRect T0 (Shape.Idx.first (numel1_S1.symm ▸ Nat.one_pos))
/-- The number of blocks in use. -/
def used : Elt Ideal .i32 := View.readAt (Elt Ideal) tb1.view (Rect.unit (s := S1) ![0] S1.size inb_S1_S1_0).toLoadRect T1 (Shape.Idx.first (numel1_S1.symm ▸ Nat.one_pos))

/-- The weights are loaded at the first point and where the expert changes. -/
abbrev loads (i : grid0.Coords) : Prop :=
  Scalar.cmpi .ne (Scalar.extui (Scalar.ori (Scalar.cmpi .eq (BitVec.ofNat 32 (i 0).val) 0#32) (Scalar.cmpi .ne (expertHere T0 i) (expertBefore T0 i)))) 0#32 = 1#1

/-- Storing a whole array and reading it back. -/
theorem read_store {s : Shape} {e : EltTy} {sp : Space} (v : View sig .tc sp s e) (f : v.ty.Contents (Elt Ideal)) {off : Fin s.rank → ℕ} (h0 : off = fun _ => 0)
    (h : ∀ a, off a + s.size a ≤ s.size a) (p : s.Idx → Elt Ideal e) :
    v.read (Elt Ideal) (v.writes (Elt Ideal) f [⟨Rect.unit off s.size h, p⟩]) = p := by
  subst h0
  exact View.read_writes_whole v f p

/-- Loading a whole array. -/
theorem load_whole {s : Shape} {e : EltTy} {sp : Space} (v : View sig .tc sp s e) (f : v.ty.Contents (Elt Ideal)) {off : Fin s.rank → ℕ} (h0 : off = fun _ => 0)
    (h : ∀ a, off a + s.size a ≤ s.size a) {x : s.Idx → Elt Ideal e} (hx : v.read (Elt Ideal) f = x) :
    v.readAt (Elt Ideal) (Rect.unit off s.size h).toLoadRect f = x := by
  subst h0 hx
  funext y
  rw [View.readAt_apply]
  exact congrArg _ (Rect.emb_whole_apply s y)

/-- Equal arguments, equal values. -/
theorem congr4 {A B C D E : Type} (f : A → B → C → D → E) {a a' b b' c c' d d'} (ha : a = a') (hb : b = b') (hc : c = c') (hd : d = d') : f a b c d = f a' b' c' d' := by
  rw [ha, hb, hc, hd]

theorem off2 : (![0, 0] : Fin 2 → ℕ) = fun _ => 0 := by decide
theorem off3 : (![0, 0, 0] : Fin 3 → ℕ) = fun _ => 0 := by decide

/-- The weights a point works with: its own block's, where it loads them. -/
def kept {s : Shape} {e : EltTy} (i : grid0.Coords) (new old : s.Idx → Elt Ideal e) : s.Idx → Elt Ideal e := if loads T0 i then new else old

/-- What is read after a store on the branch that loads the weights. -/
theorem read_kept {s : Shape} {e : EltTy} {sp : Space} (i : grid0.Coords) (v : View sig .tc sp s e) (f : v.ty.Contents (Elt Ideal)) {off : Fin s.rank → ℕ} (h0 : off = fun _ => 0)
    (h : ∀ a, off a + s.size a ≤ s.size a) (p : s.Idx → Elt Ideal e) (P : Prop) [Decidable P] (hP : P = loads T0 i) {x p' : s.Idx → Elt Ideal e}
    (hp : p = p') (hx : v.read (Elt Ideal) f = x) :
    v.read (Elt Ideal) (if _ : P then v.writes (Elt Ideal) f [⟨Rect.unit off s.size h, p⟩] else f) = kept T0 i p' x := by
  unfold kept
  by_cases hl : P
  · rw [dif_pos hl, if_pos (hP.mp hl), ← hp]; exact read_store v f h0 h p
  · rw [dif_neg hl, if_neg (fun h' => hl (hP.mpr h'))]; exact hx

/-- The rows a point stores: the experts' output, or zeros where its block is not in use. -/
def stored (i : grid0.Coords) (y : Vec Ideal S256x1024 .f32) : Vec Ideal S256x1024 .f32 := if k0_cond2 i (used T1) = 1#1 then y else k0_pay5 (F := Ideal)

set_option maxHeartbeats 8000000 in
/-- The body at a point: the inputs end as they were, the scratches with the weights the point works with, the output with the rows it stores. -/
theorem run (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole)
    (x0 : Vec Ideal S256x1024 .f32) (x1 x2 : Vec Ideal S1x1024x512 .f32) (x3 : Vec Ideal S1x512x1024 .f32) (s0 s1 : Vec Ideal S1024x512 .bf16) (s2 : Vec Ideal S512x1024 .bf16)
    (h23 : k0_cond3 i (used T1) = 1#1 ↔ ¬ (k0_cond2 i (used T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (tb0.view.loc (c : Thread nD τ) ↦{fullShare.right} T0) ∗ (tb1.view.loc (c : Thread nD τ) ↦{fullShare.right} T1)
        ∗ (∃ d, owns (c : Thread nD τ) arg7 fullShare d) ∗ owns (c : Thread nD τ) sc0 fullShare s0 ∗ owns (c : Thread nD τ) sc1 fullShare s1 ∗ owns (c : Thread nD τ) sc2 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (tb0.view.loc (c : Thread nD τ) ↦{fullShare.right} T0) ∗ (tb1.view.loc (c : Thread nD τ) ↦{fullShare.right} T1)
            ∗ owns (c : Thread nD τ) arg7 fullShare (stored T1 i (k0_pay4 x0 (kept T0 i (k0_pay1 x1) s0) (kept T0 i (k0_pay2 x2) s1) (kept T0 i (k0_pay3 x3) s2)))
            ∗ owns (c : Thread nD τ) sc0 fullShare (kept T0 i (k0_pay1 x1) s0) ∗ owns (c : Thread nD τ) sc1 fullShare (kept T0 i (k0_pay2 x2) s1) ∗ owns (c : Thread nD τ) sc2 fullShare (kept T0 i (k0_pay3 x3) s2)) -∗ K ⟨⟩))
      ⊢ wp frame (wpE (defs₀ (F := Ideal)) Variants.none c none) Set.univ (cc0_moe_expert_ffn i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_moe_expert_ffn_eq_skeleton]; unfold cc0_moe_expert_ffn_skel
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  iintro ⟨⟨%f0, %hf0, H0⟩, ⟨%f1, %hf1, H1⟩, ⟨%f2, %hf2, H2⟩, ⟨%f3, %hf3, H3⟩, HT0, HT1, ⟨%d4, %f4, -, HO⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2; obtain rfl := harg6.eq_unread hf3
  obtain rfl := hS0.eq_unread hg0; obtain rfl := hS1.eq_unread hg1; obtain rfl := hS2.eq_unread hg2
  sl_exec!
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO]
  · iexists _; isplitr
    swap; · iexact HO
    ipureintro
    by_cases h2 : k0_cond2 i (used T1) = 1#1
    · refine (congrArg (View.read (Elt Ideal) arg7.view) ((dif_neg (fun h => h23.mp h h2)).trans (dif_pos h2))).trans ?_
      refine (read_store _ _ off2 _ _).trans (Eq.trans ?_ (if_pos h2).symm)
      refine congr4 k0_pay4 (load_whole _ _ off2 _ hf0) ?_ ?_ ?_
      · exact load_whole sc0.view _ off2 _ (read_kept T0 i _ _ off2 _ _ _ rfl (congrArg (k0_pay1 (F := Ideal)) (load_whole _ _ off3 _ hf1)) hg0)
      · exact load_whole sc1.view _ off2 _ (read_kept T0 i _ _ off2 _ _ _ rfl (congrArg (k0_pay2 (F := Ideal)) (load_whole _ _ off3 _ hf2)) hg1)
      · exact load_whole sc2.view _ off2 _ (read_kept T0 i _ _ off2 _ _ _ rfl (congrArg (k0_pay3 (F := Ideal)) (load_whole _ _ off3 _ hf3)) hg2)
    · refine (congrArg (View.read (Elt Ideal) arg7.view) (dif_pos (h23.mpr h2))).trans ?_
      exact (read_store _ _ off2 _ _).trans (if_neg h2).symm
  isplitl [HS0]
  · iexists _; isplitr
    swap; · iexact HS0
    ipureintro
    exact read_kept T0 i _ _ off2 _ _ _ rfl (congrArg (k0_pay1 (F := Ideal)) (load_whole _ _ off3 _ hf1)) hg0
  isplitl [HS1]
  · iexists _; isplitr
    swap; · iexact HS1
    ipureintro
    exact read_kept T0 i _ _ off2 _ _ _ rfl (congrArg (k0_pay2 (F := Ideal)) (load_whole _ _ off3 _ hf2)) hg1
  iexists _; isplitr
  swap; · iexact HS2
  ipureintro
  exact read_kept T0 i _ _ off2 _ _ _ rfl (congrArg (k0_pay3 (F := Ideal)) (load_whole _ _ off3 _ hf3)) hg2

end Cert.Kernel6Ideal.Ffn

end
-- ==== Proof.Table6.lean ====
/-
  The experts' feed-forward call: its tables, and the blocks a point is handed as entries of the arguments.
-/
module

public import proofs.«01_k».proof.Proof.Run6

@[expose] public section

noncomputable section

namespace Cert.Kernel6Ideal.Ffn

open Cert.Kernel6Ideal Cert.Kernel6Ideal.Gen
open Idealize.ShloMosaic Idealize.ShloMosaic.TcCoe Idealize.SL.Sem

variable (m : (ℓ : Loc nD τ sig) → Buf (Elt Ideal) ℓ)

/-- The buffers' contents at the start. -/
abbrev V (c : Dev nD) (b : Ref sig .tc) : Buf (Elt Ideal) ((c : Thread nD τ).loc b) := m ((c : Thread nD τ).loc b)
/-- The tables. -/
def tbl : pre0.Contents (Elt Ideal) := fun k => V m 0 (pre0.ref k)
/-- The blocks' experts. -/
abbrev experts : S288.Idx → BitVec 32 := m (((0 : Dev nD) : Thread nD τ).loc main_arg1)
/-- The number of blocks in use. -/
abbrev inUse : S1.Idx → BitVec 32 := m (((0 : Dev nD) : Thread nD τ).loc main_arg2)

/-- Every block's expert is one of the thirty-two. -/
def Known : Prop := ∀ t : Fin 288, (experts m (ix1 t)).toNat < 32

theorem coord_eq : ∀ t : Fin grid0.N, ((grid0.coords t) 0).val = t.val := by decide +kernel
theorem off1_eq : ∀ t : Fin grid0.N, k0_off1 (grid0.coords t) 0 = t.val := by decide +kernel
theorem off2_eq : ∀ t : Fin grid0.N, k0_off2 (grid0.coords t) 0 = t.val - 1 := by decide +kernel

/-- A point's number, among the blocks. -/
abbrev num (t : Fin grid0.N) : Fin 288 := ⟨t.val, lt_of_lt_of_eq t.isLt N_0⟩
/-- The number of the point before. -/
abbrev pred (t : Fin grid0.N) : Fin 288 := ⟨t.val - 1, lt_of_le_of_lt (Nat.sub_le _ _) (num t).isLt⟩

theorem here_eq (t : Fin grid0.N) : expertHere (experts m) (grid0.coords t) = experts m (ix1 (num t)) := by
  unfold expertHere
  rw [View.readAt_apply]
  refine congrArg (experts m) (funext fun a => Fin.ext ?_)
  match a with
  | ⟨0, _⟩ => exact (Nat.add_zero _).trans (off1_eq t)

theorem before_eq (t : Fin grid0.N) : expertBefore (experts m) (grid0.coords t) = experts m (ix1 (pred t)) := by
  unfold expertBefore
  rw [View.readAt_apply]
  refine congrArg (experts m) (funext fun a => Fin.ext ?_)
  match a with
  | ⟨0, _⟩ => exact (Nat.add_zero _).trans (off2_eq t)

theorem used_eq : used (inUse m) = inUse m (ix1 0) := by
  unfold used
  rw [View.readAt_apply]
  refine congrArg (inUse m) (funext fun a => Fin.ext ?_)
  match a with
  | ⟨0, _⟩ => rfl

theorem at_eq (t : Fin grid0.N) : (tbl m).at 0 (Rect.unit (s := S288) (k0_off1 (grid0.coords t)) S1.size (k0_off1_inb (grid0.coords t))) numel1_S1 = experts m (ix1 (num t)) := by
  refine congrArg (experts m) (funext fun a => Fin.ext ?_)
  match a with
  | ⟨0, _⟩ => exact (Nat.add_zero _).trans (off1_eq t)

/-- A comparison widened and compared with zero is the comparison. -/
theorem widened (b : BitVec 1) : Scalar.cmpi .ne (Scalar.extui b) 0#32 = 1#1 ↔ b = 1#1 := by revert b; decide

/-- A point not loading the weights follows one of the same expert. -/
theorem not_loads (t : Fin grid0.N) (h : ¬ loads (experts m) (grid0.coords t)) : t.val ≠ 0 ∧ experts m (ix1 (num t)) = experts m (ix1 (pred t)) := by
  unfold loads at h
  rw [widened, here_eq, before_eq, coord_eq] at h
  have ho : ∀ a b : BitVec 1, ¬ Scalar.ori a b = 1#1 → a ≠ 1#1 ∧ b ≠ 1#1 := by decide
  obtain ⟨h1, h2⟩ := ho _ _ h
  constructor
  · intro h0
    rw [h0] at h1
    exact h1 (by decide)
  · by_contra hne
    apply h2
    exact congrArg BitVec.ofBool (bne_iff_ne.mpr hne)

/-- The two conditions on a block's use exclude each other. -/
theorem uses (i : grid0.Coords) (v : BitVec 32) : k0_cond3 i v = 1#1 ↔ ¬ (k0_cond2 i v = 1#1) := by
  show Scalar.cmpi .ne (Scalar.extui (Scalar.cmpi .sge (BitVec.ofNat 32 (i 0).val) v)) 0#32 = 1#1 ↔ ¬ (Scalar.cmpi .ne (Scalar.extui (Scalar.cmpi .slt (BitVec.ofNat 32 (i 0).val) v)) 0#32 = 1#1)
  rw [widened, widened]
  have hb : ∀ b : Bool, BitVec.ofBool b = 1#1 ↔ b = true := by decide
  show BitVec.ofBool (v.sle _) = 1#1 ↔ ¬ (BitVec.ofBool (BitVec.slt _ v) = 1#1)
  rw [hb, hb, BitVec.sle_iff_toInt_le, BitVec.slt_iff_toInt_lt]
  exact not_lt.symm

/-- The output is stored at every point. -/
theorem not_idle (pf : pre0.Contents (Elt Ideal)) (i : grid0.Coords) : idle0 pf 4 i = false := by
  show (!(k0_cond2 i (pf.atD 1 ![0]) == 1#1) && !(k0_cond3 i (pf.atD 1 ![0]) == 1#1)) = false
  by_cases h : k0_cond2 i (pf.atD 1 ![0]) = 1#1
  · simp [h]
  · simp [(uses i (pf.atD 1 ![0])).mpr h]

theorem t1_eq (t : Fin grid0.N) : cc0_transform_1 k0_off1_inb numel1_S1 (tbl m) (grid0.coords t) = ![(experts m (ix1 (num t))).toNat, 0, 0] :=
  congrArg (fun b : BitVec 32 => ![b.toNat, 0, 0]) (at_eq m t)
theorem t2_eq (t : Fin grid0.N) : cc0_transform_2 k0_off1_inb numel1_S1 (tbl m) (grid0.coords t) = ![(experts m (ix1 (num t))).toNat, 0, 0] :=
  congrArg (fun b : BitVec 32 => ![b.toNat, 0, 0]) (at_eq m t)
theorem t3_eq (t : Fin grid0.N) : cc0_transform_3 k0_off1_inb numel1_S1 (tbl m) (grid0.coords t) = ![(experts m (ix1 (num t))).toNat, 0, 0] :=
  congrArg (fun b : BitVec 32 => ![b.toNat, 0, 0]) (at_eq m t)

/-- Every coordinate is a point's. -/
theorem coords_surj : ∀ i : grid0.Coords, ∃ t : Fin grid0.N, grid0.coords t = i := by
  intro i
  have hi : (i 0).val < 288 := (i 0).isLt
  refine ⟨⟨(i 0).val, lt_of_lt_of_eq hi N_0.symm⟩, funext fun a => Fin.ext ?_⟩
  match a with
  | ⟨0, _⟩ => exact coord_eq _

/-- Then every block lies inside the weights. -/
theorem ok (h : Known m) : ok0 (tbl m) := by
  refine ⟨fun i => ?_, fun i => ?_, fun i => ?_⟩ <;> obtain ⟨t, rfl⟩ := coords_surj i <;> refine ⟨fun a => ?_, .inl rfl⟩
  · rw [t1_eq]; have := h (num t)
    match a with
    | ⟨0, _⟩ => exact (by omega : ((experts m (ix1 (num t))).toNat + 1) * 1 ≤ 32)
    | ⟨1, _⟩ => exact (by omega : (0 + 1) * 1024 ≤ 1024)
    | ⟨2, _⟩ => exact (by omega : (0 + 1) * 512 ≤ 512)
  · rw [t2_eq]; have := h (num t)
    match a with
    | ⟨0, _⟩ => exact (by omega : ((experts m (ix1 (num t))).toNat + 1) * 1 ≤ 32)
    | ⟨1, _⟩ => exact (by omega : (0 + 1) * 1024 ≤ 1024)
    | ⟨2, _⟩ => exact (by omega : (0 + 1) * 512 ≤ 512)
  · rw [t3_eq]; have := h (num t)
    match a with
    | ⟨0, _⟩ => exact (by omega : ((experts m (ix1 (num t))).toNat + 1) * 1 ≤ 32)
    | ⟨1, _⟩ => exact (by omega : (0 + 1) * 512 ≤ 512)
    | ⟨2, _⟩ => exact (by omega : (0 + 1) * 1024 ≤ 1024)

end Cert.Kernel6Ideal.Ffn

end
-- ==== Proof.Body6.lean ====
/-
  The experts' feed-forward call as a launch: the points in order, the weights of a point's expert in the scratches after
  it, and the arrays they leave.
-/
module

public import proofs.«01_k».proof.Proof.Table6
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.Kernel6Ideal.Ffn

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hp : Known m)

/-- The tables, every block inside the weights. -/
def adm : (pcfg0 (F := Ideal)).Adm := ⟨tbl m, ok m hp⟩
/-- The pipeline at them. -/
abbrev cfgA : Pipeline.Cfg sig Λ₀ := cfg0 (F := Ideal) (adm m hp)

/-- A point's expert. -/
def ex (t : Fin grid0.N) : Fin 32 := ⟨(experts m (ix1 (num t))).toNat, hp (num t)⟩

theorem idx1 (t : Fin (cfgA m hp).N) : ((cfgA m hp).win 1).index t = ![(ex m hp t).val, 0, 0] := t1_eq m t
theorem idx2 (t : Fin (cfgA m hp).N) : ((cfgA m hp).win 2).index t = ![(ex m hp t).val, 0, 0] := t2_eq m t
theorem idx3 (t : Fin (cfgA m hp).N) : ((cfgA m hp).win 3).index t = ![(ex m hp t).val, 0, 0] := t3_eq m t
theorem idx0 (t : Fin (cfgA m hp).N) : ((cfgA m hp).win 0).index t = ![t.val, 0] :=
  (by decide +kernel : ∀ t : Fin grid0.N, cc0_transform_0 (grid0.coords t) = ![t.val, 0]) t
theorem idx4 (t : Fin (cfgA m hp).N) : ((cfgA m hp).win 4).index t = ![t.val, 0] :=
  (by decide +kernel : ∀ t : Fin grid0.N, cc0_transform_4 (grid0.coords t) = ![t.val, 0]) t

/-- Window `w`'s block at a point. -/
def iblk (c : Dev nD) (w : Fin (cfgA m hp).W) (t : Fin (cfgA m hp).N) : (((cfgA m hp).win w).xblock ((cfgA m hp).grid.coords t)).Idx → Elt Ideal ((cfgA m hp).win w).elt :=
  (((cfgA m hp).win w).blk t).view.read (Elt Ideal) (V m c (Pipeline.arrRef spec0 w))

/-- The block of the gates' weights is the expert's. -/
theorem blk1 (c : Dev nD) (t : Fin (cfgA m hp).N) (y : S1x1024x512.Idx) : iblk m hp c 1 t y = V m c main_arg3 (ix3 (ex m hp t) (y 1) (y 2)) := by
  refine congrArg (V m c main_arg3) (funext fun a => Fin.ext ?_)
  show cc0_transform_1 k0_off1_inb numel1_S1 (tbl m) (grid0.coords t) a * S1x1024x512.size a + 1 * (y a).val = _
  rw [t1_eq]
  match a with
  | ⟨0, _⟩ =>
    have h0 : (y 0).val < 1 := (y 0).isLt
    show (ex m hp t).val * 1 + 1 * (y 0).val = (ex m hp t).val
    omega
  | ⟨1, _⟩ => show 0 * 1024 + 1 * (y 1).val = (y 1).val; omega
  | ⟨2, _⟩ => show 0 * 512 + 1 * (y 2).val = (y 2).val; omega

/-- The block of the second projection's weights is the expert's. -/
theorem blk2 (c : Dev nD) (t : Fin (cfgA m hp).N) (y : S1x1024x512.Idx) : iblk m hp c 2 t y = V m c main_arg4 (ix3 (ex m hp t) (y 1) (y 2)) := by
  refine congrArg (V m c main_arg4) (funext fun a => Fin.ext ?_)
  show cc0_transform_2 k0_off1_inb numel1_S1 (tbl m) (grid0.coords t) a * S1x1024x512.size a + 1 * (y a).val = _
  rw [t2_eq]
  match a with
  | ⟨0, _⟩ =>
    have h0 : (y 0).val < 1 := (y 0).isLt
    show (ex m hp t).val * 1 + 1 * (y 0).val = (ex m hp t).val
    omega
  | ⟨1, _⟩ => show 0 * 1024 + 1 * (y 1).val = (y 1).val; omega
  | ⟨2, _⟩ => show 0 * 512 + 1 * (y 2).val = (y 2).val; omega

/-- The block of the last projection's weights is the expert's. -/
theorem blk3 (c : Dev nD) (t : Fin (cfgA m hp).N) (y : S1x512x1024.Idx) : iblk m hp c 3 t y = V m c main_arg5 (ix3 (ex m hp t) (y 1) (y 2)) := by
  refine congrArg (V m c main_arg5) (funext fun a => Fin.ext ?_)
  show cc0_transform_3 k0_off1_inb numel1_S1 (tbl m) (grid0.coords t) a * S1x512x1024.size a + 1 * (y a).val = _
  rw [t3_eq]
  match a with
  | ⟨0, _⟩ =>
    have h0 : (y 0).val < 1 := (y 0).isLt
    show (ex m hp t).val * 1 + 1 * (y 0).val = (ex m hp t).val
    omega
  | ⟨1, _⟩ => show 0 * 512 + 1 * (y 1).val = (y 1).val; omega
  | ⟨2, _⟩ => show 0 * 1024 + 1 * (y 2).val = (y 2).val; omega

/-- The scratches before point `n`: after a point, that point's weights. -/
def Holds (c : Dev nD) (n : ℕ) (s0 s1 : Vec Ideal S1024x512 .bf16) (s2 : Vec Ideal S512x1024 .bf16) : Prop :=
  ∀ t : Fin (cfgA m hp).N, t.val + 1 = n → s0 = k0_pay1 (F := Ideal) (iblk m hp c 1 t) ∧ s1 = k0_pay2 (F := Ideal) (iblk m hp c 2 t) ∧ s2 = k0_pay3 (F := Ideal) (iblk m hp c 3 t)

/-- Points of one expert are handed the same weights. -/
theorem same (c : Dev nD) (t t' : Fin (cfgA m hp).N) (h : ex m hp t = ex m hp t') :
    iblk m hp c 1 t = iblk m hp c 1 t' ∧ iblk m hp c 2 t = iblk m hp c 2 t' ∧ iblk m hp c 3 t = iblk m hp c 3 t' :=
  ⟨funext fun y => by rw [blk1 m hp c t y, blk1 m hp c t' y, h], funext fun y => by rw [blk2 m hp c t y, blk2 m hp c t' y, h], funext fun y => by rw [blk3 m hp c t y, blk3 m hp c t' y, h]⟩

/-- A point works with its own expert's weights, loaded there or not. -/
theorem works (c : Dev nD) (t : Fin (cfgA m hp).N) {s0 s1 s2} (h : Holds m hp c t.val s0 s1 s2) :
    kept (experts m) (grid0.coords t) (k0_pay1 (F := Ideal) (iblk m hp c 1 t)) s0 = k0_pay1 (F := Ideal) (iblk m hp c 1 t)
    ∧ kept (experts m) (grid0.coords t) (k0_pay2 (F := Ideal) (iblk m hp c 2 t)) s1 = k0_pay2 (F := Ideal) (iblk m hp c 2 t)
    ∧ kept (experts m) (grid0.coords t) (k0_pay3 (F := Ideal) (iblk m hp c 3 t)) s2 = k0_pay3 (F := Ideal) (iblk m hp c 3 t) := by
  unfold kept
  by_cases hl : loads (experts m) (grid0.coords t)
  · simp only [if_pos hl, and_self]
  · simp only [if_neg hl]
    obtain ⟨h0, he⟩ := not_loads m t hl
    have hlt : t.val - 1 < (cfgA m hp).N := lt_of_le_of_lt (Nat.sub_le _ _) t.isLt
    obtain ⟨a0, a1, a2⟩ := h ⟨t.val - 1, hlt⟩ (Nat.sub_add_cancel (Nat.pos_of_ne_zero h0))
    obtain ⟨b0, b1, b2⟩ := same m hp c ⟨t.val - 1, hlt⟩ t (Fin.ext (show (experts m (ix1 (pred t))).toNat = (experts m (ix1 (num t))).toNat from by rw [he]))
    exact ⟨by rw [a0, b0], by rw [a1, b1], by rw [a2, b2]⟩

/-- The invariant before point `n`. -/
def inv (c : Dev nD) (n : ℕ) : sProp 𝕄 :=
  iprop((∃ s0 s1 s2, iprop(⌜Holds m hp c n s0 s1 s2⌝ ∗ owns (c : Thread nD τ) sc0 fullShare s0 ∗ owns (c : Thread nD τ) sc1 fullShare s1 ∗ owns (c : Thread nD τ) sc2 fullShare s2))
    ∗ (tb0.view.loc (c : Thread nD τ) ↦{fullShare.right} tbl m 0) ∗ (tb1.view.loc (c : Thread nD τ) ↦{fullShare.right} tbl m 1) ∗ (∃ r, prngReg c r))

/-- The rows a point leaves. -/
def rows (c : Dev nD) (t : Fin (cfgA m hp).N) : Vec Ideal S256x1024 .f32 :=
  stored (inUse m) (grid0.coords t) (k0_pay4 (F := Ideal) (iblk m hp c 0 t) (k0_pay1 (F := Ideal) (iblk m hp c 1 t)) (k0_pay2 (F := Ideal) (iblk m hp c 2 t)) (k0_pay3 (F := Ideal) (iblk m hp c 3 t)))

/-- The pipeline's data: the inputs' blocks, the output's rows, the invariant. -/
def dats (_ : Fin 1) (c : Dev nD) : Dat τ (Elt Ideal) Unit ℕ (UR sig nD τ) ℕ (cfgA m hp) c where
  A w := V m c (Pipeline.arrRef spec0 w)
  after w t := match w with
    | ⟨0, _⟩ => iblk m hp c 0 t
    | ⟨1, _⟩ => iblk m hp c 1 t
    | ⟨2, _⟩ => iblk m hp c 2 t
    | ⟨3, _⟩ => iblk m hp c 3 t
    | ⟨4, _⟩ => rows m hp c t
  Φ t := inv m hp c t.val
  q _ := fullShare
  owed _ := 0

theorem after0 (c : Dev nD) (t : Fin (cfgA m hp).N) : (dats m hp 0 c).after (0 : Fin 5) t = iblk m hp c 0 t := rfl
theorem after1 (c : Dev nD) (t : Fin (cfgA m hp).N) : (dats m hp 0 c).after (1 : Fin 5) t = iblk m hp c 1 t := rfl
theorem after2 (c : Dev nD) (t : Fin (cfgA m hp).N) : (dats m hp 0 c).after (2 : Fin 5) t = iblk m hp c 2 t := rfl
theorem after3 (c : Dev nD) (t : Fin (cfgA m hp).N) : (dats m hp 0 c).after (3 : Fin 5) t = iblk m hp c 3 t := rfl
theorem after4 (c : Dev nD) (t : Fin (cfgA m hp).N) : (dats m hp 0 c).after (4 : Fin 5) t = rows m hp c t := rfl

theorem before0 (c : Dev nD) (t : Fin (cfgA m hp).N) (d) : (dats m hp 0 c).before (0 : Fin 5) t d = iblk m hp c 0 t :=
  ((dats m hp 0 c).before_in_eq_fetched (0 : Fin 5) rfl (fun _ => rfl) (fun _ _ _ => rfl) (fun t => by rw [after0]; unfold Dat.blockOf iblk; rfl) t d).trans (by unfold Dat.fetched Dat.blockOf iblk; rfl)
theorem before1 (c : Dev nD) (t : Fin (cfgA m hp).N) (d) : (dats m hp 0 c).before (1 : Fin 5) t d = iblk m hp c 1 t :=
  ((dats m hp 0 c).before_in_eq_fetched (1 : Fin 5) rfl (fun _ => rfl) (fun _ _ _ => rfl) (fun t => by rw [after1]; unfold Dat.blockOf iblk; rfl) t d).trans (by unfold Dat.fetched Dat.blockOf iblk; rfl)
theorem before2 (c : Dev nD) (t : Fin (cfgA m hp).N) (d) : (dats m hp 0 c).before (2 : Fin 5) t d = iblk m hp c 2 t :=
  ((dats m hp 0 c).before_in_eq_fetched (2 : Fin 5) rfl (fun _ => rfl) (fun _ _ _ => rfl) (fun t => by rw [after2]; unfold Dat.blockOf iblk; rfl) t d).trans (by unfold Dat.fetched Dat.blockOf iblk; rfl)
theorem before3 (c : Dev nD) (t : Fin (cfgA m hp).N) (d) : (dats m hp 0 c).before (3 : Fin 5) t d = iblk m hp c 3 t :=
  ((dats m hp 0 c).before_in_eq_fetched (3 : Fin 5) rfl (fun _ => rfl) (fun _ _ _ => rfl) (fun t => by rw [after3]; unfold Dat.blockOf iblk; rfl) t d).trans (by unfold Dat.fetched Dat.blockOf iblk; rfl)

/-- The staging buffers a point uses. -/
abbrev st0 (t : Fin (cfgA m hp).N) : Memref sig .tc .vmem S256x1024 .f32 := spec0_0.stage ((cfgA m hp).slots t (0 : Fin 5))
abbrev st1 (t : Fin (cfgA m hp).N) : Memref sig .tc .vmem S1x1024x512 .f32 := spec0_1.stage ((cfgA m hp).slots t (1 : Fin 5))
abbrev st2 (t : Fin (cfgA m hp).N) : Memref sig .tc .vmem S1x1024x512 .f32 := spec0_2.stage ((cfgA m hp).slots t (2 : Fin 5))
abbrev st3 (t : Fin (cfgA m hp).N) : Memref sig .tc .vmem S1x512x1024 .f32 := spec0_3.stage ((cfgA m hp).slots t (3 : Fin 5))
abbrev st4 (t : Fin (cfgA m hp).N) : Memref sig .tc .vmem S256x1024 .f32 := spec0_4.stage ((cfgA m hp).slots t (4 : Fin 5))

/-- The body at a point's buffers. -/
abbrev bodyAt (t : Fin (cfgA m hp).N) : Prog (TpuEff nD τ sig (Elt Ideal) Λ₀ .tc) PUnit :=
  cc0_moe_expert_ffn (grid0.coords t) tb0 (Memref.isWhole_whole _) tb1 (Memref.isWhole_whole _) (st0 m hp t) (hstage0_0 (((cfgA m hp).slots t (0 : Fin 5)).cast nbuf0_0)) (st1 m hp t) (hstage0_1 (((cfgA m hp).slots t (1 : Fin 5)).cast nbuf0_1))
    (st2 m hp t) (hstage0_2 (((cfgA m hp).slots t (2 : Fin 5)).cast nbuf0_2)) (st3 m hp t) (hstage0_3 (((cfgA m hp).slots t (3 : Fin 5)).cast nbuf0_3)) (st4 m hp t) (hstage0_4 (((cfgA m hp).slots t (4 : Fin 5)).cast nbuf0_4))
    sc0 (Memref.isWhole_whole _) sc1 (Memref.isWhole_whole _) sc2 (Memref.isWhole_whole _)

set_option maxHeartbeats 4000000 in
/-- The body at any point. -/
theorem sound_body (c : Dev nD) (t : Fin (cfgA m hp).N) :
    iprop((dats m hp 0 c).Φ t.castSucc ∗ (dats m hp 0 c).owesAt () t.castSucc
        ∗ (∃ d, owns (c : Thread nD τ) (st0 m hp t) fullShare ((dats m hp 0 c).before (0 : Fin 5) t d))
        ∗ (∃ d, owns (c : Thread nD τ) (st1 m hp t) fullShare ((dats m hp 0 c).before (1 : Fin 5) t d))
        ∗ (∃ d, owns (c : Thread nD τ) (st2 m hp t) fullShare ((dats m hp 0 c).before (2 : Fin 5) t d))
        ∗ (∃ d, owns (c : Thread nD τ) (st3 m hp t) fullShare ((dats m hp 0 c).before (3 : Fin 5) t d))
        ∗ (∃ d, owns (c : Thread nD τ) (st4 m hp t) fullShare ((dats m hp 0 c).before (4 : Fin 5) t d)))
      ⊢ wp frame (wpE (defs₀ (F := Ideal)) Variants.none c none) Set.univ (bodyAt m hp t) fun _ =>
          iprop((dats m hp 0 c).Φ t.succ ∗ (dats m hp 0 c).owesAt () t.succ
            ∗ bigSep Finset.univ fun w : Fin (cfgA m hp).W =>
                match (cfgA m hp).idle w ((cfgA m hp).grid.coords t) with
                | true =>
                  match ((cfgA m hp).win w).flush t with
                  | false => iprop(∃ d, owns (c : Thread nD τ) (((cfgA m hp).win w).stage ((cfgA m hp).slots t w)) fullShare ((dats m hp 0 c).before w t d))
                  | true => owns (c : Thread nD τ) (((cfgA m hp).win w).stage ((cfgA m hp).slots t w)) fullShare ((dats m hp 0 c).after w t)
                | false => owns (c : Thread nD τ) (((cfgA m hp).win w).stage ((cfgA m hp).slots t w)) fullShare ((dats m hp 0 c).after w t)) := by
  rw [bigSep_W0]
  have i4 : (cfgA m hp).idle (4 : Fin 5) ((cfgA m hp).grid.coords t) = false := not_idle (tbl m) (grid0.coords t)
  rewrite [i4]
  simp only [before0, before1, before2, before3, after0, after1, after2, after3, after4]
  rewrite [show (dats m hp 0 c).Φ t.succ = inv m hp c (t.val + 1) from rfl, show (dats m hp 0 c).Φ t.castSucc = inv m hp c t.val from rfl,
    show (dats m hp 0 c).owesAt () t.succ = (dats m hp 0 c).owesAt () t.castSucc from rfl]
  unfold inv
  iintro ⟨⟨⟨%s0, %s1, %s2, %hs, HS0, HS1, HS2⟩, HT0, HT1, Hg⟩, Ho, ⟨%d0, H0⟩, ⟨%d1, H1⟩, ⟨%d2, H2⟩, ⟨%d3, H3⟩, ⟨%d4, H4⟩⟩
  obtain ⟨w0, w1, w2⟩ := works m hp c t hs
  iapply (run (experts m) (inUse m) c (grid0.coords t) _ _ _ _ _ _ _ _ _ _ (iblk m hp c 0 t) (iblk m hp c 1 t) (iblk m hp c 2 t) (iblk m hp c 3 t) s0 s1 s2 (uses _ _) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  rw [w0, w1, w2]
  iintro ⟨H0, H1, H2, H3, HT0, HT1, H4, HS0, HS1, HS2⟩
  isplitl [HS0 HS1 HS2 HT0 HT1 Hg]
  · isplitl [HS0 HS1 HS2]
    · iexists _; iexists _; iexists _
      isplitr
      swap
      · isplitl [HS0]; · iexact HS0
        isplitl [HS1]; · iexact HS1
        iexact HS2
      · ipureintro
        intro t' ht
        obtain rfl : t' = t := Fin.ext (Nat.succ.inj ht)
        exact ⟨rfl, rfl, rfl⟩
    isplitl [HT0]; · iexact HT0
    isplitl [HT1]; · iexact HT1
    iexact Hg
  isplitl [Ho]; · iexact Ho
  isplitl [H0]; · iexact H0
  isplitl [H1]; · iexact H1
  isplitl [H2]; · iexact H2
  isplitl [H3]; · iexact H3
  iexact H4

/-- The body's obligation at every point. -/
theorem body_obligation (c : Dev nD) : BodyObligation (dats m hp 0 c) (defs₀ (F := Ideal)) Variants.none () Set.univ := fun t => by
  rw [bigSep_W0]
  exact sound_body m hp c t

/-- The tables as the launch hands them over. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The launch's scratches and register, as one statement. -/
theorem phi_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [owns_whole]; try rfl

/-- Before the first point the invariant asks nothing of the scratches. -/
theorem hin (c : Dev nD) : iprop(Pipeline.ΦA spec0 c ∗ Pipeline.ΦT pre0 (tbl m) c) ⊢ (dats m hp 0 c).Φ 0 := by
  rw [show (dats m hp 0 c).Φ 0 = inv m hp c 0 from rfl, phi_eq]
  unfold inv Pipeline.ΦT
  rw [tables_eq]
  iintro ⟨⟨⟨⟨%a, HS0⟩, ⟨%b, HS1⟩, ⟨%d, HS2⟩⟩, Hg⟩, HT0, HT1⟩
  isplitl [HS0 HS1 HS2]
  · iexists a; iexists b; iexists d
    isplitr
    swap
    · isplitl [HS0]; · iexact HS0
      isplitl [HS1]; · iexact HS1
      iexact HS2
    · ipureintro
      exact fun t h => absurd h (Nat.succ_ne_zero _)
  isplitl [HT0]; · iexact HT0
  isplitl [HT1]; · iexact HT1
  iexact Hg

/-- After the last point it gives the scratches back. -/
theorem hout (c : Dev nD) : (dats m hp 0 c).Φ (Fin.last (cfgA m hp).N) ⊢ Pipeline.ΦA spec0 c := by
  rw [show (dats m hp 0 c).Φ (Fin.last (cfgA m hp).N) = inv m hp c (Fin.last (cfgA m hp).N).val from rfl, phi_eq]
  unfold inv
  iintro ⟨⟨%a, %b, %d, -, HS0, HS1, HS2⟩, -, -, Hg⟩
  isplitl [HS0 HS1 HS2]
  · isplitl [HS0]; · iexists a; iexact HS0
    isplitl [HS1]; · iexists b; iexact HS1
    iexists d; iexact HS2
  iexact Hg

/-- The tables are the one device's. -/
theorem tbl_eq (c : Dev nD) (k : Fin 2) : V m c (pre0.ref k) = tbl m k := by
  obtain rfl : c = 0 := Subsingleton.elim _ _
  rfl

set_option backward.isDefEq.respectTransparency.types false in
set_option maxHeartbeats 4000000 in
/-- The launch: every array at what the data says, every counter at zero. -/
theorem run_main_quiescent : θ_run defs (onTc (τ := τ) (main (F := Ideal))) (s₀ m ρ)
    (fun r => (Pipeline.FramePost (Pipeline.pin (pcfgs (F := Ideal)) fun _ => adm m hp) (dats m hp) 0 (V m)) r ∧ r.2.sem = fun _ => 0) :=
  Pipeline.θ_run_frameP_track (Q' := _) (pcfgs (F := Ideal)) (fun _ => adm m hp) (dats m hp) (0 : Fin 1) launch0 defs₀ Variants.none m ρ main
    (hbody := fun c => (body_obligation m hp c).loose) (hshare := fun c => (dats m hp 0 c).share_full fun _ => rfl)
    (howed := fun _ _ => rfl) (V := V m) (hmain := Pipeline.hmainP_region (pcfgs (F := Ideal)) (0 : Fin 1) defs₀ Variants.none m main (fun _ => rfl)) (hA := fun _ _ => rfl) (hpf := fun c k => tbl_eq m c k)
    (hin := fun c => hin m hp c) (hout := fun c => hout m hp c)

/-- A run that ends as the launch says. -/
theorem run_main : θ_run defs (onTc (τ := τ) (main (F := Ideal))) (s₀ m ρ) (Pipeline.FramePost (Pipeline.pin (pcfgs (F := Ideal)) fun _ => adm m hp) (dats m hp) 0 (V m)) :=
  (θ_run defs _ _).mono (fun _ h => h.1) (run_main_quiescent m ρ hp)

include hp in
/-- **The frame**: every run ends, every counter at zero, the arguments unchanged. -/
theorem ends : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).1 (0 : Fin 5)).trans ((dats m hp 0 c).arrAt_in (0 : Fin 5) rfl _),
      (h.1 c).2 _ (Pipeline.mem_restRefs_of main_arg1 (by decide) (show ∀ w : Fin 5, (spec0 w).arr.view.ref ≠ main_arg1 by decide)), (h.1 c).2 _ (Pipeline.mem_restRefs_of main_arg2 (by decide) (show ∀ w : Fin 5, (spec0 w).arr.view.ref ≠ main_arg2 by decide)),
      ((h.1 c).1 (1 : Fin 5)).trans ((dats m hp 0 c).arrAt_in (1 : Fin 5) rfl _),
      ((h.1 c).1 (2 : Fin 5)).trans ((dats m hp 0 c).arrAt_in (2 : Fin 5) rfl _),
      ((h.1 c).1 (3 : Fin 5)).trans ((dats m hp 0 c).arrAt_in (3 : Fin 5) rfl _)⟩, h.2⟩) (run_main_quiescent m ρ hp)

end Cert.Kernel6Ideal.Ffn

end
-- ==== Proof.Experts.lean ====
/-
  The experts' feed-forward network over the extended reals, as a function of the routed rows, the blocks' experts, the
  number of blocks in use and the weights.
-/
module

public import proofs.«01_k».proof.Proof.Gdn

@[expose] public section

noncomputable section

namespace Cert.Experts

open Idealize.ShloMosaic

/-- An entry of a row through one expert's gated network. -/
def ffn (x : Fin 1024 → EReal) (g u : Fin 1024 → Fin 512 → EReal) (d : Fin 512 → Fin 1024 → EReal) (j : Fin 1024) : EReal :=
  ∑ f : Fin 512, Gdn.silu (∑ k, x k * g k f) * (∑ k, x k * u k f) * d f j

/-- The network reads its row and weights entry by entry. -/
theorem ffn_congr {x x' : Fin 1024 → EReal} {g g' u u' : Fin 1024 → Fin 512 → EReal} {d d' : Fin 512 → Fin 1024 → EReal} (hx : ∀ k, x k = x' k)
    (hg : ∀ k f, g k f = g' k f) (hu : ∀ k f, u k f = u' k f) (hd : ∀ f j, d f j = d' f j) (j : Fin 1024) : ffn x g u d j = ffn x' g' u' d' j := by
  rw [funext hx, funext fun k => funext (hg k), funext fun k => funext (hu k), funext fun f => funext (hd f)]

variable (x : FVec Ideal ⟨2, ![73728, 1024]⟩ .f32) (be : IVec ⟨1, ![288]⟩ 32) (nu : IVec ⟨1, ![1]⟩ 32)
  (wg wu : FVec Ideal ⟨3, ![32, 1024, 512]⟩ .f32) (wd : FVec Ideal ⟨3, ![32, 512, 1024]⟩ .f32)

/-- The block a row stands in. -/
def block (r : Fin 73728) : Fin 288 := ⟨r.val / 256, by omega⟩

/-- A block's expert. -/
def expert (t : Fin 288) : Fin 32 := ⟨(be (ix1 t)).toNat % 32, Nat.mod_lt _ (by decide)⟩

/-- An entry of the output: zero past the blocks in use. -/
def out (r : Fin 73728) (j : Fin 1024) : EReal :=
  if (BitVec.ofNat 32 (block r).val).slt (nu (ix1 0)) = true then
    ffn (fun k => x (ix2 r k)) (fun k f => wg (ix3 (expert be (block r)) k f)) (fun k f => wu (ix3 (expert be (block r)) k f))
      (fun f j => wd (ix3 (expert be (block r)) f j)) j
  else 0

end Cert.Experts

end
-- ==== Proof.Out6.lean ====
/-
  The experts' feed-forward call: the array a run leaves.
-/
module

public import proofs.«01_k».proof.Proof.Body6
public import proofs.«01_k».proof.Proof.Experts

@[expose] public section

noncomputable section

namespace Cert.Kernel6Ideal.Ffn

open Idealize.ShloMosaic Idealize.ShloMosaic.TcCoe Idealize.SL.Sem
open Cert.Kernel6Ideal Cert.Kernel6Ideal.Gen

/-- An entry of a point's network. -/
theorem ffn_read (x0 : Vec Ideal S256x1024 .f32) (x1 x2 : Vec Ideal S1x1024x512 .f32) (x3 : Vec Ideal S1x512x1024 .f32) (r : Fin 256) (j : Fin 1024) :
    k0_pay4 (F := Ideal) x0 (k0_pay1 x1) (k0_pay2 x2) (k0_pay3 x3) (ix2 r j)
      = Experts.ffn (fun k => x0 (ix2 r k)) (fun k f => x1 (ix3 0 k f)) (fun k f => x2 (ix3 0 k f)) (fun f j => x3 (ix3 0 f j)) j := by
  unfold Experts.ffn Gdn.silu
  pointwise [k0_pay4, k0_pay1, k0_pay2, k0_pay3]

/-- The zeros stored where a block is not in use. -/
theorem zeros_read (y : S256x1024.Idx) : k0_pay5 (F := Ideal) y = 0 := by
  pointwise [k0_pay5]

/-- A block is in use where its number is below the count. -/
theorem in_use (i : grid0.Coords) (v : BitVec 32) : k0_cond2 i v = 1#1 ↔ (BitVec.ofNat 32 (i 0).val).slt v = true := by
  show Scalar.cmpi .ne (Scalar.extui (Scalar.cmpi .slt (BitVec.ofNat 32 (i 0).val) v)) 0#32 = 1#1 ↔ _
  rw [widened]
  have hb : ∀ b : Bool, BitVec.ofBool b = 1#1 ↔ b = true := by decide
  exact hb _

variable (m : (ℓ : Loc nD τ sig) → Buf (Elt Ideal) ℓ) (ρ : Dev nD → PrngReg) (hp : Known m) (c : Dev nD)

/-- The row of the array that a point's row is. -/
def row (t : Fin (cfgA m hp).N) (r : Fin 256) : Fin 73728 := ⟨t.val * 256 + r.val, by have := lt_of_lt_of_eq t.isLt (show (cfgA m hp).N = 288 from N_0); omega⟩

/-- The rows' block. -/
theorem blk0 (t : Fin (cfgA m hp).N) (r : Fin 256) (k : Fin 1024) : iblk m hp c 0 t (ix2 r k) = V m c main_arg0 (ix2 (row m hp t r) k) := by
  refine congrArg (V m c main_arg0) (funext fun a => Fin.ext ?_)
  show cc0_transform_0 (grid0.coords t) a * S256x1024.size a + 1 * ((ix2 r k : S256x1024.Idx) a).val = _
  rw [show cc0_transform_0 (grid0.coords t) = ![t.val, 0] from idx0 m hp t]
  match a with
  | ⟨0, _⟩ => show t.val * 256 + 1 * r.val = t.val * 256 + r.val; omega
  | ⟨1, _⟩ => show 0 * 1024 + 1 * k.val = k.val; omega

/-- The output. -/
def value : FVec Ideal S73728x1024 .f32 := fun i =>
  Experts.out (V m c main_arg0) (V m c main_arg1) (V m c main_arg2) (V m c main_arg3) (V m c main_arg4) (V m c main_arg5) (i 0) (i 1)

/-- A stored entry. -/
theorem point (t : Fin (cfgA m hp).N) (y : S256x1024.Idx) : rows m hp c t y = value m c (ix2 (row m hp t (y 0)) (y 1)) := by
  obtain rfl : c = 0 := Subsingleton.elim _ _
  obtain ⟨r, j, rfl⟩ : ∃ (r : Fin 256) (j : Fin 1024), y = ix2 r j := ⟨y 0, y 1, eq_ix2 y⟩
  have hb : Experts.block (row m hp t r) = num t := Fin.ext (by show (t.val * 256 + r.val) / 256 = t.val; omega)
  have he : Experts.expert (V m 0 main_arg1) (num t) = ex m hp t := Fin.ext (Nat.mod_eq_of_lt (hp (num t)))
  show rows m hp 0 t (ix2 r j) = Experts.out _ _ _ _ _ _ (row m hp t r) j
  unfold rows stored Experts.out
  rw [hb, he, used_eq]
  have hu : k0_cond2 (grid0.coords t) (inUse m (ix1 0)) = 1#1 ↔ (BitVec.ofNat 32 t.val).slt (V m 0 main_arg2 (ix1 0)) = true := by
    rw [in_use, coord_eq]
  by_cases h : k0_cond2 (grid0.coords t) (inUse m (ix1 0)) = 1#1
  · rw [if_pos h, if_pos (hu.mp h)]
    exact (ffn_read (iblk m hp 0 0 t) (iblk m hp 0 1 t) (iblk m hp 0 2 t) (iblk m hp 0 3 t) r j).trans
      (Experts.ffn_congr (fun k => blk0 m hp 0 t r k) (fun k f => blk1 m hp 0 t (ix3 0 k f)) (fun k f => blk2 m hp 0 t (ix3 0 k f))
        (fun f j => blk3 m hp 0 t (ix3 0 f j)) j)
  · rw [if_neg h, if_neg (fun h' => h (hu.mpr h'))]
    exact zeros_read _

/-- The output is written back at every point. -/
theorem flush4 (t : Fin (cfgA m hp).N) : ((cfgA m hp).win 4).flush t = true :=
  (Pipeline.Window.flush_reads ((cfgA m hp).win 4) rfl 0 (show 1 < grid0.bound 0 by decide) (show grid0.fixedAfter reads0_4 0 = true by decide) (Pipeline.Window.sep_of_coord cc0_transform_4 0 0 (fun _ => rfl) (by decide)) (P := 1) (m := 0) (show grid0.stride 0 = 1 by decide) rfl t).mpr (Nat.mod_one _)

/-- **The output array.** -/
theorem array : (dats m hp 0 c).arrAt (4 : Fin 5) (cfgA m hp).N = value m c := by
  refine (dats m hp 0 c).arrAt_eq_of_emb (4 : Fin 5) _ (fun t hf y => ?_) (fun i => ?_)
  · refine (point m hp c t y).trans (congrArg (value m c) (funext fun a => Fin.ext ?_))
    show _ = cc0_transform_4 (grid0.coords t) a * S256x1024.size a + 1 * (y a).val
    rw [show cc0_transform_4 (grid0.coords t) = ![t.val, 0] from idx4 m hp t]
    match a with
    | ⟨0, _⟩ => show t.val * 256 + (y 0).val = t.val * 256 + 1 * (y 0).val; omega
    | ⟨1, _⟩ => show (y 1).val = 0 * 1024 + 1 * (y 1).val; omega
  · have h0 : (i 0).val < 73728 := (i 0).isLt
    have h1 : (i 1).val < 1024 := (i 1).isLt
    refine ⟨⟨(i 0).val / 256, lt_of_lt_of_eq (by omega : (i 0).val / 256 < 288) (show (cfgA m hp).N = 288 from N_0).symm⟩, flush4 m hp _, ?_⟩
    refine (Pipeline.Window.emb_mem_blk_iff ((cfgA m hp).win 4) _ i rfl).mpr (fun a => ?_)
    have e := idx4 m hp ⟨(i 0).val / 256, lt_of_lt_of_eq (by omega : (i 0).val / 256 < 288) (show (cfgA m hp).N = 288 from N_0).symm⟩
    rw [e]
    match a with
    | ⟨0, _⟩ => show (i 0).val / 256 * 256 ≤ (i 0).val ∧ (i 0).val < (i 0).val / 256 * 256 + 256; omega
    | ⟨1, _⟩ => show 0 * 1024 ≤ (i 1).val ∧ (i 1).val < 0 * 1024 + 1024; omega

include hp in
/-- **The result** of every run. -/
theorem result : θ_run defs (onTc (τ := τ) (main (F := Ideal))) ⟨m, fun _ => 0, ρ⟩ (fun r => ∀ c : Dev nD, r.2.mem ((c.tc : Thread nD τ).loc main_v0) = value m c) :=
  (θ_run defs _ _).mono (fun _ h c => ((h c).1 (4 : Fin 5)).trans (array m hp c)) (run_main m ρ hp)

end Cert.Kernel6Ideal.Ffn

end
-- ==== Proof.Ref6.lean ====
/-
  The reference of the experts' feed-forward call ends with the same function of its arguments, where every block names one
  of the experts.
-/
module

public import proofs.«01_k».proof.Proof.Experts
public import proofs.«01_k».proof.Proof.Gen.Reference6Ideal.Run

@[expose] public section

noncomputable section

namespace Cert.Reference6Ideal.Read

open Idealize.ShloMosaic Idealize.ShloMosaic.TcCoe Idealize.SL.Sem
open Cert.Reference6Ideal Cert.Reference6Ideal.Gen

/-- An entry of the weights taken for the blocks (first and second product). -/
theorem taken_up (w : FVec Ideal S32x1024x512 .f32) (idx : IVec S288x1 32) (t : Fin 288) (k : Fin 1024) (f : Fin 512) (e : Fin 32)
    (h : (idx (ix2 t 0)).toInt = e.val) :
    Host.gather gather_S32x1024x512_S288x1_S288x1024x512_12_0_n_n_0_1_11024512 w idx (ix3 t k f) = w (ix3 e k f) := by
  have hs : ∀ n, gather_S32x1024x512_S288x1_S288x1024x512_12_0_n_n_0_1_11024512.siIdx (ix3 t k f) n = ix2 t 0 := by
    intro n
    funext b
    refine Fin.ext ?_
    match b with
    | ⟨0, _⟩ => rfl
    | ⟨1, _⟩ => exact Nat.lt_one_iff.mp (Fin.isLt _)
  unfold Host.gather
  congr 1
  funext a
  refine Fin.ext ?_
  show GatherDims.start _ (ix3 t k f) idx a + GatherDims.batchCoord _ (ix3 t k f) a + GatherDims.offCoord _ (ix3 t k f) a = _
  rw [GatherDims.batchCoord_eq_zero _ _ _ List.not_mem_nil]
  unfold GatherDims.start
  match a with
  | ⟨0, h0⟩ =>
    rw [GatherDims.offCoord_eq_zero _ _ _ (fun h => ((GatherDims.mem_sKept _ _).mp h).1 (List.mem_singleton.mpr rfl))]
    rw [dif_pos (show (⟨0, h0⟩ : Fin 3) ∈ gather_S32x1024x512_S288x1_S288x1024x512_12_0_n_n_0_1_11024512.startIndexMap from List.mem_singleton.mpr rfl), hs, h]
    show min e.val 31 + 0 + 0 = e.val
    omega
  | ⟨1, h1⟩ =>
    rw [dif_neg (show (⟨1, h1⟩ : Fin 3) ∉ gather_S32x1024x512_S288x1_S288x1024x512_12_0_n_n_0_1_11024512.startIndexMap from
      (by decide : (1 : Fin 3) ∉ [(0 : Fin 3)]))]
    show 0 + 0 + k.val = k.val
    omega
  | ⟨2, h2⟩ =>
    rw [dif_neg (show (⟨2, h2⟩ : Fin 3) ∉ gather_S32x1024x512_S288x1_S288x1024x512_12_0_n_n_0_1_11024512.startIndexMap from
      (by decide : (2 : Fin 3) ∉ [(0 : Fin 3)]))]
    show 0 + 0 + f.val = f.val
    omega

/-- An entry of the weights taken for the blocks (third product). -/
theorem taken_down (w : FVec Ideal S32x512x1024 .f32) (idx : IVec S288x1 32) (t : Fin 288) (f : Fin 512) (j : Fin 1024) (e : Fin 32)
    (h : (idx (ix2 t 0)).toInt = e.val) :
    Host.gather gather_S32x512x1024_S288x1_S288x512x1024_12_0_n_n_0_1_15121024 w idx (ix3 t f j) = w (ix3 e f j) := by
  have hs : ∀ n, gather_S32x512x1024_S288x1_S288x512x1024_12_0_n_n_0_1_15121024.siIdx (ix3 t f j) n = ix2 t 0 := by
    intro n
    funext b
    refine Fin.ext ?_
    match b with
    | ⟨0, _⟩ => rfl
    | ⟨1, _⟩ => exact Nat.lt_one_iff.mp (Fin.isLt _)
  unfold Host.gather
  congr 1
  funext a
  refine Fin.ext ?_
  show GatherDims.start _ (ix3 t f j) idx a + GatherDims.batchCoord _ (ix3 t f j) a + GatherDims.offCoord _ (ix3 t f j) a = _
  rw [GatherDims.batchCoord_eq_zero _ _ _ List.not_mem_nil]
  unfold GatherDims.start
  match a with
  | ⟨0, h0⟩ =>
    rw [GatherDims.offCoord_eq_zero _ _ _ (fun h => ((GatherDims.mem_sKept _ _).mp h).1 (List.mem_singleton.mpr rfl))]
    rw [dif_pos (show (⟨0, h0⟩ : Fin 3) ∈ gather_S32x512x1024_S288x1_S288x512x1024_12_0_n_n_0_1_15121024.startIndexMap from List.mem_singleton.mpr rfl), hs, h]
    show min e.val 31 + 0 + 0 = e.val
    omega
  | ⟨1, h1⟩ =>
    rw [dif_neg (show (⟨1, h1⟩ : Fin 3) ∉ gather_S32x512x1024_S288x1_S288x512x1024_12_0_n_n_0_1_15121024.startIndexMap from
      (by decide : (1 : Fin 3) ∉ [(0 : Fin 3)]))]
    show 0 + 0 + f.val = f.val
    omega
  | ⟨2, h2⟩ =>
    rw [dif_neg (show (⟨2, h2⟩ : Fin 3) ∉ gather_S32x512x1024_S288x1_S288x512x1024_12_0_n_n_0_1_15121024.startIndexMap from
      (by decide : (2 : Fin 3) ∉ [(0 : Fin 3)]))]
    show 0 + 0 + j.val = j.val
    omega

/-- The blocks' rows. -/
abbrev rows (x : FVec Ideal S73728x1024 .f32) : FVec Ideal S288x256x1024 .f32 := shapeCast _ x shapeCasts_S73728x1024_S288x256x1024

/-- The rows' product with a block's weights. -/
abbrev up (x : FVec Ideal S73728x1024 .f32) (g : FVec Ideal S288x1024x512 .f32) : FVec Ideal S288x256x512 .f32 :=
  Host.dotGeneral dot_S288x256x1024_S288x1024x512_S288x256x512_2_1_1_2_0_0 none (rows x) g

/-- The gated rows. -/
abbrev gated (p q : FVec Ideal S288x256x512 .f32) : FVec Ideal S288x256x512 .f32 :=
  mulf (mulf p (Host.divf (broadcastInDim S288x256x512 ![] bcast_S_S288x256x512 (constant S_ .f32 0x3F800000#32))
    (addf (broadcastInDim S288x256x512 ![] bcast_S_S288x256x512 (constant S_ .f32 0x3F800000#32)) (Host.exp (Host.negf p))))) q

/-- The network of all the blocks, from the weights taken. -/
abbrev net (x : FVec Ideal S73728x1024 .f32) (g u : FVec Ideal S288x1024x512 .f32) (d : FVec Ideal S288x512x1024 .f32) : FVec Ideal S288x256x1024 .f32 :=
  Host.dotGeneral dot_S288x256x512_S288x512x1024_S288x256x1024_2_1_1_2_0_0 none (gated (up x g) (up x u)) d

/-- The blocks in use. -/
abbrev used (nu : IVec S1 32) : IVec S288 1 :=
  cmpi .slt (iotaInDim S288 32 0) (broadcastInDim S288 ![] bcast_S_S288 (shapeCast _ nu shapeCasts_S1_S_))

/-- The network where a block is in use, zeros elsewhere. -/
abbrev chosen (nu : IVec S1 32) (n : FVec Ideal S288x256x1024 .f32) : FVec Ideal S73728x1024 .f32 :=
  shapeCast _ (select (broadcastInDim S288x256x1024 ![0, 1, 2] bcast_S288x1x1_S288x256x1024_0_1_2 (broadcastInDim S288x1x1 ![0] bcast_S288_S288x1x1_0 (used nu)))
    n (broadcastInDim S288x256x1024 ![] bcast_S_S288x256x1024 (id (constant S_ .f32 0x00000000#32)))) shapeCasts_S288x256x1024_S73728x1024

/-- An entry of the rows' product. -/
theorem up_read (x : FVec Ideal S73728x1024 .f32) (g : FVec Ideal S288x1024x512 .f32) (t : Fin 288) (r : Fin 256) (f : Fin 512) :
    up x g (ix3 t r f) = ∑ k : Fin 1024, x (ix2 ⟨t.val * 256 + r.val, by omega⟩ k) * g (ix3 t k f) := by
  pointwise []

/-- An entry of the gated rows. -/
theorem gated_read (p q : FVec Ideal S288x256x512 .f32) (i : S288x256x512.Idx) : gated p q i = Gdn.silu (p i) * q i := by
  unfold Gdn.silu
  rw [zero_sub]
  pointwise []

/-- An entry of the network. -/
theorem net_read (x : FVec Ideal S73728x1024 .f32) (g u : FVec Ideal S288x1024x512 .f32) (d : FVec Ideal S288x512x1024 .f32) (t : Fin 288) (r : Fin 256) (j : Fin 1024) :
    net x g u d (ix3 t r j) = Experts.ffn (fun k => x (ix2 ⟨t.val * 256 + r.val, by omega⟩ k)) (fun k f => g (ix3 t k f)) (fun k f => u (ix3 t k f)) (fun f j => d (ix3 t f j)) j := by
  unfold Experts.ffn
  have hd : ∀ p : FVec Ideal S288x256x512 .f32, Host.dotGeneral dot_S288x256x512_S288x512x1024_S288x256x1024_2_1_1_2_0_0 none p d (ix3 t r j)
      = ∑ f : Fin 512, p (ix3 t r f) * d (ix3 t f j) := by
    intro p
    pointwise []
  refine (hd _).trans ?_
  refine Finset.sum_congr rfl fun f _ => ?_
  rw [gated_read, up_read, up_read]

/-- An entry of the result. -/
theorem chosen_read (nu : IVec S1 32) (n : FVec Ideal S288x256x1024 .f32) (r : Fin 73728) (j : Fin 1024) :
    chosen nu n (ix2 r j) = if (BitVec.ofNat 32 (Experts.block r).val).slt (nu (ix1 0)) = true then n (ix3 (Experts.block r) ⟨r.val % 256, Nat.mod_lt _ (by decide)⟩ j) else 0 := by
  unfold Experts.block
  pointwise []
  have hz : (constant S_ .f32 0x00000000#32 : FVec Ideal S_ .f32) ix0 = 0 := by pointwise []
  show Scalar.select (BitVec.ofBool ((BitVec.ofNat 32 (r.val / 256)).slt (nu (ix1 0)))) _ ((constant S_ .f32 0x00000000#32 : FVec Ideal S_ .f32) ix0) = _
  rw [hz]
  cases (BitVec.ofNat 32 (r.val / 256)).slt (nu (ix1 0)) with
  | true => exact (if_pos rfl).symm
  | false => exact (if_neg Bool.false_ne_true).symm

variable (x : FVec Ideal S73728x1024 .f32) (be : IVec S288 32) (nu : IVec S1 32) (wg wu : FVec Ideal S32x1024x512 .f32) (wd : FVec Ideal S32x512x1024 .f32)

/-- The blocks' experts as indices. -/
abbrev index : IVec S288x1 32 := broadcastInDim S288x1 ![0] bcast_S288_S288x1_0 be

/-- A block's expert, read from its word. -/
theorem index_read (hb : ∀ t : Fin 288, (be (ix1 t)).toNat < 32) (t : Fin 288) : (index be (ix2 t 0)).toInt = (Experts.expert be t).val := by
  have e : index be (ix2 t 0) = be (ix1 t) := by pointwise []
  have h := hb t
  rw [e, BitVec.toInt_eq_toNat_of_lt (by omega)]
  exact congrArg Nat.cast (Nat.mod_eq_of_lt h).symm

/-- **The reference's result** where every block names one of the experts. -/
theorem result (hb : ∀ t : Fin 288, (be (ix1 t)).toNat < 32) (i : S73728x1024.Idx) :
    chosen nu (net x (Host.gather gather_S32x1024x512_S288x1_S288x1024x512_12_0_n_n_0_1_11024512 wg (index be))
      (Host.gather gather_S32x1024x512_S288x1_S288x1024x512_12_0_n_n_0_1_11024512 wu (index be))
      (Host.gather gather_S32x512x1024_S288x1_S288x512x1024_12_0_n_n_0_1_15121024 wd (index be))) i = Experts.out x be nu wg wu wd (i 0) (i 1) := by
  obtain ⟨r, j, rfl⟩ : ∃ (r : Fin 73728) (j : Fin 1024), i = ix2 r j := ⟨i 0, i 1, eq_ix2 i⟩
  show _ = Experts.out x be nu wg wu wd r j
  rw [chosen_read]
  unfold Experts.out
  refine if_congr Iff.rfl ?_ rfl
  rw [net_read]
  refine Experts.ffn_congr (fun k => ?_) (fun k f => taken_up wg _ _ k f _ (index_read be hb _)) (fun k f => taken_up wu _ _ k f _ (index_read be hb _))
    (fun f j => taken_down wd _ _ f j _ (index_read be hb _)) j
  exact congrArg x (congrArg₂ ix2 (Fin.ext (by show r.val / 256 * 256 + r.val % 256 = r.val; omega)) rfl)

end Cert.Reference6Ideal.Read

end
-- ==== Proof.Known6.lean ====
/-
  What the experts' call's precondition says of its arguments: every block names one of the 32 experts.
-/
module

public import proofs.«01_k».proof.Pre_experts
public import Idealize.ShloMosaic.Lib.ReduceAll
public import Idealize.ShloMosaic.Lib.Pointwise

@[expose] public section

noncomputable section

namespace Cert.Pre_experts

open Idealize.ShloMosaic

/-- A word from 0 to 31, read with its sign, is below 32. -/
theorem below (b : BitVec 32) (h0 : (0#32).sle b = true) (h1 : b.sle 31#32 = true) : b.toNat < 32 := by
  rw [BitVec.sle_eq_decide, decide_eq_true_eq] at h0 h1
  have e0 : (0#32 : BitVec 32).toInt = 0 := by decide
  have e1 : (31#32 : BitVec 32).toInt = 31 := by decide
  rw [e0] at h0
  rw [e1] at h1
  have := b.toInt_eq_toNat_cond
  split at this <;> omega

variable [Facts] {F : FTy → Type} [FloatOps F]

/-- Under the precondition every block's word is below 32. -/
theorem known (a0 a1 a2 a3 a4 a5) (h : fn (F := F) a0 a1 a2 a3 a4 a5 = fun _ => 1#1) (t : Fin 288) : (a1 (ix1 t)).toNat < 32 := by
  have e := congrFun h (ix1 t)
  dsimp only [fn] at e
  obtain ⟨e0, e1⟩ := IntOp.andi_eq_one.1 e
  have hb : ∀ b : Bool, BitVec.ofBool b = 1#1 → b = true := by decide
  exact below _ (hb _ e0) (hb _ e1)

end Cert.Pre_experts
-- ==== Proof.RunBits6.lean ====
/-
  The experts' feed-forward call at the kernel's own numbers: the body at one point, by what its branches decide.
-/
module

public import proofs.«01_k».proof.Proof.Gen.Kernel6.Launch
public import proofs.«01_k».proof.Proof.Gen.Kernel6.Skeleton
public import Idealize.ShloMosaic.Lib.Claim
public import Idealize.ShloMosaic.Lib.Pipeline.ValueKit.Point

@[expose] public section

noncomputable section

namespace Cert.Kernel6.Ffn

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

/-- The blocks' experts, as a buffer. -/
abbrev tb0 : Memref sig .tc .smem S288 .i32 := Memref.whole main_arg1
/-- The number of blocks in use, as a buffer. -/
abbrev tb1 : Memref sig .tc .smem S1 .i32 := Memref.whole main_arg2
/-- The three scratches. -/
abbrev sc0 : Memref sig .tc .vmem S1024x512 .bf16 := Memref.whole cc0_scratch0
abbrev sc1 : Memref sig .tc .vmem S1024x512 .bf16 := Memref.whole cc0_scratch1
abbrev sc2 : Memref sig .tc .vmem S512x1024 .bf16 := Memref.whole cc0_scratch2

variable (T0 : S288.Idx → Elt Bits .i32) (T1 : S1.Idx → Elt Bits .i32)

/-- The point's expert. -/
def expertHere (i : grid0.Coords) : Elt Bits .i32 := View.readAt (Elt Bits) tb0.view (Rect.unit (s := S288) (k0_off1 i) S1.size (k0_off1_inb i)).toLoadRect T0 (Shape.Idx.first (numel1_S1.symm ▸ Nat.one_pos))
/-- The expert of the point before. -/
def expertBefore (i : grid0.Coords) : Elt Bits .i32 := View.readAt (Elt Bits) tb0.view (Rect.unit (s := S288) (k0_off2 i) S1.size (k0_off2_inb i)).toLoadRect T0 (Shape.Idx.first (numel1_S1.symm ▸ Nat.one_pos))
/-- The number of blocks in use. -/
def used : Elt Bits .i32 := View.readAt (Elt Bits) tb1.view (Rect.unit (s := S1) ![0] S1.size inb_S1_S1_0).toLoadRect T1 (Shape.Idx.first (numel1_S1.symm ▸ Nat.one_pos))

/-- The weights are loaded at the first point and where the expert changes. -/
abbrev loads (i : grid0.Coords) : Prop :=
  Scalar.cmpi .ne (Scalar.extui (Scalar.ori (Scalar.cmpi .eq (BitVec.ofNat 32 (i 0).val) 0#32) (Scalar.cmpi .ne (expertHere T0 i) (expertBefore T0 i)))) 0#32 = 1#1

/-- Storing a whole array and reading it back. -/
theorem read_store {s : Shape} {e : EltTy} {sp : Space} (v : View sig .tc sp s e) (f : v.ty.Contents (Elt Bits)) {off : Fin s.rank → ℕ} (h0 : off = fun _ => 0)
    (h : ∀ a, off a + s.size a ≤ s.size a) (p : s.Idx → Elt Bits e) :
    v.read (Elt Bits) (v.writes (Elt Bits) f [⟨Rect.unit off s.size h, p⟩]) = p := by
  subst h0
  exact View.read_writes_whole v f p

/-- Loading a whole array. -/
theorem load_whole {s : Shape} {e : EltTy} {sp : Space} (v : View sig .tc sp s e) (f : v.ty.Contents (Elt Bits)) {off : Fin s.rank → ℕ} (h0 : off = fun _ => 0)
    (h : ∀ a, off a + s.size a ≤ s.size a) {x : s.Idx → Elt Bits e} (hx : v.read (Elt Bits) f = x) :
    v.readAt (Elt Bits) (Rect.unit off s.size h).toLoadRect f = x := by
  subst h0 hx
  funext y
  rw [View.readAt_apply]
  exact congrArg _ (Rect.emb_whole_apply s y)

/-- Equal arguments, equal values. -/
theorem congr4 {A B C D E : Type} (f : A → B → C → D → E) {a a' b b' c c' d d'} (ha : a = a') (hb : b = b') (hc : c = c') (hd : d = d') : f a b c d = f a' b' c' d' := by
  rw [ha, hb, hc, hd]

theorem off2 : (![0, 0] : Fin 2 → ℕ) = fun _ => 0 := by decide
theorem off3 : (![0, 0, 0] : Fin 3 → ℕ) = fun _ => 0 := by decide

/-- The weights a point works with: its own block's, where it loads them. -/
def kept {s : Shape} {e : EltTy} (i : grid0.Coords) (new old : s.Idx → Elt Bits e) : s.Idx → Elt Bits e := if loads T0 i then new else old

/-- What is read after a store on the branch that loads the weights. -/
theorem read_kept {s : Shape} {e : EltTy} {sp : Space} (i : grid0.Coords) (v : View sig .tc sp s e) (f : v.ty.Contents (Elt Bits)) {off : Fin s.rank → ℕ} (h0 : off = fun _ => 0)
    (h : ∀ a, off a + s.size a ≤ s.size a) (p : s.Idx → Elt Bits e) (P : Prop) [Decidable P] (hP : P = loads T0 i) {x p' : s.Idx → Elt Bits e}
    (hp : p = p') (hx : v.read (Elt Bits) f = x) :
    v.read (Elt Bits) (if _ : P then v.writes (Elt Bits) f [⟨Rect.unit off s.size h, p⟩] else f) = kept T0 i p' x := by
  unfold kept
  by_cases hl : P
  · rw [dif_pos hl, if_pos (hP.mp hl), ← hp]; exact read_store v f h0 h p
  · rw [dif_neg hl, if_neg (fun h' => hl (hP.mpr h'))]; exact hx

/-- The rows a point stores: the experts' output, or zeros where its block is not in use. -/
def stored (i : grid0.Coords) (y : Vec Bits S256x1024 .f32) : Vec Bits S256x1024 .f32 := if k0_cond2 i (used T1) = 1#1 then y else k0_pay5 (F := Bits)

set_option maxHeartbeats 8000000 in
/-- The body at a point: the inputs end as they were, the scratches with the weights the point works with, the output with the rows it stores. -/
theorem run (c : Dev nD) (i : grid0.Coords) (arg3 : Memref sig .tc .vmem S256x1024 .f32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .f32) (harg7 : arg7.IsWhole)
    (x0 : Vec Bits S256x1024 .f32) (x1 x2 : Vec Bits S1x1024x512 .f32) (x3 : Vec Bits S1x512x1024 .f32) (s0 s1 : Vec Bits S1024x512 .bf16) (s2 : Vec Bits S512x1024 .bf16)
    (h23 : k0_cond3 i (used T1) = 1#1 ↔ ¬ (k0_cond2 i (used T1) = 1#1)) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (tb0.view.loc (c : Thread nD τ) ↦{fullShare.right} T0) ∗ (tb1.view.loc (c : Thread nD τ) ↦{fullShare.right} T1)
        ∗ (∃ d, owns (c : Thread nD τ) arg7 fullShare d) ∗ owns (c : Thread nD τ) sc0 fullShare s0 ∗ owns (c : Thread nD τ) sc1 fullShare s1 ∗ owns (c : Thread nD τ) sc2 fullShare s2
        ∗ (iprop(owns (c : Thread nD τ) arg3 fullShare x0 ∗ owns (c : Thread nD τ) arg4 fullShare x1 ∗ owns (c : Thread nD τ) arg5 fullShare x2 ∗ owns (c : Thread nD τ) arg6 fullShare x3
            ∗ (tb0.view.loc (c : Thread nD τ) ↦{fullShare.right} T0) ∗ (tb1.view.loc (c : Thread nD τ) ↦{fullShare.right} T1)
            ∗ owns (c : Thread nD τ) arg7 fullShare (stored T1 i (k0_pay4 x0 (kept T0 i (k0_pay1 x1) s0) (kept T0 i (k0_pay2 x2) s1) (kept T0 i (k0_pay3 x3) s2)))
            ∗ owns (c : Thread nD τ) sc0 fullShare (kept T0 i (k0_pay1 x1) s0) ∗ owns (c : Thread nD τ) sc1 fullShare (kept T0 i (k0_pay2 x2) s1) ∗ owns (c : Thread nD τ) sc2 fullShare (kept T0 i (k0_pay3 x3) s2)) -∗ K ⟨⟩))
      ⊢ wp frame (wpE (defs₀ (F := Bits)) Variants.none c none) Set.univ (cc0_moe_expert_ffn i tb0 (Memref.isWhole_whole _) tb1 (Memref.isWhole_whole _) arg3 harg3 arg4 harg4 arg5 harg5 arg6 harg6 arg7 harg7 sc0 (Memref.isWhole_whole _) sc1 (Memref.isWhole_whole _) sc2 (Memref.isWhole_whole _)) K := by
  unfold owns
  rw [cc0_moe_expert_ffn_eq_skeleton]; unfold cc0_moe_expert_ffn_skel
  have hS0 : sc0.IsWhole := Memref.isWhole_whole _
  have hS1 : sc1.IsWhole := Memref.isWhole_whole _
  have hS2 : sc2.IsWhole := Memref.isWhole_whole _
  have hT0 : tb0.IsWhole := Memref.isWhole_whole _
  have hT1 : tb1.IsWhole := Memref.isWhole_whole _
  iintro ⟨⟨%f0, %hf0, H0⟩, ⟨%f1, %hf1, H1⟩, ⟨%f2, %hf2, H2⟩, ⟨%f3, %hf3, H3⟩, HT0, HT1, ⟨%d4, %f4, -, HO⟩, ⟨%g0, %hg0, HS0⟩, ⟨%g1, %hg1, HS1⟩, ⟨%g2, %hg2, HS2⟩, Hk⟩
  obtain rfl := harg3.eq_unread hf0; obtain rfl := harg4.eq_unread hf1; obtain rfl := harg5.eq_unread hf2; obtain rfl := harg6.eq_unread hf3
  obtain rfl := hS0.eq_unread hg0; obtain rfl := hS1.eq_unread hg1; obtain rfl := hS2.eq_unread hg2
  sl_exec!
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HT0]; · iexact HT0
  isplitl [HT1]; · iexact HT1
  isplitl [HO]
  · iexists _; isplitr
    swap; · iexact HO
    ipureintro
    by_cases h2 : k0_cond2 i (used T1) = 1#1
    · refine (congrArg (View.read (Elt Bits) arg7.view) ((dif_neg (fun h => h23.mp h h2)).trans (dif_pos h2))).trans ?_
      refine (read_store _ _ off2 _ _).trans (Eq.trans ?_ (if_pos h2).symm)
      refine congr4 k0_pay4 (load_whole _ _ off2 _ hf0) ?_ ?_ ?_
      · exact load_whole sc0.view _ off2 _ (read_kept T0 i _ _ off2 _ _ _ rfl (congrArg (k0_pay1 (F := Bits)) (load_whole _ _ off3 _ hf1)) hg0)
      · exact load_whole sc1.view _ off2 _ (read_kept T0 i _ _ off2 _ _ _ rfl (congrArg (k0_pay2 (F := Bits)) (load_whole _ _ off3 _ hf2)) hg1)
      · exact load_whole sc2.view _ off2 _ (read_kept T0 i _ _ off2 _ _ _ rfl (congrArg (k0_pay3 (F := Bits)) (load_whole _ _ off3 _ hf3)) hg2)
    · refine (congrArg (View.read (Elt Bits) arg7.view) (dif_pos (h23.mpr h2))).trans ?_
      exact (read_store _ _ off2 _ _).trans (if_neg h2).symm
  isplitl [HS0]
  · iexists _; isplitr
    swap; · iexact HS0
    ipureintro
    exact read_kept T0 i _ _ off2 _ _ _ rfl (congrArg (k0_pay1 (F := Bits)) (load_whole _ _ off3 _ hf1)) hg0
  isplitl [HS1]
  · iexists _; isplitr
    swap; · iexact HS1
    ipureintro
    exact read_kept T0 i _ _ off2 _ _ _ rfl (congrArg (k0_pay2 (F := Bits)) (load_whole _ _ off3 _ hf2)) hg1
  iexists _; isplitr
  swap; · iexact HS2
  ipureintro
  exact read_kept T0 i _ _ off2 _ _ _ rfl (congrArg (k0_pay3 (F := Bits)) (load_whole _ _ off3 _ hf3)) hg2

end Cert.Kernel6.Ffn

end
-- ==== Proof.BodyBits6.lean ====
/-
  The experts' feed-forward call as a launch, at the kernel's own numbers: the points in order, the weights of a point's expert in the scratches after
  it, and the arrays they leave.
-/
module

public import proofs.«01_k».proof.Proof.TableBits6
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.Kernel6.Ffn

open Cert.Kernel6 Cert.Kernel6.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

variable (m : (ℓ : Loc nD τ sig) → Buf (Elt Bits) ℓ) (ρ : Dev nD → PrngReg) (hp : Known m)

/-- The tables, every block inside the weights. -/
def adm : (pcfg0 (F := Bits)).Adm := ⟨tbl m, ok m hp⟩
/-- The pipeline at them. -/
abbrev cfgA : Pipeline.Cfg sig Λ₀ := cfg0 (F := Bits) (adm m hp)

/-- A point's expert. -/
def ex (t : Fin grid0.N) : Fin 32 := ⟨(experts m (ix1 (num t))).toNat, hp (num t)⟩

theorem idx1 (t : Fin (cfgA m hp).N) : ((cfgA m hp).win 1).index t = ![(ex m hp t).val, 0, 0] := t1_eq m t
theorem idx2 (t : Fin (cfgA m hp).N) : ((cfgA m hp).win 2).index t = ![(ex m hp t).val, 0, 0] := t2_eq m t
theorem idx3 (t : Fin (cfgA m hp).N) : ((cfgA m hp).win 3).index t = ![(ex m hp t).val, 0, 0] := t3_eq m t
theorem idx0 (t : Fin (cfgA m hp).N) : ((cfgA m hp).win 0).index t = ![t.val, 0] :=
  (by decide +kernel : ∀ t : Fin grid0.N, cc0_transform_0 (grid0.coords t) = ![t.val, 0]) t
theorem idx4 (t : Fin (cfgA m hp).N) : ((cfgA m hp).win 4).index t = ![t.val, 0] :=
  (by decide +kernel : ∀ t : Fin grid0.N, cc0_transform_4 (grid0.coords t) = ![t.val, 0]) t

/-- Window `w`'s block at a point. -/
def iblk (c : Dev nD) (w : Fin (cfgA m hp).W) (t : Fin (cfgA m hp).N) : (((cfgA m hp).win w).xblock ((cfgA m hp).grid.coords t)).Idx → Elt Bits ((cfgA m hp).win w).elt :=
  (((cfgA m hp).win w).blk t).view.read (Elt Bits) (V m c (Pipeline.arrRef spec0 w))

/-- The block of the gates' weights is the expert's. -/
theorem blk1 (c : Dev nD) (t : Fin (cfgA m hp).N) (y : S1x1024x512.Idx) : iblk m hp c 1 t y = V m c main_arg3 (ix3 (ex m hp t) (y 1) (y 2)) := by
  refine congrArg (V m c main_arg3) (funext fun a => Fin.ext ?_)
  show cc0_transform_1 k0_off1_inb numel1_S1 (tbl m) (grid0.coords t) a * S1x1024x512.size a + 1 * (y a).val = _
  rw [t1_eq]
  match a with
  | ⟨0, _⟩ =>
    have h0 : (y 0).val < 1 := (y 0).isLt
    show (ex m hp t).val * 1 + 1 * (y 0).val = (ex m hp t).val
    omega
  | ⟨1, _⟩ => show 0 * 1024 + 1 * (y 1).val = (y 1).val; omega
  | ⟨2, _⟩ => show 0 * 512 + 1 * (y 2).val = (y 2).val; omega

/-- The block of the second projection's weights is the expert's. -/
theorem blk2 (c : Dev nD) (t : Fin (cfgA m hp).N) (y : S1x1024x512.Idx) : iblk m hp c 2 t y = V m c main_arg4 (ix3 (ex m hp t) (y 1) (y 2)) := by
  refine congrArg (V m c main_arg4) (funext fun a => Fin.ext ?_)
  show cc0_transform_2 k0_off1_inb numel1_S1 (tbl m) (grid0.coords t) a * S1x1024x512.size a + 1 * (y a).val = _
  rw [t2_eq]
  match a with
  | ⟨0, _⟩ =>
    have h0 : (y 0).val < 1 := (y 0).isLt
    show (ex m hp t).val * 1 + 1 * (y 0).val = (ex m hp t).val
    omega
  | ⟨1, _⟩ => show 0 * 1024 + 1 * (y 1).val = (y 1).val; omega
  | ⟨2, _⟩ => show 0 * 512 + 1 * (y 2).val = (y 2).val; omega

/-- The block of the last projection's weights is the expert's. -/
theorem blk3 (c : Dev nD) (t : Fin (cfgA m hp).N) (y : S1x512x1024.Idx) : iblk m hp c 3 t y = V m c main_arg5 (ix3 (ex m hp t) (y 1) (y 2)) := by
  refine congrArg (V m c main_arg5) (funext fun a => Fin.ext ?_)
  show cc0_transform_3 k0_off1_inb numel1_S1 (tbl m) (grid0.coords t) a * S1x512x1024.size a + 1 * (y a).val = _
  rw [t3_eq]
  match a with
  | ⟨0, _⟩ =>
    have h0 : (y 0).val < 1 := (y 0).isLt
    show (ex m hp t).val * 1 + 1 * (y 0).val = (ex m hp t).val
    omega
  | ⟨1, _⟩ => show 0 * 512 + 1 * (y 1).val = (y 1).val; omega
  | ⟨2, _⟩ => show 0 * 1024 + 1 * (y 2).val = (y 2).val; omega

/-- The scratches before point `n`: after a point, that point's weights. -/
def Holds (c : Dev nD) (n : ℕ) (s0 s1 : Vec Bits S1024x512 .bf16) (s2 : Vec Bits S512x1024 .bf16) : Prop :=
  ∀ t : Fin (cfgA m hp).N, t.val + 1 = n → s0 = k0_pay1 (F := Bits) (iblk m hp c 1 t) ∧ s1 = k0_pay2 (F := Bits) (iblk m hp c 2 t) ∧ s2 = k0_pay3 (F := Bits) (iblk m hp c 3 t)

/-- Points of one expert are handed the same weights. -/
theorem same (c : Dev nD) (t t' : Fin (cfgA m hp).N) (h : ex m hp t = ex m hp t') :
    iblk m hp c 1 t = iblk m hp c 1 t' ∧ iblk m hp c 2 t = iblk m hp c 2 t' ∧ iblk m hp c 3 t = iblk m hp c 3 t' :=
  ⟨funext fun y => by rw [blk1 m hp c t y, blk1 m hp c t' y, h], funext fun y => by rw [blk2 m hp c t y, blk2 m hp c t' y, h], funext fun y => by rw [blk3 m hp c t y, blk3 m hp c t' y, h]⟩

/-- A point works with its own expert's weights, loaded there or not. -/
theorem works (c : Dev nD) (t : Fin (cfgA m hp).N) {s0 s1 s2} (h : Holds m hp c t.val s0 s1 s2) :
    kept (experts m) (grid0.coords t) (k0_pay1 (F := Bits) (iblk m hp c 1 t)) s0 = k0_pay1 (F := Bits) (iblk m hp c 1 t)
    ∧ kept (experts m) (grid0.coords t) (k0_pay2 (F := Bits) (iblk m hp c 2 t)) s1 = k0_pay2 (F := Bits) (iblk m hp c 2 t)
    ∧ kept (experts m) (grid0.coords t) (k0_pay3 (F := Bits) (iblk m hp c 3 t)) s2 = k0_pay3 (F := Bits) (iblk m hp c 3 t) := by
  unfold kept
  by_cases hl : loads (experts m) (grid0.coords t)
  · simp only [if_pos hl, and_self]
  · simp only [if_neg hl]
    obtain ⟨h0, he⟩ := not_loads m t hl
    have hlt : t.val - 1 < (cfgA m hp).N := lt_of_le_of_lt (Nat.sub_le _ _) t.isLt
    obtain ⟨a0, a1, a2⟩ := h ⟨t.val - 1, hlt⟩ (Nat.sub_add_cancel (Nat.pos_of_ne_zero h0))
    obtain ⟨b0, b1, b2⟩ := same m hp c ⟨t.val - 1, hlt⟩ t (Fin.ext (show (experts m (ix1 (pred t))).toNat = (experts m (ix1 (num t))).toNat from by rw [he]))
    exact ⟨by rw [a0, b0], by rw [a1, b1], by rw [a2, b2]⟩

/-- The invariant before point `n`. -/
def inv (c : Dev nD) (n : ℕ) : sProp 𝕄 :=
  iprop((∃ s0 s1 s2, iprop(⌜Holds m hp c n s0 s1 s2⌝ ∗ owns (c : Thread nD τ) sc0 fullShare s0 ∗ owns (c : Thread nD τ) sc1 fullShare s1 ∗ owns (c : Thread nD τ) sc2 fullShare s2))
    ∗ (tb0.view.loc (c : Thread nD τ) ↦{fullShare.right} tbl m 0) ∗ (tb1.view.loc (c : Thread nD τ) ↦{fullShare.right} tbl m 1) ∗ (∃ r, prngReg c r))

/-- The rows a point leaves. -/
def rows (c : Dev nD) (t : Fin (cfgA m hp).N) : Vec Bits S256x1024 .f32 :=
  stored (inUse m) (grid0.coords t) (k0_pay4 (F := Bits) (iblk m hp c 0 t) (k0_pay1 (F := Bits) (iblk m hp c 1 t)) (k0_pay2 (F := Bits) (iblk m hp c 2 t)) (k0_pay3 (F := Bits) (iblk m hp c 3 t)))

/-- The pipeline's data: the inputs' blocks, the output's rows, the invariant. -/
def dats (_ : Fin 1) (c : Dev nD) : Dat τ (Elt Bits) Unit ℕ (UR sig nD τ) ℕ (cfgA m hp) c where
  A w := V m c (Pipeline.arrRef spec0 w)
  after w t := match w with
    | ⟨0, _⟩ => iblk m hp c 0 t
    | ⟨1, _⟩ => iblk m hp c 1 t
    | ⟨2, _⟩ => iblk m hp c 2 t
    | ⟨3, _⟩ => iblk m hp c 3 t
    | ⟨4, _⟩ => rows m hp c t
  Φ t := inv m hp c t.val
  q _ := fullShare
  owed _ := 0

theorem after0 (c : Dev nD) (t : Fin (cfgA m hp).N) : (dats m hp 0 c).after (0 : Fin 5) t = iblk m hp c 0 t := rfl
theorem after1 (c : Dev nD) (t : Fin (cfgA m hp).N) : (dats m hp 0 c).after (1 : Fin 5) t = iblk m hp c 1 t := rfl
theorem after2 (c : Dev nD) (t : Fin (cfgA m hp).N) : (dats m hp 0 c).after (2 : Fin 5) t = iblk m hp c 2 t := rfl
theorem after3 (c : Dev nD) (t : Fin (cfgA m hp).N) : (dats m hp 0 c).after (3 : Fin 5) t = iblk m hp c 3 t := rfl
theorem after4 (c : Dev nD) (t : Fin (cfgA m hp).N) : (dats m hp 0 c).after (4 : Fin 5) t = rows m hp c t := rfl

theorem before0 (c : Dev nD) (t : Fin (cfgA m hp).N) (d) : (dats m hp 0 c).before (0 : Fin 5) t d = iblk m hp c 0 t :=
  ((dats m hp 0 c).before_in_eq_fetched (0 : Fin 5) rfl (fun _ => rfl) (fun _ _ _ => rfl) (fun t => by rw [after0]; unfold Dat.blockOf iblk; rfl) t d).trans (by unfold Dat.fetched Dat.blockOf iblk; rfl)
theorem before1 (c : Dev nD) (t : Fin (cfgA m hp).N) (d) : (dats m hp 0 c).before (1 : Fin 5) t d = iblk m hp c 1 t :=
  ((dats m hp 0 c).before_in_eq_fetched (1 : Fin 5) rfl (fun _ => rfl) (fun _ _ _ => rfl) (fun t => by rw [after1]; unfold Dat.blockOf iblk; rfl) t d).trans (by unfold Dat.fetched Dat.blockOf iblk; rfl)
theorem before2 (c : Dev nD) (t : Fin (cfgA m hp).N) (d) : (dats m hp 0 c).before (2 : Fin 5) t d = iblk m hp c 2 t :=
  ((dats m hp 0 c).before_in_eq_fetched (2 : Fin 5) rfl (fun _ => rfl) (fun _ _ _ => rfl) (fun t => by rw [after2]; unfold Dat.blockOf iblk; rfl) t d).trans (by unfold Dat.fetched Dat.blockOf iblk; rfl)
theorem before3 (c : Dev nD) (t : Fin (cfgA m hp).N) (d) : (dats m hp 0 c).before (3 : Fin 5) t d = iblk m hp c 3 t :=
  ((dats m hp 0 c).before_in_eq_fetched (3 : Fin 5) rfl (fun _ => rfl) (fun _ _ _ => rfl) (fun t => by rw [after3]; unfold Dat.blockOf iblk; rfl) t d).trans (by unfold Dat.fetched Dat.blockOf iblk; rfl)

/-- The staging buffers a point uses. -/
abbrev st0 (t : Fin (cfgA m hp).N) : Memref sig .tc .vmem S256x1024 .f32 := spec0_0.stage ((cfgA m hp).slots t (0 : Fin 5))
abbrev st1 (t : Fin (cfgA m hp).N) : Memref sig .tc .vmem S1x1024x512 .f32 := spec0_1.stage ((cfgA m hp).slots t (1 : Fin 5))
abbrev st2 (t : Fin (cfgA m hp).N) : Memref sig .tc .vmem S1x1024x512 .f32 := spec0_2.stage ((cfgA m hp).slots t (2 : Fin 5))
abbrev st3 (t : Fin (cfgA m hp).N) : Memref sig .tc .vmem S1x512x1024 .f32 := spec0_3.stage ((cfgA m hp).slots t (3 : Fin 5))
abbrev st4 (t : Fin (cfgA m hp).N) : Memref sig .tc .vmem S256x1024 .f32 := spec0_4.stage ((cfgA m hp).slots t (4 : Fin 5))

/-- The body at a point's buffers. -/
abbrev bodyAt (t : Fin (cfgA m hp).N) : Prog (TpuEff nD τ sig (Elt Bits) Λ₀ .tc) PUnit :=
  cc0_moe_expert_ffn (grid0.coords t) tb0 (Memref.isWhole_whole _) tb1 (Memref.isWhole_whole _) (st0 m hp t) (hstage0_0 (((cfgA m hp).slots t (0 : Fin 5)).cast nbuf0_0)) (st1 m hp t) (hstage0_1 (((cfgA m hp).slots t (1 : Fin 5)).cast nbuf0_1))
    (st2 m hp t) (hstage0_2 (((cfgA m hp).slots t (2 : Fin 5)).cast nbuf0_2)) (st3 m hp t) (hstage0_3 (((cfgA m hp).slots t (3 : Fin 5)).cast nbuf0_3)) (st4 m hp t) (hstage0_4 (((cfgA m hp).slots t (4 : Fin 5)).cast nbuf0_4))
    sc0 (Memref.isWhole_whole _) sc1 (Memref.isWhole_whole _) sc2 (Memref.isWhole_whole _)

set_option maxHeartbeats 4000000 in
/-- The body at any point. -/
theorem sound_body (c : Dev nD) (t : Fin (cfgA m hp).N) :
    iprop((dats m hp 0 c).Φ t.castSucc ∗ (dats m hp 0 c).owesAt () t.castSucc
        ∗ (∃ d, owns (c : Thread nD τ) (st0 m hp t) fullShare ((dats m hp 0 c).before (0 : Fin 5) t d))
        ∗ (∃ d, owns (c : Thread nD τ) (st1 m hp t) fullShare ((dats m hp 0 c).before (1 : Fin 5) t d))
        ∗ (∃ d, owns (c : Thread nD τ) (st2 m hp t) fullShare ((dats m hp 0 c).before (2 : Fin 5) t d))
        ∗ (∃ d, owns (c : Thread nD τ) (st3 m hp t) fullShare ((dats m hp 0 c).before (3 : Fin 5) t d))
        ∗ (∃ d, owns (c : Thread nD τ) (st4 m hp t) fullShare ((dats m hp 0 c).before (4 : Fin 5) t d)))
      ⊢ wp frame (wpE (defs₀ (F := Bits)) Variants.none c none) Set.univ (bodyAt m hp t) fun _ =>
          iprop((dats m hp 0 c).Φ t.succ ∗ (dats m hp 0 c).owesAt () t.succ
            ∗ bigSep Finset.univ fun w : Fin (cfgA m hp).W =>
                match (cfgA m hp).idle w ((cfgA m hp).grid.coords t) with
                | true =>
                  match ((cfgA m hp).win w).flush t with
                  | false => iprop(∃ d, owns (c : Thread nD τ) (((cfgA m hp).win w).stage ((cfgA m hp).slots t w)) fullShare ((dats m hp 0 c).before w t d))
                  | true => owns (c : Thread nD τ) (((cfgA m hp).win w).stage ((cfgA m hp).slots t w)) fullShare ((dats m hp 0 c).after w t)
                | false => owns (c : Thread nD τ) (((cfgA m hp).win w).stage ((cfgA m hp).slots t w)) fullShare ((dats m hp 0 c).after w t)) := by
  rw [bigSep_W0]
  have i4 : (cfgA m hp).idle (4 : Fin 5) ((cfgA m hp).grid.coords t) = false := not_idle (tbl m) (grid0.coords t)
  rewrite [i4]
  simp only [before0, before1, before2, before3, after0, after1, after2, after3, after4]
  rewrite [show (dats m hp 0 c).Φ t.succ = inv m hp c (t.val + 1) from rfl, show (dats m hp 0 c).Φ t.castSucc = inv m hp c t.val from rfl,
    show (dats m hp 0 c).owesAt () t.succ = (dats m hp 0 c).owesAt () t.castSucc from rfl]
  unfold inv
  iintro ⟨⟨⟨%s0, %s1, %s2, %hs, HS0, HS1, HS2⟩, HT0, HT1, Hg⟩, Ho, ⟨%d0, H0⟩, ⟨%d1, H1⟩, ⟨%d2, H2⟩, ⟨%d3, H3⟩, ⟨%d4, H4⟩⟩
  obtain ⟨w0, w1, w2⟩ := works m hp c t hs
  iapply (run (experts m) (inUse m) c (grid0.coords t) _ _ _ _ _ _ _ _ _ _ (iblk m hp c 0 t) (iblk m hp c 1 t) (iblk m hp c 2 t) (iblk m hp c 3 t) s0 s1 s2 (uses _ _) _)
  isplitl [H0]; · iexact H0
  isplitl [H1]; · iexact H1
  isplitl [H2]; · iexact H2
  isplitl [H3]; · iexact H3
  isplitl [HT0]; · iexact HT0
  isplitl [HT1]; · iexact HT1
  isplitl [H4]; · iexists _; iexact H4
  isplitl [HS0]; · iexact HS0
  isplitl [HS1]; · iexact HS1
  isplitl [HS2]; · iexact HS2
  rw [w0, w1, w2]
  iintro ⟨H0, H1, H2, H3, HT0, HT1, H4, HS0, HS1, HS2⟩
  isplitl [HS0 HS1 HS2 HT0 HT1 Hg]
  · isplitl [HS0 HS1 HS2]
    · iexists _; iexists _; iexists _
      isplitr
      swap
      · isplitl [HS0]; · iexact HS0
        isplitl [HS1]; · iexact HS1
        iexact HS2
      · ipureintro
        intro t' ht
        obtain rfl : t' = t := Fin.ext (Nat.succ.inj ht)
        exact ⟨rfl, rfl, rfl⟩
    isplitl [HT0]; · iexact HT0
    isplitl [HT1]; · iexact HT1
    iexact Hg
  isplitl [Ho]; · iexact Ho
  isplitl [H0]; · iexact H0
  isplitl [H1]; · iexact H1
  isplitl [H2]; · iexact H2
  isplitl [H3]; · iexact H3
  iexact H4

/-- The body's obligation at every point. -/
theorem body_obligation (c : Dev nD) : BodyObligation (dats m hp 0 c) (defs₀ (F := Bits)) Variants.none () Set.univ := fun t => by
  rw [bigSep_W0]
  exact sound_body m hp c t

/-- The tables as the launch hands them over. -/
theorem tables_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

/-- The launch's scratches and register, as one statement. -/
theorem phi_eq (c : Dev nD) : (Pipeline.ΦA spec0 c : sProp 𝕄)
    = iprop(((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [owns_whole]; try rfl

/-- Before the first point the invariant asks nothing of the scratches. -/
theorem hin (c : Dev nD) : iprop(Pipeline.ΦA spec0 c ∗ Pipeline.ΦT pre0 (tbl m) c) ⊢ (dats m hp 0 c).Φ 0 := by
  rw [show (dats m hp 0 c).Φ 0 = inv m hp c 0 from rfl, phi_eq]
  unfold inv Pipeline.ΦT
  rw [tables_eq]
  iintro ⟨⟨⟨⟨%a, HS0⟩, ⟨%b, HS1⟩, ⟨%d, HS2⟩⟩, Hg⟩, HT0, HT1⟩
  isplitl [HS0 HS1 HS2]
  · iexists a; iexists b; iexists d
    isplitr
    swap
    · isplitl [HS0]; · iexact HS0
      isplitl [HS1]; · iexact HS1
      iexact HS2
    · ipureintro
      exact fun t h => absurd h (Nat.succ_ne_zero _)
  isplitl [HT0]; · iexact HT0
  isplitl [HT1]; · iexact HT1
  iexact Hg

/-- After the last point it gives the scratches back. -/
theorem hout (c : Dev nD) : (dats m hp 0 c).Φ (Fin.last (cfgA m hp).N) ⊢ Pipeline.ΦA spec0 c := by
  rw [show (dats m hp 0 c).Φ (Fin.last (cfgA m hp).N) = inv m hp c (Fin.last (cfgA m hp).N).val from rfl, phi_eq]
  unfold inv
  iintro ⟨⟨%a, %b, %d, -, HS0, HS1, HS2⟩, -, -, Hg⟩
  isplitl [HS0 HS1 HS2]
  · isplitl [HS0]; · iexists a; iexact HS0
    isplitl [HS1]; · iexists b; iexact HS1
    iexists d; iexact HS2
  iexact Hg

/-- The tables are the one device's. -/
theorem tbl_eq (c : Dev nD) (k : Fin 2) : V m c (pre0.ref k) = tbl m k := by
  obtain rfl : c = 0 := Subsingleton.elim _ _
  rfl

set_option backward.isDefEq.respectTransparency.types false in
set_option maxHeartbeats 4000000 in
/-- The launch: every array at what the data says, every counter at zero. -/
theorem run_main_quiescent : θ_run defs (onTc (τ := τ) (main (F := Bits))) (s₀ m ρ)
    (fun r => (Pipeline.FramePost (Pipeline.pin (pcfgs (F := Bits)) fun _ => adm m hp) (dats m hp) 0 (V m)) r ∧ r.2.sem = fun _ => 0) :=
  Pipeline.θ_run_frameP_track (Q' := _) (pcfgs (F := Bits)) (fun _ => adm m hp) (dats m hp) (0 : Fin 1) launch0 defs₀ Variants.none m ρ main
    (hbody := fun c => (body_obligation m hp c).loose) (hshare := fun c => (dats m hp 0 c).share_full fun _ => rfl)
    (howed := fun _ _ => rfl) (V := V m) (hmain := Pipeline.hmainP_region (pcfgs (F := Bits)) (0 : Fin 1) defs₀ Variants.none m main (fun _ => rfl)) (hA := fun _ _ => rfl) (hpf := fun c k => tbl_eq m c k)
    (hin := fun c => hin m hp c) (hout := fun c => hout m hp c)

/-- A run that ends as the launch says. -/
theorem run_main : θ_run defs (onTc (τ := τ) (main (F := Bits))) (s₀ m ρ) (Pipeline.FramePost (Pipeline.pin (pcfgs (F := Bits)) fun _ => adm m hp) (dats m hp) 0 (V m)) :=
  (θ_run defs _ _).mono (fun _ h => h.1) (run_main_quiescent m ρ hp)

include hp in
/-- **The frame**: every run ends, every counter at zero, the arguments unchanged. -/
theorem ends : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).1 (0 : Fin 5)).trans ((dats m hp 0 c).arrAt_in (0 : Fin 5) rfl _),
      (h.1 c).2 _ (Pipeline.mem_restRefs_of main_arg1 (by decide) (show ∀ w : Fin 5, (spec0 w).arr.view.ref ≠ main_arg1 by decide)), (h.1 c).2 _ (Pipeline.mem_restRefs_of main_arg2 (by decide) (show ∀ w : Fin 5, (spec0 w).arr.view.ref ≠ main_arg2 by decide)),
      ((h.1 c).1 (1 : Fin 5)).trans ((dats m hp 0 c).arrAt_in (1 : Fin 5) rfl _),
      ((h.1 c).1 (2 : Fin 5)).trans ((dats m hp 0 c).arrAt_in (2 : Fin 5) rfl _),
      ((h.1 c).1 (3 : Fin 5)).trans ((dats m hp 0 c).arrAt_in (3 : Fin 5) rfl _)⟩, h.2⟩) (run_main_quiescent m ρ hp)

end Cert.Kernel6.Ffn

end
-- ==== Proof.lean ====
/-
  The claims of this certificate: six calls of the model's layers (the gated delta rule, the two output projections, the
  two input projections and the experts' feed-forward network). Each call's kernel and its reference run, leave their arguments alone and end
  quiescent, and at the ideal numbers end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Reference6Ideal
public import proofs.«01_k».proof.Proof.Gen.Reference6Ideal.Run
public import proofs.«01_k».proof.Proof.Gen.Pre_experts
public import proofs.«01_k».proof.Proof.KerValue
public import proofs.«01_k».proof.Proof.RefRun
public import proofs.«01_k».proof.Proof.RefRead
public import proofs.«01_k».proof.Proof.Result
public import proofs.«01_k».proof.Proof.Finite
public import proofs.«01_k».proof.Proof.Out2
public import proofs.«01_k».proof.Proof.Ref2
public import proofs.«01_k».proof.Proof.Out3
public import proofs.«01_k».proof.Proof.Ref3
public import proofs.«01_k».proof.Proof.Out4
public import proofs.«01_k».proof.Proof.Ref4
public import Idealize.ShloMosaic.Adequacy
public import Idealize.ShloMosaic.Init
public import proofs.«01_k».proof.Proof.Ref5
public import proofs.«01_k».proof.Proof.Out5
public import proofs.«01_k».proof.Proof.Frame5
public import proofs.«01_k».proof.Proof.Out6
public import proofs.«01_k».proof.Proof.Ref6
public import proofs.«01_k».proof.Proof.Known6
public import proofs.«01_k».proof.Proof.BodyBits6

@[expose] public section

noncomputable section

namespace Cert.Proof

open Idealize.ShloMosaic Idealize.SL.Sem

/-- The two programs end with equal results. -/
theorem equal : @algebraic_KernelIdeal_ReferenceIdeal_pre_finite Cert.KernelIdeal.Gen.facts Cert.ReferenceIdeal.Gen.facts Cert.Pre_finite.facts := by
  intro m g m' g' hpre hargs
  refine ⟨fun c => Cert.KernelIdeal.Launch.value m c, ?_, ?_⟩
  · refine (θ_run _ _ _).mono (fun r h c => ?_) (Cert.KernelIdeal.Value.run_blocks (F := Ideal) m g)
    exact ⟨(h c).1.trans (Cert.KernelIdeal.Launch.array m c), (h c).2⟩
  · refine (θ_run _ _ _).mono (fun r h c => ?_) (Cert.ReferenceIdeal.RefRun.run (F := Ideal) m' g')
    obtain ⟨e, h'⟩ := h.1 c
    obtain ⟨k0, k1, k2, k3, k4⟩ := hargs c
    refine ⟨e.trans ?_, h'⟩
    obtain ⟨f0, f2, f3⟩ := @Cert.Pre_finite.finite Cert.Pre_finite.facts _ _ _ _ _ (hpre c)
    rw [k0, k1, k2, k3, k4, Cert.ReferenceIdeal.Terms.resultT_read]
    exact (Cert.Delta.result_eq _ _ _ _ _ f0 f2 f3).symm

/-- The first output projection's two programs end with equal results. -/
theorem equal2 : @algebraic_Kernel2Ideal_Reference2Ideal Cert.Kernel2Ideal.Gen.facts Cert.Reference2Ideal.Gen.facts := by
  intro m g m' g' _ hargs
  refine ⟨fun c => Cert.Kernel2Ideal.Out.value m c, ?_, ?_⟩
  · exact (θ_run _ _ _).mono (fun r h c => ⟨(h c).1.trans (Cert.Kernel2Ideal.Out.array m c), (h c).2⟩) (Cert.Kernel2Ideal.Value.run_blocks (F := Ideal) m g)
  · refine (θ_run _ _ _).mono (fun r h c => ⟨(h c).1.trans ?_, (h c).2⟩) (Cert.Reference2Ideal.Read.run m' g')
    obtain ⟨k0, k1, k2, k3, k4⟩ := hargs c
    rw [k0, k1, k2, k3, k4]
    rfl

/-- The second output projection's two programs end with equal results. -/
theorem equal3 : @algebraic_Kernel3Ideal_Reference3Ideal Cert.Kernel3Ideal.Gen.facts Cert.Reference3Ideal.Gen.facts := by
  intro m g m' g' _ hargs
  refine ⟨fun c => Cert.Kernel3Ideal.Out.value m c, ?_, ?_⟩
  · exact (θ_run _ _ _).mono (fun r h c => ⟨(h c).1.trans (Cert.Kernel3Ideal.Out.array m c), (h c).2⟩) (Cert.Kernel3Ideal.Value.run_blocks (F := Ideal) m g)
  · refine (θ_run _ _ _).mono (fun r h c => ⟨(h c).1.trans ?_, (h c).2⟩) (Cert.Reference3Ideal.Read.run m' g')
    obtain ⟨k0, k1, k2, k3, k4, k5⟩ := hargs c
    rw [k0, k1, k2, k3, k4, k5]
    rfl

/-- The attention layer's input projection: the two programs end with equal queries, keys, values and mean keys. -/
theorem equal4 : @algebraic_Kernel4Ideal_Reference4Ideal Cert.Kernel4Ideal.Gen.facts Cert.Reference4Ideal.Gen.facts := by
  intro m g m' g' _ hargs
  refine ⟨Cert.Kernel4Ideal.Out.qa m, Cert.Kernel4Ideal.Out.ka m, Cert.Kernel4Ideal.Out.va m, Cert.Kernel4Ideal.Out.qb m,
    Cert.Kernel4Ideal.Out.kb m, Cert.Kernel4Ideal.Out.vb m, Cert.Kernel4Ideal.Out.km m, ?_, ?_⟩
  · refine (θ_run _ _ _).mono (fun r h c => ?_) (Cert.Kernel4Ideal.Value.run_blocks (F := Ideal) m g)
    obtain ⟨h0, h1, h2, h3, h4, h5, h6, ha⟩ := h c
    exact ⟨h0.trans (Cert.Kernel4Ideal.Out.array4 m c), h1.trans (Cert.Kernel4Ideal.Out.array5 m c), h2.trans (Cert.Kernel4Ideal.Out.array6 m c),
      h3.trans (Cert.Kernel4Ideal.Out.array7 m c), h4.trans (Cert.Kernel4Ideal.Out.array8 m c), h5.trans (Cert.Kernel4Ideal.Out.array9 m c),
      h6.trans (Cert.Kernel4Ideal.Out.array10 m c), ha⟩
  · refine (θ_run _ _ _).mono (fun r h c => ?_) (Cert.Reference4Ideal.Read.run m' g')
    obtain ⟨k0, k1⟩ := hargs c
    have h' := h c
    obtain ⟨h0, h1, h2, h3, h4, h5, h6, ha⟩ := h'
    rw [k0, k1] at h0 h1 h2 h3 h4 h5 h6
    exact ⟨h0, h1, h2, h3, h4, h5, h6, ha⟩

/-- The gated DeltaNet layer's input projection: the two programs end with equal queries, keys and values, gates, write strengths and
    running decays. -/
theorem equal5 : @algebraic_Kernel5Ideal_Reference5Ideal Cert.Kernel5Ideal.Gen.facts Cert.Reference5Ideal.Gen.facts := by
  intro m g m' g' _ hargs
  refine ⟨Cert.Kernel5Ideal.Blocks.qkvs m, Cert.Kernel5Ideal.Blocks.gate m, Cert.Kernel5Ideal.Blocks.beta m, Cert.Kernel5Ideal.Blocks.total m, ?_, ?_⟩
  · refine (θ_run _ _ _).mono (fun r h c => ?_) (θ_run_and (Cert.Kernel5Ideal.Blocks.results m g) (Cert.Kernel5Ideal.Blocks.ends m g))
    obtain ⟨h0, h1, h2, h3⟩ := h.1 c
    exact ⟨h0, h1, h2, h3, h.2.1 c⟩
  · refine (θ_run _ _ _).mono (fun r h c => ?_) (θ_run_and (Cert.Reference5Ideal.Read.ends m' g') (Cert.Reference5Ideal.Value.run (F := Ideal) m' g'))
    obtain ⟨k0, k1, k2, k3, k4⟩ := hargs c
    obtain ⟨h0, h1, h2, h3⟩ := h.1 c
    rw [k0, k1, k2] at h0
    rw [k0, k1] at h1 h2
    rw [k0, k1, k3, k4] at h3
    exact ⟨h0, h1, h2, h3, (h.2 c).2.2.2.2⟩

/-- The experts' feed-forward network, where every block names one of the experts: the two programs end with equal rows. -/
theorem equal6 : @algebraic_Kernel6Ideal_Reference6Ideal Cert.Kernel6Ideal.Gen.facts Cert.Reference6Ideal.Gen.facts Cert.Pre_experts.Gen.facts := by
  intro m g m' g' hpre hargs
  have hk : Cert.Kernel6Ideal.Ffn.Known m := @Cert.Pre_experts.known Cert.Pre_experts.Gen.facts Ideal _ _ _ _ _ _ _ (hpre 0)
  refine ⟨Cert.Kernel6Ideal.Ffn.value m, ?_, ?_⟩
  · refine (θ_run _ _ _).mono (fun r h c => ?_) (θ_run_and (Cert.Kernel6Ideal.Ffn.result m g hk) (Cert.Kernel6Ideal.Ffn.ends m g hk))
    exact ⟨h.1 c, h.2.1 c⟩
  · refine (θ_run _ _ _).mono (fun r h c => ?_) (Cert.Reference6Ideal.Value.run (F := Ideal) m' g')
    obtain ⟨k0, k1, k2, k3, k4, k5⟩ := hargs c
    obtain ⟨e, ha⟩ := h c
    refine ⟨e.trans ?_, ha⟩
    rw [k0, k1, k2, k3, k4, k5]
    have hb : ∀ t : Fin 288, (Cert.Kernel6Ideal.Ffn.V m c Cert.Kernel6Ideal.main_arg1 (ix1 t)).toNat < 32 := by
      obtain rfl : c = 0 := Subsingleton.elim _ _
      exact hk
    exact funext fun i => Cert.Reference6Ideal.Read.result _ _ _ _ _ _ hb i

/-- **Every claim of the certificate.** -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.facts, Cert.Pre_experts.Gen.facts,
  fun m g _ => Cert.Kernel.Gen.frame m g,
  fun m g _ => Cert.KernelIdeal.Gen.frame m g,
  fun m g _ => Cert.KernelIdeal.Gen.frame m g,
  fun m g _ => (θ_run _ _ _).mono (fun _ h => ⟨fun c => (h.1 c).2, h.2⟩) (Cert.ReferenceIdeal.RefRun.run (F := Ideal) m g),
  fun m g _ => (θ_run _ _ _).mono (fun _ h => ⟨fun c => (h.1 c).2, h.2⟩) (Cert.ReferenceIdeal.RefRun.run (F := Ideal) m g),
  fun m g _ => Cert.Kernel2.Gen.frame m g,
  fun m g _ => Cert.Kernel2Ideal.Gen.frame m g,
  fun m g _ => (θ_run _ _ _).mono (fun r h => ⟨fun c => (h c).2, sem_eq_zero_of_no_sems rfl r.2⟩) (Cert.Reference2Ideal.Read.run m g),
  fun m g _ => Cert.Kernel3.Gen.frame m g,
  fun m g _ => Cert.Kernel3Ideal.Gen.frame m g,
  fun m g _ => (θ_run _ _ _).mono (fun r h => ⟨fun c => (h c).2, sem_eq_zero_of_no_sems rfl r.2⟩) (Cert.Reference3Ideal.Read.run m g),
  fun m g _ => Cert.Kernel4.Gen.frame m g,
  fun m g _ => Cert.Kernel4Ideal.Gen.frame m g,
  fun m g _ => (θ_run _ _ _).mono (fun r h => ⟨fun c => (h c).2.2.2.2.2.2.2, sem_eq_zero_of_no_sems rfl r.2⟩) (Cert.Reference4Ideal.Read.run m g),
  fun m g _ => Cert.Kernel5.Body.ends m g,
  fun m g _ => Cert.Kernel5Ideal.Blocks.ends m g,
  fun m g _ => (θ_run _ _ _).mono (fun r h => ⟨fun c => (h c).2.2.2.2, sem_eq_zero_of_no_sems rfl r.2⟩) (Cert.Reference5Ideal.Value.run (F := Ideal) m g),
  fun m g hpre => Cert.Kernel6.Ffn.ends m g (@Cert.Pre_experts.known Cert.Pre_experts.Gen.facts Bits _ _ _ _ _ _ _ (hpre 0)),
  fun m g hpre => Cert.Kernel6Ideal.Ffn.ends m g (@Cert.Pre_experts.known Cert.Pre_experts.Gen.facts Ideal _ _ _ _ _ _ _ (hpre 0)),
  fun m g _ => (θ_run _ _ _).mono (fun r h => ⟨fun c => (h c).2, sem_eq_zero_of_no_sems rfl r.2⟩) (Cert.Reference6Ideal.Value.run (F := Ideal) m g),
  fun m g _ => (θ_run _ _ _).mono (fun r h => ⟨fun c => (h c).2, sem_eq_zero_of_no_sems rfl r.2⟩) (Cert.Reference6Ideal.Value.run (F := Ideal) m g),
  trivial, equal,
  trivial, equal2,
  trivial, equal3,
  trivial, equal4,
  trivial, equal5,
  trivial, equal6⟩

end Cert.Proof

end
